-- ==== Defs.lean ====
def Pre_Kernel [hPre_one_bucket : Cert.Pre_one_bucket.Facts] (m : (ℓ : Loc Cert.Kernel.nD Cert.Kernel.τ Cert.Kernel.sig) → Buf (Elt Bits) ℓ) : Prop :=
  ∀ c : Dev Cert.Kernel.nD,
    (Cert.Pre_one_bucket.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_one_bucket : Cert.Pre_one_bucket.Facts] (m : (ℓ : Loc Cert.KernelIdeal.nD Cert.KernelIdeal.τ Cert.KernelIdeal.sig) → Buf (Elt Ideal) ℓ) : Prop :=
  ∀ c : Dev Cert.KernelIdeal.nD,
    (Cert.Pre_one_bucket.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_balanced_KernelIdeal [hPre_balanced_KernelIdeal : Cert.Pre_balanced_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_balanced_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_balanced_ReferenceIdeal [hPre_balanced_ReferenceIdeal : Cert.Pre_balanced_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_balanced_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_one_bucket : Cert.Pre_one_bucket.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_one_bucket : Cert.Pre_one_bucket.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_balanced_KernelIdeal [hKernelIdeal : Cert.KernelIdeal.Facts] [hPre_balanced_KernelIdeal : Cert.Pre_balanced_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_balanced_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_balanced_ReferenceIdeal [hReferenceIdeal : Cert.ReferenceIdeal.Facts] [hPre_balanced_ReferenceIdeal : Cert.Pre_balanced_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_balanced_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_balanced_KernelIdeal [hKernelIdeal : Cert.KernelIdeal.Facts] [hReferenceIdeal : Cert.ReferenceIdeal.Facts] [hPre_balanced_KernelIdeal : Cert.Pre_balanced_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_balanced_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = Layout.blockN ⟨2, ![4096, 1024]⟩ ⟨2, ![8192, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_bucket : Cert.Pre_one_bucket.Facts) (hPre_balanced_KernelIdeal : Cert.Pre_balanced_KernelIdeal.Facts) (hPre_balanced_ReferenceIdeal : Cert.Pre_balanced_ReferenceIdeal.Facts),
    quiescent_Kernel (hKernel := hKernel) (hPre_one_bucket := hPre_one_bucket)
    ∧ quiescent_KernelIdeal (hKernelIdeal := hKernelIdeal) (hPre_one_bucket := hPre_one_bucket)
    ∧ quiescent_KernelIdeal_pre_balanced_KernelIdeal (hKernelIdeal := hKernelIdeal) (hPre_balanced_KernelIdeal := hPre_balanced_KernelIdeal)
    ∧ quiescent_ReferenceIdeal (hReferenceIdeal := hReferenceIdeal)
    ∧ quiescent_ReferenceIdeal_pre_balanced_ReferenceIdeal (hReferenceIdeal := hReferenceIdeal) (hPre_balanced_ReferenceIdeal := hPre_balanced_ReferenceIdeal)
    ∧ preserves_Kernel_KernelIdeal
    ∧ algebraic_KernelIdeal_ReferenceIdeal_pre_balanced_KernelIdeal (hKernelIdeal := hKernelIdeal) (hReferenceIdeal := hReferenceIdeal) (hPre_balanced_KernelIdeal := hPre_balanced_KernelIdeal)
-- ==== Pre_balanced_KernelIdeal.lean ====
abbrev S4096x1024 : Shape := ⟨2, ![4096, 1024]⟩
abbrev S8192 : Shape := ⟨1, ![8192]⟩
abbrev S4096 : Shape := ⟨1, ![4096]⟩
abbrev S_ : Shape := ⟨0, ![]⟩

class Facts : Prop where
  slices_S8192_S4096_0 : S8192.Slices ![0] S4096
  bcast_S_S4096 : S_.BroadcastsInDim S4096 (![] : Fin 0 → Fin S4096.rank)
  natLt_1_32 : 1 < 32
  reducesTo_S4096_S_d0 : S4096.ReducesTo [0] S_
  h_S_ : 0 < S_.numel
  slices_S8192_S4096_4096 : S8192.Slices ![4096] S4096
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v4 : IVec S_ 32) (main_v9 : IVec S_ 32) (main_v14 : IVec S_ 1) (main_v15 : IVec S_ 1) : IVec S_ 1 :=
  let main_v16 : IVec S_ 1 := andi main_v14 main_v15
  let main_c_7 : IVec S_ 32 := constantI S_ 32 0#32
  let main_v17 : IVec S8192 32 := broadcastInDim S8192 ![] bcast_S_S8192 main_c_7
  let main_v18 : IVec S8192 1 := cmpi .eq main_arg1 main_v17
  let main_c_8 : IVec S_ 32 := constantI S_ 32 1#32
  let main_v19 : IVec S8192 32 := broadcastInDim S8192 ![] bcast_S_S8192 main_c_8
  let main_v20 : IVec S8192 1 := cmpi .eq main_arg1 main_v19
  let main_v21 : IVec S8192 1 := ori main_v18 main_v20
  let main_c_9 : IVec S_ 1 := constantI S_ 1 1#1
  let main_v22 : IVec S_ 1 := (fun x v => Host.reduce IntOp.andi x v reducesTo_S8192_S_d0 h_S_) main_v21 main_c_9
  let main_v23 : IVec S_ 1 := andi main_v16 main_v22
  let main_v24 : IVec S_ 1 := cmpi .eq main_v4 main_v9
  let main_v25 : IVec S_ 1 := andi main_v23 main_v24
  main_v25

def fn {F : FTy → Type} [FloatOps F] (main_arg0 : FVec F S4096x1024 .bf16) (main_arg1 : IVec S8192 32) : IVec S_ 1 :=
  let main_v0 : IVec S4096 32 := (extractStridedSlice S4096 ![0] · slices_S8192_S4096_0) main_arg1
  let main_c : IVec S_ 32 := constantI S_ 32 1#32
  let main_v1 : IVec S4096 32 := broadcastInDim S4096 ![] bcast_S_S4096 main_c
  let main_v2 : IVec S4096 1 := cmpi .eq main_v0 main_v1
  let main_v3 : IVec S4096 32 := (extui 32 · natLt_1_32) main_v2
  let main_c_0 : IVec S_ 32 := constantI S_ 32 0#32
  let main_v4 : IVec S_ 32 := (fun x v => Host.reduce IntOp.addi x v reducesTo_S4096_S_d0 h_S_) main_v3 main_c_0
  let main_v5 : IVec S4096 32 := (extractStridedSlice S4096 ![4096] · slices_S8192_S4096_4096) main_arg1
  let main_c_1 : IVec S_ 32 := constantI S_ 32 0#32
  let main_v6 : IVec S4096 32 := broadcastInDim S4096 ![] bcast_S_S4096 main_c_1
  let main_v7 : IVec S4096 1 := cmpi .eq main_v5 main_v6
  let main_v8 : IVec S4096 32 := (extui 32 · natLt_1_32) main_v7
  let main_c_2 : IVec S_ 32 := constantI S_ 32 0#32
  let main_v9 : IVec S_ 32 := (fun x v => Host.reduce IntOp.addi x v reducesTo_S4096_S_d0 h_S_) main_v8 main_c_2
  let main_c_3 : IVec S_ 32 := constantI S_ 32 1792#32
  let main_v10 : IVec S_ 1 := cmpi .sgt main_v4 main_c_3
  let main_c_4 : IVec S_ 32 := constantI S_ 32 2048#32
  let main_v11 : IVec S_ 1 := cmpi .slt main_v4 main_c_4
  let main_v12 : IVec S_ 1 := andi main_v10 main_v11
  let main_c_5 : IVec S_ 32 := constantI S_ 32 1792#32
  let main_v13 : IVec S_ 1 := cmpi .sgt main_v9 main_c_5
  let main_v14 : IVec S_ 1 := andi main_v12 main_v13
  let main_c_6 : IVec S_ 32 := constantI S_ 32 2048#32
  let main_v15 : IVec S_ 1 := cmpi .slt main_v9 main_c_6
  fn_part1 (F := F) main_arg1 main_v4 main_v9 main_v14 main_v15
-- ==== Pre_balanced_ReferenceIdeal.lean ====
abbrev S8192x1024 : Shape := ⟨2, ![8192, 1024]⟩
abbrev S8192 : Shape := ⟨1, ![8192]⟩
abbrev S4096 : Shape := ⟨1, ![4096]⟩
abbrev S_ : Shape := ⟨0, ![]⟩

class Facts : Prop where
  slices_S8192_S4096_0 : S8192.Slices ![0] S4096
  bcast_S_S4096 : S_.BroadcastsInDim S4096 (![] : Fin 0 → Fin S4096.rank)
  natLt_1_32 : 1 < 32
  reducesTo_S4096_S_d0 : S4096.ReducesTo [0] S_
  h_S_ : 0 < S_.numel
  slices_S8192_S4096_4096 : S8192.Slices ![4096] S4096
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v4 : IVec S_ 32) (main_v9 : IVec S_ 32) (main_v14 : IVec S_ 1) (main_v15 : IVec S_ 1) : IVec S_ 1 :=
  let main_v16 : IVec S_ 1 := andi main_v14 main_v15
  let main_c_7 : IVec S_ 32 := constantI S_ 32 0#32
  let main_v17 : IVec S8192 32 := broadcastInDim S8192 ![] bcast_S_S8192 main_c_7
  let main_v18 : IVec S8192 1 := cmpi .eq main_arg1 main_v17
  let main_c_8 : IVec S_ 32 := constantI S_ 32 1#32
  let main_v19 : IVec S8192 32 := broadcastInDim S8192 ![] bcast_S_S8192 main_c_8
  let main_v20 : IVec S8192 1 := cmpi .eq main_arg1 main_v19
  let main_v21 : IVec S8192 1 := ori main_v18 main_v20
  let main_c_9 : IVec S_ 1 := constantI S_ 1 1#1
  let main_v22 : IVec S_ 1 := (fun x v => Host.reduce IntOp.andi x v reducesTo_S8192_S_d0 h_S_) main_v21 main_c_9
  let main_v23 : IVec S_ 1 := andi main_v16 main_v22
  let main_v24 : IVec S_ 1 := cmpi .eq main_v4 main_v9
  let main_v25 : IVec S_ 1 := andi main_v23 main_v24
  main_v25

def fn {F : FTy → Type} [FloatOps F] (main_arg0 : FVec F S8192x1024 .bf16) (main_arg1 : IVec S8192 32) : IVec S_ 1 :=
  let main_v0 : IVec S4096 32 := (extractStridedSlice S4096 ![0] · slices_S8192_S4096_0) main_arg1
  let main_c : IVec S_ 32 := constantI S_ 32 1#32
  let main_v1 : IVec S4096 32 := broadcastInDim S4096 ![] bcast_S_S4096 main_c
  let main_v2 : IVec S4096 1 := cmpi .eq main_v0 main_v1
  let main_v3 : IVec S4096 32 := (extui 32 · natLt_1_32) main_v2
  let main_c_0 : IVec S_ 32 := constantI S_ 32 0#32
  let main_v4 : IVec S_ 32 := (fun x v => Host.reduce IntOp.addi x v reducesTo_S4096_S_d0 h_S_) main_v3 main_c_0
  let main_v5 : IVec S4096 32 := (extractStridedSlice S4096 ![4096] · slices_S8192_S4096_4096) main_arg1
  let main_c_1 : IVec S_ 32 := constantI S_ 32 0#32
  let main_v6 : IVec S4096 32 := broadcastInDim S4096 ![] bcast_S_S4096 main_c_1
  let main_v7 : IVec S4096 1 := cmpi .eq main_v5 main_v6
  let main_v8 : IVec S4096 32 := (extui 32 · natLt_1_32) main_v7
  let main_c_2 : IVec S_ 32 := constantI S_ 32 0#32
  let main_v9 : IVec S_ 32 := (fun x v => Host.reduce IntOp.addi x v reducesTo_S4096_S_d0 h_S_) main_v8 main_c_2
  let main_c_3 : IVec S_ 32 := constantI S_ 32 1792#32
  let main_v10 : IVec S_ 1 := cmpi .sgt main_v4 main_c_3
  let main_c_4 : IVec S_ 32 := constantI S_ 32 2048#32
  let main_v11 : IVec S_ 1 := cmpi .slt main_v4 main_c_4
  let main_v12 : IVec S_ 1 := andi main_v10 main_v11
  let main_c_5 : IVec S_ 32 := constantI S_ 32 1792#32
  let main_v13 : IVec S_ 1 := cmpi .sgt main_v9 main_c_5
  let main_v14 : IVec S_ 1 := andi main_v12 main_v13
  let main_c_6 : IVec S_ 32 := constantI S_ 32 2048#32
  let main_v15 : IVec S_ 1 := cmpi .slt main_v9 main_c_6
  fn_part1 (F := F) main_arg1 main_v4 main_v9 main_v14 main_v15
-- ==== Pre_one_bucket.lean ====
abbrev S4096x1024 : Shape := ⟨2, ![4096, 1024]⟩
abbrev S8192 : Shape := ⟨1, ![8192]⟩
abbrev S4096 : Shape := ⟨1, ![4096]⟩
abbrev S_ : Shape := ⟨0, ![]⟩

class Facts : Prop where
  slices_S8192_S4096_0 : S8192.Slices ![0] S4096
  bcast_S_S4096 : S_.BroadcastsInDim S4096 (![] : Fin 0 → Fin S4096.rank)
  natLt_1_32 : 1 < 32
  reducesTo_S4096_S_d0 : S4096.ReducesTo [0] S_
  h_S_ : 0 < S_.numel
  slices_S8192_S4096_4096 : S8192.Slices ![4096] S4096

variable [Facts]

def fn_part1 {F : FTy → Type} [FloatOps F] (main_v14 : IVec S_ 1) (main_v15 : IVec S_ 1) : IVec S_ 1 :=
  let main_v16 : IVec S_ 1 := andi main_v14 main_v15
  main_v16

def fn {F : FTy → Type} [FloatOps F] (main_arg0 : FVec F S4096x1024 .bf16) (main_arg1 : IVec S8192 32) : IVec S_ 1 :=
  let main_v0 : IVec S4096 32 := (extractStridedSlice S4096 ![0] · slices_S8192_S4096_0) main_arg1
  let main_c : IVec S_ 32 := constantI S_ 32 1#32
  let main_v1 : IVec S4096 32 := broadcastInDim S4096 ![] bcast_S_S4096 main_c
  let main_v2 : IVec S4096 1 := cmpi .eq main_v0 main_v1
  let main_v3 : IVec S4096 32 := (extui 32 · natLt_1_32) main_v2
  let main_c_0 : IVec S_ 32 := constantI S_ 32 0#32
  let main_v4 : IVec S_ 32 := (fun x v => Host.reduce IntOp.addi x v reducesTo_S4096_S_d0 h_S_) main_v3 main_c_0
  let main_v5 : IVec S4096 32 := (extractStridedSlice S4096 ![4096] · slices_S8192_S4096_4096) main_arg1
  let main_c_1 : IVec S_ 32 := constantI S_ 32 0#32
  let main_v6 : IVec S4096 32 := broadcastInDim S4096 ![] bcast_S_S4096 main_c_1
  let main_v7 : IVec S4096 1 := cmpi .eq main_v5 main_v6
  let main_v8 : IVec S4096 32 := (extui 32 · natLt_1_32) main_v7
  let main_c_2 : IVec S_ 32 := constantI S_ 32 0#32
  let main_v9 : IVec S_ 32 := (fun x v => Host.reduce IntOp.addi x v reducesTo_S4096_S_d0 h_S_) main_v8 main_c_2
  let main_c_3 : IVec S_ 32 := constantI S_ 32 1792#32
  let main_v10 : IVec S_ 1 := cmpi .sgt main_v4 main_c_3
  let main_c_4 : IVec S_ 32 := constantI S_ 32 2048#32
  let main_v11 : IVec S_ 1 := cmpi .slt main_v4 main_c_4
  let main_v12 : IVec S_ 1 := andi main_v10 main_v11
  let main_c_5 : IVec S_ 32 := constantI S_ 32 1792#32
  let main_v13 : IVec S_ 1 := cmpi .sgt main_v9 main_c_5
  let main_v14 : IVec S_ 1 := andi main_v12 main_v13
  let main_c_6 : IVec S_ 32 := constantI S_ 32 2048#32
  let main_v15 : IVec S_ 1 := cmpi .slt main_v9 main_c_6
  fn_part1 (F := F) main_v14 main_v15
-- ==== Kernel.lean ====
abbrev S4096x1024 : Shape := ⟨2, ![4096, 1024]⟩
abbrev S8192 : Shape := ⟨1, ![8192]⟩
abbrev S_ : Shape := ⟨0, ![]⟩
abbrev S4096 : Shape := ⟨1, ![4096]⟩
abbrev S256x1024 : Shape := ⟨2, ![256, 1024]⟩
abbrev S4096x1 : Shape := ⟨2, ![4096, 1]⟩
abbrev S1 : Shape := ⟨1, ![1]⟩
abbrev S4 : Shape := ⟨1, ![4]⟩
abbrev S4096x8x128 : Shape := ⟨3, ![4096, 8, 128]⟩
abbrev S17 : Shape := ⟨1, ![17]⟩
abbrev S256x8x128 : Shape := ⟨3, ![256, 8, 128]⟩

abbrev nBuf : Space → Nat
  | .hbm => 63
  | .vmem => 4
  | .smem => 1
  | _ => 0

abbrev bufTy : (tb : Table) → Fin (tcTables nBuf tb) → BufTy
  | .hbm, ⟨0, _⟩ => ⟨S4096x1024, .bf16⟩
  | .hbm, ⟨1, _⟩ => ⟨S8192, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1024, .bf16⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S4096x1024, .bf16⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S4, .i32⟩
  | .hbm, ⟨60, _⟩ => ⟨S4096x8x128, .bf16⟩
  | .hbm, ⟨61, _⟩ => ⟨S4096x8x128, .bf16⟩
  | .hbm, ⟨62, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .smem, ⟨0, _⟩ => ⟨S4, .i32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1_0 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_v12 : Ref sig .tc := ⟨.hbm, 21, rfl⟩
abbrev main_v13 : Ref sig .tc := ⟨.hbm, 22, rfl⟩
abbrev main_c_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_7 : Ref sig .tc := ⟨.hbm, 34, rfl⟩
abbrev main_v23 : Ref sig .tc := ⟨.hbm, 35, rfl⟩
abbrev main_c_8 : Ref sig .tc := ⟨.hbm, 36, rfl⟩
abbrev main_v24 : Ref sig .tc := ⟨.hbm, 37, rfl⟩
abbrev main_c_9 : Ref sig .tc := ⟨.hbm, 38, rfl⟩
abbrev main_v25 : Ref sig .tc := ⟨.hbm, 39, rfl⟩
abbrev main_c_10 : Ref sig .tc := ⟨.hbm, 40, rfl⟩
abbrev main_call1_v0 : Ref sig .tc := ⟨.hbm, 41, rfl⟩
abbrev main_v26 : Ref sig .tc := ⟨.hbm, 42, rfl⟩
abbrev main_c_11 : Ref sig .tc := ⟨.hbm, 43, rfl⟩
abbrev main_v27 : Ref sig .tc := ⟨.hbm, 44, rfl⟩
abbrev main_c_12 : Ref sig .tc := ⟨.hbm, 45, rfl⟩
abbrev main_v28 : Ref sig .tc := ⟨.hbm, 46, rfl⟩
abbrev main_c_13 : Ref sig .tc := ⟨.hbm, 47, rfl⟩
abbrev main_call2_v0 : Ref sig .tc := ⟨.hbm, 48, rfl⟩
abbrev main_v29 : Ref sig .tc := ⟨.hbm, 49, rfl⟩
abbrev main_c_14 : Ref sig .tc := ⟨.hbm, 50, rfl⟩
abbrev main_v30 : Ref sig .tc := ⟨.hbm, 51, rfl⟩
abbrev main_c_15 : Ref sig .tc := ⟨.hbm, 52, rfl⟩
abbrev main_call3_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev barrier0 : Sem sig := 0

abbrev nD : Nat := 4
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

def k1_dev1 (d0 : Dev nD) : Nat :=
  let c0_i32_19 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_18 : BitVec 32 := 2#32
  let v51 : BitVec 32 := Scalar.muli v6 c2_i32_18
  let v52 : BitVec 32 := Scalar.addi c0_i32_19 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v53 : BitVec 32 := Scalar.muli v5 c1_i32_20
  let v54 : BitVec 32 := Scalar.addi v52 v53
  v54.toNat
def k1_off1 (v9 : BitVec 32) : Fin 3 → Nat :=
  let c0_i32_146 : BitVec 32 := 0#32
  let v260 : BitVec 32 := Scalar.addi v9 c0_i32_146
  let c0_i32_152 : BitVec 32 := 0#32
  let c0_i32_153 : BitVec 32 := 0#32
  ![v260.toNat, 0, 0]
def k1_cond1 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c0_i32_22 : BitVec 32 := 0#32
  let v55 : BitVec 1 := Scalar.cmpi .sgt v28 c0_i32_22
  let v56 : BitVec 32 := Scalar.extui v55
  let c0_i32_23 : BitVec 32 := 0#32
  let v57 : BitVec 1 := Scalar.cmpi .ne v56 c0_i32_23
  v57

def k1_off2 (v8 : BitVec 32) : Fin 3 → Nat :=
  let c0_i32_145 : BitVec 32 := 0#32
  let v259 : BitVec 32 := Scalar.addi v8 c0_i32_145
  let c0_i32_154 : BitVec 32 := 0#32
  let c0_i32_155 : BitVec 32 := 0#32
  ![v259.toNat, 0, 0]

def k1_dev2 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v261 : BitVec 32 := Scalar.muli v6 c2_i32_149
  let v262 : BitVec 32 := Scalar.addi c0_i32_150 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v263 : BitVec 32 := Scalar.muli v5 c1_i32_151
  let v264 : BitVec 32 := Scalar.addi v262 v263
  v264.toNat
def k1_off3 (v9 : BitVec 32) : Fin 3 → Nat :=
  let c256_i32_146 : BitVec 32 := 256#32
  let v260 : BitVec 32 := Scalar.addi v9 c256_i32_146
  let c0_i32_152 : BitVec 32 := 0#32
  let c0_i32_153 : BitVec 32 := 0#32
  ![v260.toNat, 0, 0]
def k1_cond2 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c1_i32_24 : BitVec 32 := 1#32
  let v58 : BitVec 1 := Scalar.cmpi .sgt v28 c1_i32_24
  let v59 : BitVec 32 := Scalar.extui v58
  let c0_i32_25 : BitVec 32 := 0#32
  let v60 : BitVec 1 := Scalar.cmpi .ne v59 c0_i32_25
  v60

def k1_off4 (v8 : BitVec 32) : Fin 3 → Nat :=
  let c256_i32_145 : BitVec 32 := 256#32
  let v259 : BitVec 32 := Scalar.addi v8 c256_i32_145
  let c0_i32_154 : BitVec 32 := 0#32
  let c0_i32_155 : BitVec 32 := 0#32
  ![v259.toNat, 0, 0]
def k1_dev3 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v261 : BitVec 32 := Scalar.muli v6 c2_i32_149
  let v262 : BitVec 32 := Scalar.addi c0_i32_150 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v263 : BitVec 32 := Scalar.muli v5 c1_i32_151
  let v264 : BitVec 32 := Scalar.addi v262 v263
  v264.toNat
def k1_off5 (v9 : BitVec 32) : Fin 3 → Nat :=
  let c512_i32_145 : BitVec 32 := 512#32
  let v260 : BitVec 32 := Scalar.addi v9 c512_i32_145
  let c0_i32_151 : BitVec 32 := 0#32
  let c0_i32_152 : BitVec 32 := 0#32
  ![v260.toNat, 0, 0]
def k1_cond3 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c2_i32_26 : BitVec 32 := 2#32
  let v61 : BitVec 1 := Scalar.cmpi .sgt v28 c2_i32_26
  let v62 : BitVec 32 := Scalar.extui v61
  let c0_i32_27 : BitVec 32 := 0#32
  let v63 : BitVec 1 := Scalar.cmpi .ne v62 c0_i32_27
  v63

def k1_off6 (v8 : BitVec 32) : Fin 3 → Nat :=
  let c512_i32 : BitVec 32 := 512#32
  let v259 : BitVec 32 := Scalar.addi v8 c512_i32
  let c0_i32_153 : BitVec 32 := 0#32
  let c0_i32_154 : BitVec 32 := 0#32
  ![v259.toNat, 0, 0]
def k1_dev4 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off7 (v9 : BitVec 32) : Fin 3 → Nat :=
  let c768_i32_145 : BitVec 32 := 768#32
  let v260 : BitVec 32 := Scalar.addi v9 c768_i32_145
  let c0_i32_151 : BitVec 32 := 0#32
  let c0_i32_152 : BitVec 32 := 0#32
  ![v260.toNat, 0, 0]
def k1_cond4 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c3_i32 : BitVec 32 := 3#32
  let v64 : BitVec 1 := Scalar.cmpi .sgt v28 c3_i32
  let v65 : BitVec 32 := Scalar.extui v64
  let c0_i32_28 : BitVec 32 := 0#32
  let v66 : BitVec 1 := Scalar.cmpi .ne v65 c0_i32_28
  v66

def k1_off8 (v8 : BitVec 32) : Fin 3 → Nat :=
  let c768_i32 : BitVec 32 := 768#32
  let v259 : BitVec 32 := Scalar.addi v8 c768_i32
  let c0_i32_153 : BitVec 32 := 0#32
  let c0_i32_154 : BitVec 32 := 0#32
  ![v259.toNat, 0, 0]
def k1_dev5 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off9 (v9 : BitVec 32) : Fin 3 → Nat :=
  let c1024_i32_145 : BitVec 32 := 1024#32
  let v260 : BitVec 32 := Scalar.addi v9 c1024_i32_145
  let c0_i32_151 : BitVec 32 := 0#32
  let c0_i32_152 : BitVec 32 := 0#32
  ![v260.toNat, 0, 0]
def k1_cond5 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c4_i32 : BitVec 32 := 4#32
  let v67 : BitVec 1 := Scalar.cmpi .sgt v28 c4_i32
  let v68 : BitVec 32 := Scalar.extui v67
  let c0_i32_29 : BitVec 32 := 0#32
  let v69 : BitVec 1 := Scalar.cmpi .ne v68 c0_i32_29
  v69

def k1_off10 (v8 : BitVec 32) : Fin 3 → Nat :=
  let c1024_i32 : BitVec 32 := 1024#32
  let v259 : BitVec 32 := Scalar.addi v8 c1024_i32
  let c0_i32_153 : BitVec 32 := 0#32
  let c0_i32_154 : BitVec 32 := 0#32
  ![v259.toNat, 0, 0]
def k1_dev6 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off11 (v9 : BitVec 32) : Fin 3 → Nat :=
  let c1280_i32_145 : BitVec 32 := 1280#32
  let v260 : BitVec 32 := Scalar.addi v9 c1280_i32_145
  let c0_i32_151 : BitVec 32 := 0#32
  let c0_i32_152 : BitVec 32 := 0#32
  ![v260.toNat, 0, 0]
def k1_cond6 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c5_i32 : BitVec 32 := 5#32
  let v70 : BitVec 1 := Scalar.cmpi .sgt v28 c5_i32
  let v71 : BitVec 32 := Scalar.extui v70
  let c0_i32_30 : BitVec 32 := 0#32
  let v72 : BitVec 1 := Scalar.cmpi .ne v71 c0_i32_30
  v72

def k1_off12 (v8 : BitVec 32) : Fin 3 → Nat :=
  let c1280_i32 : BitVec 32 := 1280#32
  let v259 : BitVec 32 := Scalar.addi v8 c1280_i32
  let c0_i32_153 : BitVec 32 := 0#32
  let c0_i32_154 : BitVec 32 := 0#32
  ![v259.toNat, 0, 0]
def k1_dev7 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off13 (v9 : BitVec 32) : Fin 3 → Nat :=
  let c1536_i32_145 : BitVec 32 := 1536#32
  let v260 : BitVec 32 := Scalar.addi v9 c1536_i32_145
  let c0_i32_151 : BitVec 32 := 0#32
  let c0_i32_152 : BitVec 32 := 0#32
  ![v260.toNat, 0, 0]
def k1_cond7 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c6_i32 : BitVec 32 := 6#32
  let v73 : BitVec 1 := Scalar.cmpi .sgt v28 c6_i32
  let v74 : BitVec 32 := Scalar.extui v73
  let c0_i32_31 : BitVec 32 := 0#32
  let v75 : BitVec 1 := Scalar.cmpi .ne v74 c0_i32_31
  v75

def k1_off14 (v8 : BitVec 32) : Fin 3 → Nat :=
  let c1536_i32 : BitVec 32 := 1536#32
  let v259 : BitVec 32 := Scalar.addi v8 c1536_i32
  let c0_i32_153 : BitVec 32 := 0#32
  let c0_i32_154 : BitVec 32 := 0#32
  ![v259.toNat, 0, 0]
def k1_dev8 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off15 (v9 : BitVec 32) : Fin 3 → Nat :=
  let c1792_i32_145 : BitVec 32 := 1792#32
  let v260 : BitVec 32 := Scalar.addi v9 c1792_i32_145
  let c0_i32_151 : BitVec 32 := 0#32
  let c0_i32_152 : BitVec 32 := 0#32
  ![v260.toNat, 0, 0]
def k1_cond8 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c7_i32 : BitVec 32 := 7#32
  let v76 : BitVec 1 := Scalar.cmpi .sgt v28 c7_i32
  let v77 : BitVec 32 := Scalar.extui v76
  let c0_i32_32 : BitVec 32 := 0#32
  let v78 : BitVec 1 := Scalar.cmpi .ne v77 c0_i32_32
  v78

def k1_off16 (v8 : BitVec 32) : Fin 3 → Nat :=
  let c1792_i32 : BitVec 32 := 1792#32
  let v259 : BitVec 32 := Scalar.addi v8 c1792_i32
  let c0_i32_153 : BitVec 32 := 0#32
  let c0_i32_154 : BitVec 32 := 0#32
  ![v259.toNat, 0, 0]
def k1_dev9 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off17 (v9 : BitVec 32) : Fin 3 → Nat :=
  let c2048_i32_145 : BitVec 32 := 2048#32
  let v260 : BitVec 32 := Scalar.addi v9 c2048_i32_145
  let c0_i32_151 : BitVec 32 := 0#32
  let c0_i32_152 : BitVec 32 := 0#32
  ![v260.toNat, 0, 0]
def k1_cond9 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c8_i32 : BitVec 32 := 8#32
  let v79 : BitVec 1 := Scalar.cmpi .sgt v28 c8_i32
  let v80 : BitVec 32 := Scalar.extui v79
  let c0_i32_33 : BitVec 32 := 0#32
  let v81 : BitVec 1 := Scalar.cmpi .ne v80 c0_i32_33
  v81

def k1_off18 (v8 : BitVec 32) : Fin 3 → Nat :=
  let c2048_i32 : BitVec 32 := 2048#32
  let v259 : BitVec 32 := Scalar.addi v8 c2048_i32
  let c0_i32_153 : BitVec 32 := 0#32
  let c0_i32_154 : BitVec 32 := 0#32
  ![v259.toNat, 0, 0]
def k1_dev10 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off19 (v9 : BitVec 32) : Fin 3 → Nat :=
  let c2304_i32_145 : BitVec 32 := 2304#32
  let v260 : BitVec 32 := Scalar.addi v9 c2304_i32_145
  let c0_i32_151 : BitVec 32 := 0#32
  let c0_i32_152 : BitVec 32 := 0#32
  ![v260.toNat, 0, 0]
def k1_cond10 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c9_i32 : BitVec 32 := 9#32
  let v82 : BitVec 1 := Scalar.cmpi .sgt v28 c9_i32
  let v83 : BitVec 32 := Scalar.extui v82
  let c0_i32_34 : BitVec 32 := 0#32
  let v84 : BitVec 1 := Scalar.cmpi .ne v83 c0_i32_34
  v84

def k1_off20 (v8 : BitVec 32) : Fin 3 → Nat :=
  let c2304_i32 : BitVec 32 := 2304#32
  let v259 : BitVec 32 := Scalar.addi v8 c2304_i32
  let c0_i32_153 : BitVec 32 := 0#32
  let c0_i32_154 : BitVec 32 := 0#32
  ![v259.toNat, 0, 0]
def k1_dev11 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off21 (v9 : BitVec 32) : Fin 3 → Nat :=
  let c2560_i32_145 : BitVec 32 := 2560#32
  let v260 : BitVec 32 := Scalar.addi v9 c2560_i32_145
  let c0_i32_151 : BitVec 32 := 0#32
  let c0_i32_152 : BitVec 32 := 0#32
  ![v260.toNat, 0, 0]
def k1_cond11 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c10_i32 : BitVec 32 := 10#32
  let v85 : BitVec 1 := Scalar.cmpi .sgt v28 c10_i32
  let v86 : BitVec 32 := Scalar.extui v85
  let c0_i32_35 : BitVec 32 := 0#32
  let v87 : BitVec 1 := Scalar.cmpi .ne v86 c0_i32_35
  v87

def k1_off22 (v8 : BitVec 32) : Fin 3 → Nat :=
  let c2560_i32 : BitVec 32 := 2560#32
  let v259 : BitVec 32 := Scalar.addi v8 c2560_i32
  let c0_i32_153 : BitVec 32 := 0#32
  let c0_i32_154 : BitVec 32 := 0#32
  ![v259.toNat, 0, 0]
def k1_dev12 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off23 (v9 : BitVec 32) : Fin 3 → Nat :=
  let c2816_i32_145 : BitVec 32 := 2816#32
  let v260 : BitVec 32 := Scalar.addi v9 c2816_i32_145
  let c0_i32_151 : BitVec 32 := 0#32
  let c0_i32_152 : BitVec 32 := 0#32
  ![v260.toNat, 0, 0]
def k1_cond12 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c11_i32 : BitVec 32 := 11#32
  let v88 : BitVec 1 := Scalar.cmpi .sgt v28 c11_i32
  let v89 : BitVec 32 := Scalar.extui v88
  let c0_i32_36 : BitVec 32 := 0#32
  let v90 : BitVec 1 := Scalar.cmpi .ne v89 c0_i32_36
  v90

def k1_off24 (v8 : BitVec 32) : Fin 3 → Nat :=
  let c2816_i32 : BitVec 32 := 2816#32
  let v259 : BitVec 32 := Scalar.addi v8 c2816_i32
  let c0_i32_153 : BitVec 32 := 0#32
  let c0_i32_154 : BitVec 32 := 0#32
  ![v259.toNat, 0, 0]
def k1_dev13 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off25 (v9 : BitVec 32) : Fin 3 → Nat :=
  let c3072_i32_145 : BitVec 32 := 3072#32
  let v260 : BitVec 32 := Scalar.addi v9 c3072_i32_145
  let c0_i32_151 : BitVec 32 := 0#32
  let c0_i32_152 : BitVec 32 := 0#32
  ![v260.toNat, 0, 0]
def k1_cond13 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c12_i32 : BitVec 32 := 12#32
  let v91 : BitVec 1 := Scalar.cmpi .sgt v28 c12_i32
  let v92 : BitVec 32 := Scalar.extui v91
  let c0_i32_37 : BitVec 32 := 0#32
  let v93 : BitVec 1 := Scalar.cmpi .ne v92 c0_i32_37
  v93

def k1_off26 (v8 : BitVec 32) : Fin 3 → Nat :=
  let c3072_i32 : BitVec 32 := 3072#32
  let v259 : BitVec 32 := Scalar.addi v8 c3072_i32
  let c0_i32_153 : BitVec 32 := 0#32
  let c0_i32_154 : BitVec 32 := 0#32
  ![v259.toNat, 0, 0]
def k1_dev14 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off27 (v9 : BitVec 32) : Fin 3 → Nat :=
  let c3328_i32_145 : BitVec 32 := 3328#32
  let v260 : BitVec 32 := Scalar.addi v9 c3328_i32_145
  let c0_i32_151 : BitVec 32 := 0#32
  let c0_i32_152 : BitVec 32 := 0#32
  ![v260.toNat, 0, 0]
def k1_cond14 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c13_i32 : BitVec 32 := 13#32
  let v94 : BitVec 1 := Scalar.cmpi .sgt v28 c13_i32
  let v95 : BitVec 32 := Scalar.extui v94
  let c0_i32_38 : BitVec 32 := 0#32
  let v96 : BitVec 1 := Scalar.cmpi .ne v95 c0_i32_38
  v96

def k1_off28 (v8 : BitVec 32) : Fin 3 → Nat :=
  let c3328_i32 : BitVec 32 := 3328#32
  let v259 : BitVec 32 := Scalar.addi v8 c3328_i32
  let c0_i32_153 : BitVec 32 := 0#32
  let c0_i32_154 : BitVec 32 := 0#32
  ![v259.toNat, 0, 0]
def k1_dev15 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off29 (v9 : BitVec 32) : Fin 3 → Nat :=
  let c3584_i32_145 : BitVec 32 := 3584#32
  let v260 : BitVec 32 := Scalar.addi v9 c3584_i32_145
  let c0_i32_151 : BitVec 32 := 0#32
  let c0_i32_152 : BitVec 32 := 0#32
  ![v260.toNat, 0, 0]
def k1_cond15 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c14_i32 : BitVec 32 := 14#32
  let v97 : BitVec 1 := Scalar.cmpi .sgt v28 c14_i32
  let v98 : BitVec 32 := Scalar.extui v97
  let c0_i32_39 : BitVec 32 := 0#32
  let v99 : BitVec 1 := Scalar.cmpi .ne v98 c0_i32_39
  v99

def k1_off30 (v8 : BitVec 32) : Fin 3 → Nat :=
  let c3584_i32 : BitVec 32 := 3584#32
  let v259 : BitVec 32 := Scalar.addi v8 c3584_i32
  let c0_i32_153 : BitVec 32 := 0#32
  let c0_i32_154 : BitVec 32 := 0#32
  ![v259.toNat, 0, 0]
def k1_dev16 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off31 (v9 : BitVec 32) : Fin 3 → Nat :=
  let c3840_i32_145 : BitVec 32 := 3840#32
  let v260 : BitVec 32 := Scalar.addi v9 c3840_i32_145
  let c0_i32_151 : BitVec 32 := 0#32
  let c0_i32_152 : BitVec 32 := 0#32
  ![v260.toNat, 0, 0]
def k1_cond16 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c15_i32 : BitVec 32 := 15#32
  let v100 : BitVec 1 := Scalar.cmpi .sgt v28 c15_i32
  let v101 : BitVec 32 := Scalar.extui v100
  let c0_i32_40 : BitVec 32 := 0#32
  let v102 : BitVec 1 := Scalar.cmpi .ne v101 c0_i32_40
  v102

def k1_off32 (v8 : BitVec 32) : Fin 3 → Nat :=
  let c3840_i32 : BitVec 32 := 3840#32
  let v259 : BitVec 32 := Scalar.addi v8 c3840_i32
  let c0_i32_153 : BitVec 32 := 0#32
  let c0_i32_154 : BitVec 32 := 0#32
  ![v259.toNat, 0, 0]
def k1_dev17 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v261 : BitVec 32 := Scalar.muli v6 c2_i32_148
  let v262 : BitVec 32 := Scalar.addi c0_i32_149 v261
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v263 : BitVec 32 := Scalar.muli v5 c1_i32_150
  let v264 : BitVec 32 := Scalar.addi v262 v263
  v264.toNat
def k1_off33 (v7 : BitVec 32) (v9 : BitVec 32) : Fin 3 → Nat :=
  let v261 : BitVec 32 := Scalar.addi v9 v7
  let c256_i32_146 : BitVec 32 := 256#32
  let v262 : BitVec 32 := Scalar.subi v261 c256_i32_146
  let c0_i32_151 : BitVec 32 := 0#32
  let c0_i32_152 : BitVec 32 := 0#32
  ![v262.toNat, 0, 0]
def k1_cond17 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c256_i32_8 : BitVec 32 := 256#32
  let v29 : BitVec 32 := Scalar.muli v28 c256_i32_8
  let v30 : BitVec 32 := Scalar.subi v7 v29
  let c0_i32_41 : BitVec 32 := 0#32
  let v103 : BitVec 1 := Scalar.cmpi .sgt v30 c0_i32_41
  let v104 : BitVec 32 := Scalar.extui v103
  let c0_i32_42 : BitVec 32 := 0#32
  let v105 : BitVec 1 := Scalar.cmpi .ne v104 c0_i32_42
  v105

def k1_off34 (v7 : BitVec 32) (v8 : BitVec 32) : Fin 3 → Nat :=
  let v259 : BitVec 32 := Scalar.addi v8 v7
  let c256_i32_145 : BitVec 32 := 256#32
  let v260 : BitVec 32 := Scalar.subi v259 c256_i32_145
  let c0_i32_153 : BitVec 32 := 0#32
  let c0_i32_154 : BitVec 32 := 0#32
  ![v260.toNat, 0, 0]

def k1_chk1_0 (v7 : BitVec 32) (v9 : BitVec 32) : Prop :=
  (∀ (k1_h1 : k1_cond1 v7 = 1#1), ∀ a, (k1_off1 v9) a + S256x8x128.size a ≤ S4096x8x128.size a) ∧
  (∀ (k1_h1 : k1_cond1 v7 = 1#1), ∀ (hinb : ∀ a, (k1_off1 v9) a + S256x8x128.size a ≤ S4096x8x128.size a), (Rect.unit (s := S4096x8x128) (k1_off1 v9) S256x8x128.size hinb).WholeWords (EltTy.packing .bf16)) ∧
  (∀ (k1_h2 : k1_cond2 v7 = 1#1), ∀ a, (k1_off3 v9) a + S256x8x128.size a ≤ S4096x8x128.size a) ∧
  (∀ (k1_h2 : k1_cond2 v7 = 1#1), ∀ (hinb : ∀ a, (k1_off3 v9) a + S256x8x128.size a ≤ S4096x8x128.size a), (Rect.unit (s := S4096x8x128) (k1_off3 v9) S256x8x128.size hinb).WholeWords (EltTy.packing .bf16)) ∧
  (∀ (k1_h3 : k1_cond3 v7 = 1#1), ∀ a, (k1_off5 v9) a + S256x8x128.size a ≤ S4096x8x128.size a) ∧
  (∀ (k1_h3 : k1_cond3 v7 = 1#1), ∀ (hinb : ∀ a, (k1_off5 v9) a + S256x8x128.size a ≤ S4096x8x128.size a), (Rect.unit (s := S4096x8x128) (k1_off5 v9) S256x8x128.size hinb).WholeWords (EltTy.packing .bf16)) ∧
  (∀ (k1_h4 : k1_cond4 v7 = 1#1), ∀ a, (k1_off7 v9) a + S256x8x128.size a ≤ S4096x8x128.size a) ∧
  (∀ (k1_h4 : k1_cond4 v7 = 1#1), ∀ (hinb : ∀ a, (k1_off7 v9) a + S256x8x128.size a ≤ S4096x8x128.size a), (Rect.unit (s := S4096x8x128) (k1_off7 v9) S256x8x128.size hinb).WholeWords (EltTy.packing .bf16)) ∧
  (∀ (k1_h5 : k1_cond5 v7 = 1#1), ∀ a, (k1_off9 v9) a + S256x8x128.size a ≤ S4096x8x128.size a) ∧
  (∀ (k1_h5 : k1_cond5 v7 = 1#1), ∀ (hinb : ∀ a, (k1_off9 v9) a + S256x8x128.size a ≤ S4096x8x128.size a), (Rect.unit (s := S4096x8x128) (k1_off9 v9) S256x8x128.size hinb).WholeWords (EltTy.packing .bf16)) ∧
  (∀ (k1_h6 : k1_cond6 v7 = 1#1), ∀ a, (k1_off11 v9) a + S256x8x128.size a ≤ S4096x8x128.size a) ∧
  (∀ (k1_h6 : k1_cond6 v7 = 1#1), ∀ (hinb : ∀ a, (k1_off11 v9) a + S256x8x128.size a ≤ S4096x8x128.size a), (Rect.unit (s := S4096x8x128) (k1_off11 v9) S256x8x128.size hinb).WholeWords (EltTy.packing .bf16)) ∧
  (∀ (k1_h7 : k1_cond7 v7 = 1#1), ∀ a, (k1_off13 v9) a + S256x8x128.size a ≤ S4096x8x128.size a) ∧
  (∀ (k1_h7 : k1_cond7 v7 = 1#1), ∀ (hinb : ∀ a, (k1_off13 v9) a + S256x8x128.size a ≤ S4096x8x128.size a), (Rect.unit (s := S4096x8x128) (k1_off13 v9) S256x8x128.size hinb).WholeWords (EltTy.packing .bf16)) ∧
  (∀ (k1_h8 : k1_cond8 v7 = 1#1), ∀ a, (k1_off15 v9) a + S256x8x128.size a ≤ S4096x8x128.size a) ∧
  (∀ (k1_h8 : k1_cond8 v7 = 1#1), ∀ (hinb : ∀ a, (k1_off15 v9) a + S256x8x128.size a ≤ S4096x8x128.size a), (Rect.unit (s := S4096x8x128) (k1_off15 v9) S256x8x128.size hinb).WholeWords (EltTy.packing .bf16)) ∧
  (∀ (k1_h9 : k1_cond9 v7 = 1#1), ∀ a, (k1_off17 v9) a + S256x8x128.size a ≤ S4096x8x128.size a) ∧
  (∀ (k1_h9 : k1_cond9 v7 = 1#1), ∀ (hinb : ∀ a, (k1_off17 v9) a + S256x8x128.size a ≤ S4096x8x128.size a), (Rect.unit (s := S4096x8x128) (k1_off17 v9) S256x8x128.size hinb).WholeWords (EltTy.packing .bf16)) ∧
  (∀ (k1_h10 : k1_cond10 v7 = 1#1), ∀ a, (k1_off19 v9) a + S256x8x128.size a ≤ S4096x8x128.size a) ∧
  (∀ (k1_h10 : k1_cond10 v7 = 1#1), ∀ (hinb : ∀ a, (k1_off19 v9) a + S256x8x128.size a ≤ S4096x8x128.size a), (Rect.unit (s := S4096x8x128) (k1_off19 v9) S256x8x128.size hinb).WholeWords (EltTy.packing .bf16)) ∧
  (∀ (k1_h11 : k1_cond11 v7 = 1#1), ∀ a, (k1_off21 v9) a + S256x8x128.size a ≤ S4096x8x128.size a) ∧
  (∀ (k1_h11 : k1_cond11 v7 = 1#1), ∀ (hinb : ∀ a, (k1_off21 v9) a + S256x8x128.size a ≤ S4096x8x128.size a), (Rect.unit (s := S4096x8x128) (k1_off21 v9) S256x8x128.size hinb).WholeWords (EltTy.packing .bf16)) ∧
  (∀ (k1_h12 : k1_cond12 v7 = 1#1), ∀ a, (k1_off23 v9) a + S256x8x128.size a ≤ S4096x8x128.size a) ∧
  (∀ (k1_h12 : k1_cond12 v7 = 1#1), ∀ (hinb : ∀ a, (k1_off23 v9) a + S256x8x128.size a ≤ S4096x8x128.size a), (Rect.unit (s := S4096x8x128) (k1_off23 v9) S256x8x128.size hinb).WholeWords (EltTy.packing .bf16)) ∧
  (∀ (k1_h13 : k1_cond13 v7 = 1#1), ∀ a, (k1_off25 v9) a + S256x8x128.size a ≤ S4096x8x128.size a) ∧
  (∀ (k1_h13 : k1_cond13 v7 = 1#1), ∀ (hinb : ∀ a, (k1_off25 v9) a + S256x8x128.size a ≤ S4096x8x128.size a), (Rect.unit (s := S4096x8x128) (k1_off25 v9) S256x8x128.size hinb).WholeWords (EltTy.packing .bf16)) ∧
  (∀ (k1_h14 : k1_cond14 v7 = 1#1), ∀ a, (k1_off27 v9) a + S256x8x128.size a ≤ S4096x8x128.size a) ∧
  (∀ (k1_h14 : k1_cond14 v7 = 1#1), ∀ (hinb : ∀ a, (k1_off27 v9) a + S256x8x128.size a ≤ S4096x8x128.size a), (Rect.unit (s := S4096x8x128) (k1_off27 v9) S256x8x128.size hinb).WholeWords (EltTy.packing .bf16)) ∧
  (∀ (k1_h15 : k1_cond15 v7 = 1#1), ∀ a, (k1_off29 v9) a + S256x8x128.size a ≤ S4096x8x128.size a) ∧
  (∀ (k1_h15 : k1_cond15 v7 = 1#1), ∀ (hinb : ∀ a, (k1_off29 v9) a + S256x8x128.size a ≤ S4096x8x128.size a), (Rect.unit (s := S4096x8x128) (k1_off29 v9) S256x8x128.size hinb).WholeWords (EltTy.packing .bf16)) ∧
  (∀ (k1_h16 : k1_cond16 v7 = 1#1), ∀ a, (k1_off31 v9) a + S256x8x128.size a ≤ S4096x8x128.size a) ∧
  (∀ (k1_h16 : k1_cond16 v7 = 1#1), ∀ (hinb : ∀ a, (k1_off31 v9) a + S256x8x128.size a ≤ S4096x8x128.size a), (Rect.unit (s := S4096x8x128) (k1_off31 v9) S256x8x128.size hinb).WholeWords (EltTy.packing .bf16))
def k1_chk1_1 (v7 : BitVec 32) (v9 : BitVec 32) : Prop :=
  (∀ (k1_h17 : k1_cond17 v7 = 1#1), ∀ a, (k1_off33 v7 v9) a + S256x8x128.size a ≤ S4096x8x128.size a) ∧
  (∀ (k1_h17 : k1_cond17 v7 = 1#1), ∀ (hinb : ∀ a, (k1_off33 v7 v9) a + S256x8x128.size a ≤ S4096x8x128.size a), (Rect.unit (s := S4096x8x128) (k1_off33 v7 v9) S256x8x128.size hinb).WholeWords (EltTy.packing .bf16))
def k1_chk1 (v7 : BitVec 32) (v9 : BitVec 32) : Prop :=
  k1_chk1_0 v7 v9 ∧
  k1_chk1_1 v7 v9
theorem k1_off1_inb : ∀ (v7 : BitVec 32) (v9 : BitVec 32) (k1_hw1 : k1_chk1 v7 v9), ∀ (k1_h1 : k1_cond1 v7 = 1#1), ∀ a, (k1_off1 v9) a + S256x8x128.size a ≤ S4096x8x128.size a := fun v7 v9 k1_hw1 k1_h1 => k1_hw1.1.1 k1_h1
theorem k1_off1_wordsbf16 : ∀ (v7 : BitVec 32) (v9 : BitVec 32) (k1_hw1 : k1_chk1 v7 v9), ∀ (k1_h1 : k1_cond1 v7 = 1#1), (Rect.unit (s := S4096x8x128) (k1_off1 v9) S256x8x128.size (k1_off1_inb v7 v9 k1_hw1 k1_h1)).WholeWords (EltTy.packing .bf16) := fun v7 v9 k1_hw1 k1_h1 => k1_hw1.1.2.1 k1_h1 (k1_off1_inb v7 v9 k1_hw1 k1_h1)
theorem k1_off3_inb : ∀ (v7 : BitVec 32) (v9 : BitVec 32) (k1_hw1 : k1_chk1 v7 v9), ∀ (k1_h2 : k1_cond2 v7 = 1#1), ∀ a, (k1_off3 v9) a + S256x8x128.size a ≤ S4096x8x128.size a := fun v7 v9 k1_hw1 k1_h2 => k1_hw1.1.2.2.1 k1_h2
theorem k1_off3_wordsbf16 : ∀ (v7 : BitVec 32) (v9 : BitVec 32) (k1_hw1 : k1_chk1 v7 v9), ∀ (k1_h2 : k1_cond2 v7 = 1#1), (Rect.unit (s := S4096x8x128) (k1_off3 v9) S256x8x128.size (k1_off3_inb v7 v9 k1_hw1 k1_h2)).WholeWords (EltTy.packing .bf16) := fun v7 v9 k1_hw1 k1_h2 => k1_hw1.1.2.2.2.1 k1_h2 (k1_off3_inb v7 v9 k1_hw1 k1_h2)
theorem k1_off5_inb : ∀ (v7 : BitVec 32) (v9 : BitVec 32) (k1_hw1 : k1_chk1 v7 v9), ∀ (k1_h3 : k1_cond3 v7 = 1#1), ∀ a, (k1_off5 v9) a + S256x8x128.size a ≤ S4096x8x128.size a := fun v7 v9 k1_hw1 k1_h3 => k1_hw1.1.2.2.2.2.1 k1_h3
theorem k1_off5_wordsbf16 : ∀ (v7 : BitVec 32) (v9 : BitVec 32) (k1_hw1 : k1_chk1 v7 v9), ∀ (k1_h3 : k1_cond3 v7 = 1#1), (Rect.unit (s := S4096x8x128) (k1_off5 v9) S256x8x128.size (k1_off5_inb v7 v9 k1_hw1 k1_h3)).WholeWords (EltTy.packing .bf16) := fun v7 v9 k1_hw1 k1_h3 => k1_hw1.1.2.2.2.2.2.1 k1_h3 (k1_off5_inb v7 v9 k1_hw1 k1_h3)
theorem k1_off7_inb : ∀ (v7 : BitVec 32) (v9 : BitVec 32) (k1_hw1 : k1_chk1 v7 v9), ∀ (k1_h4 : k1_cond4 v7 = 1#1), ∀ a, (k1_off7 v9) a + S256x8x128.size a ≤ S4096x8x128.size a := fun v7 v9 k1_hw1 k1_h4 => k1_hw1.1.2.2.2.2.2.2.1 k1_h4
theorem k1_off7_wordsbf16 : ∀ (v7 : BitVec 32) (v9 : BitVec 32) (k1_hw1 : k1_chk1 v7 v9), ∀ (k1_h4 : k1_cond4 v7 = 1#1), (Rect.unit (s := S4096x8x128) (k1_off7 v9) S256x8x128.size (k1_off7_inb v7 v9 k1_hw1 k1_h4)).WholeWords (EltTy.packing .bf16) := fun v7 v9 k1_hw1 k1_h4 => k1_hw1.1.2.2.2.2.2.2.2.1 k1_h4 (k1_off7_inb v7 v9 k1_hw1 k1_h4)
theorem k1_off9_inb : ∀ (v7 : BitVec 32) (v9 : BitVec 32) (k1_hw1 : k1_chk1 v7 v9), ∀ (k1_h5 : k1_cond5 v7 = 1#1), ∀ a, (k1_off9 v9) a + S256x8x128.size a ≤ S4096x8x128.size a := fun v7 v9 k1_hw1 k1_h5 => k1_hw1.1.2.2.2.2.2.2.2.2.1 k1_h5
theorem k1_off9_wordsbf16 : ∀ (v7 : BitVec 32) (v9 : BitVec 32) (k1_hw1 : k1_chk1 v7 v9), ∀ (k1_h5 : k1_cond5 v7 = 1#1), (Rect.unit (s := S4096x8x128) (k1_off9 v9) S256x8x128.size (k1_off9_inb v7 v9 k1_hw1 k1_h5)).WholeWords (EltTy.packing .bf16) := fun v7 v9 k1_hw1 k1_h5 => k1_hw1.1.2.2.2.2.2.2.2.2.2.1 k1_h5 (k1_off9_inb v7 v9 k1_hw1 k1_h5)
theorem k1_off11_inb : ∀ (v7 : BitVec 32) (v9 : BitVec 32) (k1_hw1 : k1_chk1 v7 v9), ∀ (k1_h6 : k1_cond6 v7 = 1#1), ∀ a, (k1_off11 v9) a + S256x8x128.size a ≤ S4096x8x128.size a := fun v7 v9 k1_hw1 k1_h6 => k1_hw1.1.2.2.2.2.2.2.2.2.2.2.1 k1_h6
theorem k1_off11_wordsbf16 : ∀ (v7 : BitVec 32) (v9 : BitVec 32) (k1_hw1 : k1_chk1 v7 v9), ∀ (k1_h6 : k1_cond6 v7 = 1#1), (Rect.unit (s := S4096x8x128) (k1_off11 v9) S256x8x128.size (k1_off11_inb v7 v9 k1_hw1 k1_h6)).WholeWords (EltTy.packing .bf16) := fun v7 v9 k1_hw1 k1_h6 => k1_hw1.1.2.2.2.2.2.2.2.2.2.2.2.1 k1_h6 (k1_off11_inb v7 v9 k1_hw1 k1_h6)
theorem k1_off13_inb : ∀ (v7 : BitVec 32) (v9 : BitVec 32) (k1_hw1 : k1_chk1 v7 v9), ∀ (k1_h7 : k1_cond7 v7 = 1#1), ∀ a, (k1_off13 v9) a + S256x8x128.size a ≤ S4096x8x128.size a := fun v7 v9 k1_hw1 k1_h7 => k1_hw1.1.2.2.2.2.2.2.2.2.2.2.2.2.1 k1_h7
theorem k1_off13_wordsbf16 : ∀ (v7 : BitVec 32) (v9 : BitVec 32) (k1_hw1 : k1_chk1 v7 v9), ∀ (k1_h7 : k1_cond7 v7 = 1#1), (Rect.unit (s := S4096x8x128) (k1_off13 v9) S256x8x128.size (k1_off13_inb v7 v9 k1_hw1 k1_h7)).WholeWords (EltTy.packing .bf16) := fun v7 v9 k1_hw1 k1_h7 => k1_hw1.1.2.2.2.2.2.2.2.2.2.2.2.2.2.1 k1_h7 (k1_off13_inb v7 v9 k1_hw1 k1_h7)
theorem k1_off15_inb : ∀ (v7 : BitVec 32) (v9 : BitVec 32) (k1_hw1 : k1_chk1 v7 v9), ∀ (k1_h8 : k1_cond8 v7 = 1#1), ∀ a, (k1_off15 v9) a + S256x8x128.size a ≤ S4096x8x128.size a := fun v7 v9 k1_hw1 k1_h8 => k1_hw1.1.2.2.2.2.2.2.2.2.2.2.2.2.2.2.1 k1_h8
theorem k1_off15_wordsbf16 : ∀ (v7 : BitVec 32) (v9 : BitVec 32) (k1_hw1 : k1_chk1 v7 v9), ∀ (k1_h8 : k1_cond8 v7 = 1#1), (Rect.unit (s := S4096x8x128) (k1_off15 v9) S256x8x128.size (k1_off15_inb v7 v9 k1_hw1 k1_h8)).WholeWords (EltTy.packing .bf16) := fun v7 v9 k1_hw1 k1_h8 => k1_hw1.1.2.2.2.2.2.2.2.2.2.2.2.2.2.2.2.1 k1_h8 (k1_off15_inb v7 v9 k1_hw1 k1_h8)
theorem k1_off17_inb : ∀ (v7 : BitVec 32) (v9 : BitVec 32) (k1_hw1 : k1_chk1 v7 v9), ∀ (k1_h9 : k1_cond9 v7 = 1#1), ∀ a, (k1_off17 v9) a + S256x8x128.size a ≤ S4096x8x128.size a := fun v7 v9 k1_hw1 k1_h9 => k1_hw1.1.2.2.2.2.2.2.2.2.2.2.2.2.2.2.2.2.1 k1_h9
theorem k1_off17_wordsbf16 : ∀ (v7 : BitVec 32) (v9 : BitVec 32) (k1_hw1 : k1_chk1 v7 v9), ∀ (k1_h9 : k1_cond9 v7 = 1#1), (Rect.unit (s := S4096x8x128) (k1_off17 v9) S256x8x128.size (k1_off17_inb v7 v9 k1_hw1 k1_h9)).WholeWords (EltTy.packing .bf16) := fun v7 v9 k1_hw1 k1_h9 => k1_hw1.1.2.2.2.2.2.2.2.2.2.2.2.2.2.2.2.2.2.1 k1_h9 (k1_off17_inb v7 v9 k1_hw1 k1_h9)
theorem k1_off19_inb : ∀ (v7 : BitVec 32) (v9 : BitVec 32) (k1_hw1 : k1_chk1 v7 v9), ∀ (k1_h10 : k1_cond10 v7 = 1#1), ∀ a, (k1_off19 v9) a + S256x8x128.size a ≤ S4096x8x128.size a := fun v7 v9 k1_hw1 k1_h10 => k1_hw1.1.2.2.2.2.2.2.2.2.2.2.2.2.2.2.2.2.2.2.1 k1_h10
theorem k1_off19_wordsbf16 : ∀ (v7 : BitVec 32) (v9 : BitVec 32) (k1_hw1 : k1_chk1 v7 v9), ∀ (k1_h10 : k1_cond10 v7 = 1#1), (Rect.unit (s := S4096x8x128) (k1_off19 v9) S256x8x128.size (k1_off19_inb v7 v9 k1_hw1 k1_h10)).WholeWords (EltTy.packing .bf16) := fun v7 v9 k1_hw1 k1_h10 => k1_hw1.1.2.2.2.2.2.2.2.2.2.2.2.2.2.2.2.2.2.2.2.1 k1_h10 (k1_off19_inb v7 v9 k1_hw1 k1_h10)
theorem k1_off21_inb : ∀ (v7 : BitVec 32) (v9 : BitVec 32) (k1_hw1 : k1_chk1 v7 v9), ∀ (k1_h11 : k1_cond11 v7 = 1#1), ∀ a, (k1_off21 v9) a + S256x8x128.size a ≤ S4096x8x128.size a := fun v7 v9 k1_hw1 k1_h11 => k1_hw1.1.2.2.2.2.2.2.2.2.2.2.2.2.2.2.2.2.2.2.2.2.1 k1_h11
theorem k1_off21_wordsbf16 : ∀ (v7 : BitVec 32) (v9 : BitVec 32) (k1_hw1 : k1_chk1 v7 v9), ∀ (k1_h11 : k1_cond11 v7 = 1#1), (Rect.unit (s := S4096x8x128) (k1_off21 v9) S256x8x128.size (k1_off21_inb v7 v9 k1_hw1 k1_h11)).WholeWords (EltTy.packing .bf16) := fun v7 v9 k1_hw1 k1_h11 => k1_hw1.1.2.2.2.2.2.2.2.2.2.2.2.2.2.2.2.2.2.2.2.2.2.1 k1_h11 (k1_off21_inb v7 v9 k1_hw1 k1_h11)
theorem k1_off23_inb : ∀ (v7 : BitVec 32) (v9 : BitVec 32) (k1_hw1 : k1_chk1 v7 v9), ∀ (k1_h12 : k1_cond12 v7 = 1#1), ∀ a, (k1_off23 v9) a + S256x8x128.size a ≤ S4096x8x128.size a := fun v7 v9 k1_hw1 k1_h12 => k1_hw1.1.2.2.2.2.2.2.2.2.2.2.2.2.2.2.2.2.2.2.2.2.2.2.1 k1_h12
theorem k1_off23_wordsbf16 : ∀ (v7 : BitVec 32) (v9 : BitVec 32) (k1_hw1 : k1_chk1 v7 v9), ∀ (k1_h12 : k1_cond12 v7 = 1#1), (Rect.unit (s := S4096x8x128) (k1_off23 v9) S256x8x128.size (k1_off23_inb v7 v9 k1_hw1 k1_h12)).WholeWords (EltTy.packing .bf16) := fun v7 v9 k1_hw1 k1_h12 => k1_hw1.1.2.2.2.2.2.2.2.2.2.2.2.2.2.2.2.2.2.2.2.2.2.2.2.1 k1_h12 (k1_off23_inb v7 v9 k1_hw1 k1_h12)
theorem k1_off25_inb : ∀ (v7 : BitVec 32) (v9 : BitVec 32) (k1_hw1 : k1_chk1 v7 v9), ∀ (k1_h13 : k1_cond13 v7 = 1#1), ∀ a, (k1_off25 v9) a + S256x8x128.size a ≤ S4096x8x128.size a := fun v7 v9 k1_hw1 k1_h13 => k1_hw1.1.2.2.2.2.2.2.2.2.2.2.2.2.2.2.2.2.2.2.2.2.2.2.2.2.1 k1_h13
theorem k1_off25_wordsbf16 : ∀ (v7 : BitVec 32) (v9 : BitVec 32) (k1_hw1 : k1_chk1 v7 v9), ∀ (k1_h13 : k1_cond13 v7 = 1#1), (Rect.unit (s := S4096x8x128) (k1_off25 v9) S256x8x128.size (k1_off25_inb v7 v9 k1_hw1 k1_h13)).WholeWords (EltTy.packing .bf16) := fun v7 v9 k1_hw1 k1_h13 => k1_hw1.1.2.2.2.2.2.2.2.2.2.2.2.2.2.2.2.2.2.2.2.2.2.2.2.2.2.1 k1_h13 (k1_off25_inb v7 v9 k1_hw1 k1_h13)
theorem k1_off27_inb : ∀ (v7 : BitVec 32) (v9 : BitVec 32) (k1_hw1 : k1_chk1 v7 v9), ∀ (k1_h14 : k1_cond14 v7 = 1#1), ∀ a, (k1_off27 v9) a + S256x8x128.size a ≤ S4096x8x128.size a := fun v7 v9 k1_hw1 k1_h14 => k1_hw1.1.2.2.2.2.2.2.2.2.2.2.2.2.2.2.2.2.2.2.2.2.2.2.2.2.2.2.1 k1_h14
theorem k1_off27_wordsbf16 : ∀ (v7 : BitVec 32) (v9 : BitVec 32) (k1_hw1 : k1_chk1 v7 v9), ∀ (k1_h14 : k1_cond14 v7 = 1#1), (Rect.unit (s := S4096x8x128) (k1_off27 v9) S256x8x128.size (k1_off27_inb v7 v9 k1_hw1 k1_h14)).WholeWords (EltTy.packing .bf16) := fun v7 v9 k1_hw1 k1_h14 => k1_hw1.1.2.2.2.2.2.2.2.2.2.2.2.2.2.2.2.2.2.2.2.2.2.2.2.2.2.2.2.1 k1_h14 (k1_off27_inb v7 v9 k1_hw1 k1_h14)
theorem k1_off29_inb : ∀ (v7 : BitVec 32) (v9 : BitVec 32) (k1_hw1 : k1_chk1 v7 v9), ∀ (k1_h15 : k1_cond15 v7 = 1#1), ∀ a, (k1_off29 v9) a + S256x8x128.size a ≤ S4096x8x128.size a := fun v7 v9 k1_hw1 k1_h15 => k1_hw1.1.2.2.2.2.2.2.2.2.2.2.2.2.2.2.2.2.2.2.2.2.2.2.2.2.2.2.2.2.1 k1_h15
theorem k1_off29_wordsbf16 : ∀ (v7 : BitVec 32) (v9 : BitVec 32) (k1_hw1 : k1_chk1 v7 v9), ∀ (k1_h15 : k1_cond15 v7 = 1#1), (Rect.unit (s := S4096x8x128) (k1_off29 v9) S256x8x128.size (k1_off29_inb v7 v9 k1_hw1 k1_h15)).WholeWords (EltTy.packing .bf16) := fun v7 v9 k1_hw1 k1_h15 => k1_hw1.1.2.2.2.2.2.2.2.2.2.2.2.2.2.2.2.2.2.2.2.2.2.2.2.2.2.2.2.2.2.1 k1_h15 (k1_off29_inb v7 v9 k1_hw1 k1_h15)
theorem k1_off31_inb : ∀ (v7 : BitVec 32) (v9 : BitVec 32) (k1_hw1 : k1_chk1 v7 v9), ∀ (k1_h16 : k1_cond16 v7 = 1#1), ∀ a, (k1_off31 v9) a + S256x8x128.size a ≤ S4096x8x128.size a := fun v7 v9 k1_hw1 k1_h16 => k1_hw1.1.2.2.2.2.2.2.2.2.2.2.2.2.2.2.2.2.2.2.2.2.2.2.2.2.2.2.2.2.2.2.1 k1_h16
theorem k1_off31_wordsbf16 : ∀ (v7 : BitVec 32) (v9 : BitVec 32) (k1_hw1 : k1_chk1 v7 v9), ∀ (k1_h16 : k1_cond16 v7 = 1#1), (Rect.unit (s := S4096x8x128) (k1_off31 v9) S256x8x128.size (k1_off31_inb v7 v9 k1_hw1 k1_h16)).WholeWords (EltTy.packing .bf16) := fun v7 v9 k1_hw1 k1_h16 => k1_hw1.1.2.2.2.2.2.2.2.2.2.2.2.2.2.2.2.2.2.2.2.2.2.2.2.2.2.2.2.2.2.2.2 k1_h16 (k1_off31_inb v7 v9 k1_hw1 k1_h16)
theorem k1_off33_inb : ∀ (v7 : BitVec 32) (v9 : BitVec 32) (k1_hw1 : k1_chk1 v7 v9), ∀ (k1_h17 : k1_cond17 v7 = 1#1), ∀ a, (k1_off33 v7 v9) a + S256x8x128.size a ≤ S4096x8x128.size a := fun v7 v9 k1_hw1 k1_h17 => k1_hw1.2.1 k1_h17
theorem k1_off33_wordsbf16 : ∀ (v7 : BitVec 32) (v9 : BitVec 32) (k1_hw1 : k1_chk1 v7 v9), ∀ (k1_h17 : k1_cond17 v7 = 1#1), (Rect.unit (s := S4096x8x128) (k1_off33 v7 v9) S256x8x128.size (k1_off33_inb v7 v9 k1_hw1 k1_h17)).WholeWords (EltTy.packing .bf16) := fun v7 v9 k1_hw1 k1_h17 => k1_hw1.2.2 k1_h17 (k1_off33_inb v7 v9 k1_hw1 k1_h17)

def k1_dev18 (d0 : Dev nD) : Nat :=
  let c0_i32_149 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_148 : BitVec 32 := 2#32
  let v263 : BitVec 32 := Scalar.muli v6 c2_i32_148
  let v264 : BitVec 32 := Scalar.addi c0_i32_149 v263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v265 : BitVec 32 := Scalar.muli v5 c1_i32_150
  let v266 : BitVec 32 := Scalar.addi v264 v265
  v266.toNat
def k1_off35 (v10 : BitVec 32) : Fin 3 → Nat :=
  let c0_i32_145 : BitVec 32 := 0#32
  let v259 : BitVec 32 := Scalar.addi v10 c0_i32_145
  let c0_i32_147 : BitVec 32 := 0#32
  let c0_i32_148 : BitVec 32 := 0#32
  ![v259.toNat, 0, 0]
def k1_cond18 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c0_i32_43 : BitVec 32 := 0#32
  let v106 : BitVec 1 := Scalar.cmpi .sgt v47 c0_i32_43
  let v107 : BitVec 32 := Scalar.extui v106
  let c0_i32_44 : BitVec 32 := 0#32
  let v108 : BitVec 1 := Scalar.cmpi .ne v107 c0_i32_44
  v108

def k1_off36 (v10 : BitVec 32) : Fin 3 → Nat :=
  let c256_i32_145 : BitVec 32 := 256#32
  let v259 : BitVec 32 := Scalar.addi v10 c256_i32_145
  let c0_i32_147 : BitVec 32 := 0#32
  let c0_i32_148 : BitVec 32 := 0#32
  ![v259.toNat, 0, 0]
def k1_cond19 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c1_i32_45 : BitVec 32 := 1#32
  let v109 : BitVec 1 := Scalar.cmpi .sgt v47 c1_i32_45
  let v110 : BitVec 32 := Scalar.extui v109
  let c0_i32_46 : BitVec 32 := 0#32
  let v111 : BitVec 1 := Scalar.cmpi .ne v110 c0_i32_46
  v111

def k1_off37 (v10 : BitVec 32) : Fin 3 → Nat :=
  let c512_i32 : BitVec 32 := 512#32
  let v259 : BitVec 32 := Scalar.addi v10 c512_i32
  let c0_i32_146 : BitVec 32 := 0#32
  let c0_i32_147 : BitVec 32 := 0#32
  ![v259.toNat, 0, 0]
def k1_cond20 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c2_i32_47 : BitVec 32 := 2#32
  let v112 : BitVec 1 := Scalar.cmpi .sgt v47 c2_i32_47
  let v113 : BitVec 32 := Scalar.extui v112
  let c0_i32_48 : BitVec 32 := 0#32
  let v114 : BitVec 1 := Scalar.cmpi .ne v113 c0_i32_48
  v114

def k1_off38 (v10 : BitVec 32) : Fin 3 → Nat :=
  let c768_i32 : BitVec 32 := 768#32
  let v259 : BitVec 32 := Scalar.addi v10 c768_i32
  let c0_i32_146 : BitVec 32 := 0#32
  let c0_i32_147 : BitVec 32 := 0#32
  ![v259.toNat, 0, 0]
def k1_cond21 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c3_i32_49 : BitVec 32 := 3#32
  let v115 : BitVec 1 := Scalar.cmpi .sgt v47 c3_i32_49
  let v116 : BitVec 32 := Scalar.extui v115
  let c0_i32_50 : BitVec 32 := 0#32
  let v117 : BitVec 1 := Scalar.cmpi .ne v116 c0_i32_50
  v117

def k1_off39 (v10 : BitVec 32) : Fin 3 → Nat :=
  let c1024_i32 : BitVec 32 := 1024#32
  let v259 : BitVec 32 := Scalar.addi v10 c1024_i32
  let c0_i32_146 : BitVec 32 := 0#32
  let c0_i32_147 : BitVec 32 := 0#32
  ![v259.toNat, 0, 0]
def k1_cond22 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c4_i32_51 : BitVec 32 := 4#32
  let v118 : BitVec 1 := Scalar.cmpi .sgt v47 c4_i32_51
  let v119 : BitVec 32 := Scalar.extui v118
  let c0_i32_52 : BitVec 32 := 0#32
  let v120 : BitVec 1 := Scalar.cmpi .ne v119 c0_i32_52
  v120

def k1_off40 (v10 : BitVec 32) : Fin 3 → Nat :=
  let c1280_i32 : BitVec 32 := 1280#32
  let v259 : BitVec 32 := Scalar.addi v10 c1280_i32
  let c0_i32_146 : BitVec 32 := 0#32
  let c0_i32_147 : BitVec 32 := 0#32
  ![v259.toNat, 0, 0]
def k1_cond23 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c5_i32_53 : BitVec 32 := 5#32
  let v121 : BitVec 1 := Scalar.cmpi .sgt v47 c5_i32_53
  let v122 : BitVec 32 := Scalar.extui v121
  let c0_i32_54 : BitVec 32 := 0#32
  let v123 : BitVec 1 := Scalar.cmpi .ne v122 c0_i32_54
  v123

def k1_off41 (v10 : BitVec 32) : Fin 3 → Nat :=
  let c1536_i32 : BitVec 32 := 1536#32
  let v259 : BitVec 32 := Scalar.addi v10 c1536_i32
  let c0_i32_146 : BitVec 32 := 0#32
  let c0_i32_147 : BitVec 32 := 0#32
  ![v259.toNat, 0, 0]
def k1_cond24 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c6_i32_55 : BitVec 32 := 6#32
  let v124 : BitVec 1 := Scalar.cmpi .sgt v47 c6_i32_55
  let v125 : BitVec 32 := Scalar.extui v124
  let c0_i32_56 : BitVec 32 := 0#32
  let v126 : BitVec 1 := Scalar.cmpi .ne v125 c0_i32_56
  v126

def k1_off42 (v10 : BitVec 32) : Fin 3 → Nat :=
  let c1792_i32 : BitVec 32 := 1792#32
  let v259 : BitVec 32 := Scalar.addi v10 c1792_i32
  let c0_i32_146 : BitVec 32 := 0#32
  let c0_i32_147 : BitVec 32 := 0#32
  ![v259.toNat, 0, 0]
def k1_cond25 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c7_i32_57 : BitVec 32 := 7#32
  let v127 : BitVec 1 := Scalar.cmpi .sgt v47 c7_i32_57
  let v128 : BitVec 32 := Scalar.extui v127
  let c0_i32_58 : BitVec 32 := 0#32
  let v129 : BitVec 1 := Scalar.cmpi .ne v128 c0_i32_58
  v129

def k1_off43 (v10 : BitVec 32) : Fin 3 → Nat :=
  let c2048_i32 : BitVec 32 := 2048#32
  let v259 : BitVec 32 := Scalar.addi v10 c2048_i32
  let c0_i32_146 : BitVec 32 := 0#32
  let c0_i32_147 : BitVec 32 := 0#32
  ![v259.toNat, 0, 0]
def k1_cond26 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c8_i32_59 : BitVec 32 := 8#32
  let v130 : BitVec 1 := Scalar.cmpi .sgt v47 c8_i32_59
  let v131 : BitVec 32 := Scalar.extui v130
  let c0_i32_60 : BitVec 32 := 0#32
  let v132 : BitVec 1 := Scalar.cmpi .ne v131 c0_i32_60
  v132

def k1_off44 (v10 : BitVec 32) : Fin 3 → Nat :=
  let c2304_i32 : BitVec 32 := 2304#32
  let v259 : BitVec 32 := Scalar.addi v10 c2304_i32
  let c0_i32_146 : BitVec 32 := 0#32
  let c0_i32_147 : BitVec 32 := 0#32
  ![v259.toNat, 0, 0]
def k1_cond27 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c9_i32_61 : BitVec 32 := 9#32
  let v133 : BitVec 1 := Scalar.cmpi .sgt v47 c9_i32_61
  let v134 : BitVec 32 := Scalar.extui v133
  let c0_i32_62 : BitVec 32 := 0#32
  let v135 : BitVec 1 := Scalar.cmpi .ne v134 c0_i32_62
  v135

def k1_off45 (v10 : BitVec 32) : Fin 3 → Nat :=
  let c2560_i32 : BitVec 32 := 2560#32
  let v259 : BitVec 32 := Scalar.addi v10 c2560_i32
  let c0_i32_146 : BitVec 32 := 0#32
  let c0_i32_147 : BitVec 32 := 0#32
  ![v259.toNat, 0, 0]
def k1_cond28 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c10_i32_63 : BitVec 32 := 10#32
  let v136 : BitVec 1 := Scalar.cmpi .sgt v47 c10_i32_63
  let v137 : BitVec 32 := Scalar.extui v136
  let c0_i32_64 : BitVec 32 := 0#32
  let v138 : BitVec 1 := Scalar.cmpi .ne v137 c0_i32_64
  v138

def k1_off46 (v10 : BitVec 32) : Fin 3 → Nat :=
  let c2816_i32 : BitVec 32 := 2816#32
  let v259 : BitVec 32 := Scalar.addi v10 c2816_i32
  let c0_i32_146 : BitVec 32 := 0#32
  let c0_i32_147 : BitVec 32 := 0#32
  ![v259.toNat, 0, 0]
def k1_cond29 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c11_i32_65 : BitVec 32 := 11#32
  let v139 : BitVec 1 := Scalar.cmpi .sgt v47 c11_i32_65
  let v140 : BitVec 32 := Scalar.extui v139
  let c0_i32_66 : BitVec 32 := 0#32
  let v141 : BitVec 1 := Scalar.cmpi .ne v140 c0_i32_66
  v141

def k1_off47 (v10 : BitVec 32) : Fin 3 → Nat :=
  let c3072_i32 : BitVec 32 := 3072#32
  let v259 : BitVec 32 := Scalar.addi v10 c3072_i32
  let c0_i32_146 : BitVec 32 := 0#32
  let c0_i32_147 : BitVec 32 := 0#32
  ![v259.toNat, 0, 0]
def k1_cond30 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c12_i32_67 : BitVec 32 := 12#32
  let v142 : BitVec 1 := Scalar.cmpi .sgt v47 c12_i32_67
  let v143 : BitVec 32 := Scalar.extui v142
  let c0_i32_68 : BitVec 32 := 0#32
  let v144 : BitVec 1 := Scalar.cmpi .ne v143 c0_i32_68
  v144

def k1_off48 (v10 : BitVec 32) : Fin 3 → Nat :=
  let c3328_i32 : BitVec 32 := 3328#32
  let v259 : BitVec 32 := Scalar.addi v10 c3328_i32
  let c0_i32_146 : BitVec 32 := 0#32
  let c0_i32_147 : BitVec 32 := 0#32
  ![v259.toNat, 0, 0]
def k1_cond31 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c13_i32_69 : BitVec 32 := 13#32
  let v145 : BitVec 1 := Scalar.cmpi .sgt v47 c13_i32_69
  let v146 : BitVec 32 := Scalar.extui v145
  let c0_i32_70 : BitVec 32 := 0#32
  let v147 : BitVec 1 := Scalar.cmpi .ne v146 c0_i32_70
  v147

def k1_off49 (v10 : BitVec 32) : Fin 3 → Nat :=
  let c3584_i32 : BitVec 32 := 3584#32
  let v259 : BitVec 32 := Scalar.addi v10 c3584_i32
  let c0_i32_146 : BitVec 32 := 0#32
  let c0_i32_147 : BitVec 32 := 0#32
  ![v259.toNat, 0, 0]
def k1_cond32 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c14_i32_71 : BitVec 32 := 14#32
  let v148 : BitVec 1 := Scalar.cmpi .sgt v47 c14_i32_71
  let v149 : BitVec 32 := Scalar.extui v148
  let c0_i32_72 : BitVec 32 := 0#32
  let v150 : BitVec 1 := Scalar.cmpi .ne v149 c0_i32_72
  v150

def k1_off50 (v10 : BitVec 32) : Fin 3 → Nat :=
  let c3840_i32 : BitVec 32 := 3840#32
  let v259 : BitVec 32 := Scalar.addi v10 c3840_i32
  let c0_i32_146 : BitVec 32 := 0#32
  let c0_i32_147 : BitVec 32 := 0#32
  ![v259.toNat, 0, 0]
def k1_cond33 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c15_i32_73 : BitVec 32 := 15#32
  let v151 : BitVec 1 := Scalar.cmpi .sgt v47 c15_i32_73
  let v152 : BitVec 32 := Scalar.extui v151
  let c0_i32_74 : BitVec 32 := 0#32
  let v153 : BitVec 1 := Scalar.cmpi .ne v152 c0_i32_74
  v153

def k1_off51 (v7 : BitVec 32) (v10 : BitVec 32) : Fin 3 → Nat :=
  let c4096_i32 : BitVec 32 := 4096#32
  let v11 : BitVec 32 := Scalar.subi c4096_i32 v7
  let v259 : BitVec 32 := Scalar.addi v10 v11
  let c256_i32_145 : BitVec 32 := 256#32
  let v260 : BitVec 32 := Scalar.subi v259 c256_i32_145
  let c0_i32_146 : BitVec 32 := 0#32
  let c0_i32_147 : BitVec 32 := 0#32
  ![v260.toNat, 0, 0]
def k1_cond34 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c256_i32_16 : BitVec 32 := 256#32
  let v48 : BitVec 32 := Scalar.muli v47 c256_i32_16
  let v49 : BitVec 32 := Scalar.subi v11 v48
  let c0_i32_75 : BitVec 32 := 0#32
  let v154 : BitVec 1 := Scalar.cmpi .sgt v49 c0_i32_75
  let v155 : BitVec 32 := Scalar.extui v154
  let c0_i32_76 : BitVec 32 := 0#32
  let v156 : BitVec 1 := Scalar.cmpi .ne v155 c0_i32_76
  v156

def k1_off52 (v10 : BitVec 32) : Fin 3 → Nat :=
  let c0_i32_145 : BitVec 32 := 0#32
  let v259 : BitVec 32 := Scalar.addi v10 c0_i32_145
  let c0_i32_147 : BitVec 32 := 0#32
  let c0_i32_148 : BitVec 32 := 0#32
  ![v259.toNat, 0, 0]
def k1_cond35 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c0_i32_77 : BitVec 32 := 0#32
  let v157 : BitVec 1 := Scalar.cmpi .sgt v47 c0_i32_77
  let v158 : BitVec 32 := Scalar.extui v157
  let c0_i32_78 : BitVec 32 := 0#32
  let v159 : BitVec 1 := Scalar.cmpi .ne v158 c0_i32_78
  v159

def k1_off53 (v10 : BitVec 32) : Fin 3 → Nat :=
  let c256_i32_145 : BitVec 32 := 256#32
  let v259 : BitVec 32 := Scalar.addi v10 c256_i32_145
  let c0_i32_147 : BitVec 32 := 0#32
  let c0_i32_148 : BitVec 32 := 0#32
  ![v259.toNat, 0, 0]
def k1_cond36 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c1_i32_79 : BitVec 32 := 1#32
  let v160 : BitVec 1 := Scalar.cmpi .sgt v47 c1_i32_79
  let v161 : BitVec 32 := Scalar.extui v160
  let c0_i32_80 : BitVec 32 := 0#32
  let v162 : BitVec 1 := Scalar.cmpi .ne v161 c0_i32_80
  v162

def k1_off54 (v10 : BitVec 32) : Fin 3 → Nat :=
  let c512_i32 : BitVec 32 := 512#32
  let v259 : BitVec 32 := Scalar.addi v10 c512_i32
  let c0_i32_146 : BitVec 32 := 0#32
  let c0_i32_147 : BitVec 32 := 0#32
  ![v259.toNat, 0, 0]
def k1_cond37 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c2_i32_81 : BitVec 32 := 2#32
  let v163 : BitVec 1 := Scalar.cmpi .sgt v47 c2_i32_81
  let v164 : BitVec 32 := Scalar.extui v163
  let c0_i32_82 : BitVec 32 := 0#32
  let v165 : BitVec 1 := Scalar.cmpi .ne v164 c0_i32_82
  v165

def k1_off55 (v10 : BitVec 32) : Fin 3 → Nat :=
  let c768_i32 : BitVec 32 := 768#32
  let v259 : BitVec 32 := Scalar.addi v10 c768_i32
  let c0_i32_146 : BitVec 32 := 0#32
  let c0_i32_147 : BitVec 32 := 0#32
  ![v259.toNat, 0, 0]
def k1_cond38 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c3_i32_83 : BitVec 32 := 3#32
  let v166 : BitVec 1 := Scalar.cmpi .sgt v47 c3_i32_83
  let v167 : BitVec 32 := Scalar.extui v166
  let c0_i32_84 : BitVec 32 := 0#32
  let v168 : BitVec 1 := Scalar.cmpi .ne v167 c0_i32_84
  v168

def k1_off56 (v10 : BitVec 32) : Fin 3 → Nat :=
  let c1024_i32 : BitVec 32 := 1024#32
  let v259 : BitVec 32 := Scalar.addi v10 c1024_i32
  let c0_i32_146 : BitVec 32 := 0#32
  let c0_i32_147 : BitVec 32 := 0#32
  ![v259.toNat, 0, 0]
def k1_cond39 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c4_i32_85 : BitVec 32 := 4#32
  let v169 : BitVec 1 := Scalar.cmpi .sgt v47 c4_i32_85
  let v170 : BitVec 32 := Scalar.extui v169
  let c0_i32_86 : BitVec 32 := 0#32
  let v171 : BitVec 1 := Scalar.cmpi .ne v170 c0_i32_86
  v171

def k1_off57 (v10 : BitVec 32) : Fin 3 → Nat :=
  let c1280_i32 : BitVec 32 := 1280#32
  let v259 : BitVec 32 := Scalar.addi v10 c1280_i32
  let c0_i32_146 : BitVec 32 := 0#32
  let c0_i32_147 : BitVec 32 := 0#32
  ![v259.toNat, 0, 0]
def k1_cond40 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c5_i32_87 : BitVec 32 := 5#32
  let v172 : BitVec 1 := Scalar.cmpi .sgt v47 c5_i32_87
  let v173 : BitVec 32 := Scalar.extui v172
  let c0_i32_88 : BitVec 32 := 0#32
  let v174 : BitVec 1 := Scalar.cmpi .ne v173 c0_i32_88
  v174

def k1_off58 (v10 : BitVec 32) : Fin 3 → Nat :=
  let c1536_i32 : BitVec 32 := 1536#32
  let v259 : BitVec 32 := Scalar.addi v10 c1536_i32
  let c0_i32_146 : BitVec 32 := 0#32
  let c0_i32_147 : BitVec 32 := 0#32
  ![v259.toNat, 0, 0]
def k1_cond41 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c6_i32_89 : BitVec 32 := 6#32
  let v175 : BitVec 1 := Scalar.cmpi .sgt v47 c6_i32_89
  let v176 : BitVec 32 := Scalar.extui v175
  let c0_i32_90 : BitVec 32 := 0#32
  let v177 : BitVec 1 := Scalar.cmpi .ne v176 c0_i32_90
  v177

def k1_off59 (v10 : BitVec 32) : Fin 3 → Nat :=
  let c1792_i32 : BitVec 32 := 1792#32
  let v259 : BitVec 32 := Scalar.addi v10 c1792_i32
  let c0_i32_146 : BitVec 32 := 0#32
  let c0_i32_147 : BitVec 32 := 0#32
  ![v259.toNat, 0, 0]
def k1_cond42 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c7_i32_91 : BitVec 32 := 7#32
  let v178 : BitVec 1 := Scalar.cmpi .sgt v47 c7_i32_91
  let v179 : BitVec 32 := Scalar.extui v178
  let c0_i32_92 : BitVec 32 := 0#32
  let v180 : BitVec 1 := Scalar.cmpi .ne v179 c0_i32_92
  v180

def k1_off60 (v10 : BitVec 32) : Fin 3 → Nat :=
  let c2048_i32 : BitVec 32 := 2048#32
  let v259 : BitVec 32 := Scalar.addi v10 c2048_i32
  let c0_i32_146 : BitVec 32 := 0#32
  let c0_i32_147 : BitVec 32 := 0#32
  ![v259.toNat, 0, 0]
def k1_cond43 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c8_i32_93 : BitVec 32 := 8#32
  let v181 : BitVec 1 := Scalar.cmpi .sgt v47 c8_i32_93
  let v182 : BitVec 32 := Scalar.extui v181
  let c0_i32_94 : BitVec 32 := 0#32
  let v183 : BitVec 1 := Scalar.cmpi .ne v182 c0_i32_94
  v183

def k1_off61 (v10 : BitVec 32) : Fin 3 → Nat :=
  let c2304_i32 : BitVec 32 := 2304#32
  let v259 : BitVec 32 := Scalar.addi v10 c2304_i32
  let c0_i32_146 : BitVec 32 := 0#32
  let c0_i32_147 : BitVec 32 := 0#32
  ![v259.toNat, 0, 0]
def k1_cond44 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c9_i32_95 : BitVec 32 := 9#32
  let v184 : BitVec 1 := Scalar.cmpi .sgt v47 c9_i32_95
  let v185 : BitVec 32 := Scalar.extui v184
  let c0_i32_96 : BitVec 32 := 0#32
  let v186 : BitVec 1 := Scalar.cmpi .ne v185 c0_i32_96
  v186

def k1_off62 (v10 : BitVec 32) : Fin 3 → Nat :=
  let c2560_i32 : BitVec 32 := 2560#32
  let v259 : BitVec 32 := Scalar.addi v10 c2560_i32
  let c0_i32_146 : BitVec 32 := 0#32
  let c0_i32_147 : BitVec 32 := 0#32
  ![v259.toNat, 0, 0]
def k1_cond45 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c10_i32_97 : BitVec 32 := 10#32
  let v187 : BitVec 1 := Scalar.cmpi .sgt v47 c10_i32_97
  let v188 : BitVec 32 := Scalar.extui v187
  let c0_i32_98 : BitVec 32 := 0#32
  let v189 : BitVec 1 := Scalar.cmpi .ne v188 c0_i32_98
  v189

def k1_off63 (v10 : BitVec 32) : Fin 3 → Nat :=
  let c2816_i32 : BitVec 32 := 2816#32
  let v259 : BitVec 32 := Scalar.addi v10 c2816_i32
  let c0_i32_146 : BitVec 32 := 0#32
  let c0_i32_147 : BitVec 32 := 0#32
  ![v259.toNat, 0, 0]
def k1_cond46 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c11_i32_99 : BitVec 32 := 11#32
  let v190 : BitVec 1 := Scalar.cmpi .sgt v47 c11_i32_99
  let v191 : BitVec 32 := Scalar.extui v190
  let c0_i32_100 : BitVec 32 := 0#32
  let v192 : BitVec 1 := Scalar.cmpi .ne v191 c0_i32_100
  v192

def k1_off64 (v10 : BitVec 32) : Fin 3 → Nat :=
  let c3072_i32 : BitVec 32 := 3072#32
  let v259 : BitVec 32 := Scalar.addi v10 c3072_i32
  let c0_i32_146 : BitVec 32 := 0#32
  let c0_i32_147 : BitVec 32 := 0#32
  ![v259.toNat, 0, 0]
def k1_cond47 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c12_i32_101 : BitVec 32 := 12#32
  let v193 : BitVec 1 := Scalar.cmpi .sgt v47 c12_i32_101
  let v194 : BitVec 32 := Scalar.extui v193
  let c0_i32_102 : BitVec 32 := 0#32
  let v195 : BitVec 1 := Scalar.cmpi .ne v194 c0_i32_102
  v195

def k1_off65 (v10 : BitVec 32) : Fin 3 → Nat :=
  let c3328_i32 : BitVec 32 := 3328#32
  let v259 : BitVec 32 := Scalar.addi v10 c3328_i32
  let c0_i32_146 : BitVec 32 := 0#32
  let c0_i32_147 : BitVec 32 := 0#32
  ![v259.toNat, 0, 0]
def k1_cond48 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c13_i32_103 : BitVec 32 := 13#32
  let v196 : BitVec 1 := Scalar.cmpi .sgt v47 c13_i32_103
  let v197 : BitVec 32 := Scalar.extui v196
  let c0_i32_104 : BitVec 32 := 0#32
  let v198 : BitVec 1 := Scalar.cmpi .ne v197 c0_i32_104
  v198

def k1_off66 (v10 : BitVec 32) : Fin 3 → Nat :=
  let c3584_i32 : BitVec 32 := 3584#32
  let v259 : BitVec 32 := Scalar.addi v10 c3584_i32
  let c0_i32_146 : BitVec 32 := 0#32
  let c0_i32_147 : BitVec 32 := 0#32
  ![v259.toNat, 0, 0]
def k1_cond49 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c14_i32_105 : BitVec 32 := 14#32
  let v199 : BitVec 1 := Scalar.cmpi .sgt v47 c14_i32_105
  let v200 : BitVec 32 := Scalar.extui v199
  let c0_i32_106 : BitVec 32 := 0#32
  let v201 : BitVec 1 := Scalar.cmpi .ne v200 c0_i32_106
  v201

def k1_off67 (v10 : BitVec 32) : Fin 3 → Nat :=
  let c3840_i32 : BitVec 32 := 3840#32
  let v259 : BitVec 32 := Scalar.addi v10 c3840_i32
  let c0_i32_146 : BitVec 32 := 0#32
  let c0_i32_147 : BitVec 32 := 0#32
  ![v259.toNat, 0, 0]
def k1_cond50 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c15_i32_107 : BitVec 32 := 15#32
  let v202 : BitVec 1 := Scalar.cmpi .sgt v47 c15_i32_107
  let v203 : BitVec 32 := Scalar.extui v202
  let c0_i32_108 : BitVec 32 := 0#32
  let v204 : BitVec 1 := Scalar.cmpi .ne v203 c0_i32_108
  v204

def k1_off68 (v7 : BitVec 32) (v10 : BitVec 32) : Fin 3 → Nat :=
  let c4096_i32 : BitVec 32 := 4096#32
  let v11 : BitVec 32 := Scalar.subi c4096_i32 v7
  let v259 : BitVec 32 := Scalar.addi v10 v11
  let c256_i32_145 : BitVec 32 := 256#32
  let v260 : BitVec 32 := Scalar.subi v259 c256_i32_145
  let c0_i32_146 : BitVec 32 := 0#32
  let c0_i32_147 : BitVec 32 := 0#32
  ![v260.toNat, 0, 0]
def k1_cond51 (v7 : BitVec 32) : BitVec 1 :=
  let c4096_i32 : BitVec 32 := 4096#32
  let v11 : BitVec 32 := Scalar.subi c4096_i32 v7
  let c0_i32_10 : BitVec 32 := 0#32
  let v32 : BitVec 1 := Scalar.cmpi .sgt v11 c0_i32_10
  let v33 : BitVec 32 := Scalar.extui v32
  let c0_i32_11 : BitVec 32 := 0#32
  let v34 : BitVec 1 := Scalar.cmpi .slt v11 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v11 c256_i32_9
  let c0_i32_14 : BitVec 32 := 0#32
  let v44 : BitVec 1 := Scalar.cmpi .ne v43 c0_i32_14
  let v45 : BitVec 1 := Scalar.andi v42 v44
  let v31 : BitVec 32 := Scalar.divsi v11 c256_i32_9
  let c1_i32_15 : BitVec 32 := 1#32
  let v46 : BitVec 32 := Scalar.subi v31 c1_i32_15
  let v47 : BitVec 32 := Scalar.select v45 v46 v31
  let c256_i32_16 : BitVec 32 := 256#32
  let v48 : BitVec 32 := Scalar.muli v47 c256_i32_16
  let v49 : BitVec 32 := Scalar.subi v11 v48
  let c0_i32_109 : BitVec 32 := 0#32
  let v205 : BitVec 1 := Scalar.cmpi .sgt v49 c0_i32_109
  let v206 : BitVec 32 := Scalar.extui v205
  let c0_i32_110 : BitVec 32 := 0#32
  let v207 : BitVec 1 := Scalar.cmpi .ne v206 c0_i32_110
  v207

def k1_chk3_0 (v7 : BitVec 32) (v10 : BitVec 32) : Prop :=
  (∀ (k1_h18 : k1_cond18 v7 = 1#1), ∀ a, (k1_off35 v10) a + S256x8x128.size a ≤ S4096x8x128.size a) ∧
  (∀ (k1_h18 : k1_cond18 v7 = 1#1), ∀ (hinb : ∀ a, (k1_off35 v10) a + S256x8x128.size a ≤ S4096x8x128.size a), (Rect.unit (s := S4096x8x128) (k1_off35 v10) S256x8x128.size hinb).WholeWords (EltTy.packing .bf16)) ∧
  (∀ (k1_h19 : k1_cond19 v7 = 1#1), ∀ a, (k1_off36 v10) a + S256x8x128.size a ≤ S4096x8x128.size a) ∧
  (∀ (k1_h19 : k1_cond19 v7 = 1#1), ∀ (hinb : ∀ a, (k1_off36 v10) a + S256x8x128.size a ≤ S4096x8x128.size a), (Rect.unit (s := S4096x8x128) (k1_off36 v10) S256x8x128.size hinb).WholeWords (EltTy.packing .bf16)) ∧
  (∀ (k1_h20 : k1_cond20 v7 = 1#1), ∀ a, (k1_off37 v10) a + S256x8x128.size a ≤ S4096x8x128.size a) ∧
  (∀ (k1_h20 : k1_cond20 v7 = 1#1), ∀ (hinb : ∀ a, (k1_off37 v10) a + S256x8x128.size a ≤ S4096x8x128.size a), (Rect.unit (s := S4096x8x128) (k1_off37 v10) S256x8x128.size hinb).WholeWords (EltTy.packing .bf16)) ∧
  (∀ (k1_h21 : k1_cond21 v7 = 1#1), ∀ a, (k1_off38 v10) a + S256x8x128.size a ≤ S4096x8x128.size a) ∧
  (∀ (k1_h21 : k1_cond21 v7 = 1#1), ∀ (hinb : ∀ a, (k1_off38 v10) a + S256x8x128.size a ≤ S4096x8x128.size a), (Rect.unit (s := S4096x8x128) (k1_off38 v10) S256x8x128.size hinb).WholeWords (EltTy.packing .bf16)) ∧
  (∀ (k1_h22 : k1_cond22 v7 = 1#1), ∀ a, (k1_off39 v10) a + S256x8x128.size a ≤ S4096x8x128.size a) ∧
  (∀ (k1_h22 : k1_cond22 v7 = 1#1), ∀ (hinb : ∀ a, (k1_off39 v10) a + S256x8x128.size a ≤ S4096x8x128.size a), (Rect.unit (s := S4096x8x128) (k1_off39 v10) S256x8x128.size hinb).WholeWords (EltTy.packing .bf16)) ∧
  (∀ (k1_h23 : k1_cond23 v7 = 1#1), ∀ a, (k1_off40 v10) a + S256x8x128.size a ≤ S4096x8x128.size a) ∧
  (∀ (k1_h23 : k1_cond23 v7 = 1#1), ∀ (hinb : ∀ a, (k1_off40 v10) a + S256x8x128.size a ≤ S4096x8x128.size a), (Rect.unit (s := S4096x8x128) (k1_off40 v10) S256x8x128.size hinb).WholeWords (EltTy.packing .bf16)) ∧
  (∀ (k1_h24 : k1_cond24 v7 = 1#1), ∀ a, (k1_off41 v10) a + S256x8x128.size a ≤ S4096x8x128.size a) ∧
  (∀ (k1_h24 : k1_cond24 v7 = 1#1), ∀ (hinb : ∀ a, (k1_off41 v10) a + S256x8x128.size a ≤ S4096x8x128.size a), (Rect.unit (s := S4096x8x128) (k1_off41 v10) S256x8x128.size hinb).WholeWords (EltTy.packing .bf16)) ∧
  (∀ (k1_h25 : k1_cond25 v7 = 1#1), ∀ a, (k1_off42 v10) a + S256x8x128.size a ≤ S4096x8x128.size a) ∧
  (∀ (k1_h25 : k1_cond25 v7 = 1#1), ∀ (hinb : ∀ a, (k1_off42 v10) a + S256x8x128.size a ≤ S4096x8x128.size a), (Rect.unit (s := S4096x8x128) (k1_off42 v10) S256x8x128.size hinb).WholeWords (EltTy.packing .bf16)) ∧
  (∀ (k1_h26 : k1_cond26 v7 = 1#1), ∀ a, (k1_off43 v10) a + S256x8x128.size a ≤ S4096x8x128.size a) ∧
  (∀ (k1_h26 : k1_cond26 v7 = 1#1), ∀ (hinb : ∀ a, (k1_off43 v10) a + S256x8x128.size a ≤ S4096x8x128.size a), (Rect.unit (s := S4096x8x128) (k1_off43 v10) S256x8x128.size hinb).WholeWords (EltTy.packing .bf16)) ∧
  (∀ (k1_h27 : k1_cond27 v7 = 1#1), ∀ a, (k1_off44 v10) a + S256x8x128.size a ≤ S4096x8x128.size a) ∧
  (∀ (k1_h27 : k1_cond27 v7 = 1#1), ∀ (hinb : ∀ a, (k1_off44 v10) a + S256x8x128.size a ≤ S4096x8x128.size a), (Rect.unit (s := S4096x8x128) (k1_off44 v10) S256x8x128.size hinb).WholeWords (EltTy.packing .bf16)) ∧
  (∀ (k1_h28 : k1_cond28 v7 = 1#1), ∀ a, (k1_off45 v10) a + S256x8x128.size a ≤ S4096x8x128.size a) ∧
  (∀ (k1_h28 : k1_cond28 v7 = 1#1), ∀ (hinb : ∀ a, (k1_off45 v10) a + S256x8x128.size a ≤ S4096x8x128.size a), (Rect.unit (s := S4096x8x128) (k1_off45 v10) S256x8x128.size hinb).WholeWords (EltTy.packing .bf16)) ∧
  (∀ (k1_h29 : k1_cond29 v7 = 1#1), ∀ a, (k1_off46 v10) a + S256x8x128.size a ≤ S4096x8x128.size a) ∧
  (∀ (k1_h29 : k1_cond29 v7 = 1#1), ∀ (hinb : ∀ a, (k1_off46 v10) a + S256x8x128.size a ≤ S4096x8x128.size a), (Rect.unit (s := S4096x8x128) (k1_off46 v10) S256x8x128.size hinb).WholeWords (EltTy.packing .bf16)) ∧
  (∀ (k1_h30 : k1_cond30 v7 = 1#1), ∀ a, (k1_off47 v10) a + S256x8x128.size a ≤ S4096x8x128.size a) ∧
  (∀ (k1_h30 : k1_cond30 v7 = 1#1), ∀ (hinb : ∀ a, (k1_off47 v10) a + S256x8x128.size a ≤ S4096x8x128.size a), (Rect.unit (s := S4096x8x128) (k1_off47 v10) S256x8x128.size hinb).WholeWords (EltTy.packing .bf16)) ∧
  (∀ (k1_h31 : k1_cond31 v7 = 1#1), ∀ a, (k1_off48 v10) a + S256x8x128.size a ≤ S4096x8x128.size a) ∧
  (∀ (k1_h31 : k1_cond31 v7 = 1#1), ∀ (hinb : ∀ a, (k1_off48 v10) a + S256x8x128.size a ≤ S4096x8x128.size a), (Rect.unit (s := S4096x8x128) (k1_off48 v10) S256x8x128.size hinb).WholeWords (EltTy.packing .bf16)) ∧
  (∀ (k1_h32 : k1_cond32 v7 = 1#1), ∀ a, (k1_off49 v10) a + S256x8x128.size a ≤ S4096x8x128.size a) ∧
  (∀ (k1_h32 : k1_cond32 v7 = 1#1), ∀ (hinb : ∀ a, (k1_off49 v10) a + S256x8x128.size a ≤ S4096x8x128.size a), (Rect.unit (s := S4096x8x128) (k1_off49 v10) S256x8x128.size hinb).WholeWords (EltTy.packing .bf16)) ∧
  (∀ (k1_h33 : k1_cond33 v7 = 1#1), ∀ a, (k1_off50 v10) a + S256x8x128.size a ≤ S4096x8x128.size a) ∧
  (∀ (k1_h33 : k1_cond33 v7 = 1#1), ∀ (hinb : ∀ a, (k1_off50 v10) a + S256x8x128.size a ≤ S4096x8x128.size a), (Rect.unit (s := S4096x8x128) (k1_off50 v10) S256x8x128.size hinb).WholeWords (EltTy.packing .bf16))
def k1_chk3_1 (v7 : BitVec 32) (v10 : BitVec 32) : Prop :=
  (∀ (k1_h34 : k1_cond34 v7 = 1#1), ∀ a, (k1_off51 v7 v10) a + S256x8x128.size a ≤ S4096x8x128.size a) ∧
  (∀ (k1_h34 : k1_cond34 v7 = 1#1), ∀ (hinb : ∀ a, (k1_off51 v7 v10) a + S256x8x128.size a ≤ S4096x8x128.size a), (Rect.unit (s := S4096x8x128) (k1_off51 v7 v10) S256x8x128.size hinb).WholeWords (EltTy.packing .bf16)) ∧
  (∀ (k1_h35 : k1_cond35 v7 = 1#1), ∀ a, (k1_off52 v10) a + S256x8x128.size a ≤ S4096x8x128.size a) ∧
  (∀ (k1_h35 : k1_cond35 v7 = 1#1), ∀ (hinb : ∀ a, (k1_off52 v10) a + S256x8x128.size a ≤ S4096x8x128.size a), (Rect.unit (s := S4096x8x128) (k1_off52 v10) S256x8x128.size hinb).WholeWords (EltTy.packing .bf16)) ∧
  (∀ (k1_h36 : k1_cond36 v7 = 1#1), ∀ a, (k1_off53 v10) a + S256x8x128.size a ≤ S4096x8x128.size a) ∧
  (∀ (k1_h36 : k1_cond36 v7 = 1#1), ∀ (hinb : ∀ a, (k1_off53 v10) a + S256x8x128.size a ≤ S4096x8x128.size a), (Rect.unit (s := S4096x8x128) (k1_off53 v10) S256x8x128.size hinb).WholeWords (EltTy.packing .bf16)) ∧
  (∀ (k1_h37 : k1_cond37 v7 = 1#1), ∀ a, (k1_off54 v10) a + S256x8x128.size a ≤ S4096x8x128.size a) ∧
  (∀ (k1_h37 : k1_cond37 v7 = 1#1), ∀ (hinb : ∀ a, (k1_off54 v10) a + S256x8x128.size a ≤ S4096x8x128.size a), (Rect.unit (s := S4096x8x128) (k1_off54 v10) S256x8x128.size hinb).WholeWords (EltTy.packing .bf16)) ∧
  (∀ (k1_h38 : k1_cond38 v7 = 1#1), ∀ a, (k1_off55 v10) a + S256x8x128.size a ≤ S4096x8x128.size a) ∧
  (∀ (k1_h38 : k1_cond38 v7 = 1#1), ∀ (hinb : ∀ a, (k1_off55 v10) a + S256x8x128.size a ≤ S4096x8x128.size a), (Rect.unit (s := S4096x8x128) (k1_off55 v10) S256x8x128.size hinb).WholeWords (EltTy.packing .bf16)) ∧
  (∀ (k1_h39 : k1_cond39 v7 = 1#1), ∀ a, (k1_off56 v10) a + S256x8x128.size a ≤ S4096x8x128.size a) ∧
  (∀ (k1_h39 : k1_cond39 v7 = 1#1), ∀ (hinb : ∀ a, (k1_off56 v10) a + S256x8x128.size a ≤ S4096x8x128.size a), (Rect.unit (s := S4096x8x128) (k1_off56 v10) S256x8x128.size hinb).WholeWords (EltTy.packing .bf16)) ∧
  (∀ (k1_h40 : k1_cond40 v7 = 1#1), ∀ a, (k1_off57 v10) a + S256x8x128.size a ≤ S4096x8x128.size a) ∧
  (∀ (k1_h40 : k1_cond40 v7 = 1#1), ∀ (hinb : ∀ a, (k1_off57 v10) a + S256x8x128.size a ≤ S4096x8x128.size a), (Rect.unit (s := S4096x8x128) (k1_off57 v10) S256x8x128.size hinb).WholeWords (EltTy.packing .bf16)) ∧
  (∀ (k1_h41 : k1_cond41 v7 = 1#1), ∀ a, (k1_off58 v10) a + S256x8x128.size a ≤ S4096x8x128.size a) ∧
  (∀ (k1_h41 : k1_cond41 v7 = 1#1), ∀ (hinb : ∀ a, (k1_off58 v10) a + S256x8x128.size a ≤ S4096x8x128.size a), (Rect.unit (s := S4096x8x128) (k1_off58 v10) S256x8x128.size hinb).WholeWords (EltTy.packing .bf16)) ∧
  (∀ (k1_h42 : k1_cond42 v7 = 1#1), ∀ a, (k1_off59 v10) a + S256x8x128.size a ≤ S4096x8x128.size a) ∧
  (∀ (k1_h42 : k1_cond42 v7 = 1#1), ∀ (hinb : ∀ a, (k1_off59 v10) a + S256x8x128.size a ≤ S4096x8x128.size a), (Rect.unit (s := S4096x8x128) (k1_off59 v10) S256x8x128.size hinb).WholeWords (EltTy.packing .bf16)) ∧
  (∀ (k1_h43 : k1_cond43 v7 = 1#1), ∀ a, (k1_off60 v10) a + S256x8x128.size a ≤ S4096x8x128.size a) ∧
  (∀ (k1_h43 : k1_cond43 v7 = 1#1), ∀ (hinb : ∀ a, (k1_off60 v10) a + S256x8x128.size a ≤ S4096x8x128.size a), (Rect.unit (s := S4096x8x128) (k1_off60 v10) S256x8x128.size hinb).WholeWords (EltTy.packing .bf16)) ∧
  (∀ (k1_h44 : k1_cond44 v7 = 1#1), ∀ a, (k1_off61 v10) a + S256x8x128.size a ≤ S4096x8x128.size a) ∧
  (∀ (k1_h44 : k1_cond44 v7 = 1#1), ∀ (hinb : ∀ a, (k1_off61 v10) a + S256x8x128.size a ≤ S4096x8x128.size a), (Rect.unit (s := S4096x8x128) (k1_off61 v10) S256x8x128.size hinb).WholeWords (EltTy.packing .bf16)) ∧
  (∀ (k1_h45 : k1_cond45 v7 = 1#1), ∀ a, (k1_off62 v10) a + S256x8x128.size a ≤ S4096x8x128.size a) ∧
  (∀ (k1_h45 : k1_cond45 v7 = 1#1), ∀ (hinb : ∀ a, (k1_off62 v10) a + S256x8x128.size a ≤ S4096x8x128.size a), (Rect.unit (s := S4096x8x128) (k1_off62 v10) S256x8x128.size hinb).WholeWords (EltTy.packing .bf16)) ∧
  (∀ (k1_h46 : k1_cond46 v7 = 1#1), ∀ a, (k1_off63 v10) a + S256x8x128.size a ≤ S4096x8x128.size a) ∧
  (∀ (k1_h46 : k1_cond46 v7 = 1#1), ∀ (hinb : ∀ a, (k1_off63 v10) a + S256x8x128.size a ≤ S4096x8x128.size a), (Rect.unit (s := S4096x8x128) (k1_off63 v10) S256x8x128.size hinb).WholeWords (EltTy.packing .bf16)) ∧
  (∀ (k1_h47 : k1_cond47 v7 = 1#1), ∀ a, (k1_off64 v10) a + S256x8x128.size a ≤ S4096x8x128.size a) ∧
  (∀ (k1_h47 : k1_cond47 v7 = 1#1), ∀ (hinb : ∀ a, (k1_off64 v10) a + S256x8x128.size a ≤ S4096x8x128.size a), (Rect.unit (s := S4096x8x128) (k1_off64 v10) S256x8x128.size hinb).WholeWords (EltTy.packing .bf16)) ∧
  (∀ (k1_h48 : k1_cond48 v7 = 1#1), ∀ a, (k1_off65 v10) a + S256x8x128.size a ≤ S4096x8x128.size a) ∧
  (∀ (k1_h48 : k1_cond48 v7 = 1#1), ∀ (hinb : ∀ a, (k1_off65 v10) a + S256x8x128.size a ≤ S4096x8x128.size a), (Rect.unit (s := S4096x8x128) (k1_off65 v10) S256x8x128.size hinb).WholeWords (EltTy.packing .bf16)) ∧
  (∀ (k1_h49 : k1_cond49 v7 = 1#1), ∀ a, (k1_off66 v10) a + S256x8x128.size a ≤ S4096x8x128.size a) ∧
  (∀ (k1_h49 : k1_cond49 v7 = 1#1), ∀ (hinb : ∀ a, (k1_off66 v10) a + S256x8x128.size a ≤ S4096x8x128.size a), (Rect.unit (s := S4096x8x128) (k1_off66 v10) S256x8x128.size hinb).WholeWords (EltTy.packing .bf16))
def k1_chk3_2 (v7 : BitVec 32) (v10 : BitVec 32) : Prop :=
  (∀ (k1_h50 : k1_cond50 v7 = 1#1), ∀ a, (k1_off67 v10) a + S256x8x128.size a ≤ S4096x8x128.size a) ∧
  (∀ (k1_h50 : k1_cond50 v7 = 1#1), ∀ (hinb : ∀ a, (k1_off67 v10) a + S256x8x128.size a ≤ S4096x8x128.size a), (Rect.unit (s := S4096x8x128) (k1_off67 v10) S256x8x128.size hinb).WholeWords (EltTy.packing .bf16)) ∧
  (∀ (k1_h51 : k1_cond51 v7 = 1#1), ∀ a, (k1_off68 v7 v10) a + S256x8x128.size a ≤ S4096x8x128.size a) ∧
  (∀ (k1_h51 : k1_cond51 v7 = 1#1), ∀ (hinb : ∀ a, (k1_off68 v7 v10) a + S256x8x128.size a ≤ S4096x8x128.size a), (Rect.unit (s := S4096x8x128) (k1_off68 v7 v10) S256x8x128.size hinb).WholeWords (EltTy.packing .bf16))
def k1_chk3 (v7 : BitVec 32) (v10 : BitVec 32) : Prop :=
  k1_chk3_0 v7 v10 ∧
  k1_chk3_1 v7 v10 ∧
  k1_chk3_2 v7 v10
theorem k1_off35_inb : ∀ (v7 : BitVec 32) (v10 : BitVec 32) (k1_hw3 : k1_chk3 v7 v10), ∀ (k1_h18 : k1_cond18 v7 = 1#1), ∀ a, (k1_off35 v10) a + S256x8x128.size a ≤ S4096x8x128.size a := fun v7 v10 k1_hw3 k1_h18 => k1_hw3.1.1 k1_h18
theorem k1_off35_wordsbf16 : ∀ (v7 : BitVec 32) (v10 : BitVec 32) (k1_hw3 : k1_chk3 v7 v10), ∀ (k1_h18 : k1_cond18 v7 = 1#1), (Rect.unit (s := S4096x8x128) (k1_off35 v10) S256x8x128.size (k1_off35_inb v7 v10 k1_hw3 k1_h18)).WholeWords (EltTy.packing .bf16) := fun v7 v10 k1_hw3 k1_h18 => k1_hw3.1.2.1 k1_h18 (k1_off35_inb v7 v10 k1_hw3 k1_h18)
theorem k1_off36_inb : ∀ (v7 : BitVec 32) (v10 : BitVec 32) (k1_hw3 : k1_chk3 v7 v10), ∀ (k1_h19 : k1_cond19 v7 = 1#1), ∀ a, (k1_off36 v10) a + S256x8x128.size a ≤ S4096x8x128.size a := fun v7 v10 k1_hw3 k1_h19 => k1_hw3.1.2.2.1 k1_h19
theorem k1_off36_wordsbf16 : ∀ (v7 : BitVec 32) (v10 : BitVec 32) (k1_hw3 : k1_chk3 v7 v10), ∀ (k1_h19 : k1_cond19 v7 = 1#1), (Rect.unit (s := S4096x8x128) (k1_off36 v10) S256x8x128.size (k1_off36_inb v7 v10 k1_hw3 k1_h19)).WholeWords (EltTy.packing .bf16) := fun v7 v10 k1_hw3 k1_h19 => k1_hw3.1.2.2.2.1 k1_h19 (k1_off36_inb v7 v10 k1_hw3 k1_h19)
theorem k1_off37_inb : ∀ (v7 : BitVec 32) (v10 : BitVec 32) (k1_hw3 : k1_chk3 v7 v10), ∀ (k1_h20 : k1_cond20 v7 = 1#1), ∀ a, (k1_off37 v10) a + S256x8x128.size a ≤ S4096x8x128.size a := fun v7 v10 k1_hw3 k1_h20 => k1_hw3.1.2.2.2.2.1 k1_h20
theorem k1_off37_wordsbf16 : ∀ (v7 : BitVec 32) (v10 : BitVec 32) (k1_hw3 : k1_chk3 v7 v10), ∀ (k1_h20 : k1_cond20 v7 = 1#1), (Rect.unit (s := S4096x8x128) (k1_off37 v10) S256x8x128.size (k1_off37_inb v7 v10 k1_hw3 k1_h20)).WholeWords (EltTy.packing .bf16) := fun v7 v10 k1_hw3 k1_h20 => k1_hw3.1.2.2.2.2.2.1 k1_h20 (k1_off37_inb v7 v10 k1_hw3 k1_h20)
theorem k1_off38_inb : ∀ (v7 : BitVec 32) (v10 : BitVec 32) (k1_hw3 : k1_chk3 v7 v10), ∀ (k1_h21 : k1_cond21 v7 = 1#1), ∀ a, (k1_off38 v10) a + S256x8x128.size a ≤ S4096x8x128.size a := fun v7 v10 k1_hw3 k1_h21 => k1_hw3.1.2.2.2.2.2.2.1 k1_h21
theorem k1_off38_wordsbf16 : ∀ (v7 : BitVec 32) (v10 : BitVec 32) (k1_hw3 : k1_chk3 v7 v10), ∀ (k1_h21 : k1_cond21 v7 = 1#1), (Rect.unit (s := S4096x8x128) (k1_off38 v10) S256x8x128.size (k1_off38_inb v7 v10 k1_hw3 k1_h21)).WholeWords (EltTy.packing .bf16) := fun v7 v10 k1_hw3 k1_h21 => k1_hw3.1.2.2.2.2.2.2.2.1 k1_h21 (k1_off38_inb v7 v10 k1_hw3 k1_h21)
theorem k1_off39_inb : ∀ (v7 : BitVec 32) (v10 : BitVec 32) (k1_hw3 : k1_chk3 v7 v10), ∀ (k1_h22 : k1_cond22 v7 = 1#1), ∀ a, (k1_off39 v10) a + S256x8x128.size a ≤ S4096x8x128.size a := fun v7 v10 k1_hw3 k1_h22 => k1_hw3.1.2.2.2.2.2.2.2.2.1 k1_h22
theorem k1_off39_wordsbf16 : ∀ (v7 : BitVec 32) (v10 : BitVec 32) (k1_hw3 : k1_chk3 v7 v10), ∀ (k1_h22 : k1_cond22 v7 = 1#1), (Rect.unit (s := S4096x8x128) (k1_off39 v10) S256x8x128.size (k1_off39_inb v7 v10 k1_hw3 k1_h22)).WholeWords (EltTy.packing .bf16) := fun v7 v10 k1_hw3 k1_h22 => k1_hw3.1.2.2.2.2.2.2.2.2.2.1 k1_h22 (k1_off39_inb v7 v10 k1_hw3 k1_h22)
theorem k1_off40_inb : ∀ (v7 : BitVec 32) (v10 : BitVec 32) (k1_hw3 : k1_chk3 v7 v10), ∀ (k1_h23 : k1_cond23 v7 = 1#1), ∀ a, (k1_off40 v10) a + S256x8x128.size a ≤ S4096x8x128.size a := fun v7 v10 k1_hw3 k1_h23 => k1_hw3.1.2.2.2.2.2.2.2.2.2.2.1 k1_h23
theorem k1_off40_wordsbf16 : ∀ (v7 : BitVec 32) (v10 : BitVec 32) (k1_hw3 : k1_chk3 v7 v10), ∀ (k1_h23 : k1_cond23 v7 = 1#1), (Rect.unit (s := S4096x8x128) (k1_off40 v10) S256x8x128.size (k1_off40_inb v7 v10 k1_hw3 k1_h23)).WholeWords (EltTy.packing .bf16) := fun v7 v10 k1_hw3 k1_h23 => k1_hw3.1.2.2.2.2.2.2.2.2.2.2.2.1 k1_h23 (k1_off40_inb v7 v10 k1_hw3 k1_h23)
theorem k1_off41_inb : ∀ (v7 : BitVec 32) (v10 : BitVec 32) (k1_hw3 : k1_chk3 v7 v10), ∀ (k1_h24 : k1_cond24 v7 = 1#1), ∀ a, (k1_off41 v10) a + S256x8x128.size a ≤ S4096x8x128.size a := fun v7 v10 k1_hw3 k1_h24 => k1_hw3.1.2.2.2.2.2.2.2.2.2.2.2.2.1 k1_h24
theorem k1_off41_wordsbf16 : ∀ (v7 : BitVec 32) (v10 : BitVec 32) (k1_hw3 : k1_chk3 v7 v10), ∀ (k1_h24 : k1_cond24 v7 = 1#1), (Rect.unit (s := S4096x8x128) (k1_off41 v10) S256x8x128.size (k1_off41_inb v7 v10 k1_hw3 k1_h24)).WholeWords (EltTy.packing .bf16) := fun v7 v10 k1_hw3 k1_h24 => k1_hw3.1.2.2.2.2.2.2.2.2.2.2.2.2.2.1 k1_h24 (k1_off41_inb v7 v10 k1_hw3 k1_h24)
theorem k1_off42_inb : ∀ (v7 : BitVec 32) (v10 : BitVec 32) (k1_hw3 : k1_chk3 v7 v10), ∀ (k1_h25 : k1_cond25 v7 = 1#1), ∀ a, (k1_off42 v10) a + S256x8x128.size a ≤ S4096x8x128.size a := fun v7 v10 k1_hw3 k1_h25 => k1_hw3.1.2.2.2.2.2.2.2.2.2.2.2.2.2.2.1 k1_h25
theorem k1_off42_wordsbf16 : ∀ (v7 : BitVec 32) (v10 : BitVec 32) (k1_hw3 : k1_chk3 v7 v10), ∀ (k1_h25 : k1_cond25 v7 = 1#1), (Rect.unit (s := S4096x8x128) (k1_off42 v10) S256x8x128.size (k1_off42_inb v7 v10 k1_hw3 k1_h25)).WholeWords (EltTy.packing .bf16) := fun v7 v10 k1_hw3 k1_h25 => k1_hw3.1.2.2.2.2.2.2.2.2.2.2.2.2.2.2.2.1 k1_h25 (k1_off42_inb v7 v10 k1_hw3 k1_h25)
theorem k1_off43_inb : ∀ (v7 : BitVec 32) (v10 : BitVec 32) (k1_hw3 : k1_chk3 v7 v10), ∀ (k1_h26 : k1_cond26 v7 = 1#1), ∀ a, (k1_off43 v10) a + S256x8x128.size a ≤ S4096x8x128.size a := fun v7 v10 k1_hw3 k1_h26 => k1_hw3.1.2.2.2.2.2.2.2.2.2.2.2.2.2.2.2.2.1 k1_h26
theorem k1_off43_wordsbf16 : ∀ (v7 : BitVec 32) (v10 : BitVec 32) (k1_hw3 : k1_chk3 v7 v10), ∀ (k1_h26 : k1_cond26 v7 = 1#1), (Rect.unit (s := S4096x8x128) (k1_off43 v10) S256x8x128.size (k1_off43_inb v7 v10 k1_hw3 k1_h26)).WholeWords (EltTy.packing .bf16) := fun v7 v10 k1_hw3 k1_h26 => k1_hw3.1.2.2.2.2.2.2.2.2.2.2.2.2.2.2.2.2.2.1 k1_h26 (k1_off43_inb v7 v10 k1_hw3 k1_h26)
theorem k1_off44_inb : ∀ (v7 : BitVec 32) (v10 : BitVec 32) (k1_hw3 : k1_chk3 v7 v10), ∀ (k1_h27 : k1_cond27 v7 = 1#1), ∀ a, (k1_off44 v10) a + S256x8x128.size a ≤ S4096x8x128.size a := fun v7 v10 k1_hw3 k1_h27 => k1_hw3.1.2.2.2.2.2.2.2.2.2.2.2.2.2.2.2.2.2.2.1 k1_h27
theorem k1_off44_wordsbf16 : ∀ (v7 : BitVec 32) (v10 : BitVec 32) (k1_hw3 : k1_chk3 v7 v10), ∀ (k1_h27 : k1_cond27 v7 = 1#1), (Rect.unit (s := S4096x8x128) (k1_off44 v10) S256x8x128.size (k1_off44_inb v7 v10 k1_hw3 k1_h27)).WholeWords (EltTy.packing .bf16) := fun v7 v10 k1_hw3 k1_h27 => k1_hw3.1.2.2.2.2.2.2.2.2.2.2.2.2.2.2.2.2.2.2.2.1 k1_h27 (k1_off44_inb v7 v10 k1_hw3 k1_h27)
theorem k1_off45_inb : ∀ (v7 : BitVec 32) (v10 : BitVec 32) (k1_hw3 : k1_chk3 v7 v10), ∀ (k1_h28 : k1_cond28 v7 = 1#1), ∀ a, (k1_off45 v10) a + S256x8x128.size a ≤ S4096x8x128.size a := fun v7 v10 k1_hw3 k1_h28 => k1_hw3.1.2.2.2.2.2.2.2.2.2.2.2.2.2.2.2.2.2.2.2.2.1 k1_h28
theorem k1_off45_wordsbf16 : ∀ (v7 : BitVec 32) (v10 : BitVec 32) (k1_hw3 : k1_chk3 v7 v10), ∀ (k1_h28 : k1_cond28 v7 = 1#1), (Rect.unit (s := S4096x8x128) (k1_off45 v10) S256x8x128.size (k1_off45_inb v7 v10 k1_hw3 k1_h28)).WholeWords (EltTy.packing .bf16) := fun v7 v10 k1_hw3 k1_h28 => k1_hw3.1.2.2.2.2.2.2.2.2.2.2.2.2.2.2.2.2.2.2.2.2.2.1 k1_h28 (k1_off45_inb v7 v10 k1_hw3 k1_h28)
theorem k1_off46_inb : ∀ (v7 : BitVec 32) (v10 : BitVec 32) (k1_hw3 : k1_chk3 v7 v10), ∀ (k1_h29 : k1_cond29 v7 = 1#1), ∀ a, (k1_off46 v10) a + S256x8x128.size a ≤ S4096x8x128.size a := fun v7 v10 k1_hw3 k1_h29 => k1_hw3.1.2.2.2.2.2.2.2.2.2.2.2.2.2.2.2.2.2.2.2.2.2.2.1 k1_h29
theorem k1_off46_wordsbf16 : ∀ (v7 : BitVec 32) (v10 : BitVec 32) (k1_hw3 : k1_chk3 v7 v10), ∀ (k1_h29 : k1_cond29 v7 = 1#1), (Rect.unit (s := S4096x8x128) (k1_off46 v10) S256x8x128.size (k1_off46_inb v7 v10 k1_hw3 k1_h29)).WholeWords (EltTy.packing .bf16) := fun v7 v10 k1_hw3 k1_h29 => k1_hw3.1.2.2.2.2.2.2.2.2.2.2.2.2.2.2.2.2.2.2.2.2.2.2.2.1 k1_h29 (k1_off46_inb v7 v10 k1_hw3 k1_h29)
theorem k1_off47_inb : ∀ (v7 : BitVec 32) (v10 : BitVec 32) (k1_hw3 : k1_chk3 v7 v10), ∀ (k1_h30 : k1_cond30 v7 = 1#1), ∀ a, (k1_off47 v10) a + S256x8x128.size a ≤ S4096x8x128.size a := fun v7 v10 k1_hw3 k1_h30 => k1_hw3.1.2.2.2.2.2.2.2.2.2.2.2.2.2.2.2.2.2.2.2.2.2.2.2.2.1 k1_h30
theorem k1_off47_wordsbf16 : ∀ (v7 : BitVec 32) (v10 : BitVec 32) (k1_hw3 : k1_chk3 v7 v10), ∀ (k1_h30 : k1_cond30 v7 = 1#1), (Rect.unit (s := S4096x8x128) (k1_off47 v10) S256x8x128.size (k1_off47_inb v7 v10 k1_hw3 k1_h30)).WholeWords (EltTy.packing .bf16) := fun v7 v10 k1_hw3 k1_h30 => k1_hw3.1.2.2.2.2.2.2.2.2.2.2.2.2.2.2.2.2.2.2.2.2.2.2.2.2.2.1 k1_h30 (k1_off47_inb v7 v10 k1_hw3 k1_h30)
theorem k1_off48_inb : ∀ (v7 : BitVec 32) (v10 : BitVec 32) (k1_hw3 : k1_chk3 v7 v10), ∀ (k1_h31 : k1_cond31 v7 = 1#1), ∀ a, (k1_off48 v10) a + S256x8x128.size a ≤ S4096x8x128.size a := fun v7 v10 k1_hw3 k1_h31 => k1_hw3.1.2.2.2.2.2.2.2.2.2.2.2.2.2.2.2.2.2.2.2.2.2.2.2.2.2.2.1 k1_h31
theorem k1_off48_wordsbf16 : ∀ (v7 : BitVec 32) (v10 : BitVec 32) (k1_hw3 : k1_chk3 v7 v10), ∀ (k1_h31 : k1_cond31 v7 = 1#1), (Rect.unit (s := S4096x8x128) (k1_off48 v10) S256x8x128.size (k1_off48_inb v7 v10 k1_hw3 k1_h31)).WholeWords (EltTy.packing .bf16) := fun v7 v10 k1_hw3 k1_h31 => k1_hw3.1.2.2.2.2.2.2.2.2.2.2.2.2.2.2.2.2.2.2.2.2.2.2.2.2.2.2.2.1 k1_h31 (k1_off48_inb v7 v10 k1_hw3 k1_h31)
theorem k1_off49_inb : ∀ (v7 : BitVec 32) (v10 : BitVec 32) (k1_hw3 : k1_chk3 v7 v10), ∀ (k1_h32 : k1_cond32 v7 = 1#1), ∀ a, (k1_off49 v10) a + S256x8x128.size a ≤ S4096x8x128.size a := fun v7 v10 k1_hw3 k1_h32 => k1_hw3.1.2.2.2.2.2.2.2.2.2.2.2.2.2.2.2.2.2.2.2.2.2.2.2.2.2.2.2.2.1 k1_h32
theorem k1_off49_wordsbf16 : ∀ (v7 : BitVec 32) (v10 : BitVec 32) (k1_hw3 : k1_chk3 v7 v10), ∀ (k1_h32 : k1_cond32 v7 = 1#1), (Rect.unit (s := S4096x8x128) (k1_off49 v10) S256x8x128.size (k1_off49_inb v7 v10 k1_hw3 k1_h32)).WholeWords (EltTy.packing .bf16) := fun v7 v10 k1_hw3 k1_h32 => k1_hw3.1.2.2.2.2.2.2.2.2.2.2.2.2.2.2.2.2.2.2.2.2.2.2.2.2.2.2.2.2.2.1 k1_h32 (k1_off49_inb v7 v10 k1_hw3 k1_h32)
theorem k1_off50_inb : ∀ (v7 : BitVec 32) (v10 : BitVec 32) (k1_hw3 : k1_chk3 v7 v10), ∀ (k1_h33 : k1_cond33 v7 = 1#1), ∀ a, (k1_off50 v10) a + S256x8x128.size a ≤ S4096x8x128.size a := fun v7 v10 k1_hw3 k1_h33 => k1_hw3.1.2.2.2.2.2.2.2.2.2.2.2.2.2.2.2.2.2.2.2.2.2.2.2.2.2.2.2.2.2.2.1 k1_h33
theorem k1_off50_wordsbf16 : ∀ (v7 : BitVec 32) (v10 : BitVec 32) (k1_hw3 : k1_chk3 v7 v10), ∀ (k1_h33 : k1_cond33 v7 = 1#1), (Rect.unit (s := S4096x8x128) (k1_off50 v10) S256x8x128.size (k1_off50_inb v7 v10 k1_hw3 k1_h33)).WholeWords (EltTy.packing .bf16) := fun v7 v10 k1_hw3 k1_h33 => k1_hw3.1.2.2.2.2.2.2.2.2.2.2.2.2.2.2.2.2.2.2.2.2.2.2.2.2.2.2.2.2.2.2.2 k1_h33 (k1_off50_inb v7 v10 k1_hw3 k1_h33)
theorem k1_off51_inb : ∀ (v7 : BitVec 32) (v10 : BitVec 32) (k1_hw3 : k1_chk3 v7 v10), ∀ (k1_h34 : k1_cond34 v7 = 1#1), ∀ a, (k1_off51 v7 v10) a + S256x8x128.size a ≤ S4096x8x128.size a := fun v7 v10 k1_hw3 k1_h34 => k1_hw3.2.1.1 k1_h34
theorem k1_off51_wordsbf16 : ∀ (v7 : BitVec 32) (v10 : BitVec 32) (k1_hw3 : k1_chk3 v7 v10), ∀ (k1_h34 : k1_cond34 v7 = 1#1), (Rect.unit (s := S4096x8x128) (k1_off51 v7 v10) S256x8x128.size (k1_off51_inb v7 v10 k1_hw3 k1_h34)).WholeWords (EltTy.packing .bf16) := fun v7 v10 k1_hw3 k1_h34 => k1_hw3.2.1.2.1 k1_h34 (k1_off51_inb v7 v10 k1_hw3 k1_h34)
theorem k1_off52_inb : ∀ (v7 : BitVec 32) (v10 : BitVec 32) (k1_hw3 : k1_chk3 v7 v10), ∀ (k1_h35 : k1_cond35 v7 = 1#1), ∀ a, (k1_off52 v10) a + S256x8x128.size a ≤ S4096x8x128.size a := fun v7 v10 k1_hw3 k1_h35 => k1_hw3.2.1.2.2.1 k1_h35
theorem k1_off52_wordsbf16 : ∀ (v7 : BitVec 32) (v10 : BitVec 32) (k1_hw3 : k1_chk3 v7 v10), ∀ (k1_h35 : k1_cond35 v7 = 1#1), (Rect.unit (s := S4096x8x128) (k1_off52 v10) S256x8x128.size (k1_off52_inb v7 v10 k1_hw3 k1_h35)).WholeWords (EltTy.packing .bf16) := fun v7 v10 k1_hw3 k1_h35 => k1_hw3.2.1.2.2.2.1 k1_h35 (k1_off52_inb v7 v10 k1_hw3 k1_h35)
theorem k1_off53_inb : ∀ (v7 : BitVec 32) (v10 : BitVec 32) (k1_hw3 : k1_chk3 v7 v10), ∀ (k1_h36 : k1_cond36 v7 = 1#1), ∀ a, (k1_off53 v10) a + S256x8x128.size a ≤ S4096x8x128.size a := fun v7 v10 k1_hw3 k1_h36 => k1_hw3.2.1.2.2.2.2.1 k1_h36
theorem k1_off53_wordsbf16 : ∀ (v7 : BitVec 32) (v10 : BitVec 32) (k1_hw3 : k1_chk3 v7 v10), ∀ (k1_h36 : k1_cond36 v7 = 1#1), (Rect.unit (s := S4096x8x128) (k1_off53 v10) S256x8x128.size (k1_off53_inb v7 v10 k1_hw3 k1_h36)).WholeWords (EltTy.packing .bf16) := fun v7 v10 k1_hw3 k1_h36 => k1_hw3.2.1.2.2.2.2.2.1 k1_h36 (k1_off53_inb v7 v10 k1_hw3 k1_h36)
theorem k1_off54_inb : ∀ (v7 : BitVec 32) (v10 : BitVec 32) (k1_hw3 : k1_chk3 v7 v10), ∀ (k1_h37 : k1_cond37 v7 = 1#1), ∀ a, (k1_off54 v10) a + S256x8x128.size a ≤ S4096x8x128.size a := fun v7 v10 k1_hw3 k1_h37 => k1_hw3.2.1.2.2.2.2.2.2.1 k1_h37
theorem k1_off54_wordsbf16 : ∀ (v7 : BitVec 32) (v10 : BitVec 32) (k1_hw3 : k1_chk3 v7 v10), ∀ (k1_h37 : k1_cond37 v7 = 1#1), (Rect.unit (s := S4096x8x128) (k1_off54 v10) S256x8x128.size (k1_off54_inb v7 v10 k1_hw3 k1_h37)).WholeWords (EltTy.packing .bf16) := fun v7 v10 k1_hw3 k1_h37 => k1_hw3.2.1.2.2.2.2.2.2.2.1 k1_h37 (k1_off54_inb v7 v10 k1_hw3 k1_h37)
theorem k1_off55_inb : ∀ (v7 : BitVec 32) (v10 : BitVec 32) (k1_hw3 : k1_chk3 v7 v10), ∀ (k1_h38 : k1_cond38 v7 = 1#1), ∀ a, (k1_off55 v10) a + S256x8x128.size a ≤ S4096x8x128.size a := fun v7 v10 k1_hw3 k1_h38 => k1_hw3.2.1.2.2.2.2.2.2.2.2.1 k1_h38
theorem k1_off55_wordsbf16 : ∀ (v7 : BitVec 32) (v10 : BitVec 32) (k1_hw3 : k1_chk3 v7 v10), ∀ (k1_h38 : k1_cond38 v7 = 1#1), (Rect.unit (s := S4096x8x128) (k1_off55 v10) S256x8x128.size (k1_off55_inb v7 v10 k1_hw3 k1_h38)).WholeWords (EltTy.packing .bf16) := fun v7 v10 k1_hw3 k1_h38 => k1_hw3.2.1.2.2.2.2.2.2.2.2.2.1 k1_h38 (k1_off55_inb v7 v10 k1_hw3 k1_h38)
theorem k1_off56_inb : ∀ (v7 : BitVec 32) (v10 : BitVec 32) (k1_hw3 : k1_chk3 v7 v10), ∀ (k1_h39 : k1_cond39 v7 = 1#1), ∀ a, (k1_off56 v10) a + S256x8x128.size a ≤ S4096x8x128.size a := fun v7 v10 k1_hw3 k1_h39 => k1_hw3.2.1.2.2.2.2.2.2.2.2.2.2.1 k1_h39
theorem k1_off56_wordsbf16 : ∀ (v7 : BitVec 32) (v10 : BitVec 32) (k1_hw3 : k1_chk3 v7 v10), ∀ (k1_h39 : k1_cond39 v7 = 1#1), (Rect.unit (s := S4096x8x128) (k1_off56 v10) S256x8x128.size (k1_off56_inb v7 v10 k1_hw3 k1_h39)).WholeWords (EltTy.packing .bf16) := fun v7 v10 k1_hw3 k1_h39 => k1_hw3.2.1.2.2.2.2.2.2.2.2.2.2.2.1 k1_h39 (k1_off56_inb v7 v10 k1_hw3 k1_h39)
theorem k1_off57_inb : ∀ (v7 : BitVec 32) (v10 : BitVec 32) (k1_hw3 : k1_chk3 v7 v10), ∀ (k1_h40 : k1_cond40 v7 = 1#1), ∀ a, (k1_off57 v10) a + S256x8x128.size a ≤ S4096x8x128.size a := fun v7 v10 k1_hw3 k1_h40 => k1_hw3.2.1.2.2.2.2.2.2.2.2.2.2.2.2.1 k1_h40
theorem k1_off57_wordsbf16 : ∀ (v7 : BitVec 32) (v10 : BitVec 32) (k1_hw3 : k1_chk3 v7 v10), ∀ (k1_h40 : k1_cond40 v7 = 1#1), (Rect.unit (s := S4096x8x128) (k1_off57 v10) S256x8x128.size (k1_off57_inb v7 v10 k1_hw3 k1_h40)).WholeWords (EltTy.packing .bf16) := fun v7 v10 k1_hw3 k1_h40 => k1_hw3.2.1.2.2.2.2.2.2.2.2.2.2.2.2.2.1 k1_h40 (k1_off57_inb v7 v10 k1_hw3 k1_h40)
theorem k1_off58_inb : ∀ (v7 : BitVec 32) (v10 : BitVec 32) (k1_hw3 : k1_chk3 v7 v10), ∀ (k1_h41 : k1_cond41 v7 = 1#1), ∀ a, (k1_off58 v10) a + S256x8x128.size a ≤ S4096x8x128.size a := fun v7 v10 k1_hw3 k1_h41 => k1_hw3.2.1.2.2.2.2.2.2.2.2.2.2.2.2.2.2.1 k1_h41
theorem k1_off58_wordsbf16 : ∀ (v7 : BitVec 32) (v10 : BitVec 32) (k1_hw3 : k1_chk3 v7 v10), ∀ (k1_h41 : k1_cond41 v7 = 1#1), (Rect.unit (s := S4096x8x128) (k1_off58 v10) S256x8x128.size (k1_off58_inb v7 v10 k1_hw3 k1_h41)).WholeWords (EltTy.packing .bf16) := fun v7 v10 k1_hw3 k1_h41 => k1_hw3.2.1.2.2.2.2.2.2.2.2.2.2.2.2.2.2.2.1 k1_h41 (k1_off58_inb v7 v10 k1_hw3 k1_h41)
theorem k1_off59_inb : ∀ (v7 : BitVec 32) (v10 : BitVec 32) (k1_hw3 : k1_chk3 v7 v10), ∀ (k1_h42 : k1_cond42 v7 = 1#1), ∀ a, (k1_off59 v10) a + S256x8x128.size a ≤ S4096x8x128.size a := fun v7 v10 k1_hw3 k1_h42 => k1_hw3.2.1.2.2.2.2.2.2.2.2.2.2.2.2.2.2.2.2.1 k1_h42
theorem k1_off59_wordsbf16 : ∀ (v7 : BitVec 32) (v10 : BitVec 32) (k1_hw3 : k1_chk3 v7 v10), ∀ (k1_h42 : k1_cond42 v7 = 1#1), (Rect.unit (s := S4096x8x128) (k1_off59 v10) S256x8x128.size (k1_off59_inb v7 v10 k1_hw3 k1_h42)).WholeWords (EltTy.packing .bf16) := fun v7 v10 k1_hw3 k1_h42 => k1_hw3.2.1.2.2.2.2.2.2.2.2.2.2.2.2.2.2.2.2.2.1 k1_h42 (k1_off59_inb v7 v10 k1_hw3 k1_h42)
theorem k1_off60_inb : ∀ (v7 : BitVec 32) (v10 : BitVec 32) (k1_hw3 : k1_chk3 v7 v10), ∀ (k1_h43 : k1_cond43 v7 = 1#1), ∀ a, (k1_off60 v10) a + S256x8x128.size a ≤ S4096x8x128.size a := fun v7 v10 k1_hw3 k1_h43 => k1_hw3.2.1.2.2.2.2.2.2.2.2.2.2.2.2.2.2.2.2.2.2.1 k1_h43
theorem k1_off60_wordsbf16 : ∀ (v7 : BitVec 32) (v10 : BitVec 32) (k1_hw3 : k1_chk3 v7 v10), ∀ (k1_h43 : k1_cond43 v7 = 1#1), (Rect.unit (s := S4096x8x128) (k1_off60 v10) S256x8x128.size (k1_off60_inb v7 v10 k1_hw3 k1_h43)).WholeWords (EltTy.packing .bf16) := fun v7 v10 k1_hw3 k1_h43 => k1_hw3.2.1.2.2.2.2.2.2.2.2.2.2.2.2.2.2.2.2.2.2.2.1 k1_h43 (k1_off60_inb v7 v10 k1_hw3 k1_h43)
theorem k1_off61_inb : ∀ (v7 : BitVec 32) (v10 : BitVec 32) (k1_hw3 : k1_chk3 v7 v10), ∀ (k1_h44 : k1_cond44 v7 = 1#1), ∀ a, (k1_off61 v10) a + S256x8x128.size a ≤ S4096x8x128.size a := fun v7 v10 k1_hw3 k1_h44 => k1_hw3.2.1.2.2.2.2.2.2.2.2.2.2.2.2.2.2.2.2.2.2.2.2.1 k1_h44
theorem k1_off61_wordsbf16 : ∀ (v7 : BitVec 32) (v10 : BitVec 32) (k1_hw3 : k1_chk3 v7 v10), ∀ (k1_h44 : k1_cond44 v7 = 1#1), (Rect.unit (s := S4096x8x128) (k1_off61 v10) S256x8x128.size (k1_off61_inb v7 v10 k1_hw3 k1_h44)).WholeWords (EltTy.packing .bf16) := fun v7 v10 k1_hw3 k1_h44 => k1_hw3.2.1.2.2.2.2.2.2.2.2.2.2.2.2.2.2.2.2.2.2.2.2.2.1 k1_h44 (k1_off61_inb v7 v10 k1_hw3 k1_h44)
theorem k1_off62_inb : ∀ (v7 : BitVec 32) (v10 : BitVec 32) (k1_hw3 : k1_chk3 v7 v10), ∀ (k1_h45 : k1_cond45 v7 = 1#1), ∀ a, (k1_off62 v10) a + S256x8x128.size a ≤ S4096x8x128.size a := fun v7 v10 k1_hw3 k1_h45 => k1_hw3.2.1.2.2.2.2.2.2.2.2.2.2.2.2.2.2.2.2.2.2.2.2.2.2.1 k1_h45
theorem k1_off62_wordsbf16 : ∀ (v7 : BitVec 32) (v10 : BitVec 32) (k1_hw3 : k1_chk3 v7 v10), ∀ (k1_h45 : k1_cond45 v7 = 1#1), (Rect.unit (s := S4096x8x128) (k1_off62 v10) S256x8x128.size (k1_off62_inb v7 v10 k1_hw3 k1_h45)).WholeWords (EltTy.packing .bf16) := fun v7 v10 k1_hw3 k1_h45 => k1_hw3.2.1.2.2.2.2.2.2.2.2.2.2.2.2.2.2.2.2.2.2.2.2.2.2.2.1 k1_h45 (k1_off62_inb v7 v10 k1_hw3 k1_h45)
theorem k1_off63_inb : ∀ (v7 : BitVec 32) (v10 : BitVec 32) (k1_hw3 : k1_chk3 v7 v10), ∀ (k1_h46 : k1_cond46 v7 = 1#1), ∀ a, (k1_off63 v10) a + S256x8x128.size a ≤ S4096x8x128.size a := fun v7 v10 k1_hw3 k1_h46 => k1_hw3.2.1.2.2.2.2.2.2.2.2.2.2.2.2.2.2.2.2.2.2.2.2.2.2.2.2.1 k1_h46
theorem k1_off63_wordsbf16 : ∀ (v7 : BitVec 32) (v10 : BitVec 32) (k1_hw3 : k1_chk3 v7 v10), ∀ (k1_h46 : k1_cond46 v7 = 1#1), (Rect.unit (s := S4096x8x128) (k1_off63 v10) S256x8x128.size (k1_off63_inb v7 v10 k1_hw3 k1_h46)).WholeWords (EltTy.packing .bf16) := fun v7 v10 k1_hw3 k1_h46 => k1_hw3.2.1.2.2.2.2.2.2.2.2.2.2.2.2.2.2.2.2.2.2.2.2.2.2.2.2.2.1 k1_h46 (k1_off63_inb v7 v10 k1_hw3 k1_h46)
theorem k1_off64_inb : ∀ (v7 : BitVec 32) (v10 : BitVec 32) (k1_hw3 : k1_chk3 v7 v10), ∀ (k1_h47 : k1_cond47 v7 = 1#1), ∀ a, (k1_off64 v10) a + S256x8x128.size a ≤ S4096x8x128.size a := fun v7 v10 k1_hw3 k1_h47 => k1_hw3.2.1.2.2.2.2.2.2.2.2.2.2.2.2.2.2.2.2.2.2.2.2.2.2.2.2.2.2.1 k1_h47
theorem k1_off64_wordsbf16 : ∀ (v7 : BitVec 32) (v10 : BitVec 32) (k1_hw3 : k1_chk3 v7 v10), ∀ (k1_h47 : k1_cond47 v7 = 1#1), (Rect.unit (s := S4096x8x128) (k1_off64 v10) S256x8x128.size (k1_off64_inb v7 v10 k1_hw3 k1_h47)).WholeWords (EltTy.packing .bf16) := fun v7 v10 k1_hw3 k1_h47 => k1_hw3.2.1.2.2.2.2.2.2.2.2.2.2.2.2.2.2.2.2.2.2.2.2.2.2.2.2.2.2.2.1 k1_h47 (k1_off64_inb v7 v10 k1_hw3 k1_h47)
theorem k1_off65_inb : ∀ (v7 : BitVec 32) (v10 : BitVec 32) (k1_hw3 : k1_chk3 v7 v10), ∀ (k1_h48 : k1_cond48 v7 = 1#1), ∀ a, (k1_off65 v10) a + S256x8x128.size a ≤ S4096x8x128.size a := fun v7 v10 k1_hw3 k1_h48 => k1_hw3.2.1.2.2.2.2.2.2.2.2.2.2.2.2.2.2.2.2.2.2.2.2.2.2.2.2.2.2.2.2.1 k1_h48
theorem k1_off65_wordsbf16 : ∀ (v7 : BitVec 32) (v10 : BitVec 32) (k1_hw3 : k1_chk3 v7 v10), ∀ (k1_h48 : k1_cond48 v7 = 1#1), (Rect.unit (s := S4096x8x128) (k1_off65 v10) S256x8x128.size (k1_off65_inb v7 v10 k1_hw3 k1_h48)).WholeWords (EltTy.packing .bf16) := fun v7 v10 k1_hw3 k1_h48 => k1_hw3.2.1.2.2.2.2.2.2.2.2.2.2.2.2.2.2.2.2.2.2.2.2.2.2.2.2.2.2.2.2.2.1 k1_h48 (k1_off65_inb v7 v10 k1_hw3 k1_h48)
theorem k1_off66_inb : ∀ (v7 : BitVec 32) (v10 : BitVec 32) (k1_hw3 : k1_chk3 v7 v10), ∀ (k1_h49 : k1_cond49 v7 = 1#1), ∀ a, (k1_off66 v10) a + S256x8x128.size a ≤ S4096x8x128.size a := fun v7 v10 k1_hw3 k1_h49 => k1_hw3.2.1.2.2.2.2.2.2.2.2.2.2.2.2.2.2.2.2.2.2.2.2.2.2.2.2.2.2.2.2.2.2.1 k1_h49
theorem k1_off66_wordsbf16 : ∀ (v7 : BitVec 32) (v10 : BitVec 32) (k1_hw3 : k1_chk3 v7 v10), ∀ (k1_h49 : k1_cond49 v7 = 1#1), (Rect.unit (s := S4096x8x128) (k1_off66 v10) S256x8x128.size (k1_off66_inb v7 v10 k1_hw3 k1_h49)).WholeWords (EltTy.packing .bf16) := fun v7 v10 k1_hw3 k1_h49 => k1_hw3.2.1.2.2.2.2.2.2.2.2.2.2.2.2.2.2.2.2.2.2.2.2.2.2.2.2.2.2.2.2.2.2.2 k1_h49 (k1_off66_inb v7 v10 k1_hw3 k1_h49)
theorem k1_off67_inb : ∀ (v7 : BitVec 32) (v10 : BitVec 32) (k1_hw3 : k1_chk3 v7 v10), ∀ (k1_h50 : k1_cond50 v7 = 1#1), ∀ a, (k1_off67 v10) a + S256x8x128.size a ≤ S4096x8x128.size a := fun v7 v10 k1_hw3 k1_h50 => k1_hw3.2.2.1 k1_h50
theorem k1_off67_wordsbf16 : ∀ (v7 : BitVec 32) (v10 : BitVec 32) (k1_hw3 : k1_chk3 v7 v10), ∀ (k1_h50 : k1_cond50 v7 = 1#1), (Rect.unit (s := S4096x8x128) (k1_off67 v10) S256x8x128.size (k1_off67_inb v7 v10 k1_hw3 k1_h50)).WholeWords (EltTy.packing .bf16) := fun v7 v10 k1_hw3 k1_h50 => k1_hw3.2.2.2.1 k1_h50 (k1_off67_inb v7 v10 k1_hw3 k1_h50)
theorem k1_off68_inb : ∀ (v7 : BitVec 32) (v10 : BitVec 32) (k1_hw3 : k1_chk3 v7 v10), ∀ (k1_h51 : k1_cond51 v7 = 1#1), ∀ a, (k1_off68 v7 v10) a + S256x8x128.size a ≤ S4096x8x128.size a := fun v7 v10 k1_hw3 k1_h51 => k1_hw3.2.2.2.2.1 k1_h51
theorem k1_off68_wordsbf16 : ∀ (v7 : BitVec 32) (v10 : BitVec 32) (k1_hw3 : k1_chk3 v7 v10), ∀ (k1_h51 : k1_cond51 v7 = 1#1), (Rect.unit (s := S4096x8x128) (k1_off68 v7 v10) S256x8x128.size (k1_off68_inb v7 v10 k1_hw3 k1_h51)).WholeWords (EltTy.packing .bf16) := fun v7 v10 k1_hw3 k1_h51 => k1_hw3.2.2.2.2.2 k1_h51 (k1_off68_inb v7 v10 k1_hw3 k1_h51)

def k1_off69 (v8 : BitVec 32) : Fin 3 → Nat :=
  let c0_i32_145 : BitVec 32 := 0#32
  let v259 : BitVec 32 := Scalar.addi v8 c0_i32_145
  let c0_i32_150 : BitVec 32 := 0#32
  let c0_i32_151 : BitVec 32 := 0#32
  ![v259.toNat, 0, 0]
def k1_cond52 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c0_i32_111 : BitVec 32 := 0#32
  let v208 : BitVec 1 := Scalar.cmpi .sgt v28 c0_i32_111
  let v209 : BitVec 32 := Scalar.extui v208
  let c0_i32_112 : BitVec 32 := 0#32
  let v210 : BitVec 1 := Scalar.cmpi .ne v209 c0_i32_112
  v210

def k1_off70 (v8 : BitVec 32) : Fin 3 → Nat :=
  let c256_i32_145 : BitVec 32 := 256#32
  let v259 : BitVec 32 := Scalar.addi v8 c256_i32_145
  let c0_i32_150 : BitVec 32 := 0#32
  let c0_i32_151 : BitVec 32 := 0#32
  ![v259.toNat, 0, 0]
def k1_cond53 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c1_i32_113 : BitVec 32 := 1#32
  let v211 : BitVec 1 := Scalar.cmpi .sgt v28 c1_i32_113
  let v212 : BitVec 32 := Scalar.extui v211
  let c0_i32_114 : BitVec 32 := 0#32
  let v213 : BitVec 1 := Scalar.cmpi .ne v212 c0_i32_114
  v213

def k1_off71 (v8 : BitVec 32) : Fin 3 → Nat :=
  let c512_i32 : BitVec 32 := 512#32
  let v259 : BitVec 32 := Scalar.addi v8 c512_i32
  let c0_i32_149 : BitVec 32 := 0#32
  let c0_i32_150 : BitVec 32 := 0#32
  ![v259.toNat, 0, 0]
def k1_cond54 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c2_i32_115 : BitVec 32 := 2#32
  let v214 : BitVec 1 := Scalar.cmpi .sgt v28 c2_i32_115
  let v215 : BitVec 32 := Scalar.extui v214
  let c0_i32_116 : BitVec 32 := 0#32
  let v216 : BitVec 1 := Scalar.cmpi .ne v215 c0_i32_116
  v216

def k1_off72 (v8 : BitVec 32) : Fin 3 → Nat :=
  let c768_i32 : BitVec 32 := 768#32
  let v259 : BitVec 32 := Scalar.addi v8 c768_i32
  let c0_i32_149 : BitVec 32 := 0#32
  let c0_i32_150 : BitVec 32 := 0#32
  ![v259.toNat, 0, 0]
def k1_cond55 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c3_i32_117 : BitVec 32 := 3#32
  let v217 : BitVec 1 := Scalar.cmpi .sgt v28 c3_i32_117
  let v218 : BitVec 32 := Scalar.extui v217
  let c0_i32_118 : BitVec 32 := 0#32
  let v219 : BitVec 1 := Scalar.cmpi .ne v218 c0_i32_118
  v219

def k1_off73 (v8 : BitVec 32) : Fin 3 → Nat :=
  let c1024_i32 : BitVec 32 := 1024#32
  let v259 : BitVec 32 := Scalar.addi v8 c1024_i32
  let c0_i32_149 : BitVec 32 := 0#32
  let c0_i32_150 : BitVec 32 := 0#32
  ![v259.toNat, 0, 0]
def k1_cond56 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c4_i32_119 : BitVec 32 := 4#32
  let v220 : BitVec 1 := Scalar.cmpi .sgt v28 c4_i32_119
  let v221 : BitVec 32 := Scalar.extui v220
  let c0_i32_120 : BitVec 32 := 0#32
  let v222 : BitVec 1 := Scalar.cmpi .ne v221 c0_i32_120
  v222

def k1_off74 (v8 : BitVec 32) : Fin 3 → Nat :=
  let c1280_i32 : BitVec 32 := 1280#32
  let v259 : BitVec 32 := Scalar.addi v8 c1280_i32
  let c0_i32_149 : BitVec 32 := 0#32
  let c0_i32_150 : BitVec 32 := 0#32
  ![v259.toNat, 0, 0]
def k1_cond57 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c5_i32_121 : BitVec 32 := 5#32
  let v223 : BitVec 1 := Scalar.cmpi .sgt v28 c5_i32_121
  let v224 : BitVec 32 := Scalar.extui v223
  let c0_i32_122 : BitVec 32 := 0#32
  let v225 : BitVec 1 := Scalar.cmpi .ne v224 c0_i32_122
  v225

def k1_off75 (v8 : BitVec 32) : Fin 3 → Nat :=
  let c1536_i32 : BitVec 32 := 1536#32
  let v259 : BitVec 32 := Scalar.addi v8 c1536_i32
  let c0_i32_149 : BitVec 32 := 0#32
  let c0_i32_150 : BitVec 32 := 0#32
  ![v259.toNat, 0, 0]
def k1_cond58 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c6_i32_123 : BitVec 32 := 6#32
  let v226 : BitVec 1 := Scalar.cmpi .sgt v28 c6_i32_123
  let v227 : BitVec 32 := Scalar.extui v226
  let c0_i32_124 : BitVec 32 := 0#32
  let v228 : BitVec 1 := Scalar.cmpi .ne v227 c0_i32_124
  v228

def k1_off76 (v8 : BitVec 32) : Fin 3 → Nat :=
  let c1792_i32 : BitVec 32 := 1792#32
  let v259 : BitVec 32 := Scalar.addi v8 c1792_i32
  let c0_i32_149 : BitVec 32 := 0#32
  let c0_i32_150 : BitVec 32 := 0#32
  ![v259.toNat, 0, 0]
def k1_cond59 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c7_i32_125 : BitVec 32 := 7#32
  let v229 : BitVec 1 := Scalar.cmpi .sgt v28 c7_i32_125
  let v230 : BitVec 32 := Scalar.extui v229
  let c0_i32_126 : BitVec 32 := 0#32
  let v231 : BitVec 1 := Scalar.cmpi .ne v230 c0_i32_126
  v231

def k1_off77 (v8 : BitVec 32) : Fin 3 → Nat :=
  let c2048_i32 : BitVec 32 := 2048#32
  let v259 : BitVec 32 := Scalar.addi v8 c2048_i32
  let c0_i32_149 : BitVec 32 := 0#32
  let c0_i32_150 : BitVec 32 := 0#32
  ![v259.toNat, 0, 0]
def k1_cond60 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c8_i32_127 : BitVec 32 := 8#32
  let v232 : BitVec 1 := Scalar.cmpi .sgt v28 c8_i32_127
  let v233 : BitVec 32 := Scalar.extui v232
  let c0_i32_128 : BitVec 32 := 0#32
  let v234 : BitVec 1 := Scalar.cmpi .ne v233 c0_i32_128
  v234

def k1_off78 (v8 : BitVec 32) : Fin 3 → Nat :=
  let c2304_i32 : BitVec 32 := 2304#32
  let v259 : BitVec 32 := Scalar.addi v8 c2304_i32
  let c0_i32_149 : BitVec 32 := 0#32
  let c0_i32_150 : BitVec 32 := 0#32
  ![v259.toNat, 0, 0]
def k1_cond61 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c9_i32_129 : BitVec 32 := 9#32
  let v235 : BitVec 1 := Scalar.cmpi .sgt v28 c9_i32_129
  let v236 : BitVec 32 := Scalar.extui v235
  let c0_i32_130 : BitVec 32 := 0#32
  let v237 : BitVec 1 := Scalar.cmpi .ne v236 c0_i32_130
  v237

def k1_off79 (v8 : BitVec 32) : Fin 3 → Nat :=
  let c2560_i32 : BitVec 32 := 2560#32
  let v259 : BitVec 32 := Scalar.addi v8 c2560_i32
  let c0_i32_149 : BitVec 32 := 0#32
  let c0_i32_150 : BitVec 32 := 0#32
  ![v259.toNat, 0, 0]
def k1_cond62 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c10_i32_131 : BitVec 32 := 10#32
  let v238 : BitVec 1 := Scalar.cmpi .sgt v28 c10_i32_131
  let v239 : BitVec 32 := Scalar.extui v238
  let c0_i32_132 : BitVec 32 := 0#32
  let v240 : BitVec 1 := Scalar.cmpi .ne v239 c0_i32_132
  v240

def k1_off80 (v8 : BitVec 32) : Fin 3 → Nat :=
  let c2816_i32 : BitVec 32 := 2816#32
  let v259 : BitVec 32 := Scalar.addi v8 c2816_i32
  let c0_i32_149 : BitVec 32 := 0#32
  let c0_i32_150 : BitVec 32 := 0#32
  ![v259.toNat, 0, 0]
def k1_cond63 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c11_i32_133 : BitVec 32 := 11#32
  let v241 : BitVec 1 := Scalar.cmpi .sgt v28 c11_i32_133
  let v242 : BitVec 32 := Scalar.extui v241
  let c0_i32_134 : BitVec 32 := 0#32
  let v243 : BitVec 1 := Scalar.cmpi .ne v242 c0_i32_134
  v243

def k1_off81 (v8 : BitVec 32) : Fin 3 → Nat :=
  let c3072_i32 : BitVec 32 := 3072#32
  let v259 : BitVec 32 := Scalar.addi v8 c3072_i32
  let c0_i32_149 : BitVec 32 := 0#32
  let c0_i32_150 : BitVec 32 := 0#32
  ![v259.toNat, 0, 0]
def k1_cond64 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c12_i32_135 : BitVec 32 := 12#32
  let v244 : BitVec 1 := Scalar.cmpi .sgt v28 c12_i32_135
  let v245 : BitVec 32 := Scalar.extui v244
  let c0_i32_136 : BitVec 32 := 0#32
  let v246 : BitVec 1 := Scalar.cmpi .ne v245 c0_i32_136
  v246

def k1_off82 (v8 : BitVec 32) : Fin 3 → Nat :=
  let c3328_i32 : BitVec 32 := 3328#32
  let v259 : BitVec 32 := Scalar.addi v8 c3328_i32
  let c0_i32_149 : BitVec 32 := 0#32
  let c0_i32_150 : BitVec 32 := 0#32
  ![v259.toNat, 0, 0]
def k1_cond65 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c13_i32_137 : BitVec 32 := 13#32
  let v247 : BitVec 1 := Scalar.cmpi .sgt v28 c13_i32_137
  let v248 : BitVec 32 := Scalar.extui v247
  let c0_i32_138 : BitVec 32 := 0#32
  let v249 : BitVec 1 := Scalar.cmpi .ne v248 c0_i32_138
  v249

def k1_off83 (v8 : BitVec 32) : Fin 3 → Nat :=
  let c3584_i32 : BitVec 32 := 3584#32
  let v259 : BitVec 32 := Scalar.addi v8 c3584_i32
  let c0_i32_149 : BitVec 32 := 0#32
  let c0_i32_150 : BitVec 32 := 0#32
  ![v259.toNat, 0, 0]
def k1_cond66 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c14_i32_139 : BitVec 32 := 14#32
  let v250 : BitVec 1 := Scalar.cmpi .sgt v28 c14_i32_139
  let v251 : BitVec 32 := Scalar.extui v250
  let c0_i32_140 : BitVec 32 := 0#32
  let v252 : BitVec 1 := Scalar.cmpi .ne v251 c0_i32_140
  v252

def k1_off84 (v8 : BitVec 32) : Fin 3 → Nat :=
  let c3840_i32 : BitVec 32 := 3840#32
  let v259 : BitVec 32 := Scalar.addi v8 c3840_i32
  let c0_i32_149 : BitVec 32 := 0#32
  let c0_i32_150 : BitVec 32 := 0#32
  ![v259.toNat, 0, 0]
def k1_cond67 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c15_i32_141 : BitVec 32 := 15#32
  let v253 : BitVec 1 := Scalar.cmpi .sgt v28 c15_i32_141
  let v254 : BitVec 32 := Scalar.extui v253
  let c0_i32_142 : BitVec 32 := 0#32
  let v255 : BitVec 1 := Scalar.cmpi .ne v254 c0_i32_142
  v255

def k1_off85 (v7 : BitVec 32) (v8 : BitVec 32) : Fin 3 → Nat :=
  let v259 : BitVec 32 := Scalar.addi v8 v7
  let c256_i32_145 : BitVec 32 := 256#32
  let v260 : BitVec 32 := Scalar.subi v259 c256_i32_145
  let c0_i32_149 : BitVec 32 := 0#32
  let c0_i32_150 : BitVec 32 := 0#32
  ![v260.toNat, 0, 0]
def k1_cond68 (v7 : BitVec 32) : BitVec 1 :=
  let c0_i32 : BitVec 32 := 0#32
  let v13 : BitVec 1 := Scalar.cmpi .sgt v7 c0_i32
  let v14 : BitVec 32 := Scalar.extui v13
  let c0_i32_3 : BitVec 32 := 0#32
  let v15 : BitVec 1 := Scalar.cmpi .slt v7 c0_i32_3
  let v16 : BitVec 32 := Scalar.extui v15
  let v17 : BitVec 32 := Scalar.subi v14 v16
  let c256_i32 : BitVec 32 := 256#32
  let c0_i32_4 : BitVec 32 := 0#32
  let v18 : BitVec 1 := Scalar.cmpi .sgt c256_i32 c0_i32_4
  let v19 : BitVec 32 := Scalar.extui v18
  let c0_i32_5 : BitVec 32 := 0#32
  let v20 : BitVec 1 := Scalar.cmpi .slt c256_i32 c0_i32_5
  let v21 : BitVec 32 := Scalar.extui v20
  let v22 : BitVec 32 := Scalar.subi v19 v21
  let v23 : BitVec 1 := Scalar.cmpi .ne v17 v22
  let v24 : BitVec 32 := Scalar.remsi v7 c256_i32
  let c0_i32_6 : BitVec 32 := 0#32
  let v25 : BitVec 1 := Scalar.cmpi .ne v24 c0_i32_6
  let v26 : BitVec 1 := Scalar.andi v23 v25
  let v12 : BitVec 32 := Scalar.divsi v7 c256_i32
  let c1_i32_7 : BitVec 32 := 1#32
  let v27 : BitVec 32 := Scalar.subi v12 c1_i32_7
  let v28 : BitVec 32 := Scalar.select v26 v27 v12
  let c256_i32_8 : BitVec 32 := 256#32
  let v29 : BitVec 32 := Scalar.muli v28 c256_i32_8
  let v30 : BitVec 32 := Scalar.subi v7 v29
  let c0_i32_143 : BitVec 32 := 0#32
  let v256 : BitVec 1 := Scalar.cmpi .sgt v30 c0_i32_143
  let v257 : BitVec 32 := Scalar.extui v256
  let c0_i32_144 : BitVec 32 := 0#32
  let v258 : BitVec 1 := Scalar.cmpi .ne v257 c0_i32_144
  v258

def k1_chk2_0 (v7 : BitVec 32) (v8 : BitVec 32) : Prop :=
  (∀ (k1_h1 : k1_cond1 v7 = 1#1), ∀ a, (k1_off2 v8) a + S256x8x128.size a ≤ S4096x8x128.size a) ∧
  (∀ (k1_h1 : k1_cond1 v7 = 1#1), ∀ (hinb : ∀ a, (k1_off2 v8) a + S256x8x128.size a ≤ S4096x8x128.size a), (Rect.unit (s := S4096x8x128) (k1_off2 v8) S256x8x128.size hinb).WholeWords (EltTy.packing .bf16)) ∧
  (∀ (k1_h2 : k1_cond2 v7 = 1#1), ∀ a, (k1_off4 v8) a + S256x8x128.size a ≤ S4096x8x128.size a) ∧
  (∀ (k1_h2 : k1_cond2 v7 = 1#1), ∀ (hinb : ∀ a, (k1_off4 v8) a + S256x8x128.size a ≤ S4096x8x128.size a), (Rect.unit (s := S4096x8x128) (k1_off4 v8) S256x8x128.size hinb).WholeWords (EltTy.packing .bf16)) ∧
  (∀ (k1_h3 : k1_cond3 v7 = 1#1), ∀ a, (k1_off6 v8) a + S256x8x128.size a ≤ S4096x8x128.size a) ∧
  (∀ (k1_h3 : k1_cond3 v7 = 1#1), ∀ (hinb : ∀ a, (k1_off6 v8) a + S256x8x128.size a ≤ S4096x8x128.size a), (Rect.unit (s := S4096x8x128) (k1_off6 v8) S256x8x128.size hinb).WholeWords (EltTy.packing .bf16)) ∧
  (∀ (k1_h4 : k1_cond4 v7 = 1#1), ∀ a, (k1_off8 v8) a + S256x8x128.size a ≤ S4096x8x128.size a) ∧
  (∀ (k1_h4 : k1_cond4 v7 = 1#1), ∀ (hinb : ∀ a, (k1_off8 v8) a + S256x8x128.size a ≤ S4096x8x128.size a), (Rect.unit (s := S4096x8x128) (k1_off8 v8) S256x8x128.size hinb).WholeWords (EltTy.packing .bf16)) ∧
  (∀ (k1_h5 : k1_cond5 v7 = 1#1), ∀ a, (k1_off10 v8) a + S256x8x128.size a ≤ S4096x8x128.size a) ∧
  (∀ (k1_h5 : k1_cond5 v7 = 1#1), ∀ (hinb : ∀ a, (k1_off10 v8) a + S256x8x128.size a ≤ S4096x8x128.size a), (Rect.unit (s := S4096x8x128) (k1_off10 v8) S256x8x128.size hinb).WholeWords (EltTy.packing .bf16)) ∧
  (∀ (k1_h6 : k1_cond6 v7 = 1#1), ∀ a, (k1_off12 v8) a + S256x8x128.size a ≤ S4096x8x128.size a) ∧
  (∀ (k1_h6 : k1_cond6 v7 = 1#1), ∀ (hinb : ∀ a, (k1_off12 v8) a + S256x8x128.size a ≤ S4096x8x128.size a), (Rect.unit (s := S4096x8x128) (k1_off12 v8) S256x8x128.size hinb).WholeWords (EltTy.packing .bf16)) ∧
  (∀ (k1_h7 : k1_cond7 v7 = 1#1), ∀ a, (k1_off14 v8) a + S256x8x128.size a ≤ S4096x8x128.size a) ∧
  (∀ (k1_h7 : k1_cond7 v7 = 1#1), ∀ (hinb : ∀ a, (k1_off14 v8) a + S256x8x128.size a ≤ S4096x8x128.size a), (Rect.unit (s := S4096x8x128) (k1_off14 v8) S256x8x128.size hinb).WholeWords (EltTy.packing .bf16)) ∧
  (∀ (k1_h8 : k1_cond8 v7 = 1#1), ∀ a, (k1_off16 v8) a + S256x8x128.size a ≤ S4096x8x128.size a) ∧
  (∀ (k1_h8 : k1_cond8 v7 = 1#1), ∀ (hinb : ∀ a, (k1_off16 v8) a + S256x8x128.size a ≤ S4096x8x128.size a), (Rect.unit (s := S4096x8x128) (k1_off16 v8) S256x8x128.size hinb).WholeWords (EltTy.packing .bf16)) ∧
  (∀ (k1_h9 : k1_cond9 v7 = 1#1), ∀ a, (k1_off18 v8) a + S256x8x128.size a ≤ S4096x8x128.size a) ∧
  (∀ (k1_h9 : k1_cond9 v7 = 1#1), ∀ (hinb : ∀ a, (k1_off18 v8) a + S256x8x128.size a ≤ S4096x8x128.size a), (Rect.unit (s := S4096x8x128) (k1_off18 v8) S256x8x128.size hinb).WholeWords (EltTy.packing .bf16)) ∧
  (∀ (k1_h10 : k1_cond10 v7 = 1#1), ∀ a, (k1_off20 v8) a + S256x8x128.size a ≤ S4096x8x128.size a) ∧
  (∀ (k1_h10 : k1_cond10 v7 = 1#1), ∀ (hinb : ∀ a, (k1_off20 v8) a + S256x8x128.size a ≤ S4096x8x128.size a), (Rect.unit (s := S4096x8x128) (k1_off20 v8) S256x8x128.size hinb).WholeWords (EltTy.packing .bf16)) ∧
  (∀ (k1_h11 : k1_cond11 v7 = 1#1), ∀ a, (k1_off22 v8) a + S256x8x128.size a ≤ S4096x8x128.size a) ∧
  (∀ (k1_h11 : k1_cond11 v7 = 1#1), ∀ (hinb : ∀ a, (k1_off22 v8) a + S256x8x128.size a ≤ S4096x8x128.size a), (Rect.unit (s := S4096x8x128) (k1_off22 v8) S256x8x128.size hinb).WholeWords (EltTy.packing .bf16)) ∧
  (∀ (k1_h12 : k1_cond12 v7 = 1#1), ∀ a, (k1_off24 v8) a + S256x8x128.size a ≤ S4096x8x128.size a) ∧
  (∀ (k1_h12 : k1_cond12 v7 = 1#1), ∀ (hinb : ∀ a, (k1_off24 v8) a + S256x8x128.size a ≤ S4096x8x128.size a), (Rect.unit (s := S4096x8x128) (k1_off24 v8) S256x8x128.size hinb).WholeWords (EltTy.packing .bf16)) ∧
  (∀ (k1_h13 : k1_cond13 v7 = 1#1), ∀ a, (k1_off26 v8) a + S256x8x128.size a ≤ S4096x8x128.size a) ∧
  (∀ (k1_h13 : k1_cond13 v7 = 1#1), ∀ (hinb : ∀ a, (k1_off26 v8) a + S256x8x128.size a ≤ S4096x8x128.size a), (Rect.unit (s := S4096x8x128) (k1_off26 v8) S256x8x128.size hinb).WholeWords (EltTy.packing .bf16)) ∧
  (∀ (k1_h14 : k1_cond14 v7 = 1#1), ∀ a, (k1_off28 v8) a + S256x8x128.size a ≤ S4096x8x128.size a) ∧
  (∀ (k1_h14 : k1_cond14 v7 = 1#1), ∀ (hinb : ∀ a, (k1_off28 v8) a + S256x8x128.size a ≤ S4096x8x128.size a), (Rect.unit (s := S4096x8x128) (k1_off28 v8) S256x8x128.size hinb).WholeWords (EltTy.packing .bf16)) ∧
  (∀ (k1_h15 : k1_cond15 v7 = 1#1), ∀ a, (k1_off30 v8) a + S256x8x128.size a ≤ S4096x8x128.size a) ∧
  (∀ (k1_h15 : k1_cond15 v7 = 1#1), ∀ (hinb : ∀ a, (k1_off30 v8) a + S256x8x128.size a ≤ S4096x8x128.size a), (Rect.unit (s := S4096x8x128) (k1_off30 v8) S256x8x128.size hinb).WholeWords (EltTy.packing .bf16)) ∧
  (∀ (k1_h16 : k1_cond16 v7 = 1#1), ∀ a, (k1_off32 v8) a + S256x8x128.size a ≤ S4096x8x128.size a) ∧
  (∀ (k1_h16 : k1_cond16 v7 = 1#1), ∀ (hinb : ∀ a, (k1_off32 v8) a + S256x8x128.size a ≤ S4096x8x128.size a), (Rect.unit (s := S4096x8x128) (k1_off32 v8) S256x8x128.size hinb).WholeWords (EltTy.packing .bf16))
def k1_chk2_1 (v7 : BitVec 32) (v8 : BitVec 32) : Prop :=
  (∀ (k1_h17 : k1_cond17 v7 = 1#1), ∀ a, (k1_off34 v7 v8) a + S256x8x128.size a ≤ S4096x8x128.size a) ∧
  (∀ (k1_h17 : k1_cond17 v7 = 1#1), ∀ (hinb : ∀ a, (k1_off34 v7 v8) a + S256x8x128.size a ≤ S4096x8x128.size a), (Rect.unit (s := S4096x8x128) (k1_off34 v7 v8) S256x8x128.size hinb).WholeWords (EltTy.packing .bf16)) ∧
  (∀ (k1_h52 : k1_cond52 v7 = 1#1), ∀ a, (k1_off69 v8) a + S256x8x128.size a ≤ S4096x8x128.size a) ∧
  (∀ (k1_h52 : k1_cond52 v7 = 1#1), ∀ (hinb : ∀ a, (k1_off69 v8) a + S256x8x128.size a ≤ S4096x8x128.size a), (Rect.unit (s := S4096x8x128) (k1_off69 v8) S256x8x128.size hinb).WholeWords (EltTy.packing .bf16)) ∧
  (∀ (k1_h53 : k1_cond53 v7 = 1#1), ∀ a, (k1_off70 v8) a + S256x8x128.size a ≤ S4096x8x128.size a) ∧
  (∀ (k1_h53 : k1_cond53 v7 = 1#1), ∀ (hinb : ∀ a, (k1_off70 v8) a + S256x8x128.size a ≤ S4096x8x128.size a), (Rect.unit (s := S4096x8x128) (k1_off70 v8) S256x8x128.size hinb).WholeWords (EltTy.packing .bf16)) ∧
  (∀ (k1_h54 : k1_cond54 v7 = 1#1), ∀ a, (k1_off71 v8) a + S256x8x128.size a ≤ S4096x8x128.size a) ∧
  (∀ (k1_h54 : k1_cond54 v7 = 1#1), ∀ (hinb : ∀ a, (k1_off71 v8) a + S256x8x128.size a ≤ S4096x8x128.size a), (Rect.unit (s := S4096x8x128) (k1_off71 v8) S256x8x128.size hinb).WholeWords (EltTy.packing .bf16)) ∧
  (∀ (k1_h55 : k1_cond55 v7 = 1#1), ∀ a, (k1_off72 v8) a + S256x8x128.size a ≤ S4096x8x128.size a) ∧
  (∀ (k1_h55 : k1_cond55 v7 = 1#1), ∀ (hinb : ∀ a, (k1_off72 v8) a + S256x8x128.size a ≤ S4096x8x128.size a), (Rect.unit (s := S4096x8x128) (k1_off72 v8) S256x8x128.size hinb).WholeWords (EltTy.packing .bf16)) ∧
  (∀ (k1_h56 : k1_cond56 v7 = 1#1), ∀ a, (k1_off73 v8) a + S256x8x128.size a ≤ S4096x8x128.size a) ∧
  (∀ (k1_h56 : k1_cond56 v7 = 1#1), ∀ (hinb : ∀ a, (k1_off73 v8) a + S256x8x128.size a ≤ S4096x8x128.size a), (Rect.unit (s := S4096x8x128) (k1_off73 v8) S256x8x128.size hinb).WholeWords (EltTy.packing .bf16)) ∧
  (∀ (k1_h57 : k1_cond57 v7 = 1#1), ∀ a, (k1_off74 v8) a + S256x8x128.size a ≤ S4096x8x128.size a) ∧
  (∀ (k1_h57 : k1_cond57 v7 = 1#1), ∀ (hinb : ∀ a, (k1_off74 v8) a + S256x8x128.size a ≤ S4096x8x128.size a), (Rect.unit (s := S4096x8x128) (k1_off74 v8) S256x8x128.size hinb).WholeWords (EltTy.packing .bf16)) ∧
  (∀ (k1_h58 : k1_cond58 v7 = 1#1), ∀ a, (k1_off75 v8) a + S256x8x128.size a ≤ S4096x8x128.size a) ∧
  (∀ (k1_h58 : k1_cond58 v7 = 1#1), ∀ (hinb : ∀ a, (k1_off75 v8) a + S256x8x128.size a ≤ S4096x8x128.size a), (Rect.unit (s := S4096x8x128) (k1_off75 v8) S256x8x128.size hinb).WholeWords (EltTy.packing .bf16)) ∧
  (∀ (k1_h59 : k1_cond59 v7 = 1#1), ∀ a, (k1_off76 v8) a + S256x8x128.size a ≤ S4096x8x128.size a) ∧
  (∀ (k1_h59 : k1_cond59 v7 = 1#1), ∀ (hinb : ∀ a, (k1_off76 v8) a + S256x8x128.size a ≤ S4096x8x128.size a), (Rect.unit (s := S4096x8x128) (k1_off76 v8) S256x8x128.size hinb).WholeWords (EltTy.packing .bf16)) ∧
  (∀ (k1_h60 : k1_cond60 v7 = 1#1), ∀ a, (k1_off77 v8) a + S256x8x128.size a ≤ S4096x8x128.size a) ∧
  (∀ (k1_h60 : k1_cond60 v7 = 1#1), ∀ (hinb : ∀ a, (k1_off77 v8) a + S256x8x128.size a ≤ S4096x8x128.size a), (Rect.unit (s := S4096x8x128) (k1_off77 v8) S256x8x128.size hinb).WholeWords (EltTy.packing .bf16)) ∧
  (∀ (k1_h61 : k1_cond61 v7 = 1#1), ∀ a, (k1_off78 v8) a + S256x8x128.size a ≤ S4096x8x128.size a) ∧
  (∀ (k1_h61 : k1_cond61 v7 = 1#1), ∀ (hinb : ∀ a, (k1_off78 v8) a + S256x8x128.size a ≤ S4096x8x128.size a), (Rect.unit (s := S4096x8x128) (k1_off78 v8) S256x8x128.size hinb).WholeWords (EltTy.packing .bf16)) ∧
  (∀ (k1_h62 : k1_cond62 v7 = 1#1), ∀ a, (k1_off79 v8) a + S256x8x128.size a ≤ S4096x8x128.size a) ∧
  (∀ (k1_h62 : k1_cond62 v7 = 1#1), ∀ (hinb : ∀ a, (k1_off79 v8) a + S256x8x128.size a ≤ S4096x8x128.size a), (Rect.unit (s := S4096x8x128) (k1_off79 v8) S256x8x128.size hinb).WholeWords (EltTy.packing .bf16)) ∧
  (∀ (k1_h63 : k1_cond63 v7 = 1#1), ∀ a, (k1_off80 v8) a + S256x8x128.size a ≤ S4096x8x128.size a) ∧
  (∀ (k1_h63 : k1_cond63 v7 = 1#1), ∀ (hinb : ∀ a, (k1_off80 v8) a + S256x8x128.size a ≤ S4096x8x128.size a), (Rect.unit (s := S4096x8x128) (k1_off80 v8) S256x8x128.size hinb).WholeWords (EltTy.packing .bf16)) ∧
  (∀ (k1_h64 : k1_cond64 v7 = 1#1), ∀ a, (k1_off81 v8) a + S256x8x128.size a ≤ S4096x8x128.size a) ∧
  (∀ (k1_h64 : k1_cond64 v7 = 1#1), ∀ (hinb : ∀ a, (k1_off81 v8) a + S256x8x128.size a ≤ S4096x8x128.size a), (Rect.unit (s := S4096x8x128) (k1_off81 v8) S256x8x128.size hinb).WholeWords (EltTy.packing .bf16)) ∧
  (∀ (k1_h65 : k1_cond65 v7 = 1#1), ∀ a, (k1_off82 v8) a + S256x8x128.size a ≤ S4096x8x128.size a) ∧
  (∀ (k1_h65 : k1_cond65 v7 = 1#1), ∀ (hinb : ∀ a, (k1_off82 v8) a + S256x8x128.size a ≤ S4096x8x128.size a), (Rect.unit (s := S4096x8x128) (k1_off82 v8) S256x8x128.size hinb).WholeWords (EltTy.packing .bf16)) ∧
  (∀ (k1_h66 : k1_cond66 v7 = 1#1), ∀ a, (k1_off83 v8) a + S256x8x128.size a ≤ S4096x8x128.size a) ∧
  (∀ (k1_h66 : k1_cond66 v7 = 1#1), ∀ (hinb : ∀ a, (k1_off83 v8) a + S256x8x128.size a ≤ S4096x8x128.size a), (Rect.unit (s := S4096x8x128) (k1_off83 v8) S256x8x128.size hinb).WholeWords (EltTy.packing .bf16))
def k1_chk2_2 (v7 : BitVec 32) (v8 : BitVec 32) : Prop :=
  (∀ (k1_h67 : k1_cond67 v7 = 1#1), ∀ a, (k1_off84 v8) a + S256x8x128.size a ≤ S4096x8x128.size a) ∧
  (∀ (k1_h67 : k1_cond67 v7 = 1#1), ∀ (hinb : ∀ a, (k1_off84 v8) a + S256x8x128.size a ≤ S4096x8x128.size a), (Rect.unit (s := S4096x8x128) (k1_off84 v8) S256x8x128.size hinb).WholeWords (EltTy.packing .bf16)) ∧
  (∀ (k1_h68 : k1_cond68 v7 = 1#1), ∀ a, (k1_off85 v7 v8) a + S256x8x128.size a ≤ S4096x8x128.size a) ∧
  (∀ (k1_h68 : k1_cond68 v7 = 1#1), ∀ (hinb : ∀ a, (k1_off85 v7 v8) a + S256x8x128.size a ≤ S4096x8x128.size a), (Rect.unit (s := S4096x8x128) (k1_off85 v7 v8) S256x8x128.size hinb).WholeWords (EltTy.packing .bf16))
def k1_chk2 (v7 : BitVec 32) (v8 : BitVec 32) : Prop :=
  k1_chk2_0 v7 v8 ∧
  k1_chk2_1 v7 v8 ∧
  k1_chk2_2 v7 v8
theorem k1_off2_inb : ∀ (v7 : BitVec 32) (v8 : BitVec 32) (k1_hw2 : k1_chk2 v7 v8), ∀ (k1_h1 : k1_cond1 v7 = 1#1), ∀ a, (k1_off2 v8) a + S256x8x128.size a ≤ S4096x8x128.size a := fun v7 v8 k1_hw2 k1_h1 => k1_hw2.1.1 k1_h1
theorem k1_off2_wordsbf16 : ∀ (v7 : BitVec 32) (v8 : BitVec 32) (k1_hw2 : k1_chk2 v7 v8), ∀ (k1_h1 : k1_cond1 v7 = 1#1), (Rect.unit (s := S4096x8x128) (k1_off2 v8) S256x8x128.size (k1_off2_inb v7 v8 k1_hw2 k1_h1)).WholeWords (EltTy.packing .bf16) := fun v7 v8 k1_hw2 k1_h1 => k1_hw2.1.2.1 k1_h1 (k1_off2_inb v7 v8 k1_hw2 k1_h1)
theorem k1_off4_inb : ∀ (v7 : BitVec 32) (v8 : BitVec 32) (k1_hw2 : k1_chk2 v7 v8), ∀ (k1_h2 : k1_cond2 v7 = 1#1), ∀ a, (k1_off4 v8) a + S256x8x128.size a ≤ S4096x8x128.size a := fun v7 v8 k1_hw2 k1_h2 => k1_hw2.1.2.2.1 k1_h2
theorem k1_off4_wordsbf16 : ∀ (v7 : BitVec 32) (v8 : BitVec 32) (k1_hw2 : k1_chk2 v7 v8), ∀ (k1_h2 : k1_cond2 v7 = 1#1), (Rect.unit (s := S4096x8x128) (k1_off4 v8) S256x8x128.size (k1_off4_inb v7 v8 k1_hw2 k1_h2)).WholeWords (EltTy.packing .bf16) := fun v7 v8 k1_hw2 k1_h2 => k1_hw2.1.2.2.2.1 k1_h2 (k1_off4_inb v7 v8 k1_hw2 k1_h2)
theorem k1_off6_inb : ∀ (v7 : BitVec 32) (v8 : BitVec 32) (k1_hw2 : k1_chk2 v7 v8), ∀ (k1_h3 : k1_cond3 v7 = 1#1), ∀ a, (k1_off6 v8) a + S256x8x128.size a ≤ S4096x8x128.size a := fun v7 v8 k1_hw2 k1_h3 => k1_hw2.1.2.2.2.2.1 k1_h3
theorem k1_off6_wordsbf16 : ∀ (v7 : BitVec 32) (v8 : BitVec 32) (k1_hw2 : k1_chk2 v7 v8), ∀ (k1_h3 : k1_cond3 v7 = 1#1), (Rect.unit (s := S4096x8x128) (k1_off6 v8) S256x8x128.size (k1_off6_inb v7 v8 k1_hw2 k1_h3)).WholeWords (EltTy.packing .bf16) := fun v7 v8 k1_hw2 k1_h3 => k1_hw2.1.2.2.2.2.2.1 k1_h3 (k1_off6_inb v7 v8 k1_hw2 k1_h3)
theorem k1_off8_inb : ∀ (v7 : BitVec 32) (v8 : BitVec 32) (k1_hw2 : k1_chk2 v7 v8), ∀ (k1_h4 : k1_cond4 v7 = 1#1), ∀ a, (k1_off8 v8) a + S256x8x128.size a ≤ S4096x8x128.size a := fun v7 v8 k1_hw2 k1_h4 => k1_hw2.1.2.2.2.2.2.2.1 k1_h4
theorem k1_off8_wordsbf16 : ∀ (v7 : BitVec 32) (v8 : BitVec 32) (k1_hw2 : k1_chk2 v7 v8), ∀ (k1_h4 : k1_cond4 v7 = 1#1), (Rect.unit (s := S4096x8x128) (k1_off8 v8) S256x8x128.size (k1_off8_inb v7 v8 k1_hw2 k1_h4)).WholeWords (EltTy.packing .bf16) := fun v7 v8 k1_hw2 k1_h4 => k1_hw2.1.2.2.2.2.2.2.2.1 k1_h4 (k1_off8_inb v7 v8 k1_hw2 k1_h4)
theorem k1_off10_inb : ∀ (v7 : BitVec 32) (v8 : BitVec 32) (k1_hw2 : k1_chk2 v7 v8), ∀ (k1_h5 : k1_cond5 v7 = 1#1), ∀ a, (k1_off10 v8) a + S256x8x128.size a ≤ S4096x8x128.size a := fun v7 v8 k1_hw2 k1_h5 => k1_hw2.1.2.2.2.2.2.2.2.2.1 k1_h5
theorem k1_off10_wordsbf16 : ∀ (v7 : BitVec 32) (v8 : BitVec 32) (k1_hw2 : k1_chk2 v7 v8), ∀ (k1_h5 : k1_cond5 v7 = 1#1), (Rect.unit (s := S4096x8x128) (k1_off10 v8) S256x8x128.size (k1_off10_inb v7 v8 k1_hw2 k1_h5)).WholeWords (EltTy.packing .bf16) := fun v7 v8 k1_hw2 k1_h5 => k1_hw2.1.2.2.2.2.2.2.2.2.2.1 k1_h5 (k1_off10_inb v7 v8 k1_hw2 k1_h5)
theorem k1_off12_inb : ∀ (v7 : BitVec 32) (v8 : BitVec 32) (k1_hw2 : k1_chk2 v7 v8), ∀ (k1_h6 : k1_cond6 v7 = 1#1), ∀ a, (k1_off12 v8) a + S256x8x128.size a ≤ S4096x8x128.size a := fun v7 v8 k1_hw2 k1_h6 => k1_hw2.1.2.2.2.2.2.2.2.2.2.2.1 k1_h6
theorem k1_off12_wordsbf16 : ∀ (v7 : BitVec 32) (v8 : BitVec 32) (k1_hw2 : k1_chk2 v7 v8), ∀ (k1_h6 : k1_cond6 v7 = 1#1), (Rect.unit (s := S4096x8x128) (k1_off12 v8) S256x8x128.size (k1_off12_inb v7 v8 k1_hw2 k1_h6)).WholeWords (EltTy.packing .bf16) := fun v7 v8 k1_hw2 k1_h6 => k1_hw2.1.2.2.2.2.2.2.2.2.2.2.2.1 k1_h6 (k1_off12_inb v7 v8 k1_hw2 k1_h6)
theorem k1_off14_inb : ∀ (v7 : BitVec 32) (v8 : BitVec 32) (k1_hw2 : k1_chk2 v7 v8), ∀ (k1_h7 : k1_cond7 v7 = 1#1), ∀ a, (k1_off14 v8) a + S256x8x128.size a ≤ S4096x8x128.size a := fun v7 v8 k1_hw2 k1_h7 => k1_hw2.1.2.2.2.2.2.2.2.2.2.2.2.2.1 k1_h7
theorem k1_off14_wordsbf16 : ∀ (v7 : BitVec 32) (v8 : BitVec 32) (k1_hw2 : k1_chk2 v7 v8), ∀ (k1_h7 : k1_cond7 v7 = 1#1), (Rect.unit (s := S4096x8x128) (k1_off14 v8) S256x8x128.size (k1_off14_inb v7 v8 k1_hw2 k1_h7)).WholeWords (EltTy.packing .bf16) := fun v7 v8 k1_hw2 k1_h7 => k1_hw2.1.2.2.2.2.2.2.2.2.2.2.2.2.2.1 k1_h7 (k1_off14_inb v7 v8 k1_hw2 k1_h7)
theorem k1_off16_inb : ∀ (v7 : BitVec 32) (v8 : BitVec 32) (k1_hw2 : k1_chk2 v7 v8), ∀ (k1_h8 : k1_cond8 v7 = 1#1), ∀ a, (k1_off16 v8) a + S256x8x128.size a ≤ S4096x8x128.size a := fun v7 v8 k1_hw2 k1_h8 => k1_hw2.1.2.2.2.2.2.2.2.2.2.2.2.2.2.2.1 k1_h8
theorem k1_off16_wordsbf16 : ∀ (v7 : BitVec 32) (v8 : BitVec 32) (k1_hw2 : k1_chk2 v7 v8), ∀ (k1_h8 : k1_cond8 v7 = 1#1), (Rect.unit (s := S4096x8x128) (k1_off16 v8) S256x8x128.size (k1_off16_inb v7 v8 k1_hw2 k1_h8)).WholeWords (EltTy.packing .bf16) := fun v7 v8 k1_hw2 k1_h8 => k1_hw2.1.2.2.2.2.2.2.2.2.2.2.2.2.2.2.2.1 k1_h8 (k1_off16_inb v7 v8 k1_hw2 k1_h8)
theorem k1_off18_inb : ∀ (v7 : BitVec 32) (v8 : BitVec 32) (k1_hw2 : k1_chk2 v7 v8), ∀ (k1_h9 : k1_cond9 v7 = 1#1), ∀ a, (k1_off18 v8) a + S256x8x128.size a ≤ S4096x8x128.size a := fun v7 v8 k1_hw2 k1_h9 => k1_hw2.1.2.2.2.2.2.2.2.2.2.2.2.2.2.2.2.2.1 k1_h9
theorem k1_off18_wordsbf16 : ∀ (v7 : BitVec 32) (v8 : BitVec 32) (k1_hw2 : k1_chk2 v7 v8), ∀ (k1_h9 : k1_cond9 v7 = 1#1), (Rect.unit (s := S4096x8x128) (k1_off18 v8) S256x8x128.size (k1_off18_inb v7 v8 k1_hw2 k1_h9)).WholeWords (EltTy.packing .bf16) := fun v7 v8 k1_hw2 k1_h9 => k1_hw2.1.2.2.2.2.2.2.2.2.2.2.2.2.2.2.2.2.2.1 k1_h9 (k1_off18_inb v7 v8 k1_hw2 k1_h9)
theorem k1_off20_inb : ∀ (v7 : BitVec 32) (v8 : BitVec 32) (k1_hw2 : k1_chk2 v7 v8), ∀ (k1_h10 : k1_cond10 v7 = 1#1), ∀ a, (k1_off20 v8) a + S256x8x128.size a ≤ S4096x8x128.size a := fun v7 v8 k1_hw2 k1_h10 => k1_hw2.1.2.2.2.2.2.2.2.2.2.2.2.2.2.2.2.2.2.2.1 k1_h10
theorem k1_off20_wordsbf16 : ∀ (v7 : BitVec 32) (v8 : BitVec 32) (k1_hw2 : k1_chk2 v7 v8), ∀ (k1_h10 : k1_cond10 v7 = 1#1), (Rect.unit (s := S4096x8x128) (k1_off20 v8) S256x8x128.size (k1_off20_inb v7 v8 k1_hw2 k1_h10)).WholeWords (EltTy.packing .bf16) := fun v7 v8 k1_hw2 k1_h10 => k1_hw2.1.2.2.2.2.2.2.2.2.2.2.2.2.2.2.2.2.2.2.2.1 k1_h10 (k1_off20_inb v7 v8 k1_hw2 k1_h10)
theorem k1_off22_inb : ∀ (v7 : BitVec 32) (v8 : BitVec 32) (k1_hw2 : k1_chk2 v7 v8), ∀ (k1_h11 : k1_cond11 v7 = 1#1), ∀ a, (k1_off22 v8) a + S256x8x128.size a ≤ S4096x8x128.size a := fun v7 v8 k1_hw2 k1_h11 => k1_hw2.1.2.2.2.2.2.2.2.2.2.2.2.2.2.2.2.2.2.2.2.2.1 k1_h11
theorem k1_off22_wordsbf16 : ∀ (v7 : BitVec 32) (v8 : BitVec 32) (k1_hw2 : k1_chk2 v7 v8), ∀ (k1_h11 : k1_cond11 v7 = 1#1), (Rect.unit (s := S4096x8x128) (k1_off22 v8) S256x8x128.size (k1_off22_inb v7 v8 k1_hw2 k1_h11)).WholeWords (EltTy.packing .bf16) := fun v7 v8 k1_hw2 k1_h11 => k1_hw2.1.2.2.2.2.2.2.2.2.2.2.2.2.2.2.2.2.2.2.2.2.2.1 k1_h11 (k1_off22_inb v7 v8 k1_hw2 k1_h11)
theorem k1_off24_inb : ∀ (v7 : BitVec 32) (v8 : BitVec 32) (k1_hw2 : k1_chk2 v7 v8), ∀ (k1_h12 : k1_cond12 v7 = 1#1), ∀ a, (k1_off24 v8) a + S256x8x128.size a ≤ S4096x8x128.size a := fun v7 v8 k1_hw2 k1_h12 => k1_hw2.1.2.2.2.2.2.2.2.2.2.2.2.2.2.2.2.2.2.2.2.2.2.2.1 k1_h12
theorem k1_off24_wordsbf16 : ∀ (v7 : BitVec 32) (v8 : BitVec 32) (k1_hw2 : k1_chk2 v7 v8), ∀ (k1_h12 : k1_cond12 v7 = 1#1), (Rect.unit (s := S4096x8x128) (k1_off24 v8) S256x8x128.size (k1_off24_inb v7 v8 k1_hw2 k1_h12)).WholeWords (EltTy.packing .bf16) := fun v7 v8 k1_hw2 k1_h12 => k1_hw2.1.2.2.2.2.2.2.2.2.2.2.2.2.2.2.2.2.2.2.2.2.2.2.2.1 k1_h12 (k1_off24_inb v7 v8 k1_hw2 k1_h12)
theorem k1_off26_inb : ∀ (v7 : BitVec 32) (v8 : BitVec 32) (k1_hw2 : k1_chk2 v7 v8), ∀ (k1_h13 : k1_cond13 v7 = 1#1), ∀ a, (k1_off26 v8) a + S256x8x128.size a ≤ S4096x8x128.size a := fun v7 v8 k1_hw2 k1_h13 => k1_hw2.1.2.2.2.2.2.2.2.2.2.2.2.2.2.2.2.2.2.2.2.2.2.2.2.2.1 k1_h13
theorem k1_off26_wordsbf16 : ∀ (v7 : BitVec 32) (v8 : BitVec 32) (k1_hw2 : k1_chk2 v7 v8), ∀ (k1_h13 : k1_cond13 v7 = 1#1), (Rect.unit (s := S4096x8x128) (k1_off26 v8) S256x8x128.size (k1_off26_inb v7 v8 k1_hw2 k1_h13)).WholeWords (EltTy.packing .bf16) := fun v7 v8 k1_hw2 k1_h13 => k1_hw2.1.2.2.2.2.2.2.2.2.2.2.2.2.2.2.2.2.2.2.2.2.2.2.2.2.2.1 k1_h13 (k1_off26_inb v7 v8 k1_hw2 k1_h13)
theorem k1_off28_inb : ∀ (v7 : BitVec 32) (v8 : BitVec 32) (k1_hw2 : k1_chk2 v7 v8), ∀ (k1_h14 : k1_cond14 v7 = 1#1), ∀ a, (k1_off28 v8) a + S256x8x128.size a ≤ S4096x8x128.size a := fun v7 v8 k1_hw2 k1_h14 => k1_hw2.1.2.2.2.2.2.2.2.2.2.2.2.2.2.2.2.2.2.2.2.2.2.2.2.2.2.2.1 k1_h14
theorem k1_off28_wordsbf16 : ∀ (v7 : BitVec 32) (v8 : BitVec 32) (k1_hw2 : k1_chk2 v7 v8), ∀ (k1_h14 : k1_cond14 v7 = 1#1), (Rect.unit (s := S4096x8x128) (k1_off28 v8) S256x8x128.size (k1_off28_inb v7 v8 k1_hw2 k1_h14)).WholeWords (EltTy.packing .bf16) := fun v7 v8 k1_hw2 k1_h14 => k1_hw2.1.2.2.2.2.2.2.2.2.2.2.2.2.2.2.2.2.2.2.2.2.2.2.2.2.2.2.2.1 k1_h14 (k1_off28_inb v7 v8 k1_hw2 k1_h14)
theorem k1_off30_inb : ∀ (v7 : BitVec 32) (v8 : BitVec 32) (k1_hw2 : k1_chk2 v7 v8), ∀ (k1_h15 : k1_cond15 v7 = 1#1), ∀ a, (k1_off30 v8) a + S256x8x128.size a ≤ S4096x8x128.size a := fun v7 v8 k1_hw2 k1_h15 => k1_hw2.1.2.2.2.2.2.2.2.2.2.2.2.2.2.2.2.2.2.2.2.2.2.2.2.2.2.2.2.2.1 k1_h15
theorem k1_off30_wordsbf16 : ∀ (v7 : BitVec 32) (v8 : BitVec 32) (k1_hw2 : k1_chk2 v7 v8), ∀ (k1_h15 : k1_cond15 v7 = 1#1), (Rect.unit (s := S4096x8x128) (k1_off30 v8) S256x8x128.size (k1_off30_inb v7 v8 k1_hw2 k1_h15)).WholeWords (EltTy.packing .bf16) := fun v7 v8 k1_hw2 k1_h15 => k1_hw2.1.2.2.2.2.2.2.2.2.2.2.2.2.2.2.2.2.2.2.2.2.2.2.2.2.2.2.2.2.2.1 k1_h15 (k1_off30_inb v7 v8 k1_hw2 k1_h15)
theorem k1_off32_inb : ∀ (v7 : BitVec 32) (v8 : BitVec 32) (k1_hw2 : k1_chk2 v7 v8), ∀ (k1_h16 : k1_cond16 v7 = 1#1), ∀ a, (k1_off32 v8) a + S256x8x128.size a ≤ S4096x8x128.size a := fun v7 v8 k1_hw2 k1_h16 => k1_hw2.1.2.2.2.2.2.2.2.2.2.2.2.2.2.2.2.2.2.2.2.2.2.2.2.2.2.2.2.2.2.2.1 k1_h16
theorem k1_off32_wordsbf16 : ∀ (v7 : BitVec 32) (v8 : BitVec 32) (k1_hw2 : k1_chk2 v7 v8), ∀ (k1_h16 : k1_cond16 v7 = 1#1), (Rect.unit (s := S4096x8x128) (k1_off32 v8) S256x8x128.size (k1_off32_inb v7 v8 k1_hw2 k1_h16)).WholeWords (EltTy.packing .bf16) := fun v7 v8 k1_hw2 k1_h16 => k1_hw2.1.2.2.2.2.2.2.2.2.2.2.2.2.2.2.2.2.2.2.2.2.2.2.2.2.2.2.2.2.2.2.2 k1_h16 (k1_off32_inb v7 v8 k1_hw2 k1_h16)
theorem k1_off34_inb : ∀ (v7 : BitVec 32) (v8 : BitVec 32) (k1_hw2 : k1_chk2 v7 v8), ∀ (k1_h17 : k1_cond17 v7 = 1#1), ∀ a, (k1_off34 v7 v8) a + S256x8x128.size a ≤ S4096x8x128.size a := fun v7 v8 k1_hw2 k1_h17 => k1_hw2.2.1.1 k1_h17
theorem k1_off34_wordsbf16 : ∀ (v7 : BitVec 32) (v8 : BitVec 32) (k1_hw2 : k1_chk2 v7 v8), ∀ (k1_h17 : k1_cond17 v7 = 1#1), (Rect.unit (s := S4096x8x128) (k1_off34 v7 v8) S256x8x128.size (k1_off34_inb v7 v8 k1_hw2 k1_h17)).WholeWords (EltTy.packing .bf16) := fun v7 v8 k1_hw2 k1_h17 => k1_hw2.2.1.2.1 k1_h17 (k1_off34_inb v7 v8 k1_hw2 k1_h17)
theorem k1_off69_inb : ∀ (v7 : BitVec 32) (v8 : BitVec 32) (k1_hw2 : k1_chk2 v7 v8), ∀ (k1_h52 : k1_cond52 v7 = 1#1), ∀ a, (k1_off69 v8) a + S256x8x128.size a ≤ S4096x8x128.size a := fun v7 v8 k1_hw2 k1_h52 => k1_hw2.2.1.2.2.1 k1_h52
theorem k1_off69_wordsbf16 : ∀ (v7 : BitVec 32) (v8 : BitVec 32) (k1_hw2 : k1_chk2 v7 v8), ∀ (k1_h52 : k1_cond52 v7 = 1#1), (Rect.unit (s := S4096x8x128) (k1_off69 v8) S256x8x128.size (k1_off69_inb v7 v8 k1_hw2 k1_h52)).WholeWords (EltTy.packing .bf16) := fun v7 v8 k1_hw2 k1_h52 => k1_hw2.2.1.2.2.2.1 k1_h52 (k1_off69_inb v7 v8 k1_hw2 k1_h52)
theorem k1_off70_inb : ∀ (v7 : BitVec 32) (v8 : BitVec 32) (k1_hw2 : k1_chk2 v7 v8), ∀ (k1_h53 : k1_cond53 v7 = 1#1), ∀ a, (k1_off70 v8) a + S256x8x128.size a ≤ S4096x8x128.size a := fun v7 v8 k1_hw2 k1_h53 => k1_hw2.2.1.2.2.2.2.1 k1_h53
theorem k1_off70_wordsbf16 : ∀ (v7 : BitVec 32) (v8 : BitVec 32) (k1_hw2 : k1_chk2 v7 v8), ∀ (k1_h53 : k1_cond53 v7 = 1#1), (Rect.unit (s := S4096x8x128) (k1_off70 v8) S256x8x128.size (k1_off70_inb v7 v8 k1_hw2 k1_h53)).WholeWords (EltTy.packing .bf16) := fun v7 v8 k1_hw2 k1_h53 => k1_hw2.2.1.2.2.2.2.2.1 k1_h53 (k1_off70_inb v7 v8 k1_hw2 k1_h53)
theorem k1_off71_inb : ∀ (v7 : BitVec 32) (v8 : BitVec 32) (k1_hw2 : k1_chk2 v7 v8), ∀ (k1_h54 : k1_cond54 v7 = 1#1), ∀ a, (k1_off71 v8) a + S256x8x128.size a ≤ S4096x8x128.size a := fun v7 v8 k1_hw2 k1_h54 => k1_hw2.2.1.2.2.2.2.2.2.1 k1_h54
theorem k1_off71_wordsbf16 : ∀ (v7 : BitVec 32) (v8 : BitVec 32) (k1_hw2 : k1_chk2 v7 v8), ∀ (k1_h54 : k1_cond54 v7 = 1#1), (Rect.unit (s := S4096x8x128) (k1_off71 v8) S256x8x128.size (k1_off71_inb v7 v8 k1_hw2 k1_h54)).WholeWords (EltTy.packing .bf16) := fun v7 v8 k1_hw2 k1_h54 => k1_hw2.2.1.2.2.2.2.2.2.2.1 k1_h54 (k1_off71_inb v7 v8 k1_hw2 k1_h54)
theorem k1_off72_inb : ∀ (v7 : BitVec 32) (v8 : BitVec 32) (k1_hw2 : k1_chk2 v7 v8), ∀ (k1_h55 : k1_cond55 v7 = 1#1), ∀ a, (k1_off72 v8) a + S256x8x128.size a ≤ S4096x8x128.size a := fun v7 v8 k1_hw2 k1_h55 => k1_hw2.2.1.2.2.2.2.2.2.2.2.1 k1_h55
theorem k1_off72_wordsbf16 : ∀ (v7 : BitVec 32) (v8 : BitVec 32) (k1_hw2 : k1_chk2 v7 v8), ∀ (k1_h55 : k1_cond55 v7 = 1#1), (Rect.unit (s := S4096x8x128) (k1_off72 v8) S256x8x128.size (k1_off72_inb v7 v8 k1_hw2 k1_h55)).WholeWords (EltTy.packing .bf16) := fun v7 v8 k1_hw2 k1_h55 => k1_hw2.2.1.2.2.2.2.2.2.2.2.2.1 k1_h55 (k1_off72_inb v7 v8 k1_hw2 k1_h55)
theorem k1_off73_inb : ∀ (v7 : BitVec 32) (v8 : BitVec 32) (k1_hw2 : k1_chk2 v7 v8), ∀ (k1_h56 : k1_cond56 v7 = 1#1), ∀ a, (k1_off73 v8) a + S256x8x128.size a ≤ S4096x8x128.size a := fun v7 v8 k1_hw2 k1_h56 => k1_hw2.2.1.2.2.2.2.2.2.2.2.2.2.1 k1_h56
theorem k1_off73_wordsbf16 : ∀ (v7 : BitVec 32) (v8 : BitVec 32) (k1_hw2 : k1_chk2 v7 v8), ∀ (k1_h56 : k1_cond56 v7 = 1#1), (Rect.unit (s := S4096x8x128) (k1_off73 v8) S256x8x128.size (k1_off73_inb v7 v8 k1_hw2 k1_h56)).WholeWords (EltTy.packing .bf16) := fun v7 v8 k1_hw2 k1_h56 => k1_hw2.2.1.2.2.2.2.2.2.2.2.2.2.2.1 k1_h56 (k1_off73_inb v7 v8 k1_hw2 k1_h56)
theorem k1_off74_inb : ∀ (v7 : BitVec 32) (v8 : BitVec 32) (k1_hw2 : k1_chk2 v7 v8), ∀ (k1_h57 : k1_cond57 v7 = 1#1), ∀ a, (k1_off74 v8) a + S256x8x128.size a ≤ S4096x8x128.size a := fun v7 v8 k1_hw2 k1_h57 => k1_hw2.2.1.2.2.2.2.2.2.2.2.2.2.2.2.1 k1_h57
theorem k1_off74_wordsbf16 : ∀ (v7 : BitVec 32) (v8 : BitVec 32) (k1_hw2 : k1_chk2 v7 v8), ∀ (k1_h57 : k1_cond57 v7 = 1#1), (Rect.unit (s := S4096x8x128) (k1_off74 v8) S256x8x128.size (k1_off74_inb v7 v8 k1_hw2 k1_h57)).WholeWords (EltTy.packing .bf16) := fun v7 v8 k1_hw2 k1_h57 => k1_hw2.2.1.2.2.2.2.2.2.2.2.2.2.2.2.2.1 k1_h57 (k1_off74_inb v7 v8 k1_hw2 k1_h57)
theorem k1_off75_inb : ∀ (v7 : BitVec 32) (v8 : BitVec 32) (k1_hw2 : k1_chk2 v7 v8), ∀ (k1_h58 : k1_cond58 v7 = 1#1), ∀ a, (k1_off75 v8) a + S256x8x128.size a ≤ S4096x8x128.size a := fun v7 v8 k1_hw2 k1_h58 => k1_hw2.2.1.2.2.2.2.2.2.2.2.2.2.2.2.2.2.1 k1_h58
theorem k1_off75_wordsbf16 : ∀ (v7 : BitVec 32) (v8 : BitVec 32) (k1_hw2 : k1_chk2 v7 v8), ∀ (k1_h58 : k1_cond58 v7 = 1#1), (Rect.unit (s := S4096x8x128) (k1_off75 v8) S256x8x128.size (k1_off75_inb v7 v8 k1_hw2 k1_h58)).WholeWords (EltTy.packing .bf16) := fun v7 v8 k1_hw2 k1_h58 => k1_hw2.2.1.2.2.2.2.2.2.2.2.2.2.2.2.2.2.2.1 k1_h58 (k1_off75_inb v7 v8 k1_hw2 k1_h58)
theorem k1_off76_inb : ∀ (v7 : BitVec 32) (v8 : BitVec 32) (k1_hw2 : k1_chk2 v7 v8), ∀ (k1_h59 : k1_cond59 v7 = 1#1), ∀ a, (k1_off76 v8) a + S256x8x128.size a ≤ S4096x8x128.size a := fun v7 v8 k1_hw2 k1_h59 => k1_hw2.2.1.2.2.2.2.2.2.2.2.2.2.2.2.2.2.2.2.1 k1_h59
theorem k1_off76_wordsbf16 : ∀ (v7 : BitVec 32) (v8 : BitVec 32) (k1_hw2 : k1_chk2 v7 v8), ∀ (k1_h59 : k1_cond59 v7 = 1#1), (Rect.unit (s := S4096x8x128) (k1_off76 v8) S256x8x128.size (k1_off76_inb v7 v8 k1_hw2 k1_h59)).WholeWords (EltTy.packing .bf16) := fun v7 v8 k1_hw2 k1_h59 => k1_hw2.2.1.2.2.2.2.2.2.2.2.2.2.2.2.2.2.2.2.2.1 k1_h59 (k1_off76_inb v7 v8 k1_hw2 k1_h59)
theorem k1_off77_inb : ∀ (v7 : BitVec 32) (v8 : BitVec 32) (k1_hw2 : k1_chk2 v7 v8), ∀ (k1_h60 : k1_cond60 v7 = 1#1), ∀ a, (k1_off77 v8) a + S256x8x128.size a ≤ S4096x8x128.size a := fun v7 v8 k1_hw2 k1_h60 => k1_hw2.2.1.2.2.2.2.2.2.2.2.2.2.2.2.2.2.2.2.2.2.1 k1_h60
theorem k1_off77_wordsbf16 : ∀ (v7 : BitVec 32) (v8 : BitVec 32) (k1_hw2 : k1_chk2 v7 v8), ∀ (k1_h60 : k1_cond60 v7 = 1#1), (Rect.unit (s := S4096x8x128) (k1_off77 v8) S256x8x128.size (k1_off77_inb v7 v8 k1_hw2 k1_h60)).WholeWords (EltTy.packing .bf16) := fun v7 v8 k1_hw2 k1_h60 => k1_hw2.2.1.2.2.2.2.2.2.2.2.2.2.2.2.2.2.2.2.2.2.2.1 k1_h60 (k1_off77_inb v7 v8 k1_hw2 k1_h60)
theorem k1_off78_inb : ∀ (v7 : BitVec 32) (v8 : BitVec 32) (k1_hw2 : k1_chk2 v7 v8), ∀ (k1_h61 : k1_cond61 v7 = 1#1), ∀ a, (k1_off78 v8) a + S256x8x128.size a ≤ S4096x8x128.size a := fun v7 v8 k1_hw2 k1_h61 => k1_hw2.2.1.2.2.2.2.2.2.2.2.2.2.2.2.2.2.2.2.2.2.2.2.1 k1_h61
theorem k1_off78_wordsbf16 : ∀ (v7 : BitVec 32) (v8 : BitVec 32) (k1_hw2 : k1_chk2 v7 v8), ∀ (k1_h61 : k1_cond61 v7 = 1#1), (Rect.unit (s := S4096x8x128) (k1_off78 v8) S256x8x128.size (k1_off78_inb v7 v8 k1_hw2 k1_h61)).WholeWords (EltTy.packing .bf16) := fun v7 v8 k1_hw2 k1_h61 => k1_hw2.2.1.2.2.2.2.2.2.2.2.2.2.2.2.2.2.2.2.2.2.2.2.2.1 k1_h61 (k1_off78_inb v7 v8 k1_hw2 k1_h61)
theorem k1_off79_inb : ∀ (v7 : BitVec 32) (v8 : BitVec 32) (k1_hw2 : k1_chk2 v7 v8), ∀ (k1_h62 : k1_cond62 v7 = 1#1), ∀ a, (k1_off79 v8) a + S256x8x128.size a ≤ S4096x8x128.size a := fun v7 v8 k1_hw2 k1_h62 => k1_hw2.2.1.2.2.2.2.2.2.2.2.2.2.2.2.2.2.2.2.2.2.2.2.2.2.1 k1_h62
theorem k1_off79_wordsbf16 : ∀ (v7 : BitVec 32) (v8 : BitVec 32) (k1_hw2 : k1_chk2 v7 v8), ∀ (k1_h62 : k1_cond62 v7 = 1#1), (Rect.unit (s := S4096x8x128) (k1_off79 v8) S256x8x128.size (k1_off79_inb v7 v8 k1_hw2 k1_h62)).WholeWords (EltTy.packing .bf16) := fun v7 v8 k1_hw2 k1_h62 => k1_hw2.2.1.2.2.2.2.2.2.2.2.2.2.2.2.2.2.2.2.2.2.2.2.2.2.2.1 k1_h62 (k1_off79_inb v7 v8 k1_hw2 k1_h62)
theorem k1_off80_inb : ∀ (v7 : BitVec 32) (v8 : BitVec 32) (k1_hw2 : k1_chk2 v7 v8), ∀ (k1_h63 : k1_cond63 v7 = 1#1), ∀ a, (k1_off80 v8) a + S256x8x128.size a ≤ S4096x8x128.size a := fun v7 v8 k1_hw2 k1_h63 => k1_hw2.2.1.2.2.2.2.2.2.2.2.2.2.2.2.2.2.2.2.2.2.2.2.2.2.2.2.1 k1_h63
theorem k1_off80_wordsbf16 : ∀ (v7 : BitVec 32) (v8 : BitVec 32) (k1_hw2 : k1_chk2 v7 v8), ∀ (k1_h63 : k1_cond63 v7 = 1#1), (Rect.unit (s := S4096x8x128) (k1_off80 v8) S256x8x128.size (k1_off80_inb v7 v8 k1_hw2 k1_h63)).WholeWords (EltTy.packing .bf16) := fun v7 v8 k1_hw2 k1_h63 => k1_hw2.2.1.2.2.2.2.2.2.2.2.2.2.2.2.2.2.2.2.2.2.2.2.2.2.2.2.2.1 k1_h63 (k1_off80_inb v7 v8 k1_hw2 k1_h63)
theorem k1_off81_inb : ∀ (v7 : BitVec 32) (v8 : BitVec 32) (k1_hw2 : k1_chk2 v7 v8), ∀ (k1_h64 : k1_cond64 v7 = 1#1), ∀ a, (k1_off81 v8) a + S256x8x128.size a ≤ S4096x8x128.size a := fun v7 v8 k1_hw2 k1_h64 => k1_hw2.2.1.2.2.2.2.2.2.2.2.2.2.2.2.2.2.2.2.2.2.2.2.2.2.2.2.2.2.1 k1_h64
theorem k1_off81_wordsbf16 : ∀ (v7 : BitVec 32) (v8 : BitVec 32) (k1_hw2 : k1_chk2 v7 v8), ∀ (k1_h64 : k1_cond64 v7 = 1#1), (Rect.unit (s := S4096x8x128) (k1_off81 v8) S256x8x128.size (k1_off81_inb v7 v8 k1_hw2 k1_h64)).WholeWords (EltTy.packing .bf16) := fun v7 v8 k1_hw2 k1_h64 => k1_hw2.2.1.2.2.2.2.2.2.2.2.2.2.2.2.2.2.2.2.2.2.2.2.2.2.2.2.2.2.2.1 k1_h64 (k1_off81_inb v7 v8 k1_hw2 k1_h64)
theorem k1_off82_inb : ∀ (v7 : BitVec 32) (v8 : BitVec 32) (k1_hw2 : k1_chk2 v7 v8), ∀ (k1_h65 : k1_cond65 v7 = 1#1), ∀ a, (k1_off82 v8) a + S256x8x128.size a ≤ S4096x8x128.size a := fun v7 v8 k1_hw2 k1_h65 => k1_hw2.2.1.2.2.2.2.2.2.2.2.2.2.2.2.2.2.2.2.2.2.2.2.2.2.2.2.2.2.2.2.1 k1_h65
theorem k1_off82_wordsbf16 : ∀ (v7 : BitVec 32) (v8 : BitVec 32) (k1_hw2 : k1_chk2 v7 v8), ∀ (k1_h65 : k1_cond65 v7 = 1#1), (Rect.unit (s := S4096x8x128) (k1_off82 v8) S256x8x128.size (k1_off82_inb v7 v8 k1_hw2 k1_h65)).WholeWords (EltTy.packing .bf16) := fun v7 v8 k1_hw2 k1_h65 => k1_hw2.2.1.2.2.2.2.2.2.2.2.2.2.2.2.2.2.2.2.2.2.2.2.2.2.2.2.2.2.2.2.2.1 k1_h65 (k1_off82_inb v7 v8 k1_hw2 k1_h65)
theorem k1_off83_inb : ∀ (v7 : BitVec 32) (v8 : BitVec 32) (k1_hw2 : k1_chk2 v7 v8), ∀ (k1_h66 : k1_cond66 v7 = 1#1), ∀ a, (k1_off83 v8) a + S256x8x128.size a ≤ S4096x8x128.size a := fun v7 v8 k1_hw2 k1_h66 => k1_hw2.2.1.2.2.2.2.2.2.2.2.2.2.2.2.2.2.2.2.2.2.2.2.2.2.2.2.2.2.2.2.2.2.1 k1_h66
theorem k1_off83_wordsbf16 : ∀ (v7 : BitVec 32) (v8 : BitVec 32) (k1_hw2 : k1_chk2 v7 v8), ∀ (k1_h66 : k1_cond66 v7 = 1#1), (Rect.unit (s := S4096x8x128) (k1_off83 v8) S256x8x128.size (k1_off83_inb v7 v8 k1_hw2 k1_h66)).WholeWords (EltTy.packing .bf16) := fun v7 v8 k1_hw2 k1_h66 => k1_hw2.2.1.2.2.2.2.2.2.2.2.2.2.2.2.2.2.2.2.2.2.2.2.2.2.2.2.2.2.2.2.2.2.2 k1_h66 (k1_off83_inb v7 v8 k1_hw2 k1_h66)
theorem k1_off84_inb : ∀ (v7 : BitVec 32) (v8 : BitVec 32) (k1_hw2 : k1_chk2 v7 v8), ∀ (k1_h67 : k1_cond67 v7 = 1#1), ∀ a, (k1_off84 v8) a + S256x8x128.size a ≤ S4096x8x128.size a := fun v7 v8 k1_hw2 k1_h67 => k1_hw2.2.2.1 k1_h67
theorem k1_off84_wordsbf16 : ∀ (v7 : BitVec 32) (v8 : BitVec 32) (k1_hw2 : k1_chk2 v7 v8), ∀ (k1_h67 : k1_cond67 v7 = 1#1), (Rect.unit (s := S4096x8x128) (k1_off84 v8) S256x8x128.size (k1_off84_inb v7 v8 k1_hw2 k1_h67)).WholeWords (EltTy.packing .bf16) := fun v7 v8 k1_hw2 k1_h67 => k1_hw2.2.2.2.1 k1_h67 (k1_off84_inb v7 v8 k1_hw2 k1_h67)
theorem k1_off85_inb : ∀ (v7 : BitVec 32) (v8 : BitVec 32) (k1_hw2 : k1_chk2 v7 v8), ∀ (k1_h68 : k1_cond68 v7 = 1#1), ∀ a, (k1_off85 v7 v8) a + S256x8x128.size a ≤ S4096x8x128.size a := fun v7 v8 k1_hw2 k1_h68 => k1_hw2.2.2.2.2.1 k1_h68
theorem k1_off85_wordsbf16 : ∀ (v7 : BitVec 32) (v8 : BitVec 32) (k1_hw2 : k1_chk2 v7 v8), ∀ (k1_h68 : k1_cond68 v7 = 1#1), (Rect.unit (s := S4096x8x128) (k1_off85 v7 v8) S256x8x128.size (k1_off85_inb v7 v8 k1_hw2 k1_h68)).WholeWords (EltTy.packing .bf16) := fun v7 v8 k1_hw2 k1_h68 => k1_hw2.2.2.2.2.2 k1_h68 (k1_off85_inb v7 v8 k1_hw2 k1_h68)

abbrev stage1_0 : Fin 1 → Memref sig .tc .smem S4 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Order.lean ====
/-
  The stable order of a vector of zeros and ones: the zeros first, then the ones, each in their places' order. The order
  of a vector of two halves, put together from the orders of the halves.
-/
module

public import Idealize.ShloMosaic.Lib.SortFacts
public import Idealize.ShloMosaic.Lib.PlanTiles.StableSort
public import Mathlib.Order.WellFounded

@[expose] public section

noncomputable section

namespace Cert.SwapProof

open Idealize.ShloMosaic

/-- The place whose entry the stable order puts at a position. -/
def ar {n : ℕ} (d : Fin n → BitVec 32) : Fin n → Fin n := sortedFrom fun a b => IntOp.cmpi .slt (d a) (d b) == 1#1

/-- A place's rank among the places: its entry first, then itself. -/
def rk {n : ℕ} (d : Fin n → BitVec 32) (i : Fin n) : ℕ := if d i = 0#32 then i.val else n + i.val

/-- Different places have different ranks. -/
theorem rk_inj {n : ℕ} (d : Fin n → BitVec 32) : Function.Injective (rk d) := by
  intro i j h
  have hi := i.isLt
  have hj := j.isLt
  unfold rk at h
  apply Fin.ext
  split at h <;> split at h <;> omega

/-- The order puts different places at different positions. -/
theorem ar_inj {n : ℕ} (d : Fin n → BitVec 32) : Function.Injective (ar d) := sortedFrom_injective _
/-- The order puts every place at some position. -/
theorem ar_surj {n : ℕ} (d : Fin n → BitVec 32) : Function.Surjective (ar d) := sortedFrom_surjective _

/-- On the entries 0 and 1, the signed comparison of the words is the comparison of the numbers. -/
theorem slt_bits : ∀ a b : Fin 2, (IntOp.cmpi .slt (BitVec.ofNat 32 a.val) (BitVec.ofNat 32 b.val) == 1#1)
    = decide ((if BitVec.ofNat 32 b.val = 0#32 then 1 else 0) < (if BitVec.ofNat 32 a.val = 0#32 then 1 else 0 : ℕ)) := by decide

variable {n : ℕ} (d : Fin n → BitVec 32) (hb : ∀ i, d i = 0#32 ∨ d i = 1#32)

include hb in
/-- The order by comparing words is the order by comparing numbers. -/
theorem ar_eq : ar d = sortedFrom fun a b => decide ((if d b = 0#32 then 1 else 0) < (if d a = 0#32 then 1 else 0 : ℕ)) := by
  unfold ar
  refine sortedFrom_congr _ _ fun a b _ => ?_
  have e : ∀ w : BitVec 32, w = 0#32 ∨ w = 1#32 → ∃ k : Fin 2, w = BitVec.ofNat 32 k.val := by
    rintro w (rfl | rfl)
    · exact ⟨0, rfl⟩
    · exact ⟨1, rfl⟩
  obtain ⟨x, hx⟩ := e _ (hb a)
  obtain ⟨y, hy⟩ := e _ (hb b)
  rw [hx, hy]
  exact slt_bits x y

include hb in
/-- The stable order goes up in rank. -/
theorem ar_mono : StrictMono (rk d ∘ ar d) := by
  intro i j hij
  have hp := List.pairwise_iff_get.mp (PlanTiles.pairwise_stableSort_lex (fun a : Fin n => (if d a = 0#32 then 1 else 0 : ℕ)) (· < ·) (List.finRange n) (List.pairwise_lt_finRange n))
  have h : PlanTiles.Lex (fun a : Fin n => (if d a = 0#32 then 1 else 0 : ℕ)) (· < ·) (ar d i) (ar d j) := by
    rw [ar_eq d hb]
    exact hp (i.cast (length_sortPositions n _).symm) (j.cast (length_sortPositions n _).symm) hij
  have hi := (ar d i).isLt
  have hj := (ar d j).isLt
  show rk d (ar d i) < rk d (ar d j)
  unfold rk
  unfold PlanTiles.Lex at h
  dsimp only at h
  rw [Fin.lt_def] at h
  by_cases hA : d (ar d i) = 0#32 <;> by_cases hB : d (ar d j) = 0#32 <;> simp only [hA, hB, if_true, if_false] at h ⊢ <;> omega

include hb in
/-- It is the only listing of all places that does. -/
theorem ar_unique (ρ : Fin n → Fin n) (h : StrictMono (rk d ∘ ρ)) : ρ = ar d := by
  have hi : Function.Injective ρ := Function.Injective.of_comp h.injective
  have hs : Function.Surjective ρ := Finite.injective_iff_surjective.mp hi
  have e : rk d ∘ ρ = rk d ∘ ar d := by
    refine (StrictMono.range_inj h (ar_mono d hb)).mp ?_
    rw [Set.range_comp, Set.range_comp, hs.range_eq, (ar_surj d).range_eq]
  exact funext fun i => rk_inj d (congrFun e i)

/-- How many entries are zero. -/
def zs : ℕ := (Finset.univ.filter fun i => d i = 0#32).card

/-- No more entries are zero than there are. -/
theorem zs_le : zs d ≤ n := (Finset.card_le_univ _).trans (by simp)

include hb in
/-- The zeros are exactly the first positions. -/
theorem ar_zero (r : Fin n) : d (ar d r) = 0#32 ↔ r.val < zs d := by
  have hm := ar_mono d hb
  have hc : (Finset.univ.filter fun s => d (ar d s) = 0#32).card = zs d := by
    refine Finset.card_bij (fun s _ => ar d s) (fun s hs => ?_) (fun _ _ _ _ e => ar_inj d e) (fun i hi => ?_)
    · exact Finset.mem_filter.mpr ⟨Finset.mem_univ _, (Finset.mem_filter.mp hs).2⟩
    · obtain ⟨s, rfl⟩ := ar_surj d i
      exact ⟨s, Finset.mem_filter.mpr ⟨Finset.mem_univ _, (Finset.mem_filter.mp hi).2⟩, rfl⟩
  have hdown : ∀ s t : Fin n, s ≤ t → d (ar d t) = 0#32 → d (ar d s) = 0#32 := by
    intro s t hst ht
    rcases hst.lt_or_eq with h | rfl
    · have := hm h
      have h1 := (ar d s).isLt
      have h2 := (ar d t).isLt
      change rk d (ar d s) < rk d (ar d t) at this
      unfold rk at this
      rw [if_pos ht] at this
      by_contra hne
      rw [if_neg hne] at this
      omega
    · exact ht
  constructor
  · intro h
    rw [← hc]
    have hsub : (Finset.univ.filter fun s : Fin n => s ≤ r) ⊆ Finset.univ.filter fun s => d (ar d s) = 0#32 :=
      fun s hs => Finset.mem_filter.mpr ⟨Finset.mem_univ _, hdown s r (Finset.mem_filter.mp hs).2 h⟩
    have := Finset.card_le_card hsub
    have e : (Finset.univ.filter fun s : Fin n => s ≤ r).card = r.val + 1 := by
      rw [show (Finset.univ.filter fun s : Fin n => s ≤ r) = Finset.Iic r from by ext s; simp, Fin.card_Iic]
    omega
  · intro h
    by_contra hne
    have hsub : (Finset.univ.filter fun s => d (ar d s) = 0#32) ⊆ Finset.univ.filter fun s : Fin n => s < r :=
      fun s hs => by
        refine Finset.mem_filter.mpr ⟨Finset.mem_univ _, ?_⟩
        by_contra hle
        exact hne (hdown r s (not_lt.mp hle) (Finset.mem_filter.mp hs).2)
    have := Finset.card_le_card hsub
    have e : (Finset.univ.filter fun s : Fin n => s < r).card = r.val := by
      rw [show (Finset.univ.filter fun s : Fin n => s < r) = Finset.Iio r from by ext s; simp, Fin.card_Iio]
    omega

/-! ## Two halves -/

variable (D : Fin 8192 → BitVec 32) (hD : ∀ i, D i = 0#32 ∨ D i = 1#32)

/-- Half k. -/
def hv (k : Fin 2) (i : Fin 4096) : BitVec 32 := D ⟨4096 * k.val + i.val, by have := k.isLt; have := i.isLt; omega⟩

/-- The place of half k at position r of its order. -/
def tk (k : Fin 2) (r : ℕ) : ℕ := if h : r < 4096 then (ar (hv D k) ⟨r, h⟩).val else 0

/-- Below 4096, `tk` is the place the order of the half puts there. -/
theorem tk_eq (k : Fin 2) (r : Fin 4096) : tk D k r.val = (ar (hv D k) r).val := dif_pos r.isLt

/-- `tk` is a place of the half. -/
theorem tk_lt (k : Fin 2) (r : ℕ) : tk D k r < 4096 := by
  unfold tk; split
  · exact (ar _ _).isLt
  · decide

include hD in
/-- The entry at position r of a half's order is zero exactly when r is below the number of zeros. -/
theorem tk_zero (k : Fin 2) {r : ℕ} (h : r < 4096) (x : Fin 8192) (hx : x.val = 4096 * k.val + tk D k r) : D x = 0#32 ↔ r < zs (hv D k) := by
  refine Iff.trans ?_ (ar_zero (hv D k) (fun i => hD _) ⟨r, h⟩)
  have e : x = ⟨4096 * k.val + (ar (hv D k) ⟨r, h⟩).val, by have := k.isLt; have := (ar (hv D k) ⟨r, h⟩).isLt; omega⟩ := by
    apply Fin.ext; rw [hx]; unfold tk; rw [dif_pos h]
  rw [e]; rfl

include hD in
/-- Among the zeros, and among the others, the order of a half keeps the places' order. -/
theorem tk_mono (k : Fin 2) {r s : ℕ} (h : r < s) (hs : s < 4096) (hz : r < zs (hv D k) ↔ s < zs (hv D k)) : tk D k r < tk D k s := by
  have hr : r < 4096 := h.trans hs
  have hm : rk (hv D k) (ar (hv D k) ⟨r, hr⟩) < rk (hv D k) (ar (hv D k) ⟨s, hs⟩) := ar_mono (hv D k) (fun i => hD _) (show (⟨r, hr⟩ : Fin 4096) < ⟨s, hs⟩ from h)
  have z1 := ar_zero (hv D k) (fun i => hD _) ⟨r, hr⟩
  have z2 := ar_zero (hv D k) (fun i => hD _) ⟨s, hs⟩
  unfold tk; rw [dif_pos hr, dif_pos hs]
  unfold rk at hm
  by_cases hA : r < zs (hv D k)
  · rw [if_pos (z1.mpr hA), if_pos (z2.mpr (hz.mp hA))] at hm; exact hm
  · rw [if_neg (fun e => hA (z1.mp e)), if_neg (fun e => hA (hz.mpr (z2.mp e)))] at hm; omega

/-- The two orders put together: the zeros of half 0, the zeros of half 1, the ones of half 0, the ones of half 1. -/
def mg (r : ℕ) : ℕ :=
  if r < zs (hv D 0) then tk D 0 r
  else if r < 4096 then 4096 + tk D 1 (r - zs (hv D 0))
  else if r < 8192 - zs (hv D 0) then tk D 0 (r - 4096 + zs (hv D 0))
  else 4096 + tk D 1 (r - 4096)

/-- `mg` is a place of the whole. -/
theorem mg_lt (r : ℕ) : mg D r < 8192 := by
  have := tk_lt D 0 r
  have := tk_lt D 1 (r - zs (hv D 0))
  have := tk_lt D 0 (r - 4096 + zs (hv D 0))
  have := tk_lt D 1 (r - 4096)
  unfold mg; (repeat' split) <;> omega

variable (hz : zs (hv D 0) + zs (hv D 1) = 4096)

include hD hz in
/-- The entry at position r of the merged order is zero exactly when r is below 4096. -/
theorem mg_zero {r : ℕ} (hr : r < 8192) : D ⟨mg D r, mg_lt D r⟩ = 0#32 ↔ r < 4096 := by
  by_cases h1 : r < zs (hv D 0)
  · rw [tk_zero D hD 0 (r := r) (by omega) _ (by show mg D r = _; unfold mg; rw [if_pos h1]; exact (Nat.zero_add _).symm)]; omega
  by_cases h2 : r < 4096
  · rw [tk_zero D hD 1 (r := r - zs (hv D 0)) (by omega) _ (by show mg D r = _; unfold mg; rw [if_neg h1, if_pos h2]; rfl)]; omega
  by_cases h3 : r < 8192 - zs (hv D 0)
  · rw [tk_zero D hD 0 (r := r - 4096 + zs (hv D 0)) (by omega) _ (by show mg D r = _; unfold mg; rw [if_neg h1, if_neg h2, if_pos h3]; exact (Nat.zero_add _).symm)]; omega
  · rw [tk_zero D hD 1 (r := r - 4096) (by omega) _ (by show mg D r = _; unfold mg; rw [if_neg h1, if_neg h2, if_neg h3]; rfl)]; omega

include hD hz in
/-- Among the zeros, and among the others, the merged order keeps the places' order. -/
theorem mg_mono {r s : ℕ} (h : r < s) (hs : s < 8192) (hc : r < 4096 ↔ s < 4096) : mg D r < mg D s := by
  have a0 := tk_lt D 0 r
  have a1 := tk_lt D 0 (r - 4096 + zs (hv D 0))
  unfold mg
  by_cases h1 : r < zs (hv D 0)
  · rw [if_pos h1]
    by_cases k1 : s < zs (hv D 0)
    · rw [if_pos k1]; exact tk_mono D hD 0 h (by omega) (by omega)
    · rw [if_neg k1, if_pos (hc.mp (by omega))]; omega
  rw [if_neg h1, if_neg (fun k1 : s < zs (hv D 0) => h1 (by omega))]
  by_cases h2 : r < 4096
  · rw [if_pos h2, if_pos (hc.mp h2)]
    have := tk_mono D hD 1 (r := r - zs (hv D 0)) (s := s - zs (hv D 0)) (by omega) (by omega) (by have := hc.mp h2; omega)
    omega
  rw [if_neg h2, if_neg (fun k2 => h2 (hc.mpr k2))]
  by_cases h3 : r < 8192 - zs (hv D 0)
  · rw [if_pos h3]
    by_cases k3 : s < 8192 - zs (hv D 0)
    · rw [if_pos k3]
      exact tk_mono D hD 0 (r := r - 4096 + zs (hv D 0)) (s := s - 4096 + zs (hv D 0)) (by omega) (by omega) (by omega)
    · rw [if_neg k3]; omega
  · rw [if_neg h3, if_neg (fun k3 => h3 (by omega))]
    have := tk_mono D hD 1 (r := r - 4096) (s := s - 4096) (by omega) (by omega) (by omega)
    omega

include hD hz in
/-- They are the order of the whole. -/
theorem ar_merged (r : Fin 8192) : (ar D r).val = mg D r.val := by
  have e : (fun r : Fin 8192 => (⟨mg D r.val, mg_lt D r.val⟩ : Fin 8192)) = ar D := by
    refine ar_unique D hD _ fun r s hrs => ?_
    have hr := mg_zero D hD hz r.isLt
    have hs := mg_zero D hD hz s.isLt
    have hl := mg_lt D r.val
    show rk D ⟨mg D r.val, _⟩ < rk D ⟨mg D s.val, _⟩
    unfold rk
    have hrs' : r.val < s.val := hrs
    by_cases h1 : r.val < 4096 <;> by_cases h2 : s.val < 4096
    · rw [if_pos (hr.mpr h1), if_pos (hs.mpr h2)]; exact mg_mono D hD hz hrs' s.isLt (by omega)
    · rw [if_pos (hr.mpr h1), if_neg (fun e => h2 (hs.mp e))]; show mg D r.val < 8192 + mg D s.val; omega
    · omega
    · rw [if_neg (fun e => h1 (hr.mp e)), if_neg (fun e => h2 (hs.mp e))]
      have := mg_mono D hD hz hrs' s.isLt (by omega)
      show 8192 + mg D r.val < 8192 + mg D s.val; omega
  rw [← e]

end Cert.SwapProof

end
-- ==== Proof.Counts.lean ====
/-
  How many destinations of one half name one block, as the preconditions and the kernel's host operations count them.
-/
module

public import proofs.«01_k».proof.Pre_one_bucket
public import proofs.«01_k».proof.Pre_balanced_KernelIdeal
public import proofs.«01_k».proof.Pre_balanced_ReferenceIdeal
public import Idealize.ShloMosaic.Lib.StableHlo.Predicate
public import Idealize.ShloMosaic.Lib.IndicatorCount

@[expose] public section

noncomputable section

namespace Cert.SwapProof

open Idealize.ShloMosaic Idealize.ShloMosaic.StableHlo

abbrev Vec : Shape := ⟨1, ![8192]⟩
abbrev Half : Shape := ⟨1, ![4096]⟩
abbrev Sc : Shape := ⟨0, ![]⟩

instance facts_one : Cert.Pre_one_bucket.Facts where
  slices_S8192_S4096_0 := by decide
  bcast_S_S4096 := by decide
  natLt_1_32 := by decide
  reducesTo_S4096_S_d0 := by decide
  h_S_ := by decide
  slices_S8192_S4096_4096 := by decide

instance facts_balK : Cert.Pre_balanced_KernelIdeal.Facts where
  slices_S8192_S4096_0 := by decide
  bcast_S_S4096 := by decide
  natLt_1_32 := by decide
  reducesTo_S4096_S_d0 := by decide
  h_S_ := by decide
  slices_S8192_S4096_4096 := by decide
  bcast_S_S8192 := by decide
  reducesTo_S8192_S_d0 := by decide

instance facts_balR : Cert.Pre_balanced_ReferenceIdeal.Facts where
  slices_S8192_S4096_0 := by decide
  bcast_S_S4096 := by decide
  natLt_1_32 := by decide
  reducesTo_S4096_S_d0 := by decide
  h_S_ := by decide
  slices_S8192_S4096_4096 := by decide
  bcast_S_S8192 := by decide
  reducesTo_S8192_S_d0 := by decide

/-- Half k of the destinations. -/
def half (d : Vec.Idx → BitVec 32) (k : Fin 2) : Half.Idx → BitVec 32 := fun i =>
  d (Shape.Idx.ofFin ⟨4096 * k.val + (i 0).val, by have h : (i 0).val < 4096 := (i 0).isLt; have := k.isLt; omega⟩)

/-- How many entries of a half are w. -/
def cnt (h : Half.Idx → BitVec 32) (w : BitVec 32) : ℕ := (Finset.univ.filter fun r : Fin 4096 => h (Shape.Idx.ofFin r) = w).card

/-- A half has at most 4096 entries of one kind. -/
theorem cnt_le (h : Half.Idx → BitVec 32) (w : BitVec 32) : cnt h w ≤ 4096 :=
  (Finset.card_le_univ _).trans (by simp)

/-- The count fits in a 32-bit word. -/
theorem cnt_toNat (h : Half.Idx → BitVec 32) (w : BitVec 32) : (BitVec.ofNat 32 (cnt h w)).toNat = cnt h w := by
  have := cnt_le h w
  rw [BitVec.toNat_ofNat]; omega

/-- A constant broadcast to any shape is that constant everywhere. -/
theorem bcast_const {t : Shape} (w : BitVec 32) (hb : Sc.BroadcastsInDim t (![] : Fin 0 → Fin t.rank)) (i : t.Idx) :
    broadcastInDim t (![] : Fin 0 → Fin t.rank) hb (constantI Sc 32 w) i = w := rfl

/-- The sum of the comparisons with w is the number of entries that are w. -/
theorem reduce_cnt (h : Half.Idx → BitVec 32) (w : BitVec 32) (hb : Sc.BroadcastsInDim Half (![] : Fin 0 → Fin Half.rank)) (hw : 1 < 32)
    (hr : Half.ReducesTo [0] Sc) (hu : 0 < Sc.numel) :
    Host.reduce IntOp.addi (extui 32 (cmpi .eq h (broadcastInDim Half (![] : Fin 0 → Fin Half.rank) hb (constantI Sc 32 w))) hw) (constantI Sc 32 0#32) hr hu = fun _ => BitVec.ofNat 32 (cnt h w) := by
  funext j
  rw [Host.reduce_eq_fold]
  have e : (Finset.univ.filter fun i : Half.Idx => hr.drop i = j) = Finset.univ :=
    Finset.filter_true_of_mem fun i _ => funext fun a => a.elim0
  rw [e]
  refine (IndicatorCount.fold_addi_setWidth_eq_card (fun i => cmpi .eq h (fun _ => w) i) Finset.univ).trans ?_
  congr 1
  unfold cnt
  refine Finset.card_bij (fun i _ => i 0) (fun i hi => ?_) (fun i _ i' _ e => ?_) (fun r hr => ?_)
  · exact Finset.mem_filter.mpr ⟨Finset.mem_univ _, (congrArg h (Shape.Idx.eq_ofFin i).symm).trans
      (Predicate.cmpi_eq_iff.mp (Finset.mem_filter.mp hi).2)⟩
  · exact (Shape.Idx.eq_ofFin i).trans ((congrArg Shape.Idx.ofFin e).trans (Shape.Idx.eq_ofFin i').symm)
  · exact ⟨Shape.Idx.ofFin r, Finset.mem_filter.mpr ⟨Finset.mem_univ _, Predicate.cmpi_eq_iff.mpr (Finset.mem_filter.mp hr).2⟩, rfl⟩

/-- The slice from 0 on is half 0. -/
theorem slice0 (d : Vec.Idx → BitVec 32) (h : Vec.Slices ![0] Half) : extractStridedSlice Half ![0] d h = half d 0 := by
  funext i
  refine congrArg d (funext fun a => Fin.ext ?_)
  obtain rfl : a = 0 := Subsingleton.elim _ _
  rfl
/-- The slice from 4096 on is half 1. -/
theorem slice1 (d : Vec.Idx → BitVec 32) (h : Vec.Slices ![4096] Half) : extractStridedSlice Half ![4096] d h = half d 1 := by
  funext i
  refine congrArg d (funext fun a => Fin.ext ?_)
  obtain rfl : a = 0 := Subsingleton.elim _ _
  rfl

/-- The conjunction of two bits is set when both are. -/
theorem andi_one {a b : BitVec 1} : IntOp.andi a b = 1#1 ↔ a = 1#1 ∧ b = 1#1 := by revert a b; decide
/-- The disjunction of two bits is set when one of them is. -/
theorem ori_one {a b : BitVec 1} : IntOp.ori a b = 1#1 ↔ a = 1#1 ∨ b = 1#1 := by revert a b; decide

/-- The count of rows device half k sends away lies strictly between seven and eight chunks. -/
def Bucket (d : Vec.Idx → BitVec 32) : Prop :=
  (1792 < cnt (half d 0) 1#32 ∧ cnt (half d 0) 1#32 < 2048) ∧ (1792 < cnt (half d 1) 0#32 ∧ cnt (half d 1) 0#32 < 2048)

/-- Comparing the count's word with 1792 compares the count. -/
theorem sgt_cnt (h : Half.Idx → BitVec 32) (w : BitVec 32) : IntOp.cmpi .sgt (BitVec.ofNat 32 (cnt h w)) 1792#32 = 1#1 ↔ 1792 < cnt h w := by
  have := cnt_le h w
  rw [Predicate.sgt_iff_toNat (by rw [cnt_toNat]; omega) (by decide), cnt_toNat]; rfl
/-- Comparing the count's word with 2048 compares the count. -/
theorem slt_cnt (h : Half.Idx → BitVec 32) (w : BitVec 32) : IntOp.cmpi .slt (BitVec.ofNat 32 (cnt h w)) 2048#32 = 1#1 ↔ cnt h w < 2048 := by
  have := cnt_le h w
  rw [Predicate.slt_iff_toNat (by rw [cnt_toNat]; omega) (by decide), cnt_toNat]; rfl

/-- The four comparisons of the precondition, all set, say that the destinations satisfy `Bucket`. -/
theorem bucket_of_bits (d : Vec.Idx → BitVec 32)
    (h : IntOp.andi (IntOp.andi (IntOp.andi (IntOp.cmpi .sgt (BitVec.ofNat 32 (cnt (half d 0) 1#32)) 1792#32) (IntOp.cmpi .slt (BitVec.ofNat 32 (cnt (half d 0) 1#32)) 2048#32))
      (IntOp.cmpi .sgt (BitVec.ofNat 32 (cnt (half d 1) 0#32)) 1792#32)) (IntOp.cmpi .slt (BitVec.ofNat 32 (cnt (half d 1) 0#32)) 2048#32) = 1#1) : Bucket d := by
  rw [andi_one, andi_one, andi_one, sgt_cnt, slt_cnt, sgt_cnt, slt_cnt] at h
  exact ⟨h.1.1, h.1.2, h.2⟩

/-- What `one_bucket` says. -/
theorem bucket_of_one {F : FTy → Type} [FloatOps F] (x : FVec F ⟨2, ![4096, 1024]⟩ .bf16) (d : Vec.Idx → BitVec 32)
    (h : Cert.Pre_one_bucket.fn (F := F) x d = fun _ => 1#1) : Bucket d := by
  have h0 := congrFun h (fun a => a.elim0)
  dsimp only [Cert.Pre_one_bucket.fn, Cert.Pre_one_bucket.fn_part1] at h0
  rw [slice0, slice1, reduce_cnt _ 1#32, reduce_cnt _ 0#32] at h0
  exact bucket_of_bits d h0

/-- `Bucket`, every destination 0 or 1, and both halves sending equally many. -/
structure Balanced (d : Vec.Idx → BitVec 32) : Prop where
  bucket : Bucket d
  bits : ∀ i, d i = 0#32 ∨ d i = 1#32
  even : cnt (half d 0) 1#32 = cnt (half d 1) 0#32

/-- If the conjunction of finitely many bits is set, each of them is. -/
theorem fold_andi {ι : Type} [DecidableEq ι] (S : Finset ι) (f : ι → BitVec 1) (h : S.fold IntOp.andi 1#1 f = 1#1) : ∀ i ∈ S, f i = 1#1 := by
  induction S using Finset.cons_induction with
  | empty => exact fun i hi => absurd hi (Finset.notMem_empty i)
  | cons a S ha ih =>
    rw [Finset.fold_cons, andi_one] at h
    intro i hi
    rcases Finset.mem_cons.mp hi with rfl | hi
    · exact h.1
    · exact ih h.2 i hi

/-- Counts with equal words are equal. -/
theorem ofNat_cnt_inj {h h' : Half.Idx → BitVec 32} {w w' : BitVec 32} (e : BitVec.ofNat 32 (cnt h w) = BitVec.ofNat 32 (cnt h' w')) : cnt h w = cnt h' w' := by
  rw [← cnt_toNat h, ← cnt_toNat h', e]

/-- What `balanced` says. -/
theorem balanced_of {F : FTy → Type} [FloatOps F] (x : FVec F ⟨2, ![4096, 1024]⟩ .bf16) (d : Vec.Idx → BitVec 32)
    (h : Cert.Pre_balanced_KernelIdeal.fn (F := F) x d = fun _ => 1#1) : Balanced d := by
  have h0 := congrFun h (fun a => a.elim0)
  dsimp only [Cert.Pre_balanced_KernelIdeal.fn, Cert.Pre_balanced_KernelIdeal.fn_part1] at h0
  rw [slice0, slice1, reduce_cnt _ 1#32, reduce_cnt _ 0#32] at h0
  obtain ⟨h1, he⟩ := andi_one.mp h0
  obtain ⟨hb, ha⟩ := andi_one.mp h1
  refine ⟨bucket_of_bits d hb, fun i => ?_, ofNat_cnt_inj (Predicate.cmpi_eq_iff.mp he)⟩
  rw [Host.reduce_eq_fold] at ha
  have := fold_andi _ _ ha i (Finset.mem_filter.mpr ⟨Finset.mem_univ _, funext fun a => a.elim0⟩)
  rcases ori_one.mp this with e | e
  · exact .inl (Predicate.cmpi_eq_iff.mp e)
  · exact .inr (Predicate.cmpi_eq_iff.mp e)

end Cert.SwapProof

end
-- ==== Proof.Proto.lean ====
/-
  The exchange between the two devices of a pair (equal y, different x) as a protocol of semaphore cells: what each
  cell of a device is paid with, in which round, and what a device starts with. The rows, the active chunks, the
  contents and the targets are parameters.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Rounds
public import Idealize.ShloMosaic.Lib.WriteMode
public import Idealize.ShloMosaic.Lib.Transfers
public import Idealize.ShloMosaic.Lib.Pipeline.RegionTalk
public import Idealize.ShloMosaic.Lib.Tactic

@[expose] public section

noncomputable section

namespace Cert.SwapProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Idealize.ShloMosaic.Transfers (shareDrop shareTokN)

variable {F : FTy → Type}

/-- The device at the other end of the x axis. -/
def pr (c : Dev nD) : Dev nD := ⟨(c.val + 2) % 4, Nat.mod_lt _ (by decide)⟩
/-- The partner of the partner is the device itself. -/
theorem pr_pr (c : Dev nD) : pr (pr c) = c := by revert c; decide
def ring : Dev nD ≃ Dev nD := ⟨pr, pr, pr_pr, pr_pr⟩

/-! ## The algebra: the pipeline library's, the protocol's, the write mode's -/

abbrev UU (F : FTy → Type) : Type := UR sig nD τ × (UR sig nD τ × WmRA nD τ sig (Elt F))

local notation "𝕄" => MT nD τ sig Unit (Elt F) ℕ (UU F) ℕ

abbrev EP : Emb (UR sig nD τ) 𝕄 := embL
abbrev ER : Emb (UR sig nD τ) 𝕄 := (Emb.inl : Emb (UR sig nD τ) (UR sig nD τ × WmRA nD τ sig (Elt F))).trans embR
/-- Where the write mode's algebra sits. -/
abbrev wmE : UEmb (WmRA nD τ sig (Elt F)) (UU F) := (UEmb.inr : UEmb (WmRA nD τ sig (Elt F)) (UR sig nD τ × WmRA nD τ sig (Elt F))).trans UEmb.inr

/-! ## Cells -/

abbrev barS : Sem sig := sig.barrier 0 rfl
/-- The j-th of the kernel's 51 own semaphores: 17 send, 17 receive, 17 copy. -/
def dsem (j : ℕ) : DmaSem sig := ⟨(5 + j) % 56, Nat.mod_lt _ (by decide)⟩
abbrev sendS (k : ℕ) : DmaSem sig := dsem k
abbrev recvS (k : ℕ) : DmaSem sig := dsem (17 + k)
abbrev copyS (k : ℕ) : DmaSem sig := dsem (34 + k)

/-- The number of the j-th own semaphore. -/
theorem dsem_val {j : ℕ} (h : j < 51) : (dsem j).val = 5 + j := Nat.mod_eq_of_lt (by omega)

abbrev barCell (c : Dev nD) : GSem nD τ sig := ((c : Thread nD τ), .reg barS)
abbrev sendCell (c : Dev nD) (k : ℕ) : GSem nD τ sig := ((c : Thread nD τ), .dma (sendS k))
abbrev recvCell (c : Dev nD) (k : ℕ) : GSem nD τ sig := ((c : Thread nD τ), .dma (recvS k))
abbrev copyCell (c : Dev nD) (k : ℕ) : GSem nD τ sig := ((c : Thread nD τ), .dma (copyS k))

/-! ## The slices of 256 rows -/

abbrev srcM : Memref sig .tc .hbm S4096x8x128 .bf16 := Memref.whole main_v37
abbrev outM : Memref sig .tc .hbm S4096x8x128 .bf16 := Memref.whole main_v38

/-- 256 rows from r on lie inside the array when r + 256 is at most 4096. -/
theorem slc_inb {r : ℕ} (h : r + 256 ≤ 4096) : ∀ a, (![r, 0, 0] : Fin 3 → ℕ) a + S256x8x128.size a ≤ S4096x8x128.size a := by
  intro a; fin_cases a
  · exact h
  · exact Nat.le_refl _
  · exact Nat.le_refl _

/-- Rows r to r + 255 of an array. -/
abbrev slc (M : Memref sig .tc .hbm S4096x8x128 .bf16) (r : ℕ) (h : r + 256 ≤ 4096) : Memref sig .tc .hbm S256x8x128 .bf16 :=
  M.slice (Rect.unit (s := S4096x8x128) ![r, 0, 0] S256x8x128.size (slc_inb h)) (fun _ => rfl)

abbrev srcL (c : Dev nD) : Loc nD τ sig := srcM.view.loc (c : Thread nD τ)
abbrev outL (c : Dev nD) : Loc nD τ sig := outM.view.loc (c : Thread nD τ)

/-- The credit of one copy of 256 rows. -/
def N : ℕ := (slc outM 0 (by decide)).view.dmaCredit
/-- A copy gives a positive credit. -/
theorem N_pos : 0 < N := View.dmaCredit_pos _ (by decide)
/-- Every 256 rows of the result give the same credit. -/
theorem credit_out (r : ℕ) (h : r + 256 ≤ 4096) : (slc outM r h).view.dmaCredit = N := rfl
/-- Every 256 rows of the source give the same credit. -/
theorem credit_src (r : ℕ) (h : r + 256 ≤ 4096) : (slc srcM r h).view.dmaCredit = N := rfl
attribute [irreducible] N

/-- Which chunks are exchanged and which are kept, and the rows they start at: the source of an outgoing chunk, the
    place it lands at on the other device, the place of a kept chunk. -/
structure Plan where
  aS : ℕ → Bool
  aK : ℕ → Bool
  sR : Dev nD → ℕ → ℕ
  dR : Dev nD → ℕ → ℕ
  kR : Dev nD → ℕ → ℕ
  hs : ∀ c k, sR c k + 256 ≤ 4096
  hd : ∀ c k, dR c k + 256 ≤ 4096
  hk : ∀ c k, kR c k + 256 ≤ 4096

/-- The contents: each device's source, its result's buffer before, and what is to be written to it. -/
structure Cont (F : FTy → Type) where
  xs : (c : Dev nD) → Buf (Elt F) (srcL c)
  fo : (c : Dev nD) → Buf (Elt F) (outL c)
  g : (c : Dev nD) → Tgt (Elt F) (outL c)

variable (p : Plan) (v : Cont F)

/-- Share q of the rows of an outgoing or kept chunk of the source. -/
def srcPt (q : PosShare TreeShare) (c : Dev nD) (r : ℕ) (h : r + 256 ≤ 4096) : sProp 𝕄 :=
  (slc srcM r h).view.loc (c : Thread nD τ) ↦[(slc srcM r h).view.set]{q} v.xs c

/-- Share q of the whole result buffer in write mode, written on W. -/
def outTo (q : PosShare TreeShare) (c : Dev nD) (W : Finset (Idx (outL c))) : sProp 𝕄 :=
  willBeTo wmE (outL c) Finset.univ q (v.fo c) (v.g c) W

/-- The elements of rows r to r + 255 of the result. -/
def rowsAt (c : Dev nD) (r : ℕ) (h : r + 256 ≤ 4096) : Finset (Idx (outL c)) := (slc outM r h).view.set

abbrev tS (k : ℕ) : PosShare TreeShare := shareTokN fullShare.left k
abbrev tK (k : ℕ) : PosShare TreeShare := shareTokN fullShare.right k

/-! ## The schedule -/

/-- One exchanged chunk of the pair's handshake: a share of the result buffer and the receive cell's first round. -/
def barOne (c : Dev nD) (k : ℕ) : sProp 𝕄 :=
  if p.aS k then iprop(outTo v (tS k) c ∅ ∗ reached ER (recvCell c k) 0) else iprop(emp)
def barPay (c : Dev nD) : sProp 𝕄 := bigSep (Finset.range 17) (barOne p v (pr c))
def sendPay (c : Dev nD) (k : ℕ) : sProp 𝕄 := srcPt v (tS k) c (p.sR c k) (p.hs c k)
def recvPay (c : Dev nD) (k : ℕ) : sProp 𝕄 := outTo v (tS k) c (rowsAt c (p.dR (pr c) k) (p.hd (pr c) k))
def copyPay (c : Dev nD) (k : ℕ) : sProp 𝕄 :=
  iprop(outTo v (tK k) c (rowsAt c (p.kR c k) (p.hk c k)) ∗ srcPt v (tK k) c (p.kR c k) (p.hk c k))

instance srcPt_storable (q : PosShare TreeShare) (c : Dev nD) (r : ℕ) (h : r + 256 ≤ 4096) :
    BI.Storable (upEmb : UEmb _ 𝕄) (srcPt v q c r h) := by unfold srcPt; infer_instance
instance outTo_storable (q : PosShare TreeShare) (c : Dev nD) (W : Finset (Idx (outL c))) :
    BI.Storable (upEmb : UEmb _ 𝕄) (outTo v q c W) := by unfold outTo; infer_instance
instance barOne_storable (c : Dev nD) (k : ℕ) : BI.Storable (upEmb : UEmb _ 𝕄) (barOne p v c k) := by
  unfold barOne; split <;> infer_instance

/-- Whether an own semaphore has a copy to wait for. -/
def actJ (j : ℕ) : Bool := if j < 17 then p.aS j else if j < 34 then p.aS (j - 17) else p.aK (j - 34)

/-- Whether a semaphore's cell has a duty. -/
def duty : SemLoc sig → Bool
  | .reg _ => true
  | .dma s => decide (5 ≤ s.val) && actJ p (s.val - 5)

/-- Round 0 of every barrier cell and of every own cell with a copy has one duty. -/
def swapRd : Rounds.Schedule (GSem nD τ sig) Unit 𝕄 where
  duties g r := if r = 0 ∧ g.1.2 = .tc ∧ duty p g.2 = true then {()} else ∅
  unitless _ := False
  amount g _ _ := match g.2 with | .reg _ => 1 | .dma _ => N
  payload g _ _ := match g.2 with
    | .reg _ => barPay p v g.1.1
    | .dma s => if s.val < 22 then sendPay p v g.1.1 (s.val - 5) else if s.val < 39 then recvPay p v g.1.1 (s.val - 22) else copyPay p v g.1.1 (s.val - 39)
  amount_pos g _ _ _ := by
    rcases g with ⟨t, s | s⟩
    · exact Nat.one_pos
    · exact N_pos

instance swapRd_payload_storable (g : GSem nD τ sig) (r : ℕ) (d : Unit) :
    BI.Storable (upEmb : UEmb _ 𝕄) ((swapRd p v).payload g r d) := by
  rcases g with ⟨t, s | s⟩
  · show BI.Storable upEmb (barPay p v t.1)
    unfold barPay; infer_instance
  · show BI.Storable upEmb (if s.val < 22 then sendPay p v t.1 (s.val - 5) else if s.val < 39 then recvPay p v t.1 (s.val - 22) else copyPay p v t.1 (s.val - 39))
    unfold sendPay recvPay copyPay
    (repeat' split) <;> infer_instance

section Sched

variable (c : Dev nD) (u : Unit)

/-- A barrier cell has one duty in round 0. -/
theorem duties_bar : (swapRd p v).duties (barCell c) 0 = {()} := by
  dsimp only [swapRd]; exact if_pos ⟨rfl, rfl, rfl⟩
/-- An own semaphore with a copy to wait for has one duty in round 0. -/
theorem duties_own {j : ℕ} (hj : j < 51) (ha : actJ p j = true) : (swapRd p v).duties ((c : Thread nD τ), .dma (dsem j)) 0 = {()} := by
  refine if_pos ⟨rfl, rfl, ?_⟩
  show (decide (5 ≤ (dsem j).val) && actJ p ((dsem j).val - 5)) = true
  rw [dsem_val hj, Nat.add_sub_cancel_left, ha, decide_eq_true (Nat.le_add_right _ _)]; rfl
/-- An own semaphore with no copy to wait for has no duty. -/
theorem duties_own_off {j : ℕ} (hj : j < 51) (ha : actJ p j = false) (r : ℕ) : (swapRd p v).duties ((c : Thread nD τ), .dma (dsem j)) r = ∅ := by
  refine if_neg fun h => ?_
  have h3 : (decide (5 ≤ (dsem j).val) && actJ p ((dsem j).val - 5)) = true := h.2.2
  rw [dsem_val hj, Nat.add_sub_cancel_left, ha, Bool.and_false] at h3; exact Bool.false_ne_true h3
/-- No cell has a duty after round 0. -/
theorem duties_later (g : GSem nD τ sig) : ∀ r, 1 ≤ r → (swapRd p v).duties g r = ∅ :=
  fun r hr => if_neg fun h => by omega

/-- A send semaphore is used when its chunk is exchanged. -/
theorem act_send {k : ℕ} (hk : k < 17) : actJ p k = p.aS k := if_pos hk
/-- A receive semaphore is used when its chunk is exchanged. -/
theorem act_recv {k : ℕ} (hk : k < 17) : actJ p (17 + k) = p.aS k := by
  unfold actJ; rw [if_neg (by omega), if_pos (by omega), Nat.add_sub_cancel_left]
/-- A copy semaphore is used when its chunk is kept. -/
theorem act_copy {k : ℕ} (hk : k < 17) : actJ p (34 + k) = p.aK k := by
  unfold actJ; rw [if_neg (by omega), if_neg (by omega), Nat.add_sub_cancel_left]

/-- The send cell of an exchanged chunk has one duty. -/
theorem duties_send {k : ℕ} (hk : k < 17) (ha : p.aS k = true) : (swapRd p v).duties (sendCell c k) 0 = {()} :=
  duties_own p v c (by omega) ((act_send p hk).trans ha)
/-- The receive cell of an exchanged chunk has one duty. -/
theorem duties_recv {k : ℕ} (hk : k < 17) (ha : p.aS k = true) : (swapRd p v).duties (recvCell c k) 0 = {()} :=
  duties_own p v c (by omega) ((act_recv p hk).trans ha)
/-- The copy cell of a kept chunk has one duty. -/
theorem duties_copy {k : ℕ} (hk : k < 17) (ha : p.aK k = true) : (swapRd p v).duties (copyCell c k) 0 = {()} :=
  duties_own p v c (by omega) ((act_copy p hk).trans ha)

/-- A duty at a transfer's semaphore is worth one copy's credit. -/
theorem amount_dma (s : DmaSem sig) : (swapRd p v).amount ((c : Thread nD τ), .dma s) 0 u = N := rfl
/-- What a barrier cell hands over. -/
theorem payload_bar : (swapRd p v).payload (barCell c) 0 u = barPay p v c := rfl
/-- What a send cell hands over. -/
theorem payload_send {k : ℕ} (hk : k < 17) : (swapRd p v).payload (sendCell c k) 0 u = sendPay p v c k := by
  show (if (dsem k).val < 22 then sendPay p v c ((dsem k).val - 5) else _) = _
  rw [dsem_val (by omega), if_pos (by omega), Nat.add_sub_cancel_left]
/-- What a receive cell hands over. -/
theorem payload_recv {k : ℕ} (hk : k < 17) : (swapRd p v).payload (recvCell c k) 0 u = recvPay p v c k := by
  show (if (dsem (17 + k)).val < 22 then _ else if (dsem (17 + k)).val < 39 then recvPay p v c ((dsem (17 + k)).val - 22) else _) = _
  rw [dsem_val (by omega), if_neg (by omega), if_pos (by omega), show 5 + (17 + k) - 22 = k by omega]
/-- What a copy cell hands over. -/
theorem payload_copy {k : ℕ} (hk : k < 17) : (swapRd p v).payload (copyCell c k) 0 u = copyPay p v c k := by
  show (if (dsem (34 + k)).val < 22 then _ else if (dsem (34 + k)).val < 39 then _ else copyPay p v c ((dsem (34 + k)).val - 39)) = _
  rw [dsem_val (by omega), if_neg (by omega), if_neg (by omega), show 5 + (34 + k) - 39 = k by omega]

/-- A cell with one duty expects that duty's amount. -/
theorem expect_of {g : GSem nD τ sig} {n : ℕ} (hd : (swapRd p v).duties g 0 = {()}) (hn : (swapRd p v).amount g 0 () = n) :
    (swapRd p v).expect g 0 = n := by
  unfold Schedule.expect Schedule.amountOf; rw [hd, Finset.sum_singleton, hn]

/-- A cell with one duty hands over that duty's payload. -/
theorem rest_of {g : GSem nD τ sig} {X : sProp 𝕄} (hd : (swapRd p v).duties g 0 = {()}) (hX : (swapRd p v).payload g 0 () = X) :
    bigSep ((swapRd p v).duties g 0 \ ∅) (fun u => (swapRd p v).payload g 0 u) = X := by
  rw [Finset.sdiff_empty, hd, bigSep_singleton, hX]

end Sched

/-! ## What each core owes; the levels -/

/-- The credit of the chunks from the n-th on, owed to the other device's receive cells. -/
def Ofrom (c : Dev nD) (n : ℕ) : CellTallies nD τ sig Unit :=
  (Finset.range 17).sum fun k => if n ≤ k ∧ p.aS k = true then tallyAt (recvCell (pr c) k) () N else 0

/-- All a core owes at launch. -/
def O₀ (c : Dev nD) : CellTallies nD τ sig Unit := Ofrom p c 0 + tallyAt (barCell (pr c)) () 1

/-- Starting the transfer of chunk k pays its part of what is owed. -/
theorem Ofrom_step (c : Dev nD) {k : ℕ} (hk : k < 17) (ha : p.aS k = true) :
    Ofrom p c k = Ofrom p c (k + 1) + tallyAt (recvCell (pr c) k) () N := by
  unfold Ofrom
  rw [← Finset.add_sum_erase _ _ (Finset.mem_range.mpr hk), ← Finset.add_sum_erase (Finset.range 17) (fun j => if k + 1 ≤ j ∧ p.aS j = true then tallyAt (recvCell (pr c) j) () N else 0) (Finset.mem_range.mpr hk),
    if_pos ⟨Nat.le_refl k, ha⟩, if_neg (fun h => by omega), zero_add, add_comm]
  congr 1
  refine Finset.sum_congr rfl fun j hj => ?_
  have hne := Finset.ne_of_mem_erase hj
  exact if_congr (and_congr_left' ⟨fun h => by omega, fun h => by omega⟩) rfl rfl

/-- A chunk that is not exchanged adds nothing to what is owed. -/
theorem Ofrom_skip (c : Dev nD) {k : ℕ} (ha : p.aS k = false) : Ofrom p c k = Ofrom p c (k + 1) := by
  unfold Ofrom
  refine Finset.sum_congr rfl fun j _ => ?_
  by_cases h : j = k
  · subst h; rw [ha, if_neg (fun h => Bool.false_ne_true h.2), if_neg (fun h => Bool.false_ne_true h.2)]
  · exact if_congr (and_congr_left' ⟨fun h => by omega, fun h => by omega⟩) rfl rfl

/-- After the seventeenth chunk nothing is owed. -/
theorem Ofrom_end (c : Dev nD) {n : ℕ} (h : 17 ≤ n) : Ofrom p c n = 0 := by
  unfold Ofrom
  exact Finset.sum_eq_zero fun j hj => if_neg fun h' => by have := Finset.mem_range.mp hj; omega

def L (g : GSem nD τ sig) : Finset Unit := if g.1.2 = .tc then {()} else ∅
/-- barrier cells at 1, the kernel's own cells at 2, the rest at 0. -/
def lv (g : GSem nD τ sig) (_ : Unit) : ℕ := match g.2 with | .reg _ => 1 | .dma s => if 5 ≤ s.val then 2 else 0

/-- Only the tensor cores' cells have levels. -/
theorem L_of_ne (g : GSem nD τ sig) (h : g.1.2 ≠ .tc) : L g = ∅ := if_neg h
/-- Every cell of a tensor core has its one level. -/
theorem L_tc (c : Dev nD) (sm : SemLoc sig) : L ((c : Thread nD τ), sm) = {()} := if_pos rfl
/-- The kernel's own cells are at level 2. -/
theorem lv_own (c : Dev nD) {j : ℕ} (hj : j < 51) : lv ((c : Thread nD τ), .dma (dsem j)) () = 2 := by
  show (if 5 ≤ (dsem j).val then 2 else 0) = 2; rw [dsem_val hj]; exact if_pos (Nat.le_add_right _ _)

/-- What is owed from chunk n on is owed to receive cells of the other device. -/
theorem Ofrom_pos {c : Dev nD} {n : ℕ} {g : GSem nD τ sig} {u : Unit} (h : 0 < Ofrom p c n g u) : ∃ k, k < 17 ∧ g = recvCell (pr c) k := by
  unfold Ofrom at h
  rw [Finset.sum_apply, Finsupp.finset_sum_apply] at h
  obtain ⟨k, hk, h⟩ := Finset.exists_ne_zero_of_sum_ne_zero (Nat.pos_iff_ne_zero.mp h)
  refine ⟨k, Finset.mem_range.mp hk, ?_⟩
  split at h
  · rw [tallyAt_apply] at h
    split at h
    · next hg => exact hg.1
    · exact absurd rfl h
  · exact absurd rfl h

/-- A core that owes chunks only may wait at its barrier cell. -/
theorem mayWait_bar (c : Dev nD) :
    (levAts L lv : sProp 𝕄) ⊢ MayWait (c : Thread nD τ) (.reg barS) () (Ofrom p c 0) :=
  MayOwe.of_cut (L := L) (lev := lv) 1 (fun q hq => by rw [Finset.mem_singleton.mp hq, L_tc]; exact Finset.mem_singleton_self _)
    (fun g u hg => by
      obtain ⟨k, hk, rfl⟩ := Ofrom_pos p hg
      rw [L_tc]; exact Finset.mem_singleton_self _)
    (fun q hq => by rw [Finset.mem_singleton.mp hq]; exact Nat.le_refl 1)
    (fun g u hg => by
      obtain ⟨k, hk, rfl⟩ := Ofrom_pos p hg
      cases u
      rw [lv_own _ (by omega)]; decide)

end Cert.SwapProof

end
-- ==== Proof.Steps.lean ====
/-
  The kernel's four kinds of steps on the parameters of Proto.lean: starting an exchanged chunk, starting a kept chunk,
  waiting for a kept chunk, waiting for an exchanged chunk (its departure and its arrival).
-/
module

public import proofs.«01_k».proof.Proof.Proto

@[expose] public section

noncomputable section

namespace Cert.SwapProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ (UU F) ℕ

abbrev 𝒱₀ : Variants := Variants.none

variable (p : Plan) (v : Cont F)

/-! ## The invariants every device may open -/

def barEmb : Dev nD ↪ GSem nD τ sig := ⟨fun c => barCell c, fun _ _ h => congrArg (fun g : GSem nD τ sig => g.1.1) h⟩
/-- Different indices name different own semaphores. -/
theorem dsem_inj {i j : ℕ} (hi : i < 51) (hj : j < 51) (h : dsem i = dsem j) : i = j := by
  have := congrArg Fin.val h; rw [dsem_val hi, dsem_val hj] at this; omega
def ownEmb : Dev nD × Fin 51 ↪ GSem nD τ sig :=
  ⟨fun cj => ((cj.1 : Thread nD τ), .dma (dsem cj.2.val)), fun a b h =>
    Prod.ext (congrArg (fun g : GSem nD τ sig => g.1.1) h)
      (Fin.ext (dsem_inj a.2.isLt b.2.isLt (SemLoc.dma.inj (congrArg Prod.snd h))))⟩
abbrev barCells : Finset (GSem nD τ sig) := Finset.univ.map barEmb
abbrev ownCells : Finset (GSem nD τ sig) := Finset.univ.map ownEmb

/-- A barrier cell is one of the cells. -/
theorem bar_mem (c : Dev nD) : barCell c ∈ (barCells ∪ ownCells : Finset (GSem nD τ sig)) :=
  Finset.mem_union_left _ (Finset.mem_map_of_mem barEmb (Finset.mem_univ c))
/-- A device's own semaphore is one of the cells. -/
theorem own_mem (c : Dev nD) {j : ℕ} (hj : j < 51) : ((c : Thread nD τ), SemLoc.dma (dsem j)) ∈ (barCells ∪ ownCells : Finset (GSem nD τ sig)) :=
  Finset.mem_union_right _ (Finset.mem_map_of_mem ownEmb (Finset.mem_univ (c, (⟨j, hj⟩ : Fin 51))))

/-- All cells' invariants, at the names K, and the write mode's, at ιw. -/
def invs (K : GSem nD τ sig → ℕ) (ιw : ℕ) : sProp 𝕄 :=
  iprop((bigSep (barCells ∪ ownCells) fun g => cellInv ER (swapRd p v) (K g) g) ∗ wmInv wmE ιw)

instance invs_persistent (K : GSem nD τ sig → ℕ) (ιw : ℕ) : BI.Persistent (invs p v K ιw) := by unfold invs; infer_instance

/-- Every cell's invariant is among the invariants. -/
theorem inv_at (K : GSem nD τ sig → ℕ) (ιw : ℕ) {g : GSem nD τ sig} (hg : g ∈ (barCells ∪ ownCells : Finset (GSem nD τ sig))) :
    invs p v K ιw ⊢ cellInv ER (swapRd p v) (K g) g := by
  unfold invs
  exact sep_elim_left.trans (bigSep_elim hg)
/-- The write mode's invariant is among the invariants. -/
theorem inv_wm (K : GSem nD τ sig → ℕ) (ιw : ℕ) : invs p v K ιw ⊢ wmInv wmE ιw := by
  unfold invs
  exact sep_elim_right

/-! ## What a device holds of a chunk before, during and after -/

def Sw0 (c : Dev nD) (k : ℕ) : sProp 𝕄 :=
  iprop(srcPt v (tS k) c (p.sR c k) (p.hs c k) ∗ outTo v (tS k) (pr c) ∅ ∗ dutyTok ER (sendCell c k) 0 () ∗ dutyTok ER (recvCell (pr c) k) 0 ()
    ∗ reached ER (sendCell c k) 0 ∗ reached ER (recvCell (pr c) k) 0
    ∗ atPos ER (sendCell c k) 0 ∅ 0 ∗ atPos ER (recvCell c k) 0 ∅ 0 ∗ cred (tallyAt (recvCell c k) () N))
def Sw1 (c : Dev nD) (k : ℕ) : sProp 𝕄 :=
  iprop(atPos ER (sendCell c k) 0 ∅ 0 ∗ atPos ER (recvCell c k) 0 ∅ 0 ∗ cred (tallyAt (sendCell c k) () N) ∗ cred (tallyAt (recvCell c k) () N))
def Sw2 (c : Dev nD) (k : ℕ) : sProp 𝕄 :=
  iprop(atPos ER (sendCell c k) 1 ∅ 0 ∗ atPos ER (recvCell c k) 1 ∅ 0 ∗ sendPay p v c k ∗ recvPay p v c k)

def Kp0 (c : Dev nD) (k : ℕ) : sProp 𝕄 :=
  iprop(srcPt v (tK k) c (p.kR c k) (p.hk c k) ∗ outTo v (tK k) c ∅ ∗ dutyTok ER (copyCell c k) 0 () ∗ reached ER (copyCell c k) 0
    ∗ atPos ER (copyCell c k) 0 ∅ 0)
def Kp1 (c : Dev nD) (k : ℕ) : sProp 𝕄 := iprop(atPos ER (copyCell c k) 0 ∅ 0 ∗ cred (tallyAt (copyCell c k) () N))
def Kp2 (c : Dev nD) (k : ℕ) : sProp 𝕄 := iprop(atPos ER (copyCell c k) 1 ∅ 0 ∗ copyPay p v c k)

/-- Every copy writes what its destination's targets allow. -/
structure Adm : Prop where
  swap : ∀ c k, k < 17 → p.aS k = true → (slc outM (p.dR c k) (p.hd c k)).view.Admitted (Elt F) (v.g (pr c)) ((slc srcM (p.sR c k) (p.hs c k)).view.read (Elt F) (v.xs c)) Finset.univ
  keep : ∀ c k, k < 17 → p.aK k = true → (slc outM (p.kR c k) (p.hk c k)).view.Admitted (Elt F) (v.g c) ((slc srcM (p.kR c k) (p.hk c k)).view.read (Elt F) (v.xs c)) Finset.univ

variable {p v}
variable (hA : Adm p v) (K : GSem nD τ sig → ℕ) (ιw : ℕ) (c : Dev nD)

include hA in
/-- Starting an exchanged chunk: the source's share goes to the send cell, the other device's buffer, written, to its
    receive cell. -/
theorem swap_start {k : ℕ} (hk : k < 17) (ha : p.aS k = true) {α : Type} {Q : α → sProp 𝕄} {W : Waits sig Unit}
    {hsc : (slc outM (p.dR c k) (p.hd c k)).view.ref.isScScratch = false}
    {h1 : (slc srcM (p.sR c k) (p.hs c k)).view.WordExact} {h2 : (slc outM (p.dR c k) (p.hd c k)).view.WordExact}
    {h3 : DmaTarget.Typed .hbm (.dma (recvS k)) (.remote (pr c : Thread nD τ) (slc outM (p.dR c k) (p.hd c k)) (.dma (sendS k)) hsc)}
    {cont : PUnit → Prog (TpuEff nD τ sig (Elt F) Λ₀ .tc) α} :
    iprop(invs p v K ιw ∗ owes (c : Thread nD τ) (Ofrom p c k) W ∗ Sw0 p v c k)
      ⊢ iprop(((owes (c : Thread nD τ) (Ofrom p c (k + 1)) W ∗ Sw1 c k) -∗ wp frame (wpE (defs₀ (F := F)) 𝒱₀ c none) Set.univ (cont ⟨⟩) Q)
          -∗ wp frame (wpE (defs₀ (F := F)) 𝒱₀ c none) Set.univ
            (.op (.enqueueDma (slc srcM (p.sR c k) (p.hs c k)) (.remote (pr c : Thread nD τ) (slc outM (p.dR c k) (p.hd c k)) (.dma (sendS k)) hsc) (.dma (recvS k)) h1 h2 h3) cont) Q) := by
  unfold Sw0 Sw1 srcPt
  iintro ⟨#HI, HO, Hs, Ho, HtS, HtN, #HrS, #HrN, HaS, HaV, HcV⟩ Hk
  iapply (Rounds.wp_send 𝒱₀ ER (swapRd p v) (c : Thread nD τ) none (c' := (pr c : Thread nD τ)) (src := slc srcM (p.sR c k) (p.hs c k)) (dst := slc outM (p.dR c k) (p.hd c k)) (sS := .dma (sendS k)) (sem := .dma (recvS k)) (hsc := hsc) (q := tS k) (fs := v.xs c)
      (κ₁ := K (sendCell c k)) (κ₂ := K (recvCell (pr c) k)) (r₁ := 0) (r₂ := 0) (d₁ := ()) (d₂ := ())
      (R := outTo v (tS k) (pr c) (rowsAt (pr c) (p.dR c k) (p.hd c k)))
      (by rw [duties_send p v c hk ha]; exact Finset.mem_singleton_self _) (by rw [duties_recv p v (pr c) hk ha]; exact Finset.mem_singleton_self _)
      () () N (credit_out _ _) (amount_dma p v c () _) (amount_dma p v (pr c) () _) (Ofrom p c (k + 1)) (Ofrom_step p c hk ha) (W := W)
      (by rw [payload_send p v c () hk]; exact BI.Entails.refl _)
      (by rw [payload_recv p v (pr c) () hk]; unfold recvPay; simp only [pr_pr]; exact BI.Entails.refl _)) $$ [HO Hs Ho HtS HtN]
  · isplitr; · iapply (inv_at p v K ιw (own_mem c (by omega))); iexact HI
    isplitr; · iapply (inv_at p v K ιw (own_mem (pr c) (by omega))); iexact HI
    isplitl [Hs]; · iexact Hs
    isplitl [Ho]
    · have hu := willBeTo_writeUpdate (emb := wmE) (ιwm := ιw) (Ix := Unit) (Lvl := ℕ) (pr c : Thread nD τ) (v := (slc outM (p.dR c k) (p.hd c k)).view)
        (w := (slc srcM (p.sR c k) (p.hs c k)).view.read (Elt F) (v.xs c)) (S := Finset.univ) (q := tS k) (f := v.fo (pr c)) (g := v.g (pr c)) (W := ∅)
        (Finset.subset_univ _) (hA.swap c k hk ha)
      rw [Finset.empty_union] at hu
      unfold outTo
      iapply hu
      isplitr; · iapply (inv_wm p v K ιw); iexact HI
      iexact Ho
    isplitl [HO]; · iexact HO
    isplitl [HtS]; · iexact HtS
    isplitr; · iexact HrS
    isplitl [HtN]; · iexact HtN
    iexact HrN
  iintro ⟨HcS, HO⟩
  iapply Hk
  isplitl [HO]; · iexact HO
  isplitl [HaS]; · iexact HaS
  isplitl [HaV]; · iexact HaV
  isplitl [HcS] <;> iassumption

include hA in
/-- Starting a kept chunk: the local copy's cell gets the source's share and the own buffer, written. -/
theorem keep_start {k : ℕ} (hk : k < 17) (ha : p.aK k = true) {α : Type} {Q : α → sProp 𝕄}
    {h1 : (slc srcM (p.kR c k) (p.hk c k)).view.WordExact} {h2 : (slc outM (p.kR c k) (p.hk c k)).view.WordExact}
    {h3 : DmaTarget.Typed (nD := nD) (τ := τ) (p := .tc) .hbm (.dma (copyS k)) (.here (slc outM (p.kR c k) (p.hk c k)))}
    {cont : PUnit → Prog (TpuEff nD τ sig (Elt F) Λ₀ .tc) α} :
    iprop(invs p v K ιw ∗ Kp0 p v c k)
      ⊢ iprop((Kp1 c k -∗ wp frame (wpE (defs₀ (F := F)) 𝒱₀ c none) Set.univ (cont ⟨⟩) Q)
          -∗ wp frame (wpE (defs₀ (F := F)) 𝒱₀ c none) Set.univ
            (.op (.enqueueDma (slc srcM (p.kR c k) (p.hk c k)) (.here (slc outM (p.kR c k) (p.hk c k))) (.dma (copyS k)) h1 h2 h3) cont) Q) := by
  unfold Kp0 Kp1 srcPt
  iintro ⟨#HI, Hs, Ho, Ht, #Hr, Ha⟩ Hk
  iapply (Rounds.wp_copy 𝒱₀ ER (swapRd p v) (c : Thread nD τ) none (src := slc srcM (p.kR c k) (p.hk c k)) (dst := slc outM (p.kR c k) (p.hk c k)) (sem := .dma (copyS k)) (q := tK k) (fs := v.xs c)
      (κ := K (copyCell c k)) (r := 0) (d := ()) (R := outTo v (tK k) c (rowsAt c (p.kR c k) (p.hk c k)))
      (by rw [duties_copy p v c hk ha]; exact Finset.mem_singleton_self _) () N (credit_out _ _) (amount_dma p v c () _)
      (by rw [payload_copy p v c () hk]; exact BI.Entails.refl _)) $$ [Hs Ho Ht]
  · isplitr; · iapply (inv_at p v K ιw (own_mem c (by omega))); iexact HI
    isplitl [Hs]; · iexact Hs
    isplitl [Ho]
    · have hu := willBeTo_writeUpdate (emb := wmE) (ιwm := ιw) (Ix := Unit) (Lvl := ℕ) (c : Thread nD τ) (v := (slc outM (p.kR c k) (p.hk c k)).view)
        (w := (slc srcM (p.kR c k) (p.hk c k)).view.read (Elt F) (v.xs c)) (S := Finset.univ) (q := tK k) (f := v.fo c) (g := v.g c) (W := ∅)
        (Finset.subset_univ _) (hA.keep c k hk ha)
      rw [Finset.empty_union] at hu
      unfold outTo
      iapply hu
      isplitr; · iapply (inv_wm p v K ιw); iexact HI
      iexact Ho
    isplitl [Ht]; · iexact Ht
    iexact Hr
  iintro Hc
  iapply Hk
  isplitl [Ha] <;> iassumption

/-- Waiting for a kept chunk. -/
theorem keep_wait {k : ℕ} (hk : k < 17) (ha : p.aK k = true) {α : Type} {Q : α → sProp 𝕄} {W : Waits sig Unit}
    {r : ℕ} {hr : r + 256 ≤ 4096}
    {h1 : (slc srcM r hr).view.WordExact} {h2 : (slc outM r hr).view.WordExact}
    {cont : PUnit → Prog (TpuEff nD τ sig (Elt F) Λ₀ .tc) α} :
    iprop(invs p v K ιw ∗ owes (c : Thread nD τ) 0 W ∗ Kp1 c k)
      ⊢ iprop((((∃ W, owes (c : Thread nD τ) 0 W) ∗ Kp2 p v c k) -∗ wp frame (wpE (defs₀ (F := F)) 𝒱₀ c none) Set.univ (cont ⟨⟩) Q)
          -∗ wp frame (wpE (defs₀ (F := F)) 𝒱₀ c none) Set.univ
            (.op (.waitDma2 (copyS k) (slc srcM r hr) (slc outM r hr) h1 h2) cont) Q) := by
  unfold Kp1 Kp2
  iintro ⟨#HI, HO, Ha, Hc⟩ Hk
  iapply (Rounds.wp_wait_rest_token 𝒱₀ ER (swapRd p v) (c : Thread nD τ) none (κ := K (copyCell c k))
      (wpE_waitDma2_eq (sem := copyS k) (src := slc srcM r hr) (dst := slc outM r hr) 𝒱₀ (c : Thread nD τ) none Set.univ) (Set.mem_univ _) () (O := 0) (W := W) (R := 0) (m := 0) (T := ∅)
      ((Nat.zero_add _).trans ((credit_out r hr).trans (expect_of p v (duties_copy p v c hk ha) (amount_dma p v c () _)).symm))) $$ [Hc HO Ha]
  · isplitr; · iapply (inv_at p v K ιw (own_mem c (by omega))); iexact HI
    isplitl [Hc]; · rw [credit_out]; iexact Hc
    isplitl [HO]; · iexact HO
    isplitr; · rw [MayWait_zero]; iempintro
    iexact Ha
  iintro ⟨HO, Ha, -, Hpay⟩
  ihave Hp := (Entails.of_eq (rest_of p v (duties_copy p v c hk ha) (payload_copy p v c () hk))) $$ Hpay
  iapply Hk
  isplitl [HO]; · iexists _; iexact HO
  isplitl [Ha] <;> iassumption

/-- Waiting for an exchanged chunk: first that the own chunk has left, then that the other device's has arrived. -/
theorem swap_wait {k : ℕ} (hk : k < 17) (ha : p.aS k = true) {α : Type} {Q : α → sProp 𝕄} {W : Waits sig Unit}
    {r : ℕ} {hr : r + 256 ≤ 4096}
    {h1 : (slc outM r hr).view.WordExact} {h2 : (slc srcM r hr).view.WordExact}
    {h3 : (slc srcM r hr).view.WordExact} {h4 : (slc outM r hr).view.WordExact}
    {cont : PUnit → Prog (TpuEff nD τ sig (Elt F) Λ₀ .tc) α} :
    iprop(invs p v K ιw ∗ owes (c : Thread nD τ) 0 W ∗ Sw1 c k)
      ⊢ iprop((((∃ W, owes (c : Thread nD τ) 0 W) ∗ Sw2 p v c k) -∗ wp frame (wpE (defs₀ (F := F)) 𝒱₀ c none) Set.univ (cont ⟨⟩) Q)
          -∗ wp frame (wpE (defs₀ (F := F)) 𝒱₀ c none) Set.univ
            (.op (.waitDma2 (sendS k) (slc outM r hr) (slc srcM r hr) h1 h2) fun _ =>
              .op (.waitDma2 (recvS k) (slc srcM r hr) (slc outM r hr) h3 h4) cont) Q) := by
  unfold Sw1 Sw2
  iintro ⟨#HI, HO, HaS, HaV, HcS, HcV⟩ Hk
  iapply (Rounds.wp_wait_rest_token 𝒱₀ ER (swapRd p v) (c : Thread nD τ) none (κ := K (sendCell c k))
      (wpE_waitDma2_eq (sem := sendS k) (src := slc outM r hr) (dst := slc srcM r hr) 𝒱₀ (c : Thread nD τ) none Set.univ) (Set.mem_univ _) () (O := 0) (W := W) (R := 0) (m := 0) (T := ∅)
      ((Nat.zero_add _).trans ((credit_src r hr).trans (expect_of p v (duties_send p v c hk ha) (amount_dma p v c () _)).symm))) $$ [HcS HO HaS]
  · isplitr; · iapply (inv_at p v K ιw (own_mem c (by omega))); iexact HI
    isplitl [HcS]; · rw [credit_src]; iexact HcS
    isplitl [HO]; · iexact HO
    isplitr; · rw [MayWait_zero]; iempintro
    iexact HaS
  iintro ⟨HO, HaS, -, Hpay⟩
  ihave Hp := (Entails.of_eq (rest_of p v (duties_send p v c hk ha) (payload_send p v c () hk))) $$ Hpay
  iapply (Rounds.wp_wait_rest_token 𝒱₀ ER (swapRd p v) (c : Thread nD τ) none (κ := K (recvCell c k))
      (wpE_waitDma2_eq (sem := recvS k) (src := slc srcM r hr) (dst := slc outM r hr) 𝒱₀ (c : Thread nD τ) none Set.univ) (Set.mem_univ _) () (O := 0) (R := 0) (m := 0) (T := ∅)
      ((Nat.zero_add _).trans ((credit_out r hr).trans (expect_of p v (duties_recv p v c hk ha) (amount_dma p v c () _)).symm))) $$ [HcV HO HaV]
  · isplitr; · iapply (inv_at p v K ιw (own_mem c (by omega))); iexact HI
    isplitl [HcV]; · rw [credit_out]; iexact HcV
    isplitl [HO]; · iexact HO
    isplitr; · rw [MayWait_zero]; iempintro
    iexact HaV
  iintro ⟨HO, HaV, -, Hpay⟩
  ihave Hq := (Entails.of_eq (rest_of p v (duties_recv p v c hk ha) (payload_recv p v c () hk))) $$ Hpay
  iapply Hk
  isplitl [HO]; · iexists _; iexact HO
  isplitl [HaS]; · iexact HaS
  isplitl [HaV]; · iexact HaV
  isplitl [Hp] <;> iassumption

end Cert.SwapProof

end
-- ==== Proof.Body.lean ====
/-
  The kernel's state after n of its 68 conditional steps, and one lemma for each kind of step in the form in which the
  body has it: under its condition, at its computed offset.
-/
module

public import proofs.«01_k».proof.Proof.Steps

@[expose] public section

noncomputable section

namespace Cert.SwapProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ (UU F) ℕ

variable (p : Plan) (v : Cont F)

/-- Chunk k's share of the state of the exchange after n steps. -/
def SwSt (c : Dev nD) (n k : ℕ) : sProp 𝕄 :=
  if p.aS k then (if n ≤ k then Sw0 p v c k else if n ≤ 51 + k then Sw1 c k else Sw2 p v c k) else iprop(emp)
/-- … and of the kept chunks. -/
def KpSt (c : Dev nD) (n k : ℕ) : sProp 𝕄 :=
  if p.aK k then (if n ≤ 17 + k then Kp0 p v c k else if n ≤ 34 + k then Kp1 c k else Kp2 p v c k) else iprop(emp)

/-- The state after n steps, beside R. -/
def St (K : GSem nD τ sig → ℕ) (ιw : ℕ) (R : sProp 𝕄) (c : Dev nD) (n : ℕ) : sProp 𝕄 :=
  iprop(invs p v K ιw ∗ R ∗ (∃ W, owes (c : Thread nD τ) (Ofrom p c n) W)
    ∗ bigSep (Finset.range 17) (SwSt p v c n) ∗ bigSep (Finset.range 17) (KpSt p v c n))

omit [FloatOps F] in
/-- Take one factor out of a product over a finite set and put back another one in its place. -/
theorem upd {s : Finset ℕ} {k : ℕ} (hk : k ∈ s) {Φ Ψ : ℕ → sProp 𝕄} {A B : sProp 𝕄}
    (hΦ : Φ k = A) (hΨ : Ψ k = B) (h : ∀ j ∈ s, j ≠ k → Ψ j = Φ j) :
    bigSep s Φ ⊢ iprop(A ∗ (B -∗ bigSep s Ψ)) := by
  have e1 : bigSep s Φ ⊢ iprop(A ∗ bigSep (s.erase k) Ψ) :=
    Entails.of_eq ((bigSep_erase hk).trans (by
      rw [hΦ, bigSep_congr (Ψ := Ψ) fun j hj => (h j (Finset.mem_of_mem_erase hj) (Finset.ne_of_mem_erase hj)).symm]; rfl))
  have e2 : iprop(B ∗ bigSep (s.erase k) Ψ) ⊢ bigSep s Ψ := Entails.of_eq (by rw [← hΨ]; exact (bigSep_erase hk).symm)
  refine e1.trans ?_
  iintro ⟨HA, HR⟩
  isplitl [HA]; · iexact HA
  iintro HB
  iapply e2
  isplitl [HB] <;> iassumption

variable {p v}
variable {c : Dev nD} {K : GSem nD τ sig → ℕ} {ιw : ℕ} (hA : Adm p v)

/-- A step that is neither the start nor the wait of an exchanged chunk leaves that chunk's state. -/
theorem Sw_same {n k : ℕ} (h1 : n ≠ k) (h2 : n ≠ 51 + k) : SwSt p v c (n + 1) k = SwSt p v c n k := by
  unfold SwSt
  rw [if_congr (show n + 1 ≤ k ↔ n ≤ k from ⟨fun h => by omega, fun h => by omega⟩) rfl rfl,
    if_congr (show n + 1 ≤ 51 + k ↔ n ≤ 51 + k from ⟨fun h => by omega, fun h => by omega⟩) rfl rfl]
/-- A step that is neither the start nor the wait of a kept chunk leaves that chunk's state. -/
theorem Kp_same {n k : ℕ} (h1 : n ≠ 17 + k) (h2 : n ≠ 34 + k) : KpSt p v c (n + 1) k = KpSt p v c n k := by
  unfold KpSt
  rw [if_congr (show n + 1 ≤ 17 + k ↔ n ≤ 17 + k from ⟨fun h => by omega, fun h => by omega⟩) rfl rfl,
    if_congr (show n + 1 ≤ 34 + k ↔ n ≤ 34 + k from ⟨fun h => by omega, fun h => by omega⟩) rfl rfl]
/-- A chunk that is not exchanged has the same state after every step. -/
theorem Sw_off {n k : ℕ} (ha : p.aS k = false) : SwSt p v c (n + 1) k = SwSt p v c n k := by
  unfold SwSt; rw [ha]; rfl
/-- A chunk that is not kept has the same state after every step. -/
theorem Kp_off {n k : ℕ} (ha : p.aK k = false) : KpSt p v c (n + 1) k = KpSt p v c n k := by
  unfold KpSt; rw [ha]; rfl

/-- A step that starts no transfer to the other device leaves what the core owes. -/
theorem Ofrom_step' {n k : ℕ} (h : n = k ∨ 17 ≤ n) (ha : p.aS k = false) : Ofrom p c (n + 1) = Ofrom p c n := by
  rcases h with rfl | h
  · exact (Ofrom_skip p c ha).symm
  · rw [Ofrom_end p c h, Ofrom_end p c (by omega)]

/-- A step of the exchange that is not taken changes nothing; -/
theorem St_off_sw {R : sProp 𝕄} {n k : ℕ} (hk : k < 17) (hn : n = k ∨ n = 51 + k) (ha : p.aS k = false) : St p v K ιw R c n = St p v K ιw R c (n + 1) := by
  unfold St
  rw [Ofrom_step' (k := k) (by omega) ha]
  congr 4
  · refine bigSep_congr fun j hj => ?_
    have hj := Finset.mem_range.mp hj
    by_cases e : j = k
    · subst e; exact (Sw_off ha).symm
    · exact (Sw_same (by omega) (by omega)).symm
  · exact bigSep_congr fun j hj => (by
      have hj := Finset.mem_range.mp hj
      exact (Kp_same (by omega) (by omega)).symm)
/-- nor does one of the kept chunks. -/
theorem St_off_kp {R : sProp 𝕄} {n k : ℕ} (hk : k < 17) (hn : n = 17 + k ∨ n = 34 + k) (ha : p.aK k = false) : St p v K ιw R c n = St p v K ιw R c (n + 1) := by
  unfold St
  rw [Ofrom_end p c (show 17 ≤ n by omega), Ofrom_end p c (show 17 ≤ n + 1 by omega)]
  congr 4
  · exact bigSep_congr fun j hj => (by
      have hj := Finset.mem_range.mp hj
      exact (Sw_same (by omega) (by omega)).symm)
  · refine bigSep_congr fun j hj => ?_
    have hj := Finset.mem_range.mp hj
    by_cases e : j = k
    · subst e; exact (Kp_off ha).symm
    · exact (Kp_same (by omega) (by omega)).symm

abbrev Pg (F : FTy → Type) (α : Type) : Type 1 := Prog (TpuEff nD τ sig (Elt F) Λ₀ .tc) α

abbrev at3 (r : ℕ) : Fin 3 → ℕ := ![r, 0, 0]

include hA in
/-- The guarded start of an exchanged chunk's transfer takes the state after n steps to the state after n + 1. -/
theorem step_swap_start {R : sProp 𝕄} {n k : ℕ} (hn : n = k) (hk : k < 17) {cnd : BitVec 1} (hc : cnd = 1#1 ↔ p.aS k = true)
    {s s' : DmaSem sig} (hs : s = sendS k) (hs' : s' = recvS k) {dv : Dev nD} (hd : dv = pr c)
    {off off' : Fin 3 → ℕ} (ho : cnd = 1#1 → off = at3 (p.sR c k)) (ho' : cnd = 1#1 → off' = at3 (p.dR c k))
    {hb : cnd = 1#1 → ∀ a, off a + S256x8x128.size a ≤ S4096x8x128.size a} {hb' : cnd = 1#1 → ∀ a, off' a + S256x8x128.size a ≤ S4096x8x128.size a}
    {hsc : ∀ h, (outM.slice (Rect.unit (s := S4096x8x128) off' S256x8x128.size (hb' h)) (fun _ => rfl)).view.ref.isScScratch = false}
    {h1 : ∀ h, (srcM.slice (Rect.unit (s := S4096x8x128) off S256x8x128.size (hb h)) (fun _ => rfl)).view.WordExact}
    {h2 : ∀ h, (outM.slice (Rect.unit (s := S4096x8x128) off' S256x8x128.size (hb' h)) (fun _ => rfl)).view.WordExact}
    {h3 : ∀ h, DmaTarget.Typed .hbm (.dma s') (.remote (Dev.tc dv : Thread nD τ) (outM.slice (Rect.unit (s := S4096x8x128) off' S256x8x128.size (hb' h)) (fun _ => rfl)) (.dma s) (hsc h))}
    [hdec : Decidable (cnd = 1#1)] {α : Type} {Q : α → sProp 𝕄} {rest : Pg F α}
    (H : St p v K ιw R c (n + 1) ⊢ wp frame (wpE (defs₀ (F := F)) 𝒱₀ c none) Set.univ rest Q) :
    St p v K ιw R c n ⊢ wp frame (wpE (defs₀ (F := F)) 𝒱₀ c none) Set.univ
      (if h : cnd = 1#1 then
        (Prog.lift (.enqueueDma (srcM.slice (Rect.unit (s := S4096x8x128) off S256x8x128.size (hb h)) (fun _ => rfl))
          (.remote (Dev.tc dv : Thread nD τ) (outM.slice (Rect.unit (s := S4096x8x128) off' S256x8x128.size (hb' h)) (fun _ => rfl)) (.dma s) (hsc h)) (.dma s') (h1 h) (h2 h) (h3 h)) : Pg F PUnit) >>= fun _ => rest
       else rest) Q := by
  subst hn
  cases ha : p.aS n with
  | false =>
    rw [dif_neg (fun h => by have := hc.mp h; rw [ha] at this; exact Bool.false_ne_true this), St_off_sw hk (.inl rfl) ha]
    exact H
  | true =>
    have hcnd := hc.mpr ha
    rw [dif_pos hcnd]
    have e1 := ho hcnd; have e2 := ho' hcnd
    subst e1 e2 hs hs' hd
    change _ ⊢ wp frame (wpE (defs₀ (F := F)) 𝒱₀ c none) Set.univ (Prog.op (.enqueueDma (slc srcM (p.sR c n) (p.hs c n))
          (.remote (pr c : Thread nD τ) (slc outM (p.dR c n) (p.hd c n)) (.dma (sendS n)) (hsc hcnd)) (.dma (recvS n)) (h1 hcnd) (h2 hcnd) (h3 hcnd)) fun _ => rest) Q
    unfold St at H ⊢
    iintro ⟨#HI, HR, ⟨%W, HO⟩, HS, HK⟩
    ihave HS := (upd (Ψ := SwSt p v c (n + 1)) (A := Sw0 p v c n) (B := Sw1 c n) (Finset.mem_range.mpr hk)
      (by unfold SwSt; rw [if_pos ha, if_pos (Nat.le_refl n)]) (by unfold SwSt; rw [if_pos ha, if_neg (by omega), if_pos (by omega)])
      (fun j hm hj => by
        have hm := Finset.mem_range.mp hm
        exact Sw_same (by omega) (by omega))) $$ HS
    icases HS with ⟨HS0, HSr⟩
    iapply (swap_start hA K ιw c hk ha) $$ [HO HS0]
    · isplitr; · iexact HI
      isplitl [HO] <;> iassumption
    iintro ⟨HO, HS1⟩
    iapply H
    isplitr; · iexact HI
    isplitl [HR]; · iexact HR
    isplitl [HO]; · iexists _; iexact HO
    isplitl [HSr HS1]; · iapply HSr; iexact HS1
    rw [bigSep_congr (Ψ := KpSt p v c n) fun j hj => Kp_same (n := n) (by omega) (by omega)]
    iexact HK

include hA in
/-- The guarded start of a kept chunk's copy takes the state after n steps to the state after n + 1. -/
theorem step_keep_start {R : sProp 𝕄} {n k : ℕ} (hn : n = 17 + k) (hk : k < 17) {cnd : BitVec 1} (hc : cnd = 1#1 ↔ p.aK k = true)
    {s : DmaSem sig} (hs : s = copyS k)
    {off : Fin 3 → ℕ} (ho : cnd = 1#1 → off = at3 (p.kR c k))
    {hb : cnd = 1#1 → ∀ a, off a + S256x8x128.size a ≤ S4096x8x128.size a}
    {h1 : ∀ h, (srcM.slice (Rect.unit (s := S4096x8x128) off S256x8x128.size (hb h)) (fun _ => rfl)).view.WordExact}
    {h2 : ∀ h, (outM.slice (Rect.unit (s := S4096x8x128) off S256x8x128.size (hb h)) (fun _ => rfl)).view.WordExact}
    {h3 : ∀ h, DmaTarget.Typed (nD := nD) (τ := τ) (p := .tc) .hbm (.dma s) (.here (outM.slice (Rect.unit (s := S4096x8x128) off S256x8x128.size (hb h)) (fun _ => rfl)))}
    [hdec : Decidable (cnd = 1#1)] {α : Type} {Q : α → sProp 𝕄} {rest : Pg F α}
    (H : St p v K ιw R c (n + 1) ⊢ wp frame (wpE (defs₀ (F := F)) 𝒱₀ c none) Set.univ rest Q) :
    St p v K ιw R c n ⊢ wp frame (wpE (defs₀ (F := F)) 𝒱₀ c none) Set.univ
      (if h : cnd = 1#1 then
        (Prog.lift (.enqueueDma (srcM.slice (Rect.unit (s := S4096x8x128) off S256x8x128.size (hb h)) (fun _ => rfl))
          (.here (outM.slice (Rect.unit (s := S4096x8x128) off S256x8x128.size (hb h)) (fun _ => rfl))) (.dma s) (h1 h) (h2 h) (h3 h)) : Pg F PUnit) >>= fun _ => rest
       else rest) Q := by
  cases ha : p.aK k with
  | false =>
    rw [dif_neg (fun h => by have := hc.mp h; rw [ha] at this; exact Bool.false_ne_true this), St_off_kp hk (.inl hn) ha]
    exact H
  | true =>
    have hcnd := hc.mpr ha
    rw [dif_pos hcnd]
    have e1 := ho hcnd
    subst e1 hs
    change _ ⊢ wp frame (wpE (defs₀ (F := F)) 𝒱₀ c none) Set.univ (Prog.op (.enqueueDma (slc srcM (p.kR c k) (p.hk c k))
          (.here (slc outM (p.kR c k) (p.hk c k))) (.dma (copyS k)) (h1 hcnd) (h2 hcnd) (h3 hcnd)) fun _ => rest) Q
    unfold St at H ⊢
    rw [Ofrom_end p c (show 17 ≤ n + 1 by omega)] at H
    rw [Ofrom_end p c (show 17 ≤ n by omega)]
    iintro ⟨#HI, HR, HO, HS, HK⟩
    ihave HK := (upd (Ψ := KpSt p v c (n + 1)) (A := Kp0 p v c k) (B := Kp1 c k) (Finset.mem_range.mpr hk)
      (by unfold KpSt; rw [if_pos ha, if_pos (by omega)]) (by unfold KpSt; rw [if_pos ha, if_neg (by omega), if_pos (by omega)])
      (fun j hm hj => by
        have hm := Finset.mem_range.mp hm
        exact Kp_same (by omega) (by omega))) $$ HK
    icases HK with ⟨HK0, HKr⟩
    iapply (keep_start hA K ιw c hk ha) $$ [HK0]
    · isplitr; · iexact HI
      iexact HK0
    iintro HK1
    iapply H
    isplitr; · iexact HI
    isplitl [HR]; · iexact HR
    isplitl [HO]; · iexact HO
    isplitl [HS]
    · rw [bigSep_congr (Ψ := SwSt p v c n) fun j hj => Sw_same (n := n) (by have := Finset.mem_range.mp hj; omega) (by omega)]
      iexact HS
    · iapply HKr; iexact HK1

/-- The guarded wait for a kept chunk's copy takes the state after n steps to the state after n + 1. -/
theorem step_keep_wait {R : sProp 𝕄} {n k : ℕ} (hn : n = 34 + k) (hk : k < 17) {cnd : BitVec 1} (hc : cnd = 1#1 ↔ p.aK k = true)
    {s : DmaSem sig} (hs : s = copyS k) {r : ℕ} (hr : r + 256 ≤ 4096)
    {off : Fin 3 → ℕ} (ho : cnd = 1#1 → off = at3 r)
    {hb : cnd = 1#1 → ∀ a, off a + S256x8x128.size a ≤ S4096x8x128.size a}
    {h1 : ∀ h, (srcM.slice (Rect.unit (s := S4096x8x128) off S256x8x128.size (hb h)) (fun _ => rfl)).view.WordExact}
    {h2 : ∀ h, (outM.slice (Rect.unit (s := S4096x8x128) off S256x8x128.size (hb h)) (fun _ => rfl)).view.WordExact}
    [hdec : Decidable (cnd = 1#1)] {α : Type} {Q : α → sProp 𝕄} {rest : Pg F α}
    (H : St p v K ιw R c (n + 1) ⊢ wp frame (wpE (defs₀ (F := F)) 𝒱₀ c none) Set.univ rest Q) :
    St p v K ιw R c n ⊢ wp frame (wpE (defs₀ (F := F)) 𝒱₀ c none) Set.univ
      (if h : cnd = 1#1 then
        (Prog.lift (.waitDma2 s (srcM.slice (Rect.unit (s := S4096x8x128) off S256x8x128.size (hb h)) (fun _ => rfl))
          (outM.slice (Rect.unit (s := S4096x8x128) off S256x8x128.size (hb h)) (fun _ => rfl)) (h1 h) (h2 h)) : Pg F PUnit) >>= fun _ => rest
       else rest) Q := by
  cases ha : p.aK k with
  | false =>
    rw [dif_neg (fun h => by have := hc.mp h; rw [ha] at this; exact Bool.false_ne_true this), St_off_kp hk (.inr hn) ha]
    exact H
  | true =>
    have hcnd := hc.mpr ha
    rw [dif_pos hcnd]
    have e1 := ho hcnd
    subst e1 hs
    change _ ⊢ wp frame (wpE (defs₀ (F := F)) 𝒱₀ c none) Set.univ (Prog.op (.waitDma2 (copyS k) (slc srcM r hr)
          (slc outM r hr) (h1 hcnd) (h2 hcnd)) fun _ => rest) Q
    unfold St at H ⊢
    rw [Ofrom_end p c (show 17 ≤ n + 1 by omega)] at H
    rw [Ofrom_end p c (show 17 ≤ n by omega)]
    iintro ⟨#HI, HR, ⟨%W, HO⟩, HS, HK⟩
    ihave HK := (upd (Ψ := KpSt p v c (n + 1)) (A := Kp1 c k) (B := Kp2 p v c k) (Finset.mem_range.mpr hk)
      (by unfold KpSt; rw [if_pos ha, if_neg (by omega), if_pos (by omega)]) (by unfold KpSt; rw [if_pos ha, if_neg (by omega), if_neg (by omega)])
      (fun j hm hj => by
        have hm := Finset.mem_range.mp hm
        exact Kp_same (by omega) (by omega))) $$ HK
    icases HK with ⟨HK0, HKr⟩
    iapply (keep_wait K ιw c hk ha) $$ [HO HK0]
    · isplitr; · iexact HI
      isplitl [HO] <;> iassumption
    iintro ⟨HO, HK1⟩
    iapply H
    isplitr; · iexact HI
    isplitl [HR]; · iexact HR
    isplitl [HO]; · iexact HO
    isplitl [HS]
    · rw [bigSep_congr (Ψ := SwSt p v c n) fun j hj => Sw_same (n := n) (by have := Finset.mem_range.mp hj; omega) (by omega)]
      iexact HS
    · iapply HKr; iexact HK1

/-- The guarded waits for an exchanged chunk, sent and received, take the state after n steps to the state after n + 1. -/
theorem step_swap_wait {R : sProp 𝕄} {n k : ℕ} (hn : n = 51 + k) (hk : k < 17) {cnd : BitVec 1} (hc : cnd = 1#1 ↔ p.aS k = true)
    {s s' : DmaSem sig} (hs : s = sendS k) (hs' : s' = recvS k) {r : ℕ} (hr : r + 256 ≤ 4096)
    {off : Fin 3 → ℕ} (ho : cnd = 1#1 → off = at3 r)
    {hb : cnd = 1#1 → ∀ a, off a + S256x8x128.size a ≤ S4096x8x128.size a}
    {h1 : ∀ h, (srcM.slice (Rect.unit (s := S4096x8x128) off S256x8x128.size (hb h)) (fun _ => rfl)).view.WordExact}
    {h2 : ∀ h, (outM.slice (Rect.unit (s := S4096x8x128) off S256x8x128.size (hb h)) (fun _ => rfl)).view.WordExact}
    [hdec : Decidable (cnd = 1#1)] {α : Type} {Q : α → sProp 𝕄} {rest : Pg F α}
    (H : St p v K ιw R c (n + 1) ⊢ wp frame (wpE (defs₀ (F := F)) 𝒱₀ c none) Set.univ rest Q) :
    St p v K ιw R c n ⊢ wp frame (wpE (defs₀ (F := F)) 𝒱₀ c none) Set.univ
      (if h : cnd = 1#1 then
        (Prog.lift (.waitDma2 s (outM.slice (Rect.unit (s := S4096x8x128) off S256x8x128.size (hb h)) (fun _ => rfl))
          (srcM.slice (Rect.unit (s := S4096x8x128) off S256x8x128.size (hb h)) (fun _ => rfl)) (h2 h) (h1 h)) : Pg F PUnit) >>= fun _ =>
        (Prog.lift (.waitDma2 s' (srcM.slice (Rect.unit (s := S4096x8x128) off S256x8x128.size (hb h)) (fun _ => rfl))
          (outM.slice (Rect.unit (s := S4096x8x128) off S256x8x128.size (hb h)) (fun _ => rfl)) (h1 h) (h2 h)) : Pg F PUnit) >>= fun _ => rest
       else rest) Q := by
  cases ha : p.aS k with
  | false =>
    rw [dif_neg (fun h => by have := hc.mp h; rw [ha] at this; exact Bool.false_ne_true this), St_off_sw hk (.inr hn) ha]
    exact H
  | true =>
    have hcnd := hc.mpr ha
    rw [dif_pos hcnd]
    have e1 := ho hcnd
    subst e1 hs hs'
    change _ ⊢ wp frame (wpE (defs₀ (F := F)) 𝒱₀ c none) Set.univ (Prog.op (.waitDma2 (sendS k) (slc outM r hr)
          (slc srcM r hr) (h2 hcnd) (h1 hcnd)) fun _ => Prog.op (.waitDma2 (recvS k) (slc srcM r hr)
          (slc outM r hr) (h1 hcnd) (h2 hcnd)) fun _ => rest) Q
    unfold St at H ⊢
    rw [Ofrom_end p c (show 17 ≤ n + 1 by omega)] at H
    rw [Ofrom_end p c (show 17 ≤ n by omega)]
    iintro ⟨#HI, HR, ⟨%W, HO⟩, HS, HK⟩
    ihave HS := (upd (Ψ := SwSt p v c (n + 1)) (A := Sw1 c k) (B := Sw2 p v c k) (Finset.mem_range.mpr hk)
      (by unfold SwSt; rw [if_pos ha, if_neg (by omega), if_pos (by omega)]) (by unfold SwSt; rw [if_pos ha, if_neg (by omega), if_neg (by omega)])
      (fun j hm hj => by
        have hm := Finset.mem_range.mp hm
        exact Sw_same (by omega) (by omega))) $$ HS
    icases HS with ⟨HS0, HSr⟩
    iapply (swap_wait K ιw c hk ha) $$ [HO HS0]
    · isplitr; · iexact HI
      isplitl [HO] <;> iassumption
    iintro ⟨HO, HS1⟩
    iapply H
    isplitr; · iexact HI
    isplitl [HR]; · iexact HR
    isplitl [HO]; · iexact HO
    isplitl [HSr HS1]
    · iapply HSr; iexact HS1
    · rw [bigSep_congr (Ψ := KpSt p v c n) fun j hj => Kp_same (n := n) (by have := Finset.mem_range.mp hj; omega) (by have := Finset.mem_range.mp hj; omega)]
      iexact HK

end Cert.SwapProof

end
-- ==== Proof.Cond.lean ====
/-
  The kernel's conditions, offsets, device numbers, semaphores and side conditions at words of which L is known to lie
  between 1792 and 2048: seven whole chunks and a last one are exchanged, eight whole chunks and a last one are kept.
-/
module

public import proofs.«01_k».proof.Proof.Body

@[expose] public section

namespace Cert.SwapProof

open Cert.KernelIdeal Cert.KernelIdeal.Gen
open Idealize.ShloMosaic
open Idealize.ShloMosaic.TcCoe

/-- The four numbers of every device: how many rows it gives away, where they begin, where they land on the other
    device, where the kept rows begin. -/
structure Nums where
  L : Dev nD → ℕ
  S : Dev nD → ℕ
  D : Dev nD → ℕ
  K : Dev nD → ℕ
  hL : ∀ c, 1792 < L c ∧ L c < 2048
  hS : ∀ c, S c + L c ≤ 4096
  hD : ∀ c, D c + L c ≤ 4096
  hK : ∀ c, K c ≤ L c

/-- Seven whole chunks and the last one are exchanged; -/
def actS (k : ℕ) : Bool := decide (k < 7 ∨ k = 16)
/-- eight whole chunks and the last one are kept. -/
def actK (k : ℕ) : Bool := decide (k < 8 ∨ k = 16)

/-- Where chunk k of a run of n whole chunks beginning at a and ending at e begins: the last one is flush with the end. -/
def chunkAt (n a e k : ℕ) : ℕ := if k < n then a + 256 * k else if k = 16 then e - 256 else 0

/-- A chunk of a run that fits in the array fits in the array. -/
theorem chunkAt_le {n a e k : ℕ} (h : a + 256 * n ≤ e) (he : e ≤ 4096) (h2 : 256 ≤ e) : chunkAt n a e k + 256 ≤ 4096 := by
  unfold chunkAt; split
  · have := Nat.mul_le_mul_left 256 (Nat.succ_le_of_lt ‹k < n›); omega
  · split <;> omega

/-- The plan of the copies. -/
def Nums.plan (m : Nums) : Plan where
  aS := actS
  aK := actK
  sR c k := chunkAt 7 (m.S c) (m.S c + m.L c) k
  dR c k := chunkAt 7 (m.D c) (m.D c + m.L c) k
  kR c k := chunkAt 8 (m.K c) (m.K c + (4096 - m.L c)) k
  hs c k := chunkAt_le (by have := m.hL c; omega) (m.hS c) (by have := m.hL c; omega)
  hd c k := chunkAt_le (by have := m.hL c; omega) (m.hD c) (by have := m.hL c; omega)
  hk c k := chunkAt_le (by have := m.hL c; omega) (by have := m.hL c; have := m.hK c; omega) (by have := m.hL c; omega)

/-! ## Conditions -/

/-- The quotient by 256, rounded down, as the kernel computes it. -/
def fq (w : BitVec 32) : BitVec 32 :=
  Scalar.select (Scalar.andi (Scalar.cmpi .ne (Scalar.subi (Scalar.extui (Scalar.cmpi .sgt w 0#32) : BitVec 32) (Scalar.extui (Scalar.cmpi .slt w 0#32)))
      (Scalar.subi (Scalar.extui (Scalar.cmpi .sgt 256#32 0#32)) (Scalar.extui (Scalar.cmpi .slt 256#32 0#32))))
    (Scalar.cmpi .ne (Scalar.remsi w 256#32) 0#32)) (Scalar.subi (Scalar.divsi w 256#32) 1#32) (Scalar.divsi w 256#32)
/-- Whether there is a whole chunk i; -/
def gtC (i w : BitVec 32) : BitVec 1 := Scalar.cmpi .ne (Scalar.extui (Scalar.cmpi .sgt (fq w) i) : BitVec 32) 0#32
/-- whether there is a last one. -/
def tlC (w : BitVec 32) : BitVec 1 := Scalar.cmpi .ne (Scalar.extui (Scalar.cmpi .sgt (Scalar.subi w (Scalar.muli (fq w) 256#32)) 0#32) : BitVec 32) 0#32

/-- For every count in question, the rows sent away have seven whole chunks and a last one, the kept rows eight and a last one. -/
theorem fq_sw : ∀ i : Fin 255, fq (BitVec.ofNat 32 (1793 + i.val)) = 7#32 ∧ tlC (BitVec.ofNat 32 (1793 + i.val)) = 1#1
    ∧ fq (Scalar.subi 4096#32 (BitVec.ofNat 32 (1793 + i.val))) = 8#32 ∧ tlC (Scalar.subi 4096#32 (BitVec.ofNat 32 (1793 + i.val))) = 1#1 := by decide +kernel

variable (m : Nums) (c : Dev nD)

abbrev wL : BitVec 32 := BitVec.ofNat 32 (m.L c)
abbrev wS : BitVec 32 := BitVec.ofNat 32 (m.S c)
abbrev wD : BitVec 32 := BitVec.ofNat 32 (m.D c)
abbrev wK : BitVec 32 := BitVec.ofNat 32 (m.K c)

/-- `fq_sw` for the number of a device. -/
theorem fq_all : fq (wL m c) = 7#32 ∧ tlC (wL m c) = 1#1 ∧ fq (Scalar.subi 4096#32 (wL m c)) = 8#32 ∧ tlC (Scalar.subi 4096#32 (wL m c)) = 1#1 := by
  have h := fq_sw ⟨m.L c - 1793, by have := m.hL c; omega⟩
  have e : 1793 + (m.L c - 1793) = m.L c := by have := m.hL c; omega
  simp only [e] at h
  exact h

/-- Of seven whole chunks, chunk i is there exactly when the plan exchanges it. -/
theorem gtC7 : ∀ i : Fin 16, Scalar.cmpi .ne (Scalar.extui (Scalar.cmpi .sgt 7#32 (BitVec.ofNat 32 i.val)) : BitVec 32) 0#32 = 1#1 ↔ actS i.val = true := by decide +kernel
/-- Of eight whole chunks, chunk i is there exactly when the plan keeps it. -/
theorem gtC8 : ∀ i : Fin 16, Scalar.cmpi .ne (Scalar.extui (Scalar.cmpi .sgt 8#32 (BitVec.ofNat 32 i.val)) : BitVec 32) 0#32 = 1#1 ↔ actK i.val = true := by decide +kernel

/-- The condition for whole chunk i of the rows sent away is set exactly when the plan exchanges it. -/
theorem swC (i : Fin 16) : gtC (BitVec.ofNat 32 i.val) (wL m c) = 1#1 ↔ m.plan.aS i.val = true := by
  unfold gtC; rw [(fq_all m c).1]; exact gtC7 i
/-- The condition for whole chunk i of the kept rows is set exactly when the plan keeps it. -/
theorem kpC (i : Fin 16) : gtC (BitVec.ofNat 32 i.val) (Scalar.subi 4096#32 (wL m c)) = 1#1 ↔ m.plan.aK i.val = true := by
  unfold gtC; rw [(fq_all m c).2.2.1]; exact gtC8 i
/-- The condition for the last chunk of the rows sent away is set exactly when the plan exchanges it. -/
theorem swT : tlC (wL m c) = 1#1 ↔ m.plan.aS 16 = true := ⟨fun _ => rfl, fun _ => (fq_all m c).2.1⟩
/-- The condition for the last chunk of the kept rows is set exactly when the plan keeps it. -/
theorem kpT : tlC (Scalar.subi 4096#32 (wL m c)) = 1#1 ↔ m.plan.aK 16 = true := ⟨fun _ => rfl, fun _ => (fq_all m c).2.2.2⟩

/-- Condition 1 is set exactly when the plan exchanges chunk 0. -/
theorem c1 : k1_cond1 (wL m c) = 1#1 ↔ m.plan.aS 0 = true := swC m c ⟨0, by decide⟩
/-- Condition 2 is set exactly when the plan exchanges chunk 1. -/
theorem c2 : k1_cond2 (wL m c) = 1#1 ↔ m.plan.aS 1 = true := swC m c ⟨1, by decide⟩
/-- Condition 3 is set exactly when the plan exchanges chunk 2. -/
theorem c3 : k1_cond3 (wL m c) = 1#1 ↔ m.plan.aS 2 = true := swC m c ⟨2, by decide⟩
/-- Condition 4 is set exactly when the plan exchanges chunk 3. -/
theorem c4 : k1_cond4 (wL m c) = 1#1 ↔ m.plan.aS 3 = true := swC m c ⟨3, by decide⟩
/-- Condition 5 is set exactly when the plan exchanges chunk 4. -/
theorem c5 : k1_cond5 (wL m c) = 1#1 ↔ m.plan.aS 4 = true := swC m c ⟨4, by decide⟩
/-- Condition 6 is set exactly when the plan exchanges chunk 5. -/
theorem c6 : k1_cond6 (wL m c) = 1#1 ↔ m.plan.aS 5 = true := swC m c ⟨5, by decide⟩
/-- Condition 7 is set exactly when the plan exchanges chunk 6. -/
theorem c7 : k1_cond7 (wL m c) = 1#1 ↔ m.plan.aS 6 = true := swC m c ⟨6, by decide⟩
/-- Condition 8 is set exactly when the plan exchanges chunk 7. -/
theorem c8 : k1_cond8 (wL m c) = 1#1 ↔ m.plan.aS 7 = true := swC m c ⟨7, by decide⟩
/-- Condition 9 is set exactly when the plan exchanges chunk 8. -/
theorem c9 : k1_cond9 (wL m c) = 1#1 ↔ m.plan.aS 8 = true := swC m c ⟨8, by decide⟩
/-- Condition 10 is set exactly when the plan exchanges chunk 9. -/
theorem c10 : k1_cond10 (wL m c) = 1#1 ↔ m.plan.aS 9 = true := swC m c ⟨9, by decide⟩
/-- Condition 11 is set exactly when the plan exchanges chunk 10. -/
theorem c11 : k1_cond11 (wL m c) = 1#1 ↔ m.plan.aS 10 = true := swC m c ⟨10, by decide⟩
/-- Condition 12 is set exactly when the plan exchanges chunk 11. -/
theorem c12 : k1_cond12 (wL m c) = 1#1 ↔ m.plan.aS 11 = true := swC m c ⟨11, by decide⟩
/-- Condition 13 is set exactly when the plan exchanges chunk 12. -/
theorem c13 : k1_cond13 (wL m c) = 1#1 ↔ m.plan.aS 12 = true := swC m c ⟨12, by decide⟩
/-- Condition 14 is set exactly when the plan exchanges chunk 13. -/
theorem c14 : k1_cond14 (wL m c) = 1#1 ↔ m.plan.aS 13 = true := swC m c ⟨13, by decide⟩
/-- Condition 15 is set exactly when the plan exchanges chunk 14. -/
theorem c15 : k1_cond15 (wL m c) = 1#1 ↔ m.plan.aS 14 = true := swC m c ⟨14, by decide⟩
/-- Condition 16 is set exactly when the plan exchanges chunk 15. -/
theorem c16 : k1_cond16 (wL m c) = 1#1 ↔ m.plan.aS 15 = true := swC m c ⟨15, by decide⟩
/-- Condition 17 is set exactly when the plan exchanges chunk 16. -/
theorem c17 : k1_cond17 (wL m c) = 1#1 ↔ m.plan.aS 16 = true := swT m c
/-- Condition 18 is set exactly when the plan keeps chunk 0. -/
theorem c18 : k1_cond18 (wL m c) = 1#1 ↔ m.plan.aK 0 = true := kpC m c ⟨0, by decide⟩
/-- Condition 19 is set exactly when the plan keeps chunk 1. -/
theorem c19 : k1_cond19 (wL m c) = 1#1 ↔ m.plan.aK 1 = true := kpC m c ⟨1, by decide⟩
/-- Condition 20 is set exactly when the plan keeps chunk 2. -/
theorem c20 : k1_cond20 (wL m c) = 1#1 ↔ m.plan.aK 2 = true := kpC m c ⟨2, by decide⟩
/-- Condition 21 is set exactly when the plan keeps chunk 3. -/
theorem c21 : k1_cond21 (wL m c) = 1#1 ↔ m.plan.aK 3 = true := kpC m c ⟨3, by decide⟩
/-- Condition 22 is set exactly when the plan keeps chunk 4. -/
theorem c22 : k1_cond22 (wL m c) = 1#1 ↔ m.plan.aK 4 = true := kpC m c ⟨4, by decide⟩
/-- Condition 23 is set exactly when the plan keeps chunk 5. -/
theorem c23 : k1_cond23 (wL m c) = 1#1 ↔ m.plan.aK 5 = true := kpC m c ⟨5, by decide⟩
/-- Condition 24 is set exactly when the plan keeps chunk 6. -/
theorem c24 : k1_cond24 (wL m c) = 1#1 ↔ m.plan.aK 6 = true := kpC m c ⟨6, by decide⟩
/-- Condition 25 is set exactly when the plan keeps chunk 7. -/
theorem c25 : k1_cond25 (wL m c) = 1#1 ↔ m.plan.aK 7 = true := kpC m c ⟨7, by decide⟩
/-- Condition 26 is set exactly when the plan keeps chunk 8. -/
theorem c26 : k1_cond26 (wL m c) = 1#1 ↔ m.plan.aK 8 = true := kpC m c ⟨8, by decide⟩
/-- Condition 27 is set exactly when the plan keeps chunk 9. -/
theorem c27 : k1_cond27 (wL m c) = 1#1 ↔ m.plan.aK 9 = true := kpC m c ⟨9, by decide⟩
/-- Condition 28 is set exactly when the plan keeps chunk 10. -/
theorem c28 : k1_cond28 (wL m c) = 1#1 ↔ m.plan.aK 10 = true := kpC m c ⟨10, by decide⟩
/-- Condition 29 is set exactly when the plan keeps chunk 11. -/
theorem c29 : k1_cond29 (wL m c) = 1#1 ↔ m.plan.aK 11 = true := kpC m c ⟨11, by decide⟩
/-- Condition 30 is set exactly when the plan keeps chunk 12. -/
theorem c30 : k1_cond30 (wL m c) = 1#1 ↔ m.plan.aK 12 = true := kpC m c ⟨12, by decide⟩
/-- Condition 31 is set exactly when the plan keeps chunk 13. -/
theorem c31 : k1_cond31 (wL m c) = 1#1 ↔ m.plan.aK 13 = true := kpC m c ⟨13, by decide⟩
/-- Condition 32 is set exactly when the plan keeps chunk 14. -/
theorem c32 : k1_cond32 (wL m c) = 1#1 ↔ m.plan.aK 14 = true := kpC m c ⟨14, by decide⟩
/-- Condition 33 is set exactly when the plan keeps chunk 15. -/
theorem c33 : k1_cond33 (wL m c) = 1#1 ↔ m.plan.aK 15 = true := kpC m c ⟨15, by decide⟩
/-- Condition 34 is set exactly when the plan keeps chunk 16. -/
theorem c34 : k1_cond34 (wL m c) = 1#1 ↔ m.plan.aK 16 = true := kpT m c
/-- Condition 35 is set exactly when the plan keeps chunk 0. -/
theorem c35 : k1_cond35 (wL m c) = 1#1 ↔ m.plan.aK 0 = true := kpC m c ⟨0, by decide⟩
/-- Condition 36 is set exactly when the plan keeps chunk 1. -/
theorem c36 : k1_cond36 (wL m c) = 1#1 ↔ m.plan.aK 1 = true := kpC m c ⟨1, by decide⟩
/-- Condition 37 is set exactly when the plan keeps chunk 2. -/
theorem c37 : k1_cond37 (wL m c) = 1#1 ↔ m.plan.aK 2 = true := kpC m c ⟨2, by decide⟩
/-- Condition 38 is set exactly when the plan keeps chunk 3. -/
theorem c38 : k1_cond38 (wL m c) = 1#1 ↔ m.plan.aK 3 = true := kpC m c ⟨3, by decide⟩
/-- Condition 39 is set exactly when the plan keeps chunk 4. -/
theorem c39 : k1_cond39 (wL m c) = 1#1 ↔ m.plan.aK 4 = true := kpC m c ⟨4, by decide⟩
/-- Condition 40 is set exactly when the plan keeps chunk 5. -/
theorem c40 : k1_cond40 (wL m c) = 1#1 ↔ m.plan.aK 5 = true := kpC m c ⟨5, by decide⟩
/-- Condition 41 is set exactly when the plan keeps chunk 6. -/
theorem c41 : k1_cond41 (wL m c) = 1#1 ↔ m.plan.aK 6 = true := kpC m c ⟨6, by decide⟩
/-- Condition 42 is set exactly when the plan keeps chunk 7. -/
theorem c42 : k1_cond42 (wL m c) = 1#1 ↔ m.plan.aK 7 = true := kpC m c ⟨7, by decide⟩
/-- Condition 43 is set exactly when the plan keeps chunk 8. -/
theorem c43 : k1_cond43 (wL m c) = 1#1 ↔ m.plan.aK 8 = true := kpC m c ⟨8, by decide⟩
/-- Condition 44 is set exactly when the plan keeps chunk 9. -/
theorem c44 : k1_cond44 (wL m c) = 1#1 ↔ m.plan.aK 9 = true := kpC m c ⟨9, by decide⟩
/-- Condition 45 is set exactly when the plan keeps chunk 10. -/
theorem c45 : k1_cond45 (wL m c) = 1#1 ↔ m.plan.aK 10 = true := kpC m c ⟨10, by decide⟩
/-- Condition 46 is set exactly when the plan keeps chunk 11. -/
theorem c46 : k1_cond46 (wL m c) = 1#1 ↔ m.plan.aK 11 = true := kpC m c ⟨11, by decide⟩
/-- Condition 47 is set exactly when the plan keeps chunk 12. -/
theorem c47 : k1_cond47 (wL m c) = 1#1 ↔ m.plan.aK 12 = true := kpC m c ⟨12, by decide⟩
/-- Condition 48 is set exactly when the plan keeps chunk 13. -/
theorem c48 : k1_cond48 (wL m c) = 1#1 ↔ m.plan.aK 13 = true := kpC m c ⟨13, by decide⟩
/-- Condition 49 is set exactly when the plan keeps chunk 14. -/
theorem c49 : k1_cond49 (wL m c) = 1#1 ↔ m.plan.aK 14 = true := kpC m c ⟨14, by decide⟩
/-- Condition 50 is set exactly when the plan keeps chunk 15. -/
theorem c50 : k1_cond50 (wL m c) = 1#1 ↔ m.plan.aK 15 = true := kpC m c ⟨15, by decide⟩
/-- Condition 51 is set exactly when the plan keeps chunk 16. -/
theorem c51 : k1_cond51 (wL m c) = 1#1 ↔ m.plan.aK 16 = true := kpT m c
/-- Condition 52 is set exactly when the plan exchanges chunk 0. -/
theorem c52 : k1_cond52 (wL m c) = 1#1 ↔ m.plan.aS 0 = true := swC m c ⟨0, by decide⟩
/-- Condition 53 is set exactly when the plan exchanges chunk 1. -/
theorem c53 : k1_cond53 (wL m c) = 1#1 ↔ m.plan.aS 1 = true := swC m c ⟨1, by decide⟩
/-- Condition 54 is set exactly when the plan exchanges chunk 2. -/
theorem c54 : k1_cond54 (wL m c) = 1#1 ↔ m.plan.aS 2 = true := swC m c ⟨2, by decide⟩
/-- Condition 55 is set exactly when the plan exchanges chunk 3. -/
theorem c55 : k1_cond55 (wL m c) = 1#1 ↔ m.plan.aS 3 = true := swC m c ⟨3, by decide⟩
/-- Condition 56 is set exactly when the plan exchanges chunk 4. -/
theorem c56 : k1_cond56 (wL m c) = 1#1 ↔ m.plan.aS 4 = true := swC m c ⟨4, by decide⟩
/-- Condition 57 is set exactly when the plan exchanges chunk 5. -/
theorem c57 : k1_cond57 (wL m c) = 1#1 ↔ m.plan.aS 5 = true := swC m c ⟨5, by decide⟩
/-- Condition 58 is set exactly when the plan exchanges chunk 6. -/
theorem c58 : k1_cond58 (wL m c) = 1#1 ↔ m.plan.aS 6 = true := swC m c ⟨6, by decide⟩
/-- Condition 59 is set exactly when the plan exchanges chunk 7. -/
theorem c59 : k1_cond59 (wL m c) = 1#1 ↔ m.plan.aS 7 = true := swC m c ⟨7, by decide⟩
/-- Condition 60 is set exactly when the plan exchanges chunk 8. -/
theorem c60 : k1_cond60 (wL m c) = 1#1 ↔ m.plan.aS 8 = true := swC m c ⟨8, by decide⟩
/-- Condition 61 is set exactly when the plan exchanges chunk 9. -/
theorem c61 : k1_cond61 (wL m c) = 1#1 ↔ m.plan.aS 9 = true := swC m c ⟨9, by decide⟩
/-- Condition 62 is set exactly when the plan exchanges chunk 10. -/
theorem c62 : k1_cond62 (wL m c) = 1#1 ↔ m.plan.aS 10 = true := swC m c ⟨10, by decide⟩
/-- Condition 63 is set exactly when the plan exchanges chunk 11. -/
theorem c63 : k1_cond63 (wL m c) = 1#1 ↔ m.plan.aS 11 = true := swC m c ⟨11, by decide⟩
/-- Condition 64 is set exactly when the plan exchanges chunk 12. -/
theorem c64 : k1_cond64 (wL m c) = 1#1 ↔ m.plan.aS 12 = true := swC m c ⟨12, by decide⟩
/-- Condition 65 is set exactly when the plan exchanges chunk 13. -/
theorem c65 : k1_cond65 (wL m c) = 1#1 ↔ m.plan.aS 13 = true := swC m c ⟨13, by decide⟩
/-- Condition 66 is set exactly when the plan exchanges chunk 14. -/
theorem c66 : k1_cond66 (wL m c) = 1#1 ↔ m.plan.aS 14 = true := swC m c ⟨14, by decide⟩
/-- Condition 67 is set exactly when the plan exchanges chunk 15. -/
theorem c67 : k1_cond67 (wL m c) = 1#1 ↔ m.plan.aS 15 = true := swC m c ⟨15, by decide⟩
/-- Condition 68 is set exactly when the plan exchanges chunk 16. -/
theorem c68 : k1_cond68 (wL m c) = 1#1 ↔ m.plan.aS 16 = true := swT m c

/-! ## Offsets -/

/-- Adding two small words adds their numbers. -/
theorem add_nat {a b : ℕ} (ha : a ≤ 4096) (hb : b ≤ 4096) : (Scalar.addi (BitVec.ofNat 32 a) (BitVec.ofNat 32 b)).toNat = a + b := by
  show (BitVec.ofNat 32 a + BitVec.ofNat 32 b).toNat = a + b
  rw [BitVec.toNat_add, BitVec.toNat_ofNat, BitVec.toNat_ofNat]; omega
/-- Adding two small words and taking 256 off does so with their numbers. -/
theorem end_nat {a b : ℕ} (ha : a ≤ 4096) (hb : b ≤ 4096) (h : 256 ≤ b) :
    (Scalar.subi (Scalar.addi (BitVec.ofNat 32 a) (BitVec.ofNat 32 b)) 256#32).toNat = a + b - 256 := by
  show (BitVec.ofNat 32 a + BitVec.ofNat 32 b - 256#32).toNat = a + b - 256
  rw [BitVec.toNat_sub, BitVec.toNat_add, BitVec.toNat_ofNat, BitVec.toNat_ofNat, BitVec.toNat_ofNat]; omega
/-- 4096 less a small word is the word of 4096 less its number. -/
theorem sub_word {a : ℕ} (ha : a ≤ 4096) : Scalar.subi 4096#32 (BitVec.ofNat 32 a) = BitVec.ofNat 32 (4096 - a) := by
  show 4096#32 - BitVec.ofNat 32 a = _
  apply BitVec.eq_of_toNat_eq
  rw [BitVec.toNat_sub, BitVec.toNat_ofNat, BitVec.toNat_ofNat, BitVec.toNat_ofNat]; omega

/-- Where a whole chunk begins. -/
theorem chunk_whole {n a e k : ℕ} (h : k < n) : chunkAt n a e k = a + 256 * k := if_pos h
/-- Where the last chunk begins. -/
theorem chunk_last {n a e : ℕ} (h : ¬ 16 < n) : chunkAt n a e 16 = e - 256 := (if_neg h).trans (if_pos rfl)

/-- The offset of a whole chunk, as computed, is where the chunk begins. -/
theorem whole_off {n a e k : ℕ} (hk : k < n) (ha : a ≤ 4096) (hn : n ≤ 8) :
    (![(Scalar.addi (BitVec.ofNat 32 a) (BitVec.ofNat 32 (256 * k))).toNat, 0, 0] : Fin 3 → ℕ) = at3 (chunkAt n a e k) := by
  rw [chunk_whole hk, add_nat ha (by omega)]
/-- The offset of the last chunk, as computed, is where the chunk begins. -/
theorem last_off {n a l : ℕ} (hn : ¬ 16 < n) (ha : a ≤ 4096) (hl : l ≤ 4096) (h2 : 256 ≤ l) :
    (![(Scalar.subi (Scalar.addi (BitVec.ofNat 32 a) (BitVec.ofNat 32 l)) 256#32).toNat, 0, 0] : Fin 3 → ℕ) = at3 (chunkAt n a (a + l) 16) := by
  rw [chunk_last hn, end_nat ha hl h2]

/-- The rows sent away begin inside the array. -/
theorem lS : m.S c ≤ 4096 := by have := m.hS c; omega
/-- They land inside the array. -/
theorem lD : m.D c ≤ 4096 := by have := m.hD c; omega
/-- The kept rows begin inside the array. -/
theorem lK : m.K c ≤ 4096 := by have := m.hK c; have := m.hL c; omega
/-- No more rows are sent away than there are. -/
theorem lL : m.L c ≤ 4096 := by have := m.hL c; omega
/-- At least one chunk's rows are sent away. -/
theorem lL' : 256 ≤ m.L c := by have := m.hL c; omega
/-- No more rows are kept than there are. -/
theorem lM : 4096 - m.L c ≤ 4096 := by omega
/-- At least one chunk's rows are kept. -/
theorem lM' : 256 ≤ 4096 - m.L c := by have := m.hL c; omega

/-- A whole chunk that is exchanged is one of the first seven. -/
theorem act7 {k : ℕ} (h : m.plan.aS k = true) (hk : k < 16) : k < 7 := by
  rcases of_decide_eq_true h with h | h <;> omega
/-- A whole chunk that is kept is one of the first eight. -/
theorem act8 {k : ℕ} (h : m.plan.aK k = true) (hk : k < 16) : k < 8 := by
  rcases of_decide_eq_true h with h | h <;> omega
/-- The source offset of an exchanged whole chunk, as computed, is the plan's. -/
theorem wholeS {k w : ℕ} (h : m.plan.aS k = true) (hk : k < 16) (hw : w = 256 * k) :
    (![(Scalar.addi (wS m c) (BitVec.ofNat 32 w)).toNat, 0, 0] : Fin 3 → ℕ) = at3 (m.plan.sR c k) := by
  subst hw; exact whole_off (act7 m h hk) (lS m c) (by decide)
/-- The landing offset of an exchanged whole chunk, as computed, is the plan's. -/
theorem wholeD {k w : ℕ} (h : m.plan.aS k = true) (hk : k < 16) (hw : w = 256 * k) :
    (![(Scalar.addi (wD m c) (BitVec.ofNat 32 w)).toNat, 0, 0] : Fin 3 → ℕ) = at3 (m.plan.dR c k) := by
  subst hw; exact whole_off (act7 m h hk) (lD m c) (by decide)
/-- The offset of a kept whole chunk, as computed, is the plan's. -/
theorem wholeK {k w : ℕ} (h : m.plan.aK k = true) (hk : k < 16) (hw : w = 256 * k) :
    (![(Scalar.addi (wK m c) (BitVec.ofNat 32 w)).toNat, 0, 0] : Fin 3 → ℕ) = at3 (m.plan.kR c k) := by
  subst hw; exact whole_off (act8 m h hk) (lK m c) (by decide)
/-- The source offset of the last exchanged chunk, as computed, is the plan's. -/
theorem lastS : (![(Scalar.subi (Scalar.addi (wS m c) (wL m c)) 256#32).toNat, 0, 0] : Fin 3 → ℕ) = at3 (m.plan.sR c 16) :=
  last_off (n := 7) (by decide) (lS m c) (lL m c) (lL' m c)
/-- The landing offset of the last exchanged chunk, as computed, is the plan's. -/
theorem lastD : (![(Scalar.subi (Scalar.addi (wD m c) (wL m c)) 256#32).toNat, 0, 0] : Fin 3 → ℕ) = at3 (m.plan.dR c 16) :=
  last_off (n := 7) (by decide) (lD m c) (lL m c) (lL' m c)
/-- The offset of the last kept chunk, as computed, is the plan's. -/
theorem lastK : (![(Scalar.subi (Scalar.addi (wK m c) (Scalar.subi 4096#32 (wL m c))) 256#32).toNat, 0, 0] : Fin 3 → ℕ) = at3 (m.plan.kR c 16) := by
  rw [sub_word (lL m c)]; exact last_off (n := 8) (by decide) (lK m c) (lM m c) (lM' m c)

/-- Offset 1 is the row exchanged chunk 0 lands at. -/
theorem o1 (h : k1_cond1 (wL m c) = 1#1) : k1_off1 (wD m c) = at3 (m.plan.dR c 0) := wholeD m c ((c1 m c).mp h) (by decide) rfl
/-- Offset 2 is the row exchanged chunk 0 comes from. -/
theorem o2 (h : k1_cond1 (wL m c) = 1#1) : k1_off2 (wS m c) = at3 (m.plan.sR c 0) := wholeS m c ((c1 m c).mp h) (by decide) rfl
/-- Offset 3 is the row exchanged chunk 1 lands at. -/
theorem o3 (h : k1_cond2 (wL m c) = 1#1) : k1_off3 (wD m c) = at3 (m.plan.dR c 1) := wholeD m c ((c2 m c).mp h) (by decide) rfl
/-- Offset 4 is the row exchanged chunk 1 comes from. -/
theorem o4 (h : k1_cond2 (wL m c) = 1#1) : k1_off4 (wS m c) = at3 (m.plan.sR c 1) := wholeS m c ((c2 m c).mp h) (by decide) rfl
/-- Offset 5 is the row exchanged chunk 2 lands at. -/
theorem o5 (h : k1_cond3 (wL m c) = 1#1) : k1_off5 (wD m c) = at3 (m.plan.dR c 2) := wholeD m c ((c3 m c).mp h) (by decide) rfl
/-- Offset 6 is the row exchanged chunk 2 comes from. -/
theorem o6 (h : k1_cond3 (wL m c) = 1#1) : k1_off6 (wS m c) = at3 (m.plan.sR c 2) := wholeS m c ((c3 m c).mp h) (by decide) rfl
/-- Offset 7 is the row exchanged chunk 3 lands at. -/
theorem o7 (h : k1_cond4 (wL m c) = 1#1) : k1_off7 (wD m c) = at3 (m.plan.dR c 3) := wholeD m c ((c4 m c).mp h) (by decide) rfl
/-- Offset 8 is the row exchanged chunk 3 comes from. -/
theorem o8 (h : k1_cond4 (wL m c) = 1#1) : k1_off8 (wS m c) = at3 (m.plan.sR c 3) := wholeS m c ((c4 m c).mp h) (by decide) rfl
/-- Offset 9 is the row exchanged chunk 4 lands at. -/
theorem o9 (h : k1_cond5 (wL m c) = 1#1) : k1_off9 (wD m c) = at3 (m.plan.dR c 4) := wholeD m c ((c5 m c).mp h) (by decide) rfl
/-- Offset 10 is the row exchanged chunk 4 comes from. -/
theorem o10 (h : k1_cond5 (wL m c) = 1#1) : k1_off10 (wS m c) = at3 (m.plan.sR c 4) := wholeS m c ((c5 m c).mp h) (by decide) rfl
/-- Offset 11 is the row exchanged chunk 5 lands at. -/
theorem o11 (h : k1_cond6 (wL m c) = 1#1) : k1_off11 (wD m c) = at3 (m.plan.dR c 5) := wholeD m c ((c6 m c).mp h) (by decide) rfl
/-- Offset 12 is the row exchanged chunk 5 comes from. -/
theorem o12 (h : k1_cond6 (wL m c) = 1#1) : k1_off12 (wS m c) = at3 (m.plan.sR c 5) := wholeS m c ((c6 m c).mp h) (by decide) rfl
/-- Offset 13 is the row exchanged chunk 6 lands at. -/
theorem o13 (h : k1_cond7 (wL m c) = 1#1) : k1_off13 (wD m c) = at3 (m.plan.dR c 6) := wholeD m c ((c7 m c).mp h) (by decide) rfl
/-- Offset 14 is the row exchanged chunk 6 comes from. -/
theorem o14 (h : k1_cond7 (wL m c) = 1#1) : k1_off14 (wS m c) = at3 (m.plan.sR c 6) := wholeS m c ((c7 m c).mp h) (by decide) rfl
/-- Offset 15 is the row exchanged chunk 7 lands at. -/
theorem o15 (h : k1_cond8 (wL m c) = 1#1) : k1_off15 (wD m c) = at3 (m.plan.dR c 7) := wholeD m c ((c8 m c).mp h) (by decide) rfl
/-- Offset 16 is the row exchanged chunk 7 comes from. -/
theorem o16 (h : k1_cond8 (wL m c) = 1#1) : k1_off16 (wS m c) = at3 (m.plan.sR c 7) := wholeS m c ((c8 m c).mp h) (by decide) rfl
/-- Offset 17 is the row exchanged chunk 8 lands at. -/
theorem o17 (h : k1_cond9 (wL m c) = 1#1) : k1_off17 (wD m c) = at3 (m.plan.dR c 8) := wholeD m c ((c9 m c).mp h) (by decide) rfl
/-- Offset 18 is the row exchanged chunk 8 comes from. -/
theorem o18 (h : k1_cond9 (wL m c) = 1#1) : k1_off18 (wS m c) = at3 (m.plan.sR c 8) := wholeS m c ((c9 m c).mp h) (by decide) rfl
/-- Offset 19 is the row exchanged chunk 9 lands at. -/
theorem o19 (h : k1_cond10 (wL m c) = 1#1) : k1_off19 (wD m c) = at3 (m.plan.dR c 9) := wholeD m c ((c10 m c).mp h) (by decide) rfl
/-- Offset 20 is the row exchanged chunk 9 comes from. -/
theorem o20 (h : k1_cond10 (wL m c) = 1#1) : k1_off20 (wS m c) = at3 (m.plan.sR c 9) := wholeS m c ((c10 m c).mp h) (by decide) rfl
/-- Offset 21 is the row exchanged chunk 10 lands at. -/
theorem o21 (h : k1_cond11 (wL m c) = 1#1) : k1_off21 (wD m c) = at3 (m.plan.dR c 10) := wholeD m c ((c11 m c).mp h) (by decide) rfl
/-- Offset 22 is the row exchanged chunk 10 comes from. -/
theorem o22 (h : k1_cond11 (wL m c) = 1#1) : k1_off22 (wS m c) = at3 (m.plan.sR c 10) := wholeS m c ((c11 m c).mp h) (by decide) rfl
/-- Offset 23 is the row exchanged chunk 11 lands at. -/
theorem o23 (h : k1_cond12 (wL m c) = 1#1) : k1_off23 (wD m c) = at3 (m.plan.dR c 11) := wholeD m c ((c12 m c).mp h) (by decide) rfl
/-- Offset 24 is the row exchanged chunk 11 comes from. -/
theorem o24 (h : k1_cond12 (wL m c) = 1#1) : k1_off24 (wS m c) = at3 (m.plan.sR c 11) := wholeS m c ((c12 m c).mp h) (by decide) rfl
/-- Offset 25 is the row exchanged chunk 12 lands at. -/
theorem o25 (h : k1_cond13 (wL m c) = 1#1) : k1_off25 (wD m c) = at3 (m.plan.dR c 12) := wholeD m c ((c13 m c).mp h) (by decide) rfl
/-- Offset 26 is the row exchanged chunk 12 comes from. -/
theorem o26 (h : k1_cond13 (wL m c) = 1#1) : k1_off26 (wS m c) = at3 (m.plan.sR c 12) := wholeS m c ((c13 m c).mp h) (by decide) rfl
/-- Offset 27 is the row exchanged chunk 13 lands at. -/
theorem o27 (h : k1_cond14 (wL m c) = 1#1) : k1_off27 (wD m c) = at3 (m.plan.dR c 13) := wholeD m c ((c14 m c).mp h) (by decide) rfl
/-- Offset 28 is the row exchanged chunk 13 comes from. -/
theorem o28 (h : k1_cond14 (wL m c) = 1#1) : k1_off28 (wS m c) = at3 (m.plan.sR c 13) := wholeS m c ((c14 m c).mp h) (by decide) rfl
/-- Offset 29 is the row exchanged chunk 14 lands at. -/
theorem o29 (h : k1_cond15 (wL m c) = 1#1) : k1_off29 (wD m c) = at3 (m.plan.dR c 14) := wholeD m c ((c15 m c).mp h) (by decide) rfl
/-- Offset 30 is the row exchanged chunk 14 comes from. -/
theorem o30 (h : k1_cond15 (wL m c) = 1#1) : k1_off30 (wS m c) = at3 (m.plan.sR c 14) := wholeS m c ((c15 m c).mp h) (by decide) rfl
/-- Offset 31 is the row exchanged chunk 15 lands at. -/
theorem o31 (h : k1_cond16 (wL m c) = 1#1) : k1_off31 (wD m c) = at3 (m.plan.dR c 15) := wholeD m c ((c16 m c).mp h) (by decide) rfl
/-- Offset 32 is the row exchanged chunk 15 comes from. -/
theorem o32 (h : k1_cond16 (wL m c) = 1#1) : k1_off32 (wS m c) = at3 (m.plan.sR c 15) := wholeS m c ((c16 m c).mp h) (by decide) rfl
/-- Offset 33 is the row exchanged chunk 16 lands at. -/
theorem o33 (_ : k1_cond17 (wL m c) = 1#1) : k1_off33 (wL m c) (wD m c) = at3 (m.plan.dR c 16) := lastD m c
/-- Offset 34 is the row exchanged chunk 16 comes from. -/
theorem o34 (_ : k1_cond17 (wL m c) = 1#1) : k1_off34 (wL m c) (wS m c) = at3 (m.plan.sR c 16) := lastS m c
/-- Offset 35 is the row kept chunk 0 begins at. -/
theorem o35 (h : k1_cond18 (wL m c) = 1#1) : k1_off35 (wK m c) = at3 (m.plan.kR c 0) := wholeK m c ((c18 m c).mp h) (by decide) rfl
/-- Offset 36 is the row kept chunk 1 begins at. -/
theorem o36 (h : k1_cond19 (wL m c) = 1#1) : k1_off36 (wK m c) = at3 (m.plan.kR c 1) := wholeK m c ((c19 m c).mp h) (by decide) rfl
/-- Offset 37 is the row kept chunk 2 begins at. -/
theorem o37 (h : k1_cond20 (wL m c) = 1#1) : k1_off37 (wK m c) = at3 (m.plan.kR c 2) := wholeK m c ((c20 m c).mp h) (by decide) rfl
/-- Offset 38 is the row kept chunk 3 begins at. -/
theorem o38 (h : k1_cond21 (wL m c) = 1#1) : k1_off38 (wK m c) = at3 (m.plan.kR c 3) := wholeK m c ((c21 m c).mp h) (by decide) rfl
/-- Offset 39 is the row kept chunk 4 begins at. -/
theorem o39 (h : k1_cond22 (wL m c) = 1#1) : k1_off39 (wK m c) = at3 (m.plan.kR c 4) := wholeK m c ((c22 m c).mp h) (by decide) rfl
/-- Offset 40 is the row kept chunk 5 begins at. -/
theorem o40 (h : k1_cond23 (wL m c) = 1#1) : k1_off40 (wK m c) = at3 (m.plan.kR c 5) := wholeK m c ((c23 m c).mp h) (by decide) rfl
/-- Offset 41 is the row kept chunk 6 begins at. -/
theorem o41 (h : k1_cond24 (wL m c) = 1#1) : k1_off41 (wK m c) = at3 (m.plan.kR c 6) := wholeK m c ((c24 m c).mp h) (by decide) rfl
/-- Offset 42 is the row kept chunk 7 begins at. -/
theorem o42 (h : k1_cond25 (wL m c) = 1#1) : k1_off42 (wK m c) = at3 (m.plan.kR c 7) := wholeK m c ((c25 m c).mp h) (by decide) rfl
/-- Offset 43 is the row kept chunk 8 begins at. -/
theorem o43 (h : k1_cond26 (wL m c) = 1#1) : k1_off43 (wK m c) = at3 (m.plan.kR c 8) := wholeK m c ((c26 m c).mp h) (by decide) rfl
/-- Offset 44 is the row kept chunk 9 begins at. -/
theorem o44 (h : k1_cond27 (wL m c) = 1#1) : k1_off44 (wK m c) = at3 (m.plan.kR c 9) := wholeK m c ((c27 m c).mp h) (by decide) rfl
/-- Offset 45 is the row kept chunk 10 begins at. -/
theorem o45 (h : k1_cond28 (wL m c) = 1#1) : k1_off45 (wK m c) = at3 (m.plan.kR c 10) := wholeK m c ((c28 m c).mp h) (by decide) rfl
/-- Offset 46 is the row kept chunk 11 begins at. -/
theorem o46 (h : k1_cond29 (wL m c) = 1#1) : k1_off46 (wK m c) = at3 (m.plan.kR c 11) := wholeK m c ((c29 m c).mp h) (by decide) rfl
/-- Offset 47 is the row kept chunk 12 begins at. -/
theorem o47 (h : k1_cond30 (wL m c) = 1#1) : k1_off47 (wK m c) = at3 (m.plan.kR c 12) := wholeK m c ((c30 m c).mp h) (by decide) rfl
/-- Offset 48 is the row kept chunk 13 begins at. -/
theorem o48 (h : k1_cond31 (wL m c) = 1#1) : k1_off48 (wK m c) = at3 (m.plan.kR c 13) := wholeK m c ((c31 m c).mp h) (by decide) rfl
/-- Offset 49 is the row kept chunk 14 begins at. -/
theorem o49 (h : k1_cond32 (wL m c) = 1#1) : k1_off49 (wK m c) = at3 (m.plan.kR c 14) := wholeK m c ((c32 m c).mp h) (by decide) rfl
/-- Offset 50 is the row kept chunk 15 begins at. -/
theorem o50 (h : k1_cond33 (wL m c) = 1#1) : k1_off50 (wK m c) = at3 (m.plan.kR c 15) := wholeK m c ((c33 m c).mp h) (by decide) rfl
/-- Offset 51 is the row kept chunk 16 begins at. -/
theorem o51 (_ : k1_cond34 (wL m c) = 1#1) : k1_off51 (wL m c) (wK m c) = at3 (m.plan.kR c 16) := lastK m c
/-- Offset 52 is the row kept chunk 0 begins at. -/
theorem o52 (h : k1_cond35 (wL m c) = 1#1) : k1_off52 (wK m c) = at3 (m.plan.kR c 0) := wholeK m c ((c35 m c).mp h) (by decide) rfl
/-- Offset 53 is the row kept chunk 1 begins at. -/
theorem o53 (h : k1_cond36 (wL m c) = 1#1) : k1_off53 (wK m c) = at3 (m.plan.kR c 1) := wholeK m c ((c36 m c).mp h) (by decide) rfl
/-- Offset 54 is the row kept chunk 2 begins at. -/
theorem o54 (h : k1_cond37 (wL m c) = 1#1) : k1_off54 (wK m c) = at3 (m.plan.kR c 2) := wholeK m c ((c37 m c).mp h) (by decide) rfl
/-- Offset 55 is the row kept chunk 3 begins at. -/
theorem o55 (h : k1_cond38 (wL m c) = 1#1) : k1_off55 (wK m c) = at3 (m.plan.kR c 3) := wholeK m c ((c38 m c).mp h) (by decide) rfl
/-- Offset 56 is the row kept chunk 4 begins at. -/
theorem o56 (h : k1_cond39 (wL m c) = 1#1) : k1_off56 (wK m c) = at3 (m.plan.kR c 4) := wholeK m c ((c39 m c).mp h) (by decide) rfl
/-- Offset 57 is the row kept chunk 5 begins at. -/
theorem o57 (h : k1_cond40 (wL m c) = 1#1) : k1_off57 (wK m c) = at3 (m.plan.kR c 5) := wholeK m c ((c40 m c).mp h) (by decide) rfl
/-- Offset 58 is the row kept chunk 6 begins at. -/
theorem o58 (h : k1_cond41 (wL m c) = 1#1) : k1_off58 (wK m c) = at3 (m.plan.kR c 6) := wholeK m c ((c41 m c).mp h) (by decide) rfl
/-- Offset 59 is the row kept chunk 7 begins at. -/
theorem o59 (h : k1_cond42 (wL m c) = 1#1) : k1_off59 (wK m c) = at3 (m.plan.kR c 7) := wholeK m c ((c42 m c).mp h) (by decide) rfl
/-- Offset 60 is the row kept chunk 8 begins at. -/
theorem o60 (h : k1_cond43 (wL m c) = 1#1) : k1_off60 (wK m c) = at3 (m.plan.kR c 8) := wholeK m c ((c43 m c).mp h) (by decide) rfl
/-- Offset 61 is the row kept chunk 9 begins at. -/
theorem o61 (h : k1_cond44 (wL m c) = 1#1) : k1_off61 (wK m c) = at3 (m.plan.kR c 9) := wholeK m c ((c44 m c).mp h) (by decide) rfl
/-- Offset 62 is the row kept chunk 10 begins at. -/
theorem o62 (h : k1_cond45 (wL m c) = 1#1) : k1_off62 (wK m c) = at3 (m.plan.kR c 10) := wholeK m c ((c45 m c).mp h) (by decide) rfl
/-- Offset 63 is the row kept chunk 11 begins at. -/
theorem o63 (h : k1_cond46 (wL m c) = 1#1) : k1_off63 (wK m c) = at3 (m.plan.kR c 11) := wholeK m c ((c46 m c).mp h) (by decide) rfl
/-- Offset 64 is the row kept chunk 12 begins at. -/
theorem o64 (h : k1_cond47 (wL m c) = 1#1) : k1_off64 (wK m c) = at3 (m.plan.kR c 12) := wholeK m c ((c47 m c).mp h) (by decide) rfl
/-- Offset 65 is the row kept chunk 13 begins at. -/
theorem o65 (h : k1_cond48 (wL m c) = 1#1) : k1_off65 (wK m c) = at3 (m.plan.kR c 13) := wholeK m c ((c48 m c).mp h) (by decide) rfl
/-- Offset 66 is the row kept chunk 14 begins at. -/
theorem o66 (h : k1_cond49 (wL m c) = 1#1) : k1_off66 (wK m c) = at3 (m.plan.kR c 14) := wholeK m c ((c49 m c).mp h) (by decide) rfl
/-- Offset 67 is the row kept chunk 15 begins at. -/
theorem o67 (h : k1_cond50 (wL m c) = 1#1) : k1_off67 (wK m c) = at3 (m.plan.kR c 15) := wholeK m c ((c50 m c).mp h) (by decide) rfl
/-- Offset 68 is the row kept chunk 16 begins at. -/
theorem o68 (_ : k1_cond51 (wL m c) = 1#1) : k1_off68 (wL m c) (wK m c) = at3 (m.plan.kR c 16) := lastK m c
/-- Offset 69 is the row exchanged chunk 0 comes from. -/
theorem o69 (h : k1_cond52 (wL m c) = 1#1) : k1_off69 (wS m c) = at3 (m.plan.sR c 0) := wholeS m c ((c52 m c).mp h) (by decide) rfl
/-- Offset 70 is the row exchanged chunk 1 comes from. -/
theorem o70 (h : k1_cond53 (wL m c) = 1#1) : k1_off70 (wS m c) = at3 (m.plan.sR c 1) := wholeS m c ((c53 m c).mp h) (by decide) rfl
/-- Offset 71 is the row exchanged chunk 2 comes from. -/
theorem o71 (h : k1_cond54 (wL m c) = 1#1) : k1_off71 (wS m c) = at3 (m.plan.sR c 2) := wholeS m c ((c54 m c).mp h) (by decide) rfl
/-- Offset 72 is the row exchanged chunk 3 comes from. -/
theorem o72 (h : k1_cond55 (wL m c) = 1#1) : k1_off72 (wS m c) = at3 (m.plan.sR c 3) := wholeS m c ((c55 m c).mp h) (by decide) rfl
/-- Offset 73 is the row exchanged chunk 4 comes from. -/
theorem o73 (h : k1_cond56 (wL m c) = 1#1) : k1_off73 (wS m c) = at3 (m.plan.sR c 4) := wholeS m c ((c56 m c).mp h) (by decide) rfl
/-- Offset 74 is the row exchanged chunk 5 comes from. -/
theorem o74 (h : k1_cond57 (wL m c) = 1#1) : k1_off74 (wS m c) = at3 (m.plan.sR c 5) := wholeS m c ((c57 m c).mp h) (by decide) rfl
/-- Offset 75 is the row exchanged chunk 6 comes from. -/
theorem o75 (h : k1_cond58 (wL m c) = 1#1) : k1_off75 (wS m c) = at3 (m.plan.sR c 6) := wholeS m c ((c58 m c).mp h) (by decide) rfl
/-- Offset 76 is the row exchanged chunk 7 comes from. -/
theorem o76 (h : k1_cond59 (wL m c) = 1#1) : k1_off76 (wS m c) = at3 (m.plan.sR c 7) := wholeS m c ((c59 m c).mp h) (by decide) rfl
/-- Offset 77 is the row exchanged chunk 8 comes from. -/
theorem o77 (h : k1_cond60 (wL m c) = 1#1) : k1_off77 (wS m c) = at3 (m.plan.sR c 8) := wholeS m c ((c60 m c).mp h) (by decide) rfl
/-- Offset 78 is the row exchanged chunk 9 comes from. -/
theorem o78 (h : k1_cond61 (wL m c) = 1#1) : k1_off78 (wS m c) = at3 (m.plan.sR c 9) := wholeS m c ((c61 m c).mp h) (by decide) rfl
/-- Offset 79 is the row exchanged chunk 10 comes from. -/
theorem o79 (h : k1_cond62 (wL m c) = 1#1) : k1_off79 (wS m c) = at3 (m.plan.sR c 10) := wholeS m c ((c62 m c).mp h) (by decide) rfl
/-- Offset 80 is the row exchanged chunk 11 comes from. -/
theorem o80 (h : k1_cond63 (wL m c) = 1#1) : k1_off80 (wS m c) = at3 (m.plan.sR c 11) := wholeS m c ((c63 m c).mp h) (by decide) rfl
/-- Offset 81 is the row exchanged chunk 12 comes from. -/
theorem o81 (h : k1_cond64 (wL m c) = 1#1) : k1_off81 (wS m c) = at3 (m.plan.sR c 12) := wholeS m c ((c64 m c).mp h) (by decide) rfl
/-- Offset 82 is the row exchanged chunk 13 comes from. -/
theorem o82 (h : k1_cond65 (wL m c) = 1#1) : k1_off82 (wS m c) = at3 (m.plan.sR c 13) := wholeS m c ((c65 m c).mp h) (by decide) rfl
/-- Offset 83 is the row exchanged chunk 14 comes from. -/
theorem o83 (h : k1_cond66 (wL m c) = 1#1) : k1_off83 (wS m c) = at3 (m.plan.sR c 14) := wholeS m c ((c66 m c).mp h) (by decide) rfl
/-- Offset 84 is the row exchanged chunk 15 comes from. -/
theorem o84 (h : k1_cond67 (wL m c) = 1#1) : k1_off84 (wS m c) = at3 (m.plan.sR c 15) := wholeS m c ((c67 m c).mp h) (by decide) rfl
/-- Offset 85 is the row exchanged chunk 16 comes from. -/
theorem o85 (_ : k1_cond68 (wL m c) = 1#1) : k1_off85 (wL m c) (wS m c) = at3 (m.plan.sR c 16) := lastS m c

/-! ## Side conditions -/

/-- 256 rows from any row on are made of whole words. -/
theorem words_ok {off : Fin 3 → ℕ} {r : ℕ} (e : off = at3 r) (h : ∀ a, off a + S256x8x128.size a ≤ S4096x8x128.size a) :
    (Rect.unit (s := S4096x8x128) off S256x8x128.size h).WholeWords (EltTy.packing .bf16) := by
  subst e
  exact .inr ⟨by decide, rfl, rfl, rfl⟩
/-- 256 rows at a plan's offset lie inside the array. -/
theorem inb_ok {off : Fin 3 → ℕ} {r : ℕ} (e : off = at3 r) (h : r + 256 ≤ 4096) : ∀ a, off a + S256x8x128.size a ≤ S4096x8x128.size a := by
  subst e; exact slc_inb h

/-- Group 0 of the side conditions on where exchanged chunks land. -/
theorem chk1_0 : k1_chk1_0 (wL m c) (wD m c) := ⟨fun h => inb_ok (o1 m c h) (m.plan.hd c 0),
  fun h hb => words_ok (o1 m c h) hb,
  fun h => inb_ok (o3 m c h) (m.plan.hd c 1),
  fun h hb => words_ok (o3 m c h) hb,
  fun h => inb_ok (o5 m c h) (m.plan.hd c 2),
  fun h hb => words_ok (o5 m c h) hb,
  fun h => inb_ok (o7 m c h) (m.plan.hd c 3),
  fun h hb => words_ok (o7 m c h) hb,
  fun h => inb_ok (o9 m c h) (m.plan.hd c 4),
  fun h hb => words_ok (o9 m c h) hb,
  fun h => inb_ok (o11 m c h) (m.plan.hd c 5),
  fun h hb => words_ok (o11 m c h) hb,
  fun h => inb_ok (o13 m c h) (m.plan.hd c 6),
  fun h hb => words_ok (o13 m c h) hb,
  fun h => inb_ok (o15 m c h) (m.plan.hd c 7),
  fun h hb => words_ok (o15 m c h) hb,
  fun h => inb_ok (o17 m c h) (m.plan.hd c 8),
  fun h hb => words_ok (o17 m c h) hb,
  fun h => inb_ok (o19 m c h) (m.plan.hd c 9),
  fun h hb => words_ok (o19 m c h) hb,
  fun h => inb_ok (o21 m c h) (m.plan.hd c 10),
  fun h hb => words_ok (o21 m c h) hb,
  fun h => inb_ok (o23 m c h) (m.plan.hd c 11),
  fun h hb => words_ok (o23 m c h) hb,
  fun h => inb_ok (o25 m c h) (m.plan.hd c 12),
  fun h hb => words_ok (o25 m c h) hb,
  fun h => inb_ok (o27 m c h) (m.plan.hd c 13),
  fun h hb => words_ok (o27 m c h) hb,
  fun h => inb_ok (o29 m c h) (m.plan.hd c 14),
  fun h hb => words_ok (o29 m c h) hb,
  fun h => inb_ok (o31 m c h) (m.plan.hd c 15),
  fun h hb => words_ok (o31 m c h) hb⟩
/-- Group 1 of the side conditions on where exchanged chunks land. -/
theorem chk1_1 : k1_chk1_1 (wL m c) (wD m c) := ⟨fun h => inb_ok (o33 m c h) (m.plan.hd c 16),
  fun h hb => words_ok (o33 m c h) hb⟩
/-- All side conditions on where exchanged chunks land hold. -/
theorem chk1 : k1_chk1 (wL m c) (wD m c) := ⟨chk1_0 m c, chk1_1 m c⟩
/-- Group 0 of the side conditions on where exchanged chunks come from. -/
theorem chk2_0 : k1_chk2_0 (wL m c) (wS m c) := ⟨fun h => inb_ok (o2 m c h) (m.plan.hs c 0),
  fun h hb => words_ok (o2 m c h) hb,
  fun h => inb_ok (o4 m c h) (m.plan.hs c 1),
  fun h hb => words_ok (o4 m c h) hb,
  fun h => inb_ok (o6 m c h) (m.plan.hs c 2),
  fun h hb => words_ok (o6 m c h) hb,
  fun h => inb_ok (o8 m c h) (m.plan.hs c 3),
  fun h hb => words_ok (o8 m c h) hb,
  fun h => inb_ok (o10 m c h) (m.plan.hs c 4),
  fun h hb => words_ok (o10 m c h) hb,
  fun h => inb_ok (o12 m c h) (m.plan.hs c 5),
  fun h hb => words_ok (o12 m c h) hb,
  fun h => inb_ok (o14 m c h) (m.plan.hs c 6),
  fun h hb => words_ok (o14 m c h) hb,
  fun h => inb_ok (o16 m c h) (m.plan.hs c 7),
  fun h hb => words_ok (o16 m c h) hb,
  fun h => inb_ok (o18 m c h) (m.plan.hs c 8),
  fun h hb => words_ok (o18 m c h) hb,
  fun h => inb_ok (o20 m c h) (m.plan.hs c 9),
  fun h hb => words_ok (o20 m c h) hb,
  fun h => inb_ok (o22 m c h) (m.plan.hs c 10),
  fun h hb => words_ok (o22 m c h) hb,
  fun h => inb_ok (o24 m c h) (m.plan.hs c 11),
  fun h hb => words_ok (o24 m c h) hb,
  fun h => inb_ok (o26 m c h) (m.plan.hs c 12),
  fun h hb => words_ok (o26 m c h) hb,
  fun h => inb_ok (o28 m c h) (m.plan.hs c 13),
  fun h hb => words_ok (o28 m c h) hb,
  fun h => inb_ok (o30 m c h) (m.plan.hs c 14),
  fun h hb => words_ok (o30 m c h) hb,
  fun h => inb_ok (o32 m c h) (m.plan.hs c 15),
  fun h hb => words_ok (o32 m c h) hb⟩
/-- Group 1 of the side conditions on where exchanged chunks come from. -/
theorem chk2_1 : k1_chk2_1 (wL m c) (wS m c) := ⟨fun h => inb_ok (o34 m c h) (m.plan.hs c 16),
  fun h hb => words_ok (o34 m c h) hb,
  fun h => inb_ok (o69 m c h) (m.plan.hs c 0),
  fun h hb => words_ok (o69 m c h) hb,
  fun h => inb_ok (o70 m c h) (m.plan.hs c 1),
  fun h hb => words_ok (o70 m c h) hb,
  fun h => inb_ok (o71 m c h) (m.plan.hs c 2),
  fun h hb => words_ok (o71 m c h) hb,
  fun h => inb_ok (o72 m c h) (m.plan.hs c 3),
  fun h hb => words_ok (o72 m c h) hb,
  fun h => inb_ok (o73 m c h) (m.plan.hs c 4),
  fun h hb => words_ok (o73 m c h) hb,
  fun h => inb_ok (o74 m c h) (m.plan.hs c 5),
  fun h hb => words_ok (o74 m c h) hb,
  fun h => inb_ok (o75 m c h) (m.plan.hs c 6),
  fun h hb => words_ok (o75 m c h) hb,
  fun h => inb_ok (o76 m c h) (m.plan.hs c 7),
  fun h hb => words_ok (o76 m c h) hb,
  fun h => inb_ok (o77 m c h) (m.plan.hs c 8),
  fun h hb => words_ok (o77 m c h) hb,
  fun h => inb_ok (o78 m c h) (m.plan.hs c 9),
  fun h hb => words_ok (o78 m c h) hb,
  fun h => inb_ok (o79 m c h) (m.plan.hs c 10),
  fun h hb => words_ok (o79 m c h) hb,
  fun h => inb_ok (o80 m c h) (m.plan.hs c 11),
  fun h hb => words_ok (o80 m c h) hb,
  fun h => inb_ok (o81 m c h) (m.plan.hs c 12),
  fun h hb => words_ok (o81 m c h) hb,
  fun h => inb_ok (o82 m c h) (m.plan.hs c 13),
  fun h hb => words_ok (o82 m c h) hb,
  fun h => inb_ok (o83 m c h) (m.plan.hs c 14),
  fun h hb => words_ok (o83 m c h) hb⟩
/-- Group 2 of the side conditions on where exchanged chunks come from. -/
theorem chk2_2 : k1_chk2_2 (wL m c) (wS m c) := ⟨fun h => inb_ok (o84 m c h) (m.plan.hs c 15),
  fun h hb => words_ok (o84 m c h) hb,
  fun h => inb_ok (o85 m c h) (m.plan.hs c 16),
  fun h hb => words_ok (o85 m c h) hb⟩
/-- All side conditions on where exchanged chunks come from hold. -/
theorem chk2 : k1_chk2 (wL m c) (wS m c) := ⟨chk2_0 m c, chk2_1 m c, chk2_2 m c⟩
/-- Group 0 of the side conditions on kept chunks. -/
theorem chk3_0 : k1_chk3_0 (wL m c) (wK m c) := ⟨fun h => inb_ok (o35 m c h) (m.plan.hk c 0),
  fun h hb => words_ok (o35 m c h) hb,
  fun h => inb_ok (o36 m c h) (m.plan.hk c 1),
  fun h hb => words_ok (o36 m c h) hb,
  fun h => inb_ok (o37 m c h) (m.plan.hk c 2),
  fun h hb => words_ok (o37 m c h) hb,
  fun h => inb_ok (o38 m c h) (m.plan.hk c 3),
  fun h hb => words_ok (o38 m c h) hb,
  fun h => inb_ok (o39 m c h) (m.plan.hk c 4),
  fun h hb => words_ok (o39 m c h) hb,
  fun h => inb_ok (o40 m c h) (m.plan.hk c 5),
  fun h hb => words_ok (o40 m c h) hb,
  fun h => inb_ok (o41 m c h) (m.plan.hk c 6),
  fun h hb => words_ok (o41 m c h) hb,
  fun h => inb_ok (o42 m c h) (m.plan.hk c 7),
  fun h hb => words_ok (o42 m c h) hb,
  fun h => inb_ok (o43 m c h) (m.plan.hk c 8),
  fun h hb => words_ok (o43 m c h) hb,
  fun h => inb_ok (o44 m c h) (m.plan.hk c 9),
  fun h hb => words_ok (o44 m c h) hb,
  fun h => inb_ok (o45 m c h) (m.plan.hk c 10),
  fun h hb => words_ok (o45 m c h) hb,
  fun h => inb_ok (o46 m c h) (m.plan.hk c 11),
  fun h hb => words_ok (o46 m c h) hb,
  fun h => inb_ok (o47 m c h) (m.plan.hk c 12),
  fun h hb => words_ok (o47 m c h) hb,
  fun h => inb_ok (o48 m c h) (m.plan.hk c 13),
  fun h hb => words_ok (o48 m c h) hb,
  fun h => inb_ok (o49 m c h) (m.plan.hk c 14),
  fun h hb => words_ok (o49 m c h) hb,
  fun h => inb_ok (o50 m c h) (m.plan.hk c 15),
  fun h hb => words_ok (o50 m c h) hb⟩
/-- Group 1 of the side conditions on kept chunks. -/
theorem chk3_1 : k1_chk3_1 (wL m c) (wK m c) := ⟨fun h => inb_ok (o51 m c h) (m.plan.hk c 16),
  fun h hb => words_ok (o51 m c h) hb,
  fun h => inb_ok (o52 m c h) (m.plan.hk c 0),
  fun h hb => words_ok (o52 m c h) hb,
  fun h => inb_ok (o53 m c h) (m.plan.hk c 1),
  fun h hb => words_ok (o53 m c h) hb,
  fun h => inb_ok (o54 m c h) (m.plan.hk c 2),
  fun h hb => words_ok (o54 m c h) hb,
  fun h => inb_ok (o55 m c h) (m.plan.hk c 3),
  fun h hb => words_ok (o55 m c h) hb,
  fun h => inb_ok (o56 m c h) (m.plan.hk c 4),
  fun h hb => words_ok (o56 m c h) hb,
  fun h => inb_ok (o57 m c h) (m.plan.hk c 5),
  fun h hb => words_ok (o57 m c h) hb,
  fun h => inb_ok (o58 m c h) (m.plan.hk c 6),
  fun h hb => words_ok (o58 m c h) hb,
  fun h => inb_ok (o59 m c h) (m.plan.hk c 7),
  fun h hb => words_ok (o59 m c h) hb,
  fun h => inb_ok (o60 m c h) (m.plan.hk c 8),
  fun h hb => words_ok (o60 m c h) hb,
  fun h => inb_ok (o61 m c h) (m.plan.hk c 9),
  fun h hb => words_ok (o61 m c h) hb,
  fun h => inb_ok (o62 m c h) (m.plan.hk c 10),
  fun h hb => words_ok (o62 m c h) hb,
  fun h => inb_ok (o63 m c h) (m.plan.hk c 11),
  fun h hb => words_ok (o63 m c h) hb,
  fun h => inb_ok (o64 m c h) (m.plan.hk c 12),
  fun h hb => words_ok (o64 m c h) hb,
  fun h => inb_ok (o65 m c h) (m.plan.hk c 13),
  fun h hb => words_ok (o65 m c h) hb,
  fun h => inb_ok (o66 m c h) (m.plan.hk c 14),
  fun h hb => words_ok (o66 m c h) hb⟩
/-- Group 2 of the side conditions on kept chunks. -/
theorem chk3_2 : k1_chk3_2 (wL m c) (wK m c) := ⟨fun h => inb_ok (o67 m c h) (m.plan.hk c 15),
  fun h hb => words_ok (o67 m c h) hb,
  fun h => inb_ok (o68 m c h) (m.plan.hk c 16),
  fun h hb => words_ok (o68 m c h) hb⟩
/-- All side conditions on kept chunks hold. -/
theorem chk3 : k1_chk3 (wL m c) (wK m c) := ⟨chk3_0 m c, chk3_1 m c, chk3_2 m c⟩

/-! ## Devices and semaphores -/

/-- Device number 1 is the partner. -/
theorem d1 : (⟨k1_dev1 c, k1_dev1_lt c⟩ : Dev nD) = pr c := by revert c; decide
/-- Device number 2 is the partner. -/
theorem d2 : (⟨k1_dev2 c, k1_dev2_lt c⟩ : Dev nD) = pr c := by revert c; decide
/-- Device number 3 is the partner. -/
theorem d3 : (⟨k1_dev3 c, k1_dev3_lt c⟩ : Dev nD) = pr c := by revert c; decide
/-- Device number 4 is the partner. -/
theorem d4 : (⟨k1_dev4 c, k1_dev4_lt c⟩ : Dev nD) = pr c := by revert c; decide
/-- Device number 5 is the partner. -/
theorem d5 : (⟨k1_dev5 c, k1_dev5_lt c⟩ : Dev nD) = pr c := by revert c; decide
/-- Device number 6 is the partner. -/
theorem d6 : (⟨k1_dev6 c, k1_dev6_lt c⟩ : Dev nD) = pr c := by revert c; decide
/-- Device number 7 is the partner. -/
theorem d7 : (⟨k1_dev7 c, k1_dev7_lt c⟩ : Dev nD) = pr c := by revert c; decide
/-- Device number 8 is the partner. -/
theorem d8 : (⟨k1_dev8 c, k1_dev8_lt c⟩ : Dev nD) = pr c := by revert c; decide
/-- Device number 9 is the partner. -/
theorem d9 : (⟨k1_dev9 c, k1_dev9_lt c⟩ : Dev nD) = pr c := by revert c; decide
/-- Device number 10 is the partner. -/
theorem d10 : (⟨k1_dev10 c, k1_dev10_lt c⟩ : Dev nD) = pr c := by revert c; decide
/-- Device number 11 is the partner. -/
theorem d11 : (⟨k1_dev11 c, k1_dev11_lt c⟩ : Dev nD) = pr c := by revert c; decide
/-- Device number 12 is the partner. -/
theorem d12 : (⟨k1_dev12 c, k1_dev12_lt c⟩ : Dev nD) = pr c := by revert c; decide
/-- Device number 13 is the partner. -/
theorem d13 : (⟨k1_dev13 c, k1_dev13_lt c⟩ : Dev nD) = pr c := by revert c; decide
/-- Device number 14 is the partner. -/
theorem d14 : (⟨k1_dev14 c, k1_dev14_lt c⟩ : Dev nD) = pr c := by revert c; decide
/-- Device number 15 is the partner. -/
theorem d15 : (⟨k1_dev15 c, k1_dev15_lt c⟩ : Dev nD) = pr c := by revert c; decide
/-- Device number 16 is the partner. -/
theorem d16 : (⟨k1_dev16 c, k1_dev16_lt c⟩ : Dev nD) = pr c := by revert c; decide
/-- Device number 17 is the partner. -/
theorem d17 : (⟨k1_dev17 c, k1_dev17_lt c⟩ : Dev nD) = pr c := by revert c; decide
/-- Device number 18 is the partner. -/
theorem d18 : (⟨k1_dev18 c, k1_dev18_lt c⟩ : Dev nD) = pr c := by revert c; decide

end Cert.SwapProof
-- ==== Proof.Parts.lean ====
/-
  The kernel's body, part by part: each part takes the state from its first step's to its last step's.
-/
module

public import proofs.«01_k».proof.Proof.Cond

@[expose] public section

noncomputable section

namespace Cert.SwapProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local irreducible] k1_cond1 k1_cond2 k1_cond3 k1_cond4 k1_cond5 k1_cond6 k1_cond7 k1_cond8 k1_cond9 k1_cond10 k1_cond11 k1_cond12 k1_cond13 k1_cond14 k1_cond15 k1_cond16 k1_cond17 k1_cond18 k1_cond19 k1_cond20 k1_cond21 k1_cond22 k1_cond23 k1_cond24 k1_cond25 k1_cond26 k1_cond27 k1_cond28 k1_cond29 k1_cond30 k1_cond31 k1_cond32 k1_cond33 k1_cond34 k1_cond35 k1_cond36 k1_cond37 k1_cond38 k1_cond39 k1_cond40 k1_cond41 k1_cond42 k1_cond43 k1_cond44 k1_cond45 k1_cond46 k1_cond47 k1_cond48 k1_cond49 k1_cond50 k1_cond51 k1_cond52 k1_cond53 k1_cond54 k1_cond55 k1_cond56 k1_cond57 k1_cond58 k1_cond59 k1_cond60 k1_cond61 k1_cond62 k1_cond63 k1_cond64 k1_cond65 k1_cond66 k1_cond67 k1_cond68 k1_off1 k1_off2 k1_off3 k1_off4 k1_off5 k1_off6 k1_off7 k1_off8 k1_off9 k1_off10 k1_off11 k1_off12 k1_off13 k1_off14 k1_off15 k1_off16 k1_off17 k1_off18 k1_off19 k1_off20 k1_off21 k1_off22 k1_off23 k1_off24 k1_off25 k1_off26 k1_off27 k1_off28 k1_off29 k1_off30 k1_off31 k1_off32 k1_off33 k1_off34 k1_off35 k1_off36 k1_off37 k1_off38 k1_off39 k1_off40 k1_off41 k1_off42 k1_off43 k1_off44 k1_off45 k1_off46 k1_off47 k1_off48 k1_off49 k1_off50 k1_off51 k1_off52 k1_off53 k1_off54 k1_off55 k1_off56 k1_off57 k1_off58 k1_off59 k1_off60 k1_off61 k1_off62 k1_off63 k1_off64 k1_off65 k1_off66 k1_off67 k1_off68 k1_off69 k1_off70 k1_off71 k1_off72 k1_off73 k1_off74 k1_off75 k1_off76 k1_off77 k1_off78 k1_off79 k1_off80 k1_off81 k1_off82 k1_off83 k1_off84 k1_off85

local notation "𝕄" => MT nD τ sig Unit (Elt F) ℕ (UU F) ℕ

/-- A program that has come to its value meets what is asked of that value. -/
theorem wp_done {α : Type} {P : sProp 𝕄} {c : Dev nD} {Kt : α → sProp 𝕄} {x : α} (H : P ⊢ Kt x) :
    P ⊢ wp frame (wpE (defs₀ (F := F)) 𝒱₀ c none) Set.univ (pure x : Pg F α) Kt := by
  show P ⊢ wp frame (wpE (defs₀ (F := F)) 𝒱₀ c none) Set.univ (Prog.ret x) Kt
  rw [wp_ret]
  iintro HP; imodintro; iapply H; iexact HP

/-- Before the handshake: chunk k's part of the state; -/
def SwPre (p : Plan) (v : Cont F) (c : Dev nD) (k : ℕ) : sProp 𝕄 :=
  if p.aS k then iprop(srcPt v (tS k) c (p.sR c k) (p.hs c k) ∗ dutyTok ER (sendCell c k) 0 () ∗ dutyTok ER (recvCell (pr c) k) 0 ()
    ∗ reached ER (sendCell c k) 0 ∗ atPos ER (sendCell c k) 0 ∅ 0 ∗ atPos ER (recvCell c k) 0 ∅ 0 ∗ cred (tallyAt (recvCell c k) () N)) else iprop(emp)
/-- the whole of it, beside R. -/
def Pre (p : Plan) (v : Cont F) (K : GSem nD τ sig → ℕ) (ιw : ℕ) (R : sProp 𝕄) (c : Dev nD) : sProp 𝕄 :=
  iprop(invs p v K ιw ∗ R ∗ levAts L lv ∗ (∃ W, owes (c : Thread nD τ) (O₀ p c) W) ∗ dutyTok ER (barCell (pr c)) 0 () ∗ reached ER (barCell (pr c)) 0
    ∗ barPay p v (pr c) ∗ atPos ER (barCell c) 0 ∅ 0 ∗ cred (tallyAt (barCell c) () 1)
    ∗ bigSep (Finset.range 17) (SwPre p v c) ∗ bigSep (Finset.range 17) (KpSt p v c 0))

/-- A chunk's part before the handshake, with what the other device sent for it, is the chunk's first state. -/
theorem Sw_one {p : Plan} {v : Cont F} {c : Dev nD} (k : ℕ) :
    (iprop(SwPre p v c k ∗ barOne p v (pr c) k) : sProp 𝕄) ⊢ SwSt p v c 0 k := by
  unfold SwPre barOne SwSt
  cases p.aS k with
  | false =>
    rw [if_neg Bool.false_ne_true, if_neg Bool.false_ne_true, if_neg Bool.false_ne_true]
    iintro -; iempintro
  | true =>
    rw [if_pos rfl, if_pos rfl, if_pos rfl, if_pos (Nat.zero_le _)]
    unfold Sw0
    iintro ⟨⟨H1, H3, H4, #H5, H7, H8, H9⟩, H2, #H6⟩
    isplitl [H1]; · iexact H1
    isplitl [H2]; · iexact H2
    isplitl [H3]; · iexact H3
    isplitl [H4]; · iexact H4
    isplitr; · iexact H5
    isplitr; · iexact H6
    isplitl [H7]; · iexact H7
    isplitl [H8] <;> iassumption
/-- With what the other device's signal brings, a chunk's part is what the exchange starts from. -/
theorem Sw_join {p : Plan} {v : Cont F} {c : Dev nD} :
    iprop(bigSep (Finset.range 17) (SwPre p v c) ∗ barPay p v c) ⊢ bigSep (Finset.range 17) (SwSt p v c 0) := by
  unfold barPay
  exact (Entails.of_eq (bigSep_sep _ _ _).symm).trans (bigSep_mono fun k _ => Sw_one k)

variable {m : Nums} {v : Cont F} (hA : Adm m.plan v) {K : GSem nD τ sig → ℕ} {ιw : ℕ} {c : Dev nD}
include hA

/-- Part 3 of the body takes the state after 4 steps to the state after 14. -/
theorem part3_run {R : sProp 𝕄} (arg0 : Memref sig .tc .smem S4 .i32) (harg0 : arg0.IsWhole) (h1 : srcM.IsWhole) (h2 : outM.IsWhole)
    (v5 : BitVec 32) (v6 : BitVec 32) (k1_hw2 : k1_chk2 (wL m c) (wS m c)) (k1_hw1 : k1_chk1 (wL m c) (wD m c)) (v28 : BitVec 32) (v68 : BitVec 32) {Kt : _ → sProp 𝕄} (H : ∀ x, St m.plan v K ιw R c 14 ⊢ Kt x) :
    St m.plan v K ιw R c 4 ⊢ wp frame (wpE (defs₀ (F := F)) 𝒱₀ c none) Set.univ
      (k1_part3 (F := F) arg0 harg0 srcM h1 outM h2 cc1_scratch0 cc1_scratch1 cc1_scratch2 c v5 v6 (wL m c) (wS m c) k1_hw2 (wD m c) k1_hw1 v28 v68) Kt := by
  rw [k1_part3_eq_skeleton]
  unfold k1_part3_skel
  refine (step_swap_start hA (n := 4) (k := 4) rfl (by decide) (c5 m c) rfl rfl (d6 c) (o10 m c) (o9 m c) ?_)
  refine (step_swap_start hA (n := 5) (k := 5) rfl (by decide) (c6 m c) rfl rfl (d7 c) (o12 m c) (o11 m c) ?_)
  refine (step_swap_start hA (n := 6) (k := 6) rfl (by decide) (c7 m c) rfl rfl (d8 c) (o14 m c) (o13 m c) ?_)
  refine (step_swap_start hA (n := 7) (k := 7) rfl (by decide) (c8 m c) rfl rfl (d9 c) (o16 m c) (o15 m c) ?_)
  refine (step_swap_start hA (n := 8) (k := 8) rfl (by decide) (c9 m c) rfl rfl (d10 c) (o18 m c) (o17 m c) ?_)
  refine (step_swap_start hA (n := 9) (k := 9) rfl (by decide) (c10 m c) rfl rfl (d11 c) (o20 m c) (o19 m c) ?_)
  refine (step_swap_start hA (n := 10) (k := 10) rfl (by decide) (c11 m c) rfl rfl (d12 c) (o22 m c) (o21 m c) ?_)
  refine (step_swap_start hA (n := 11) (k := 11) rfl (by decide) (c12 m c) rfl rfl (d13 c) (o24 m c) (o23 m c) ?_)
  refine (step_swap_start hA (n := 12) (k := 12) rfl (by decide) (c13 m c) rfl rfl (d14 c) (o26 m c) (o25 m c) ?_)
  refine (step_swap_start hA (n := 13) (k := 13) rfl (by decide) (c14 m c) rfl rfl (d15 c) (o28 m c) (o27 m c) ?_)
  exact wp_done (H _)

/-- Part 4 of the body takes the state after 14 steps to the state after 24. -/
theorem part4_run {R : sProp 𝕄} (arg0 : Memref sig .tc .smem S4 .i32) (harg0 : arg0.IsWhole) (h1 : srcM.IsWhole) (h2 : outM.IsWhole)
    (v5 : BitVec 32) (v6 : BitVec 32) (k1_hw2 : k1_chk2 (wL m c) (wS m c)) (k1_hw1 : k1_chk1 (wL m c) (wD m c)) (k1_hw3 : k1_chk3 (wL m c) (wK m c)) (v28 : BitVec 32) (v30 : BitVec 32) (v47 : BitVec 32) (v98 : BitVec 32) {Kt : _ → sProp 𝕄} (H : ∀ x, St m.plan v K ιw R c 24 ⊢ Kt x) :
    St m.plan v K ιw R c 14 ⊢ wp frame (wpE (defs₀ (F := F)) 𝒱₀ c none) Set.univ
      (k1_part4 (F := F) arg0 harg0 srcM h1 outM h2 cc1_scratch0 cc1_scratch1 cc1_scratch2 c v5 v6 (wL m c) (wS m c) k1_hw2 (wD m c) k1_hw1 (wK m c) k1_hw3 v28 v30 v47 v98) Kt := by
  rw [k1_part4_eq_skeleton]
  unfold k1_part4_skel
  refine (step_swap_start hA (n := 14) (k := 14) rfl (by decide) (c15 m c) rfl rfl (d16 c) (o30 m c) (o29 m c) ?_)
  refine (step_swap_start hA (n := 15) (k := 15) rfl (by decide) (c16 m c) rfl rfl (d17 c) (o32 m c) (o31 m c) ?_)
  refine (step_swap_start hA (n := 16) (k := 16) rfl (by decide) (c17 m c) rfl rfl (d18 c) (o34 m c) (o33 m c) ?_)
  refine (step_keep_start hA (n := 17) (k := 0) rfl (by decide) (c18 m c) rfl (o35 m c) ?_)
  refine (step_keep_start hA (n := 18) (k := 1) rfl (by decide) (c19 m c) rfl (o36 m c) ?_)
  refine (step_keep_start hA (n := 19) (k := 2) rfl (by decide) (c20 m c) rfl (o37 m c) ?_)
  refine (step_keep_start hA (n := 20) (k := 3) rfl (by decide) (c21 m c) rfl (o38 m c) ?_)
  refine (step_keep_start hA (n := 21) (k := 4) rfl (by decide) (c22 m c) rfl (o39 m c) ?_)
  refine (step_keep_start hA (n := 22) (k := 5) rfl (by decide) (c23 m c) rfl (o40 m c) ?_)
  refine (step_keep_start hA (n := 23) (k := 6) rfl (by decide) (c24 m c) rfl (o41 m c) ?_)
  exact wp_done (H _)

/-- Part 5 of the body takes the state after 24 steps to the state after 34. -/
theorem part5_run {R : sProp 𝕄} (arg0 : Memref sig .tc .smem S4 .i32) (harg0 : arg0.IsWhole) (h1 : srcM.IsWhole) (h2 : outM.IsWhole)
    (k1_hw3 : k1_chk3 (wL m c) (wK m c)) (v11 : BitVec 32) (v47 : BitVec 32) (v49 : BitVec 32) (v128 : BitVec 32) {Kt : _ → sProp 𝕄} (H : ∀ x, St m.plan v K ιw R c 34 ⊢ Kt x) :
    St m.plan v K ιw R c 24 ⊢ wp frame (wpE (defs₀ (F := F)) 𝒱₀ c none) Set.univ
      (k1_part5 (F := F) arg0 harg0 srcM h1 outM h2 cc1_scratch0 cc1_scratch1 cc1_scratch2 (wL m c) (wK m c) k1_hw3 v11 v47 v49 v128) Kt := by
  rw [k1_part5_eq_skeleton]
  unfold k1_part5_skel
  refine (step_keep_start hA (n := 24) (k := 7) rfl (by decide) (c25 m c) rfl (o42 m c) ?_)
  refine (step_keep_start hA (n := 25) (k := 8) rfl (by decide) (c26 m c) rfl (o43 m c) ?_)
  refine (step_keep_start hA (n := 26) (k := 9) rfl (by decide) (c27 m c) rfl (o44 m c) ?_)
  refine (step_keep_start hA (n := 27) (k := 10) rfl (by decide) (c28 m c) rfl (o45 m c) ?_)
  refine (step_keep_start hA (n := 28) (k := 11) rfl (by decide) (c29 m c) rfl (o46 m c) ?_)
  refine (step_keep_start hA (n := 29) (k := 12) rfl (by decide) (c30 m c) rfl (o47 m c) ?_)
  refine (step_keep_start hA (n := 30) (k := 13) rfl (by decide) (c31 m c) rfl (o48 m c) ?_)
  refine (step_keep_start hA (n := 31) (k := 14) rfl (by decide) (c32 m c) rfl (o49 m c) ?_)
  refine (step_keep_start hA (n := 32) (k := 15) rfl (by decide) (c33 m c) rfl (o50 m c) ?_)
  refine (step_keep_start hA (n := 33) (k := 16) rfl (by decide) (c34 m c) rfl (o51 m c) ?_)
  exact wp_done (H _)

/-- Part 6 of the body takes the state after 34 steps to the state after 44. -/
theorem part6_run {R : sProp 𝕄} (arg0 : Memref sig .tc .smem S4 .i32) (harg0 : arg0.IsWhole) (h1 : srcM.IsWhole) (h2 : outM.IsWhole)
    (k1_hw3 : k1_chk3 (wL m c) (wK m c)) (v47 : BitVec 32) (v158 : BitVec 32) {Kt : _ → sProp 𝕄} (H : ∀ x, St m.plan v K ιw R c 44 ⊢ Kt x) :
    St m.plan v K ιw R c 34 ⊢ wp frame (wpE (defs₀ (F := F)) 𝒱₀ c none) Set.univ
      (k1_part6 (F := F) arg0 harg0 srcM h1 outM h2 cc1_scratch0 cc1_scratch1 cc1_scratch2 (wL m c) (wK m c) k1_hw3 v47 v158) Kt := by
  rw [k1_part6_eq_skeleton]
  unfold k1_part6_skel
  refine (step_keep_wait (n := 34) (k := 0) rfl (by decide) (c35 m c) rfl (m.plan.hk c 0) (o52 m c) ?_)
  refine (step_keep_wait (n := 35) (k := 1) rfl (by decide) (c36 m c) rfl (m.plan.hk c 1) (o53 m c) ?_)
  refine (step_keep_wait (n := 36) (k := 2) rfl (by decide) (c37 m c) rfl (m.plan.hk c 2) (o54 m c) ?_)
  refine (step_keep_wait (n := 37) (k := 3) rfl (by decide) (c38 m c) rfl (m.plan.hk c 3) (o55 m c) ?_)
  refine (step_keep_wait (n := 38) (k := 4) rfl (by decide) (c39 m c) rfl (m.plan.hk c 4) (o56 m c) ?_)
  refine (step_keep_wait (n := 39) (k := 5) rfl (by decide) (c40 m c) rfl (m.plan.hk c 5) (o57 m c) ?_)
  refine (step_keep_wait (n := 40) (k := 6) rfl (by decide) (c41 m c) rfl (m.plan.hk c 6) (o58 m c) ?_)
  refine (step_keep_wait (n := 41) (k := 7) rfl (by decide) (c42 m c) rfl (m.plan.hk c 7) (o59 m c) ?_)
  refine (step_keep_wait (n := 42) (k := 8) rfl (by decide) (c43 m c) rfl (m.plan.hk c 8) (o60 m c) ?_)
  refine (step_keep_wait (n := 43) (k := 9) rfl (by decide) (c44 m c) rfl (m.plan.hk c 9) (o61 m c) ?_)
  exact wp_done (H _)

/-- Part 7 of the body takes the state after 44 steps to the state after 54. -/
theorem part7_run {R : sProp 𝕄} (arg0 : Memref sig .tc .smem S4 .i32) (harg0 : arg0.IsWhole) (h1 : srcM.IsWhole) (h2 : outM.IsWhole)
    (v5 : BitVec 32) (v6 : BitVec 32) (k1_hw2 : k1_chk2 (wL m c) (wS m c)) (k1_hw3 : k1_chk3 (wL m c) (wK m c)) (v11 : BitVec 32) (v28 : BitVec 32) (v47 : BitVec 32) (v49 : BitVec 32) (v188 : BitVec 32) {Kt : _ → sProp 𝕄} (H : ∀ x, St m.plan v K ιw R c 54 ⊢ Kt x) :
    St m.plan v K ιw R c 44 ⊢ wp frame (wpE (defs₀ (F := F)) 𝒱₀ c none) Set.univ
      (k1_part7 (F := F) arg0 harg0 srcM h1 outM h2 cc1_scratch0 cc1_scratch1 cc1_scratch2 v5 v6 (wL m c) (wS m c) k1_hw2 (wK m c) k1_hw3 v11 v28 v47 v49 v188) Kt := by
  rw [k1_part7_eq_skeleton]
  unfold k1_part7_skel
  refine (step_keep_wait (n := 44) (k := 10) rfl (by decide) (c45 m c) rfl (m.plan.hk c 10) (o62 m c) ?_)
  refine (step_keep_wait (n := 45) (k := 11) rfl (by decide) (c46 m c) rfl (m.plan.hk c 11) (o63 m c) ?_)
  refine (step_keep_wait (n := 46) (k := 12) rfl (by decide) (c47 m c) rfl (m.plan.hk c 12) (o64 m c) ?_)
  refine (step_keep_wait (n := 47) (k := 13) rfl (by decide) (c48 m c) rfl (m.plan.hk c 13) (o65 m c) ?_)
  refine (step_keep_wait (n := 48) (k := 14) rfl (by decide) (c49 m c) rfl (m.plan.hk c 14) (o66 m c) ?_)
  refine (step_keep_wait (n := 49) (k := 15) rfl (by decide) (c50 m c) rfl (m.plan.hk c 15) (o67 m c) ?_)
  refine (step_keep_wait (n := 50) (k := 16) rfl (by decide) (c51 m c) rfl (m.plan.hk c 16) (o68 m c) ?_)
  refine (step_swap_wait (n := 51) (k := 0) rfl (by decide) (c52 m c) rfl rfl (m.plan.hs c 0) (o69 m c) ?_)
  refine (step_swap_wait (n := 52) (k := 1) rfl (by decide) (c53 m c) rfl rfl (m.plan.hs c 1) (o70 m c) ?_)
  refine (step_swap_wait (n := 53) (k := 2) rfl (by decide) (c54 m c) rfl rfl (m.plan.hs c 2) (o71 m c) ?_)
  exact wp_done (H _)

/-- Part 8 of the body takes the state after 54 steps to the state after 64. -/
theorem part8_run {R : sProp 𝕄} (arg0 : Memref sig .tc .smem S4 .i32) (harg0 : arg0.IsWhole) (h1 : srcM.IsWhole) (h2 : outM.IsWhole)
    (v5 : BitVec 32) (v6 : BitVec 32) (k1_hw2 : k1_chk2 (wL m c) (wS m c)) (v28 : BitVec 32) (v218 : BitVec 32) {Kt : _ → sProp 𝕄} (H : ∀ x, St m.plan v K ιw R c 64 ⊢ Kt x) :
    St m.plan v K ιw R c 54 ⊢ wp frame (wpE (defs₀ (F := F)) 𝒱₀ c none) Set.univ
      (k1_part8 (F := F) arg0 harg0 srcM h1 outM h2 cc1_scratch0 cc1_scratch1 cc1_scratch2 v5 v6 (wL m c) (wS m c) k1_hw2 v28 v218) Kt := by
  rw [k1_part8_eq_skeleton]
  unfold k1_part8_skel
  refine (step_swap_wait (n := 54) (k := 3) rfl (by decide) (c55 m c) rfl rfl (m.plan.hs c 3) (o72 m c) ?_)
  refine (step_swap_wait (n := 55) (k := 4) rfl (by decide) (c56 m c) rfl rfl (m.plan.hs c 4) (o73 m c) ?_)
  refine (step_swap_wait (n := 56) (k := 5) rfl (by decide) (c57 m c) rfl rfl (m.plan.hs c 5) (o74 m c) ?_)
  refine (step_swap_wait (n := 57) (k := 6) rfl (by decide) (c58 m c) rfl rfl (m.plan.hs c 6) (o75 m c) ?_)
  refine (step_swap_wait (n := 58) (k := 7) rfl (by decide) (c59 m c) rfl rfl (m.plan.hs c 7) (o76 m c) ?_)
  refine (step_swap_wait (n := 59) (k := 8) rfl (by decide) (c60 m c) rfl rfl (m.plan.hs c 8) (o77 m c) ?_)
  refine (step_swap_wait (n := 60) (k := 9) rfl (by decide) (c61 m c) rfl rfl (m.plan.hs c 9) (o78 m c) ?_)
  refine (step_swap_wait (n := 61) (k := 10) rfl (by decide) (c62 m c) rfl rfl (m.plan.hs c 10) (o79 m c) ?_)
  refine (step_swap_wait (n := 62) (k := 11) rfl (by decide) (c63 m c) rfl rfl (m.plan.hs c 11) (o80 m c) ?_)
  refine (step_swap_wait (n := 63) (k := 12) rfl (by decide) (c64 m c) rfl rfl (m.plan.hs c 12) (o81 m c) ?_)
  exact wp_done (H _)

omit hA in
/-- The pair's handshake: the own buffer's shares go to the other device, and the other device's come back. -/
theorem shake {R : sProp 𝕄} {dv : Dev nD} (hd : dv = pr c) {α : Type} {Q : α → sProp 𝕄} {rest : Pg F α}
    (H : St m.plan v K ιw iprop(R ∗ atPos ER (barCell c) 1 ∅ 0) c 0 ⊢ wp frame (wpE (defs₀ (F := F)) 𝒱₀ c none) Set.univ rest Q) :
    Pre m.plan v K ιw R c ⊢ wp frame (wpE (defs₀ (F := F)) 𝒱₀ c none) Set.univ
      ((semSignalWord dv (SemArray.scalar (sig.barrier 0 rfl) : Sems sig S_).sem 1#32 : Pg F PUnit) >>= fun _ =>
        (semWaitWord (SemArray.scalar (sig.barrier 0 rfl) : Sems sig S_).sem 1#32 : Pg F PUnit) >>= fun _ => rest) Q := by
  subst hd
  change _ ⊢ wp frame (wpE (defs₀ (F := F)) 𝒱₀ c none) Set.univ (Prog.op (.semSignal (pr c : Thread nD τ) barS 1) fun _ => Prog.op (.semWait barS 1) fun _ => rest) Q
  unfold Pre
  iintro ⟨#HI, HR, #Hlev, ⟨%W, HO⟩, Ht, #Hr, Hp, Ha, Hc, HS, HK⟩
  iapply (Rounds.wp_signal 𝒱₀ ER (swapRd m.plan v) (c : Thread nD τ) none (dst := (pr c : Thread nD τ)) (sem := barS) (r := 0) (d := ()) (κ := K (barCell (pr c)))
      (by rw [duties_bar]; exact Finset.mem_singleton_self _) rfl () (Ofrom m.plan c 0) rfl) $$ [HO Ht Hp]
  · isplitr; · iapply (inv_at m.plan v K ιw (bar_mem (pr c))); iexact HI
    isplitl [HO]; · iexact HO
    isplitl [Ht]; · iexact Ht
    isplitl [Hp]; · rw [payload_bar]; iexact Hp
    iexact Hr
  iintro HO
  iapply (Rounds.wp_wait_rest_token 𝒱₀ ER (swapRd m.plan v) (c : Thread nD τ) none (κ := K (barCell c))
      (wpE_semWait_eq 𝒱₀ (c : Thread nD τ) none Set.univ) (Set.mem_univ _) () (O := Ofrom m.plan c 0) (W := W) (R := 0) (m := 0) (T := ∅)
      ((Nat.zero_add 1).trans (expect_of m.plan v (duties_bar m.plan v c) rfl).symm)) $$ [Hc HO Ha]
  · isplitr; · iapply (inv_at m.plan v K ιw (bar_mem c)); iexact HI
    isplitl [Hc]; · iexact Hc
    isplitl [HO]; · iexact HO
    isplitr; · iapply (mayWait_bar m.plan c); iexact Hlev
    iexact Ha
  iintro ⟨HO, Ha, -, Hpay⟩
  ihave Hq := (Entails.of_eq (rest_of m.plan v (duties_bar m.plan v c) (payload_bar m.plan v c ()))) $$ Hpay
  iapply H
  unfold St
  isplitr; · iexact HI
  isplitl [HR Ha]; · isplitl [HR] <;> iassumption
  isplitl [HO]; · iexists _; iexact HO
  isplitl [HS Hq]
  · iapply (Sw_join (p := m.plan) (v := v) (c := c))
    isplitl [HS] <;> iassumption
  iexact HK

/-- The second part of the body makes the handshake and takes the state before it to the state after 4 steps. -/
theorem part2_run {R : sProp 𝕄} (arg0 : Memref sig .tc .smem S4 .i32) (harg0 : arg0.IsWhole) (h1 : srcM.IsWhole) (h2 : outM.IsWhole)
    (v5 : BitVec 32) (v6 : BitVec 32) (k1_hw2 : k1_chk2 (wL m c) (wS m c)) (k1_hw1 : k1_chk1 (wL m c) (wD m c)) (v11 : BitVec 32) (v28 : BitVec 32) (c256_i32_9 : BitVec 32) (v31 : BitVec 32) (v33 : BitVec 32) (v34 : BitVec 1) {Kt : _ → sProp 𝕄} (H : ∀ x, St m.plan v K ιw iprop(R ∗ atPos ER (barCell c) 1 ∅ 0) c 4 ⊢ Kt x) :
    Pre m.plan v K ιw R c ⊢ wp frame (wpE (defs₀ (F := F)) 𝒱₀ c none) Set.univ
      (k1_part2 (F := F) arg0 harg0 srcM h1 outM h2 cc1_scratch0 cc1_scratch1 cc1_scratch2 c v5 v6 (wL m c) (wS m c) k1_hw2 (wD m c) k1_hw1 v11 v28 c256_i32_9 v31 v33 v34) Kt := by
  rw [k1_part2_eq_skeleton]
  unfold k1_part2_skel
  refine shake (d1 c) ?_
  refine (step_swap_start hA (n := 0) (k := 0) rfl (by decide) (c1 m c) rfl rfl (d2 c) (o2 m c) (o1 m c) ?_)
  refine (step_swap_start hA (n := 1) (k := 1) rfl (by decide) (c2 m c) rfl rfl (d3 c) (o4 m c) (o3 m c) ?_)
  refine (step_swap_start hA (n := 2) (k := 2) rfl (by decide) (c3 m c) rfl rfl (d4 c) (o6 m c) (o5 m c) ?_)
  refine (step_swap_start hA (n := 3) (k := 3) rfl (by decide) (c4 m c) rfl rfl (d5 c) (o8 m c) (o7 m c) ?_)
  exact wp_done (H _)

omit hA in
/-- Reading a word of the scalars. -/
theorem load_word {P : sProp 𝕄} {arg0 : Memref sig .tc .smem S4 .i32} {r : Rect S4} {hr1 : r.shape.numel = 1} {hp : (EltTy.i32).packing = 1}
    {S : Finset (Idx (arg0.view.loc (c : Thread nD τ)))} {q : PosShare TreeShare} {f : Buf (Elt F) (arg0.view.loc (c : Thread nD τ))}
    (hS : (arg0.access r).set ⊆ S) {w : Elt F .i32}
    (hw : (arg0.access r).read (Elt F) f (Shape.Idx.first (hr1.symm ▸ Nat.one_pos)) = w) {α : Type} {Q : α → sProp 𝕄} {k : Elt F .i32 → Pg F α}
    (H : iprop(P ∗ (arg0.view.loc (c : Thread nD τ) ↦[S]{q} f)) ⊢ wp frame (wpE (defs₀ (F := F)) 𝒱₀ c none) Set.univ (k w) Q) :
    iprop(P ∗ (arg0.view.loc (c : Thread nD τ) ↦[S]{q} f)) ⊢ wp frame (wpE (defs₀ (F := F)) 𝒱₀ c none) Set.univ ((smemLoad arg0 r hr1 hp : Pg F (Elt F .i32)) >>= k) Q := by
  subst hw
  change _ ⊢ wp frame (wpE (defs₀ (F := F)) 𝒱₀ c none) Set.univ (smemLoadElt arg0 r (View.loads_smem_one hp hr1) (Shape.Idx.first (hr1.symm ▸ Nat.one_pos)) k) Q
  iintro ⟨HP, Hs⟩
  iapply (wp_smemLoadElt 𝒱₀ (c : Thread nD τ) none Set.univ (S := S) (q := q) (f := f) hS) $$ [Hs]
  · iexact Hs
  iintro Hs
  iapply H
  isplitl [HP] <;> iassumption

omit hA in
/-- A side condition known to be true can be assumed. -/
theorem assume_it {P : sProp 𝕄} {X : Prop} {d : Decidable X} (hX : X) {α : Type} {Q : α → sProp 𝕄} {k : PLift X → Pg F α}
    (H : P ⊢ wp frame (wpE (defs₀ (F := F)) 𝒱₀ c none) Set.univ (k ⟨hX⟩) Q) :
    P ⊢ wp frame (wpE (defs₀ (F := F)) 𝒱₀ c none) Set.univ ((Prog.lift (TpuEff.assume X d) : Pg F (PLift X)) >>= k) Q :=
  H.trans (wp_assume 𝒱₀ (c : Thread nD τ) none Set.univ hX)

omit hA in
/-- Asking for the own device gives it. -/
theorem get_dev {P : sProp 𝕄} {α : Type} {Q : α → sProp 𝕄} {k : Dev nD → Pg F α}
    (H : P ⊢ wp frame (wpE (defs₀ (F := F)) 𝒱₀ c none) Set.univ (k c) Q) :
    P ⊢ wp frame (wpE (defs₀ (F := F)) 𝒱₀ c none) Set.univ ((Prog.lift TpuEff.deviceId : Pg F (Dev nD)) >>= k) Q :=
  H.trans (Entails.of_eq (wp_deviceId 𝒱₀ (c : Thread nD τ) none Set.univ (k := k)).symm)

/-- The four scalars, as the words the kernel reads. -/
structure Words (m : Nums) (c : Dev nD) (arg0 : Memref sig .tc .smem S4 .i32) (f : Buf (Elt F) (arg0.view.loc (c : Thread nD τ))) : Prop where
  w0 : (arg0.access (Rect.unit (s := S4) ![0] S1.size inb_S4_S1_0)).read (Elt F) f (Shape.Idx.first (numel1_S1.symm ▸ Nat.one_pos)) = wL m c
  w1 : (arg0.access (Rect.unit (s := S4) ![1] S1.size inb_S4_S1_1)).read (Elt F) f (Shape.Idx.first (numel1_S1.symm ▸ Nat.one_pos)) = wS m c
  w2 : (arg0.access (Rect.unit (s := S4) ![2] S1.size inb_S4_S1_2)).read (Elt F) f (Shape.Idx.first (numel1_S1.symm ▸ Nat.one_pos)) = wD m c
  w3 : (arg0.access (Rect.unit (s := S4) ![3] S1.size inb_S4_S1_3)).read (Elt F) f (Shape.Idx.first (numel1_S1.symm ▸ Nat.one_pos)) = wK m c

omit hA in
/-- The first part of the body: it loads the four words, finds the side conditions true, and hands on the words. -/
theorem part1_run {P : sProp 𝕄} {arg0 : Memref sig .tc .smem S4 .i32} (harg0 : arg0.IsWhole) (h1 : srcM.IsWhole) (h2 : outM.IsWhole)
    {S : Finset (Idx (arg0.view.loc (c : Thread nD τ)))} {q : PosShare TreeShare} {f : Buf (Elt F) (arg0.view.loc (c : Thread nD τ))}
    (hS : ∀ r : Rect S4, (arg0.access r).set ⊆ S) (hw : Words m c arg0 f) {Kt : _ → sProp 𝕄}
    (H : ∀ v5 v6 hw2 hw1 hw3 v11 v28 v30 c256 v31 v33 v34, iprop(P ∗ (arg0.view.loc (c : Thread nD τ) ↦[S]{q} f))
      ⊢ Kt ⟨c, v5, v6, wL m c, wS m c, hw2, wD m c, hw1, wK m c, hw3, v11, v28, v30, c256, v31, v33, v34⟩) :
    iprop(P ∗ (arg0.view.loc (c : Thread nD τ) ↦[S]{q} f)) ⊢ wp frame (wpE (defs₀ (F := F)) 𝒱₀ c none) Set.univ
      (k1_part1 (F := F) arg0 harg0 srcM h1 outM h2 cc1_scratch0 cc1_scratch1 cc1_scratch2) Kt := by
  rw [k1_part1_eq_skeleton]
  unfold k1_part1_skel
  refine get_dev ?_
  refine load_word (hS _) hw.w0 ?_
  refine load_word (hS _) hw.w1 ?_
  refine assume_it (chk2 m c) ?_
  refine load_word (hS _) hw.w2 ?_
  refine assume_it (chk1 m c) ?_
  refine load_word (hS _) hw.w3 ?_
  refine assume_it (chk3 m c) ?_
  exact wp_done (H _ _ _ _ _ _ _ _ _ _ _ _)

omit hA in
/-- Something can be set aside from what is beside the state before the handshake. -/
theorem Pre_out {R X : sProp 𝕄} : Pre m.plan v K ιw iprop(R ∗ X) c ⊢ iprop(Pre m.plan v K ιw iprop(emp ∗ R) c ∗ X) := by
  unfold Pre
  iintro ⟨H1, ⟨HR, HX⟩, H2, H3, H4, H5, H6, H7, H8, H9, H10⟩
  isplitr [HX]
  · isplitl [H1]; · iexact H1
    isplitl [HR]
    · isplitr; · iempintro
      iexact HR
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9] <;> iassumption
  iexact HX
omit hA in
/-- What was set aside can be put back beside the state before the handshake. -/
theorem Pre_in {R X : sProp 𝕄} : iprop(Pre m.plan v K ιw iprop(emp ∗ R) c ∗ X) ⊢ Pre m.plan v K ιw iprop(R ∗ X) c := by
  unfold Pre
  iintro ⟨⟨H1, ⟨-, HR⟩, H2, H3, H4, H5, H6, H7, H8, H9, H10⟩, HX⟩
  isplitl [H1]; · iexact H1
  isplitl [HR HX]; · isplitl [HR] <;> iassumption
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The whole body: from before the handshake to after the last wait. -/
theorem body_run {R : sProp 𝕄} {arg0 : Memref sig .tc .smem S4 .i32} (harg0 : arg0.IsWhole) (h1 : srcM.IsWhole) (h2 : outM.IsWhole)
    {S : Finset (Idx (arg0.view.loc (c : Thread nD τ)))} {q : PosShare TreeShare} {f : Buf (Elt F) (arg0.view.loc (c : Thread nD τ))}
    (hS : ∀ r : Rect S4, (arg0.access r).set ⊆ S) (hw : Words m c arg0 f) {Kt : PUnit → sProp 𝕄}
    (H : St m.plan v K ιw iprop((R ∗ (arg0.view.loc (c : Thread nD τ) ↦[S]{q} f)) ∗ atPos ER (barCell c) 1 ∅ 0) c 68 ⊢ Kt ⟨⟩) :
    Pre m.plan v K ιw iprop(R ∗ (arg0.view.loc (c : Thread nD τ) ↦[S]{q} f)) c ⊢ wp frame (wpE (defs₀ (F := F)) 𝒱₀ c none) Set.univ
      (cc1_body (F := F) arg0 harg0 srcM h1 outM h2 cc1_scratch0 cc1_scratch1 cc1_scratch2) Kt := by
  rw [cc1_body_eq_skeleton]
  unfold cc1_body_skel
  rw [wp_bind]
  refine (Pre_out).trans (part1_run (P := Pre m.plan v K ιw iprop(emp ∗ R) c) harg0 h1 h2 hS hw ?_)
  intro v5 v6 hw2 hw1 hw3 v11 v28 v30 c256 v31 v33 v34
  dsimp only
  rw [wp_bind]
  refine Pre_in.trans (part2_run hA (R := iprop(R ∗ (arg0.view.loc (c : Thread nD τ) ↦[S]{q} f))) arg0 harg0 h1 h2 _ _ _ _ _ _ _ _ _ _ ?_)
  rintro ⟨v47, v49, v68⟩
  rw [wp_bind]
  refine part3_run hA arg0 harg0 h1 h2 _ _ _ _ _ _ ?_
  intro x3
  rw [wp_bind]
  refine part4_run hA arg0 harg0 h1 h2 _ _ _ _ _ _ _ _ _ ?_
  intro x4
  rw [wp_bind]
  refine part5_run hA arg0 harg0 h1 h2 _ _ _ _ _ ?_
  intro x5
  rw [wp_bind]
  refine part6_run hA arg0 harg0 h1 h2 _ _ _ ?_
  intro x6
  rw [wp_bind]
  refine part7_run hA arg0 harg0 h1 h2 _ _ _ _ _ _ _ _ _ ?_
  intro x7
  rw [wp_bind]
  refine part8_run hA arg0 harg0 h1 h2 _ _ _ _ _ ?_
  intro x8
  refine (step_swap_wait (n := 64) (k := 13) rfl (by decide) (c65 m c) rfl rfl (m.plan.hs c 13) (o82 m c) ?_)
  refine (step_swap_wait (n := 65) (k := 14) rfl (by decide) (c66 m c) rfl rfl (m.plan.hs c 14) (o83 m c) ?_)
  refine (step_swap_wait (n := 66) (k := 15) rfl (by decide) (c67 m c) rfl rfl (m.plan.hs c 15) (o84 m c) ?_)
  refine (step_swap_wait (n := 67) (k := 16) rfl (by decide) (c68 m c) rfl rfl (m.plan.hs c 16) (o85 m c) ?_)
  exact wp_done H

end Cert.SwapProof

end
-- ==== Proof.Share.lean ====
/-
  The two arrays of the exchange, dealt into one share per chunk and put back together.
-/
module

public import proofs.«01_k».proof.Proof.Parts

@[expose] public section

noncomputable section

namespace Cert.SwapProof

open Cert.KernelIdeal Cert.KernelIdeal.Gen
open Idealize.ShloMosaic
open Idealize.ShloMosaic.TcCoe
open Idealize.SL Idealize.SL.RA Idealize.SL.RA.PCS Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN pointsTo_toks_range)

variable {F : FTy → Type} [FloatOps F]

local notation "𝕄" => MT nD τ sig Unit (Elt F) ℕ (UU F) ℕ

section Laws
variable {M : Type _} [URA M]
/-- Reassociating a separating conjunction. -/
theorem regroup (P Q R : sProp M) : iprop((P ∗ Q) ∗ R) = iprop(P ∗ Q ∗ R) := BI.equiv_iff.mp ⟨BI.sep_assoc, BI.sep_assoc'⟩
/-- A separating conjunction commutes. -/
theorem turn (P Q : sProp M) : iprop(P ∗ Q) = iprop(Q ∗ P) := BI.equiv_iff.mp ⟨BI.sep_comm, BI.sep_comm⟩
/-- Nothing on the right can be dropped. -/
theorem and_emp (P : sProp M) : iprop(P ∗ emp) = P := BI.equiv_iff.mp BI.sep_emp
/-- Nothing on the left can be dropped. -/
theorem emp_and (P : sProp M) : iprop(emp ∗ P) = P := BI.equiv_iff.mp BI.emp_sep
end Laws

variable (p : Plan) (v : Cont F) (c : Dev nD)

omit [FloatOps F] in
/-- A share of the result in write mode splits in two, with what is written on either. -/
theorem outTo_share {q q₁ q₂ : PosShare TreeShare} (h : q ∈ q₁ ·? q₂) (W₁ W₂ : Finset (Idx (outL c))) :
    (outTo v q c (W₁ ∪ W₂) : sProp 𝕄) = iprop(outTo v q₁ c W₁ ∗ outTo v q₂ c W₂) := by
  have e := BI.Region.held_share (ι := (wmEmb Unit wmE (nD := nD) (τ := τ) (sig := sig) (Val := Elt F) (Name := ℕ) (Lvl := ℕ)).toEmb) (k := outL c) (I := Finset.univ)
    (z := fun i => RA.Region.WB.mk (v.fo c i) (v.g c i) (decide (i ∈ W₁) || decide (i ∈ W₂)))
    (x := fun i => RA.Region.WB.mk (v.fo c i) (v.g c i) (decide (i ∈ W₁)))
    (y := fun i => RA.Region.WB.mk (v.fo c i) (v.g c i) (decide (i ∈ W₂))) h
    (fun i _ => RA.Region.WB.mem_mk_op_mk _ _ _ _)
  simp only [← Bool.decide_or, ← Finset.mem_union] at e
  exact BI.Entails.antisymm e.1 e.2

omit [FloatOps F] in
/-- A share of the result's buffer in write mode is the remainder after n tokens, and the tokens. -/
theorem outTo_toks (q : PosShare TreeShare) (n : ℕ) (W : ℕ → Finset (Idx (outL c))) : ∀ A : Finset (Idx (outL c)),
    (outTo v q c (A ∪ (Finset.range n).biUnion W) : sProp 𝕄)
      = iprop(outTo v (shareDrop q n) c A ∗ bigSep (Finset.range n) fun i => outTo v (shareTokN q i) c (W i)) := by
  induction n with
  | zero =>
    intro A
    rw [Finset.range_zero, BI.bigSep_empty, Finset.biUnion_empty, Finset.union_empty]
    exact (and_emp _).symm
  | succ n ih =>
    intro A
    have hs : (outTo v (shareDrop q n) c (A ∪ W n) : sProp 𝕄) = iprop(outTo v (shareDrop q (n + 1)) c A ∗ outTo v (shareTokN q n) c (W n)) :=
      outTo_share v c (PosShare.mem_left_op_right _) A (W n)
    have hb : bigSep (Finset.range (n + 1)) (fun i => (outTo v (shareTokN q i) c (W i) : sProp 𝕄))
        = iprop(outTo v (shareTokN q n) c (W n) ∗ bigSep (Finset.range n) (fun i => outTo v (shareTokN q i) c (W i))) := by
      rw [Finset.range_add_one, BI.bigSep_insert Finset.notMem_range_self]; rfl
    rw [hb, Finset.range_add_one, Finset.biUnion_insert, ← Finset.union_assoc, ih (A ∪ W n), hs]
    exact regroup _ _ _

/-! ## The source -/

def srcAll (q : PosShare TreeShare) : sProp 𝕄 := srcL c ↦[Finset.univ]{q} v.xs c
def swSrc (k : ℕ) : sProp 𝕄 := if p.aS k then srcPt v (tS k) c (p.sR c k) (p.hs c k) else iprop(emp)
def swSrcR (k : ℕ) : sProp 𝕄 :=
  if p.aS k then srcL c ↦[Finset.univ \ (slc srcM (p.sR c k) (p.hs c k)).view.set]{tS k} v.xs c else srcAll v c (tS k)
def kpSrc (k : ℕ) : sProp 𝕄 := if p.aK k then srcPt v (tK k) c (p.kR c k) (p.hk c k) else iprop(emp)
def kpSrcR (k : ℕ) : sProp 𝕄 :=
  if p.aK k then srcL c ↦[Finset.univ \ (slc srcM (p.kR c k) (p.hk c k)).view.set]{tK k} v.xs c else srcAll v c (tK k)
/-- What of the source no copy reads. -/
def srcRest : sProp 𝕄 :=
  iprop((srcAll v c (shareDrop fullShare.left 17) ∗ bigSep (Finset.range 17) (swSrcR p v c))
    ∗ (srcAll v c (shareDrop fullShare.right 17) ∗ bigSep (Finset.range 17) (kpSrcR p v c)))

omit [FloatOps F] in
/-- A share of the source is its part on 256 rows and its part on the rest. -/
theorem srcAll_cut (q : PosShare TreeShare) (r : ℕ) (h : r + 256 ≤ 4096) :
    (srcAll v c q : sProp 𝕄) = iprop((srcL c ↦[Finset.univ \ (slc srcM r h).view.set]{q} v.xs c) ∗ srcPt v q c r h) := by
  have e := pointsTo_split_subset (Ix := Unit) (Name := ℕ) (U := UU F) (Lvl := ℕ) (ℓ := srcL c) (q := q) (f := v.xs c) (Finset.subset_univ (slc srcM r h).view.set)
  exact (BI.Entails.antisymm e.1 e.2).trans (turn _ _)

omit [FloatOps F] in
/-- An exchanged chunk's share of the source is what its transfer reads and a rest. -/
theorem swSrc_eq (k : ℕ) : (srcAll v c (tS k) : sProp 𝕄) = iprop(swSrcR p v c k ∗ swSrc p v c k) := by
  unfold swSrcR swSrc
  cases p.aS k with
  | false => rw [if_neg Bool.false_ne_true, if_neg Bool.false_ne_true]; exact (and_emp _).symm
  | true => rw [if_pos rfl, if_pos rfl]; exact srcAll_cut v c _ _ _
omit [FloatOps F] in
/-- A kept chunk's share of the source is what its copy reads and a rest. -/
theorem kpSrc_eq (k : ℕ) : (srcAll v c (tK k) : sProp 𝕄) = iprop(kpSrcR p v c k ∗ kpSrc p v c k) := by
  unfold kpSrcR kpSrc
  cases p.aK k with
  | false => rw [if_neg Bool.false_ne_true, if_neg Bool.false_ne_true]; exact (and_emp _).symm
  | true => rw [if_pos rfl, if_pos rfl]; exact srcAll_cut v c _ _ _

omit [FloatOps F] in
/-- A share of the source splits in seventeen and a rest. -/
theorem srcAll_toks (q : PosShare TreeShare) :
    (srcAll v c q : sProp 𝕄) = iprop(srcAll v c (shareDrop q 17) ∗ bigSep (Finset.range 17) fun i => srcAll v c (shareTokN q i)) := by
  have e := pointsTo_toks_range (Ix := Unit) (Name := ℕ) (U := UU F) (Lvl := ℕ) (ℓ := srcL c) (S := Finset.univ) (f := v.xs c) q 17
  exact BI.Entails.antisymm e.1 e.2

omit [FloatOps F] in
/-- The source splits in two half shares. -/
theorem srcAll_halves : (srcAll v c fullShare : sProp 𝕄) = iprop(srcAll v c fullShare.left ∗ srcAll v c fullShare.right) := by
  have e := pointsTo_share (Ix := Unit) (Name := ℕ) (U := UU F) (Lvl := ℕ) (ℓ := srcL c) (I := Finset.univ) (f := v.xs c) (PosShare.mem_left_op_right fullShare)
  exact BI.Entails.antisymm e.1 e.2

omit [FloatOps F] in
/-- The source whole is what no copy reads and each copy's part. -/
theorem src_deal : (srcAll v c fullShare : sProp 𝕄)
    ⊣⊢ iprop(srcRest p v c ∗ bigSep (Finset.range 17) (swSrc p v c) ∗ bigSep (Finset.range 17) (kpSrc p v c)) := by
  have eS : bigSep (Finset.range 17) (fun i => (srcAll v c (tS i) : sProp 𝕄)) = iprop(bigSep (Finset.range 17) (swSrcR p v c) ∗ bigSep (Finset.range 17) (swSrc p v c)) := by
    rw [bigSep_congr fun k _ => swSrc_eq p v c k]; exact bigSep_sep _ _ _
  have eK : bigSep (Finset.range 17) (fun i => (srcAll v c (tK i) : sProp 𝕄)) = iprop(bigSep (Finset.range 17) (kpSrcR p v c) ∗ bigSep (Finset.range 17) (kpSrc p v c)) := by
    rw [bigSep_congr fun k _ => kpSrc_eq p v c k]; exact bigSep_sep _ _ _
  rw [srcAll_halves, srcAll_toks v c fullShare.left, srcAll_toks v c fullShare.right, eS, eK]
  unfold srcRest
  constructor
  · iintro ⟨⟨H1, H2, H3⟩, H4, H5, H6⟩
    isplitl [H1 H2 H4 H5]
    · isplitl [H1 H2]; · isplitl [H1] <;> iassumption
      isplitl [H4] <;> iassumption
    isplitl [H3] <;> iassumption
  · iintro ⟨⟨⟨H1, H2⟩, H4, H5⟩, H3, H6⟩
    isplitl [H1 H2 H3]
    · isplitl [H1]; · iexact H1
      isplitl [H2] <;> iassumption
    isplitl [H4]; · iexact H4
    isplitl [H5] <;> iassumption

/-! ## The result's buffer -/

def swOut (W : ℕ → Finset (Idx (outL c))) (k : ℕ) : sProp 𝕄 := if p.aS k then outTo v (tS k) c (W k) else iprop(emp)
def swOutR (k : ℕ) : sProp 𝕄 := if p.aS k then iprop(emp) else outTo v (tS k) c ∅
def kpOut (W : ℕ → Finset (Idx (outL c))) (k : ℕ) : sProp 𝕄 := if p.aK k then outTo v (tK k) c (W k) else iprop(emp)
def kpOutR (k : ℕ) : sProp 𝕄 := if p.aK k then iprop(emp) else outTo v (tK k) c ∅
/-- What of the result's buffer no copy writes through. -/
def outRest : sProp 𝕄 :=
  iprop((outTo v (shareDrop fullShare.left 17) c ∅ ∗ bigSep (Finset.range 17) (swOutR p v c))
    ∗ (outTo v (shareDrop fullShare.right 17) c ∅ ∗ bigSep (Finset.range 17) (kpOutR p v c)))
/-- All that has been written, chunk k of an exchange on W k, of the kept on W' k. -/
def marks (W W' : ℕ → Finset (Idx (outL c))) : Finset (Idx (outL c)) :=
  ((Finset.range 17).biUnion fun k => if p.aS k then W k else ∅) ∪ ((Finset.range 17).biUnion fun k => if p.aK k then W' k else ∅)

omit [FloatOps F] in
/-- An exchanged chunk's share of the result is what its transfer writes through and a rest. -/
theorem swOut_eq (W : ℕ → Finset (Idx (outL c))) (k : ℕ) :
    (outTo v (tS k) c (if p.aS k then W k else ∅) : sProp 𝕄) = iprop(swOutR p v c k ∗ swOut p v c W k) := by
  unfold swOutR swOut
  cases p.aS k with
  | false => rw [if_neg Bool.false_ne_true, if_neg Bool.false_ne_true, if_neg Bool.false_ne_true]; exact (and_emp _).symm
  | true => rw [if_pos rfl, if_pos rfl, if_pos rfl]; exact (emp_and _).symm
omit [FloatOps F] in
/-- A kept chunk's share of the result is what its copy writes through and a rest. -/
theorem kpOut_eq (W : ℕ → Finset (Idx (outL c))) (k : ℕ) :
    (outTo v (tK k) c (if p.aK k then W k else ∅) : sProp 𝕄) = iprop(kpOutR p v c k ∗ kpOut p v c W k) := by
  unfold kpOutR kpOut
  cases p.aK k with
  | false => rw [if_neg Bool.false_ne_true, if_neg Bool.false_ne_true, if_neg Bool.false_ne_true]; exact (and_emp _).symm
  | true => rw [if_pos rfl, if_pos rfl, if_pos rfl]; exact (emp_and _).symm

omit [FloatOps F] in
/-- The result's buffer in write mode is what no copy writes through and each copy's share. -/
theorem out_deal (W W' : ℕ → Finset (Idx (outL c))) : (outTo v fullShare c (marks p c W W') : sProp 𝕄)
    ⊣⊢ iprop(outRest p v c ∗ bigSep (Finset.range 17) (swOut p v c W) ∗ bigSep (Finset.range 17) (kpOut p v c W')) := by
  have eS : bigSep (Finset.range 17) (fun i => (outTo v (tS i) c (if p.aS i then W i else ∅) : sProp 𝕄)) = iprop(bigSep (Finset.range 17) (swOutR p v c) ∗ bigSep (Finset.range 17) (swOut p v c W)) := by
    rw [bigSep_congr fun k _ => swOut_eq p v c W k]; exact bigSep_sep _ _ _
  have eK : bigSep (Finset.range 17) (fun i => (outTo v (tK i) c (if p.aK i then W' i else ∅) : sProp 𝕄)) = iprop(bigSep (Finset.range 17) (kpOutR p v c) ∗ bigSep (Finset.range 17) (kpOut p v c W')) := by
    rw [bigSep_congr fun k _ => kpOut_eq p v c W' k]; exact bigSep_sep _ _ _
  have tL := outTo_toks v c fullShare.left 17 (fun k => if p.aS k then W k else ∅) ∅
  have tR := outTo_toks v c fullShare.right 17 (fun k => if p.aK k then W' k else ∅) ∅
  rw [Finset.empty_union] at tL tR
  unfold marks
  rw [outTo_share v c (PosShare.mem_left_op_right fullShare), tL, tR, eS, eK]
  unfold outRest
  constructor
  · iintro ⟨⟨H1, H2, H3⟩, H4, H5, H6⟩
    isplitl [H1 H2 H4 H5]
    · isplitl [H1 H2]; · isplitl [H1] <;> iassumption
      isplitl [H4] <;> iassumption
    isplitl [H3] <;> iassumption
  · iintro ⟨⟨⟨H1, H2⟩, H4, H5⟩, H3, H6⟩
    isplitl [H1 H2 H3]
    · isplitl [H1]; · iexact H1
      isplitl [H2] <;> iassumption
    isplitl [H4]; · iexact H4
    isplitl [H5] <;> iassumption

omit [FloatOps F] in
/-- With no chunk written, nothing is written. -/
theorem marks_none : marks p c (fun _ => ∅) (fun _ => ∅) = ∅ := by
  unfold marks
  simp only [ite_self]
  refine Finset.eq_empty_of_forall_notMem fun i hi => ?_
  rcases Finset.mem_union.mp hi with h | h <;> (obtain ⟨_, _, h⟩ := Finset.mem_biUnion.mp h; exact absurd h (Finset.notMem_empty _))

end Cert.SwapProof

end
-- ==== Proof.Entry.lean ====
/-
  Into the exchange and out of it: the semaphores' cells opened, the result's buffer put in write mode and both arrays
  dealt; at the end all of it undone.
-/
module

public import proofs.«01_k».proof.Proof.Share

@[expose] public section

noncomputable section

namespace Cert.SwapProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTokN)

variable {F : FTy → Type} [FloatOps F]

local notation "𝕄" => MT nD τ sig Unit (Elt F) ℕ (UU F) ℕ

variable (p : Plan) (v : Cont F)

/-- An own semaphore's cell. -/
abbrev ownCell (c : Dev nD) (j : ℕ) : GSem nD τ sig := ((c : Thread nD τ), .dma (dsem j))
abbrev osem1 : Fin 51 → SemLoc sig := fun j => .dma (dsem j.val)

omit [FloatOps F] in
/-- A product over the chunks of pairs is the pair of the products. -/
theorem range_two (Φ Ψ : ℕ → sProp 𝕄) :
    bigSep (Finset.range 17) (fun k => iprop(Φ k ∗ Ψ k)) = iprop(bigSep (Finset.range 17) Φ ∗ bigSep (Finset.range 17) Ψ) := bigSep_sep _ _ _

omit [FloatOps F] in
/-- The own semaphores are the send, the receive and the copy semaphores. -/
theorem own_three (Φ : ℕ → sProp 𝕄) : bigSep (Finset.univ : Finset (Fin 51)) (fun j => Φ j.val)
    = iprop(bigSep (Finset.range 17) Φ ∗ bigSep (Finset.range 17) (fun k => Φ (17 + k)) ∗ bigSep (Finset.range 17) (fun k => Φ (34 + k))) := by
  rw [show bigSep (Finset.univ : Finset (Fin 51)) (fun j => Φ j.val) = bigSep ((Finset.univ : Finset (Fin 51)).map Fin.valEmbedding) Φ from
      (BI.bigSep_map Fin.valEmbedding).symm,
    show (Finset.univ : Finset (Fin 51)).map Fin.valEmbedding
      = Finset.range 17 ∪ ((Finset.range 17).map (addLeftEmbedding 17) ∪ (Finset.range 17).map (addLeftEmbedding 34)) from by decide,
    BI.bigSep_union (by decide), BI.bigSep_union (by decide), BI.bigSep_map, BI.bigSep_map]
  rfl

/-- What a device has of the protocol at launch. -/
def Ghost0 (K : GSem nD τ sig → ℕ) (ιw : ℕ) (c : Dev nD) : sProp 𝕄 :=
  iprop(invs p v K ιw ∗ reached ER (barCell (pr c)) 0 ∗ atPos ER (barCell c) 0 ∅ 0 ∗ dutyTok ER (barCell (pr c)) 0 ()
    ∗ (bigSep (Finset.univ : Finset (Fin 51)) fun j => openTok ER (ownCell c j.val))
    ∗ (bigSep (Finset.range 17) fun k => dutyTok ER (sendCell c k) 0 ()) ∗ (bigSep (Finset.range 17) fun k => dutyTok ER (recvCell (pr c) k) 0 ())
    ∗ (bigSep (Finset.range 17) fun k => dutyTok ER (copyCell c k) 0 ()))
def credOne (c : Dev nD) (k : ℕ) : sProp 𝕄 := if p.aS k then cred (tallyAt (recvCell c k) () N) else iprop(emp)
def Creds (c : Dev nD) : sProp 𝕄 := iprop(cred (tallyAt (barCell c) () 1) ∗ bigSep (Finset.range 17) (credOne p c))

/-- A chunk's cells, when there is nothing to exchange. -/
def swLeft (c : Dev nD) (k : ℕ) : sProp 𝕄 :=
  if p.aS k then iprop(emp) else iprop(atPos ER (sendCell c k) 0 ∅ 0 ∗ atPos ER (recvCell c k) 0 ∅ 0)
def kpLeft (c : Dev nD) (k : ℕ) : sProp 𝕄 := if p.aK k then iprop(emp) else atPos ER (copyCell c k) 0 ∅ 0

def Rst (c : Dev nD) : sProp 𝕄 :=
  iprop(srcRest p v c ∗ outRest p v c ∗ bigSep (Finset.range 17) (swLeft p c) ∗ bigSep (Finset.range 17) (kpLeft p c))

/-- What enters the exchange, beside what is owed. -/
def Xk1 (K : GSem nD τ sig → ℕ) (ιw : ℕ) (c : Dev nD) : sProp 𝕄 :=
  iprop(invs p v K ιw ∗ Rst p v c ∗ levAts L lv ∗ dutyTok ER (barCell (pr c)) 0 () ∗ reached ER (barCell (pr c)) 0
    ∗ barPay p v (pr c) ∗ atPos ER (barCell c) 0 ∅ 0 ∗ cred (tallyAt (barCell c) () 1)
    ∗ bigSep (Finset.range 17) (SwPre p v c) ∗ bigSep (Finset.range 17) (KpSt p v c 0))

/-- What a device brings to the exchange. -/
def Tk1 (c : Dev nD) : sProp 𝕄 :=
  iprop((∃ K ιw, Ghost0 p v K ιw c) ∗ Creds p c ∗ srcAll v c fullShare ∗ (outL c ↦[Finset.univ]{fullShare} v.fo c))

def opened1 (c : Dev nD) (j : ℕ) : sProp 𝕄 := iprop(atPos ER (ownCell c j) 0 ∅ 0 ∗ reached ER (ownCell c j) 0)

/-- An own semaphore at zero with its opening token becomes a cell at the start of round 0. -/
theorem open_one {K : GSem nD τ sig → ℕ} {ιw : ℕ} {c : Dev nD} (j : Fin 51) :
    (iprop(invs p v K ιw ∗ (openTok ER (ownCell c j.val) ∗ semVal (ownCell c j.val) 0)) : sProp 𝕄) ⊢ |={Set.univ}=> opened1 c j.val := by
  unfold opened1
  iintro ⟨#HI, Ho, Hs⟩
  iapply (Rounds.cell_open ER (swapRd p v) (g := ownCell c j.val) (Set.mem_univ (K (ownCell c j.val))))
  isplitr; · iapply (inv_at p v K ιw (own_mem c j.isLt)); iexact HI
  isplitl [Ho] <;> iassumption

/-- All own semaphores become cells at the start of round 0. -/
theorem open_all {K : GSem nD τ sig → ℕ} {ιw : ℕ} {c : Dev nD} :
    (iprop(invs p v K ιw ∗ bigSep (Finset.univ : Finset (Fin 51)) (fun j => iprop(openTok ER (ownCell c j.val) ∗ semVal (ownCell c j.val) 0))) : sProp 𝕄)
      ⊢ |={Set.univ}=> bigSep (Finset.univ : Finset (Fin 51)) (fun j => opened1 c j.val) :=
  (bigSep_with_persistent fun j _ => open_one p v j).trans (bigSep_fupd _ _)

/-! ### One chunk in -/

def swIn (c : Dev nD) (k : ℕ) : sProp 𝕄 :=
  iprop(swSrc p v c k ∗ swOut p v c (fun _ => ∅) k ∗ dutyTok ER (sendCell c k) 0 () ∗ dutyTok ER (recvCell (pr c) k) 0 ()
    ∗ opened1 c k ∗ opened1 c (17 + k) ∗ credOne p c k)
def kpIn (c : Dev nD) (k : ℕ) : sProp 𝕄 :=
  iprop(kpSrc p v c k ∗ kpOut p v c (fun _ => ∅) k ∗ dutyTok ER (copyCell c k) 0 () ∗ opened1 c (34 + k))

omit [FloatOps F] in
/-- What a device has for an exchanged chunk at launch is the chunk's part of the state before the handshake, its part of the handshake, and a rest. -/
theorem sw_in (c : Dev nD) (k : ℕ) : (swIn p v c k : sProp 𝕄) ⊢ iprop((SwPre p v c k ∗ barOne p v c k) ∗ swLeft p c k) := by
  unfold swIn swSrc swOut SwPre barOne swLeft credOne opened1
  cases p.aS k with
  | false =>
    rw [if_neg Bool.false_ne_true, if_neg Bool.false_ne_true, if_neg Bool.false_ne_true, if_neg Bool.false_ne_true, if_neg Bool.false_ne_true, if_neg Bool.false_ne_true]
    iintro ⟨-, -, -, -, ⟨H1, -⟩, ⟨H2, -⟩, -⟩
    isplitr
    · isplitr <;> iempintro
    isplitl [H1] <;> iassumption
  | true =>
    rw [if_pos rfl, if_pos rfl, if_pos rfl, if_pos rfl, if_pos rfl, if_pos rfl]
    iintro ⟨H1, H2, H3, H4, ⟨H5, #H6⟩, ⟨H7, #H8⟩, H9⟩
    isplitl
    · isplitr [H2]
      · isplitl [H1]; · iexact H1
        isplitl [H3]; · iexact H3
        isplitl [H4]; · iexact H4
        isplitr; · iexact H6
        isplitl [H5]; · iexact H5
        isplitl [H7] <;> iassumption
      · isplitl [H2]; · iexact H2
        iexact H8
    iempintro

omit [FloatOps F] in
/-- What a device has for a kept chunk at launch is the chunk's part of the first state, and a rest. -/
theorem kp_in (c : Dev nD) (k : ℕ) : (kpIn p v c k : sProp 𝕄) ⊢ iprop(KpSt p v c 0 k ∗ kpLeft p c k) := by
  unfold kpIn kpSrc kpOut KpSt kpLeft opened1
  cases p.aK k with
  | false =>
    rw [if_neg Bool.false_ne_true, if_neg Bool.false_ne_true, if_neg Bool.false_ne_true, if_neg Bool.false_ne_true]
    iintro ⟨-, -, -, ⟨H1, -⟩⟩
    isplitr; · iempintro
    iexact H1
  | true =>
    rw [if_pos rfl, if_pos rfl, if_pos rfl, if_pos rfl, if_pos (Nat.zero_le _)]
    unfold Kp0
    iintro ⟨H1, H2, H3, ⟨H5, #H6⟩⟩
    isplitl
    · isplitl [H1]; · iexact H1
      isplitl [H2]; · iexact H2
      isplitl [H3]; · iexact H3
      isplitr; · iexact H6
      iexact H5
    iempintro

omit [FloatOps F] in
/-- `sw_in` for all chunks together. -/
theorem sw_in_all (c : Dev nD) : (bigSep (Finset.range 17) (swIn p v c) : sProp 𝕄)
    ⊢ iprop((bigSep (Finset.range 17) (SwPre p v c) ∗ bigSep (Finset.range 17) (barOne p v c)) ∗ bigSep (Finset.range 17) (swLeft p c)) := by
  rw [← range_two, ← range_two]
  exact bigSep_mono fun k _ => sw_in p v c k
omit [FloatOps F] in
/-- `kp_in` for all chunks together. -/
theorem kp_in_all (c : Dev nD) : (bigSep (Finset.range 17) (kpIn p v c) : sProp 𝕄)
    ⊢ iprop(bigSep (Finset.range 17) (KpSt p v c 0) ∗ bigSep (Finset.range 17) (kpLeft p c)) := by
  rw [← range_two]
  exact bigSep_mono fun k _ => kp_in p v c k

omit [FloatOps F] in
/-- The resources of the exchanged chunks, sorted by kind, are those resources sorted by chunk. -/
theorem sw_gather (c : Dev nD) : (iprop(bigSep (Finset.range 17) (swSrc p v c) ∗ bigSep (Finset.range 17) (swOut p v c (fun _ => ∅))
      ∗ (bigSep (Finset.range 17) fun k => dutyTok ER (sendCell c k) 0 ()) ∗ (bigSep (Finset.range 17) fun k => dutyTok ER (recvCell (pr c) k) 0 ())
      ∗ bigSep (Finset.range 17) (opened1 c) ∗ (bigSep (Finset.range 17) fun k => opened1 c (17 + k)) ∗ bigSep (Finset.range 17) (credOne p c)) : sProp 𝕄)
    ⊢ bigSep (Finset.range 17) (swIn p v c) := by
  rw [← range_two, ← range_two, ← range_two, ← range_two, ← range_two, ← range_two]
  exact .rfl
omit [FloatOps F] in
/-- The resources of the kept chunks, sorted by kind, are those resources sorted by chunk. -/
theorem kp_gather (c : Dev nD) : (iprop(bigSep (Finset.range 17) (kpSrc p v c) ∗ bigSep (Finset.range 17) (kpOut p v c (fun _ => ∅))
      ∗ (bigSep (Finset.range 17) fun k => dutyTok ER (copyCell c k) 0 ()) ∗ (bigSep (Finset.range 17) fun k => opened1 c (34 + k))) : sProp 𝕄)
    ⊢ bigSep (Finset.range 17) (kpIn p v c) := by
  rw [← range_two, ← range_two, ← range_two]
  exact .rfl

omit [FloatOps F] in
/-- The opening tokens and the own semaphores at zero, paired up. -/
theorem own_pairs (c : Dev nD) : (iprop((bigSep (Finset.univ : Finset (Fin 51)) fun j => openTok ER (ownCell c j.val)) ∗ Pipeline.ownSems0 osem1 c) : sProp 𝕄)
    ⊢ bigSep (Finset.univ : Finset (Fin 51)) (fun j => iprop(openTok ER (ownCell c j.val) ∗ semVal (ownCell c j.val) 0)) :=
  Entails.of_eq (bigSep_sep _ _ _).symm

/-- Into the exchange. -/
theorem enter (c : Dev nD) : iprop(Tk1 p v c ∗ Pipeline.ownSems0 osem1 c ∗ levAts L lv) ⊢ (|={Set.univ}=> ∃ K ιw, Xk1 p v K ιw c : sProp 𝕄) := by
  unfold Tk1 Ghost0 Creds
  iintro ⟨⟨⟨%K, %ιw, #HI, #Hrb, Hab, Htb, Hop, HtS, HtR, HtC⟩, ⟨Hcb, Hcr⟩, Hx, Ho⟩, Hs, #HL⟩
  ihave Hpair := (own_pairs c) $$ [Hop Hs]
  · isplitl [Hop] <;> iassumption
  imod (open_all p v (K := K) (ιw := ιw) (c := c)) $$ [Hpair] with Hopen
  · isplitr; · iexact HI
    iexact Hpair
  imod (pointsTo_castIn (emb := wmE) (ιwm := ιw) (v.g c) (E := Set.univ) (Set.mem_univ _)) $$ [Ho] with Hw
  · isplitr; · iapply (inv_wm p v K ιw); iexact HI
    iexact Ho
  imodintro
  iexists K; iexists ιw
  ihave Hx' := (src_deal p v c).1 $$ Hx
  icases Hx' with ⟨Hx0, HxS, HxK⟩
  ihave Hw' := (show (outTo v fullShare c ∅ : sProp 𝕄) ⊢ _ from (Entails.of_eq (by rw [marks_none p c])).trans (out_deal p v c (fun _ => ∅) (fun _ => ∅)).1) $$ [Hw]
  · unfold outTo; iexact Hw
  icases Hw' with ⟨Hw0, HwS, HwK⟩
  ihave H3 := (Entails.of_eq (own_three (opened1 c))) $$ Hopen
  icases H3 with ⟨HoS, HoR, HoC⟩
  ihave Hsw := ((sw_gather p v c).trans (sw_in_all p v c)) $$ [HxS HwS HtS HtR HoS HoR Hcr]
  · isplitl [HxS]; · iexact HxS
    isplitl [HwS]; · iexact HwS
    isplitl [HtS]; · iexact HtS
    isplitl [HtR]; · iexact HtR
    isplitl [HoS]; · iexact HoS
    isplitl [HoR] <;> iassumption
  icases Hsw with ⟨⟨HSw, HBar⟩, HLs⟩
  ihave Hkp := ((kp_gather p v c).trans (kp_in_all p v c)) $$ [HxK HwK HtC HoC]
  · isplitl [HxK]; · iexact HxK
    isplitl [HwK]; · iexact HwK
    isplitl [HtC] <;> iassumption
  icases Hkp with ⟨HKp, HLk⟩
  unfold Xk1 Rst barPay
  rw [pr_pr]
  isplitr; · iexact HI
  isplitl [Hx0 Hw0 HLs HLk]
  · isplitl [Hx0]; · iexact Hx0
    isplitl [Hw0]; · iexact Hw0
    isplitl [HLs] <;> iassumption
  isplitr; · iexact HL
  isplitl [Htb]; · iexact Htb
  isplitr; · iexact Hrb
  isplitl [HBar]; · iexact HBar
  isplitl [Hab]; · iexact Hab
  isplitl [Hcb]; · iexact Hcb
  isplitl [HSw] <;> iassumption

/-! ### One chunk out -/

/-- The rows the exchange writes on device c, and the ones it keeps. -/
def swW (c : Dev nD) (k : ℕ) : Finset (Idx (outL c)) := rowsAt c (p.dR (pr c) k) (p.hd (pr c) k)
def kpW (c : Dev nD) (k : ℕ) : Finset (Idx (outL c)) := rowsAt c (p.kR c k) (p.hk c k)

def swBack (c : Dev nD) (k : ℕ) : sProp 𝕄 :=
  iprop(swSrc p v c k ∗ swOut p v c (swW p c) k ∗ semVal (ownCell c k) 0 ∗ semVal (ownCell c (17 + k)) 0)
def kpBack (c : Dev nD) (k : ℕ) : sProp 𝕄 := iprop(kpSrc p v c k ∗ kpOut p v c (kpW p c) k ∗ semVal (ownCell c (34 + k)) 0)

/-- A cell whose only round is over gives its semaphore back at zero. -/
theorem close_own {K : GSem nD τ sig → ℕ} {ιw : ℕ} {c : Dev nD} {j : ℕ} (hj : j < 51) :
    (iprop(invs p v K ιw ∗ atPos ER (ownCell c j) 1 ∅ 0) : sProp 𝕄) ⊢ |={Set.univ}=> semVal (ownCell c j) 0 := by
  iintro ⟨#HI, Hs⟩
  iapply (Rounds.cell_close ER (swapRd p v) (g := ownCell c j) (Set.mem_univ (K (ownCell c j))) (fun h => h) (duties_later p v _))
  isplitr; · iapply (inv_at p v K ιw (own_mem c hj)); iexact HI
  iexact Hs
/-- A cell that has nothing to wait for gives its semaphore back at zero. -/
theorem close_idle {K : GSem nD τ sig → ℕ} {ιw : ℕ} {c : Dev nD} {j : ℕ} (hj : j < 51) (ha : actJ p j = false) :
    (iprop(invs p v K ιw ∗ atPos ER (ownCell c j) 0 ∅ 0) : sProp 𝕄) ⊢ |={Set.univ}=> semVal (ownCell c j) 0 := by
  iintro ⟨#HI, Hs⟩
  iapply (Rounds.cell_close ER (swapRd p v) (g := ownCell c j) (Set.mem_univ (K (ownCell c j))) (fun h => h) (R := 0) (fun r _ => duties_own_off p v c hj ha r))
  isplitr; · iapply (inv_at p v K ιw (own_mem c hj)); iexact HI
  iexact Hs

/-- After the last step an exchanged chunk gives back its source share, its written share of the result and its semaphores. -/
theorem sw_out {K : GSem nD τ sig → ℕ} {ιw : ℕ} {c : Dev nD} (k : ℕ) (hk : k < 17) :
    (iprop(invs p v K ιw ∗ (SwSt p v c 68 k ∗ swLeft p c k)) : sProp 𝕄) ⊢ |={Set.univ}=> swBack p v c k := by
  unfold swBack swSrc swOut SwSt swLeft
  have ha := act_send p hk
  have hb := act_recv p hk
  cases e : p.aS k with
  | false =>
    rw [e] at ha hb
    rw [if_neg Bool.false_ne_true, if_neg Bool.false_ne_true, if_neg Bool.false_ne_true, if_neg Bool.false_ne_true]
    iintro ⟨#HI, -, H1, H2⟩
    imod (close_idle p v (K := K) (ιw := ιw) (c := c) (j := k) (by omega) ha) $$ [H1] with H1
    · isplitr; · iexact HI
      iexact H1
    imod (close_idle p v (K := K) (ιw := ιw) (c := c) (j := 17 + k) (by omega) hb) $$ [H2] with H2
    · isplitr; · iexact HI
      iexact H2
    imodintro
    isplitr; · iempintro
    isplitr; · iempintro
    isplitl [H1] <;> iassumption
  | true =>
    rw [if_pos rfl, if_pos rfl, if_pos rfl, if_pos rfl, if_neg (by omega), if_neg (by omega)]
    unfold Sw2 sendPay recvPay swW
    iintro ⟨#HI, ⟨H1, H2, H3, H4⟩, -⟩
    imod (close_own p v (K := K) (ιw := ιw) (c := c) (j := k) (by omega)) $$ [H1] with H1
    · isplitr; · iexact HI
      iexact H1
    imod (close_own p v (K := K) (ιw := ιw) (c := c) (j := 17 + k) (by omega)) $$ [H2] with H2
    · isplitr; · iexact HI
      iexact H2
    imodintro
    isplitl [H3]; · iexact H3
    isplitl [H4]; · iexact H4
    isplitl [H1] <;> iassumption

/-- After the last step a kept chunk gives back its source share, its written share of the result and its semaphore. -/
theorem kp_out {K : GSem nD τ sig → ℕ} {ιw : ℕ} {c : Dev nD} (k : ℕ) (hk : k < 17) :
    (iprop(invs p v K ιw ∗ (KpSt p v c 68 k ∗ kpLeft p c k)) : sProp 𝕄) ⊢ |={Set.univ}=> kpBack p v c k := by
  unfold kpBack kpSrc kpOut KpSt kpLeft
  have ha := act_copy p hk
  cases e : p.aK k with
  | false =>
    rw [e] at ha
    rw [if_neg Bool.false_ne_true, if_neg Bool.false_ne_true, if_neg Bool.false_ne_true, if_neg Bool.false_ne_true]
    iintro ⟨#HI, -, H1⟩
    imod (close_idle p v (K := K) (ιw := ιw) (c := c) (j := 34 + k) (by omega) ha) $$ [H1] with H1
    · isplitr; · iexact HI
      iexact H1
    imodintro
    isplitr; · iempintro
    isplitr; · iempintro
    iexact H1
  | true =>
    rw [if_pos rfl, if_pos rfl, if_pos rfl, if_pos rfl, if_neg (by omega), if_neg (by omega)]
    unfold Kp2 copyPay kpW
    iintro ⟨#HI, ⟨H1, H3, H4⟩, -⟩
    imod (close_own p v (K := K) (ιw := ιw) (c := c) (j := 34 + k) (by omega)) $$ [H1] with H1
    · isplitr; · iexact HI
      iexact H1
    imodintro
    isplitl [H4]; · iexact H4
    isplitl [H3] <;> iassumption

/-- `sw_out` for all chunks together. -/
theorem sw_out_all {K : GSem nD τ sig → ℕ} {ιw : ℕ} {c : Dev nD} :
    (iprop(invs p v K ιw ∗ (bigSep (Finset.range 17) (SwSt p v c 68) ∗ bigSep (Finset.range 17) (swLeft p c))) : sProp 𝕄)
      ⊢ |={Set.univ}=> iprop(bigSep (Finset.range 17) (swSrc p v c) ∗ bigSep (Finset.range 17) (swOut p v c (swW p c))
        ∗ (bigSep (Finset.range 17) fun k => semVal (ownCell c k) 0) ∗ (bigSep (Finset.range 17) fun k => semVal (ownCell c (17 + k)) 0)) := by
  rw [← range_two, ← range_two, ← range_two, ← range_two]
  exact (bigSep_with_persistent fun k hk => sw_out p v k (Finset.mem_range.mp hk)).trans (bigSep_fupd _ _)
/-- `kp_out` for all chunks together. -/
theorem kp_out_all {K : GSem nD τ sig → ℕ} {ιw : ℕ} {c : Dev nD} :
    (iprop(invs p v K ιw ∗ (bigSep (Finset.range 17) (KpSt p v c 68) ∗ bigSep (Finset.range 17) (kpLeft p c))) : sProp 𝕄)
      ⊢ |={Set.univ}=> iprop(bigSep (Finset.range 17) (kpSrc p v c) ∗ bigSep (Finset.range 17) (kpOut p v c (kpW p c))
        ∗ (bigSep (Finset.range 17) fun k => semVal (ownCell c (34 + k)) 0)) := by
  rw [← range_two, ← range_two, ← range_two]
  exact (bigSep_with_persistent fun k hk => kp_out p v k (Finset.mem_range.mp hk)).trans (bigSep_fupd _ _)

/-- What the exchange leaves in the result's buffer: what was written is a target, the rest is as before. -/
def Lands (c : Dev nD) (f' : Buf (Elt F) (outL c)) : Prop :=
  ∀ i, (i ∉ marks p c (swW p c) (kpW p c) → f' i = v.fo c i) ∧ (i ∈ marks p c (swW p c) (kpW p c) → ∀ u, v.g c i = some u → f' i = u)

/-- What a device takes from the exchange. -/
def Yk1 (c : Dev nD) : sProp 𝕄 :=
  iprop(semVal (barCell c) 0 ∗ srcAll v c fullShare ∗ (∃ f', ⌜Lands p v c f'⌝ ∗ (outL c ↦[Finset.univ]{fullShare} f')))

/-- Out of the exchange. -/
theorem leave {K : GSem nD τ sig → ℕ} {ιw : ℕ} {c : Dev nD} {T : sProp 𝕄} :
    St p v K ιw iprop((Rst p v c ∗ T) ∗ atPos ER (barCell c) 1 ∅ 0) c 68
      ⊢ |={Set.univ}=> iprop(Yk1 p v c ∗ Pipeline.ownSems0 osem1 c ∗ T ∗ ∃ W, owes (c : Thread nD τ) (0 : CellTallies nD τ sig Unit) W) := by
  unfold St Rst
  rw [Ofrom_end p c (by omega : 17 ≤ 68)]
  iintro ⟨#HI, ⟨⟨⟨Hx0, Hw0, HLs, HLk⟩, HT⟩, Hab⟩, HO, HS, HK⟩
  imod (Rounds.cell_close ER (swapRd p v) (g := barCell c) (Set.mem_univ (K (barCell c))) (fun h => h) (duties_later p v _)) $$ [Hab] with Hb0
  · isplitr; · iapply (inv_at p v K ιw (bar_mem c)); iexact HI
    iexact Hab
  imod (sw_out_all p v (K := K) (ιw := ιw) (c := c)) $$ [HS HLs] with ⟨HxS, HwS, Hs1, Hs2⟩
  · isplitr; · iexact HI
    isplitl [HS] <;> iassumption
  imod (kp_out_all p v (K := K) (ιw := ιw) (c := c)) $$ [HK HLk] with ⟨HxK, HwK, Hs3⟩
  · isplitr; · iexact HI
    isplitl [HK] <;> iassumption
  ihave Hx := (src_deal p v c).2 $$ [Hx0 HxS HxK]
  · isplitl [Hx0]; · iexact Hx0
    isplitl [HxS] <;> iassumption
  ihave Hw := (out_deal p v c (swW p c) (kpW p c)).2 $$ [Hw0 HwS HwK]
  · isplitl [Hw0]; · iexact Hw0
    isplitl [HwS] <;> iassumption
  unfold outTo
  imod (willBeTo_castOut (emb := wmE) (ιwm := ιw) (E := Set.univ) (Set.mem_univ _)) $$ [Hw] with ⟨%f', %hf, Hf⟩
  · isplitr; · iapply (inv_wm p v K ιw); iexact HI
    iexact Hw
  imodintro
  unfold Yk1
  isplitl [Hb0 Hx Hf]
  · isplitl [Hb0]; · iexact Hb0
    isplitl [Hx]; · iexact Hx
    iexists f'
    isplitr; · ipureintro; exact fun i => hf i (Finset.mem_univ i)
    iexact Hf
  isplitl [Hs1 Hs2 Hs3]
  · iapply (show _ ⊢ (Pipeline.ownSems0 osem1 c : sProp 𝕄) from Entails.of_eq (own_three (F := F) (fun j => semVal (ownCell c j) 0)).symm)
    isplitl [Hs1]; · iexact Hs1
    isplitl [Hs2] <;> iassumption
  isplitl [HT] <;> iassumption

end Cert.SwapProof

end
-- ==== Proof.Region0.lean ====
/-
  The first call: the copy of the argument in blocks of 256 rows, run while the exchange's dues are still owed.
-/
module

public import proofs.«01_k».proof.Proof.Entry
public import Idealize.ShloMosaic.Lib.Pipeline.RegionArraysS
public import Idealize.ShloMosaic.Lib.Pipeline.Covers
public import Idealize.ShloMosaic.Lib.VecWindow

@[expose] public section

noncomputable section

namespace Cert.SwapProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU F) ℕ

/-- One block: read whole, stored whole. -/
theorem copy_run (c : Dev nD) (i : grid0.Coords) (M0 : Memref sig .tc .vmem S256x1024 .bf16) (h0 : M0.IsWhole) (M1 : Memref sig .tc .vmem S256x1024 .bf16) (h1 : M1.IsWhole)
    (f0 : Buf (Elt F) (M0.view.loc (c : Thread nD τ))) (f1 : Buf (Elt F) (M1.view.loc (c : Thread nD τ))) (Q : PUnit → sProp 𝕄) :
    iprop((M0.view.loc (c : Thread nD τ) ↦{fullShare} f0) ∗ (M1.view.loc (c : Thread nD τ) ↦{fullShare} f1)
      ∗ (iprop((M0.view.loc (c : Thread nD τ) ↦{fullShare} f0) ∗ (∃ f, (M1.view.loc (c : Thread nD τ) ↦{fullShare} f) ∗ ⌜M1.view.read (Elt F) f = M0.view.read (Elt F) f0⌝)) -∗ Q ⟨⟩))
      ⊢ wp frame (wpE (defs₀ (F := F)) 𝒱₀ c none) Set.univ (cc0_body i M0 h0 M1 h1) Q := by
  iintro ⟨H0, H1, Hk⟩
  sl_exec!
  sl_step
  iapply Hk
  isplitl [H0]; · iexact H0
  iexists _
  isplitl [H1]; · iexact H1
  ipureintro
  unfold copy_run.sl.H1_1 copy_run.sl.v1
  rw [View.read_writes_full, shapeCast_self, View.readAt_full]

/-- The body of the first kernel leaves its input block and makes its output block equal to it. -/
theorem copy_owns (c : Dev nD) (i : grid0.Coords) (M0 : Memref sig .tc .vmem S256x1024 .bf16) (h0 : M0.IsWhole) (M1 : Memref sig .tc .vmem S256x1024 .bf16) (h1 : M1.IsWhole)
    (X Y : S256x1024.Idx → Elt F .bf16) (Q : PUnit → sProp 𝕄) :
    iprop(owns (c : Thread nD τ) M0 fullShare X ∗ owns (c : Thread nD τ) M1 fullShare Y
      ∗ (iprop(owns (c : Thread nD τ) M0 fullShare X ∗ owns (c : Thread nD τ) M1 fullShare X) -∗ Q ⟨⟩))
      ⊢ wp frame (wpE (defs₀ (F := F)) 𝒱₀ c none) Set.univ (cc0_body i M0 h0 M1 h1) Q := by
  unfold owns
  rw [h0.set_eq_univ, h1.set_eq_univ]
  iintro ⟨⟨%f0, %e0, H0⟩, ⟨%f1, -, H1⟩, Hk⟩
  iapply (copy_run c i M0 h0 M1 h1 f0 f1 Q)
  isplitl [H0]; · iexact H0
  isplitl [H1]; · iexact H1
  iintro ⟨H0, ⟨%f, H1, %e⟩⟩
  iapply Hk
  isplitl [H0]
  · iexists f0; isplitr; · ipureintro; exact e0
    iexact H0
  iexists f; isplitr; · ipureintro; exact e.trans e0
  iexact H1

variable (p : Plan) (W0 : Dev nD → Valuation τ sig (Elt F))

/-- The block of the argument at point t. -/
abbrev blk0 (c : Dev nD) (t : Fin cfg0.N) : (cfg0.win 0).block.Idx → Elt F (cfg0.win 0).elt :=
  ((cfg0.win 0).blk t).view.read (Elt F) (W0 c (Proc.devRef .tc (Pipeline.arrRef spec0 0)))

def dat0 (c : Dev nD) : Dat τ (Elt F) Unit ℕ (UU F) ℕ cfg0 c where
  A w := W0 c (Proc.devRef .tc (Pipeline.arrRef spec0 w))
  after w t := match w with
    | ⟨0, _⟩ => blk0 W0 c t
    | ⟨1, _⟩ => blk0 W0 c t
  Φ _ := Pipeline.scopedRest spec0 c
  q _ := fullShare
  owed _ := O₀ p c

/-- What the input block holds before a step is the block of the array. -/
theorem before0 (c : Dev nD) (t : Fin cfg0.N) (d : (cfg0.win 0).block.Idx → Elt F (cfg0.win 0).elt) :
    (dat0 p W0 c).before 0 t d = blk0 W0 c t := by
  unfold Dat.before; rw [if_pos (fetch0_0 t)]; rfl

/-- The first kernel's body does what its pipeline asks of every step. -/
theorem body0 (c : Dev nD) : BodyObligation (dat0 p W0 c) (defs₀ (F := F)) 𝒱₀ () Set.univ := fun t => by
  rw [bigSep_W0, bigSep_W0]
  rw [show (dat0 p W0 c).Φ t.castSucc = Pipeline.scopedRest spec0 c from rfl, show (dat0 p W0 c).Φ t.succ = Pipeline.scopedRest spec0 c from rfl,
    show (dat0 p W0 c).owesAt () t.succ = (dat0 p W0 c).owesAt () t.castSucc from rfl]
  iintro ⟨HΦ, Howes, ⟨%d0, H0⟩, ⟨%d1, H1⟩⟩
  rw [before0]
  iapply (copy_owns c (grid0.coords t) (win0_0.stage (cfg0.slots t 0)) (hstage0_0 ((cfg0.slots t 0).cast nbuf0_0)) (win0_1.stage (cfg0.slots t 1)) (hstage0_1 ((cfg0.slots t 1).cast nbuf0_1)) (blk0 W0 c t) _ _)
  isplitl [H0]; · iexact H0
  isplitl [H1]; · iexact H1
  iintro ⟨H0, H1⟩
  isplitl [HΦ]; · iexact HΦ
  isplitl [Howes]; · iexact Howes
  isplitl [H0]
  · iexact H0
  iexact H1

end Cert.SwapProof

end
-- ==== Proof.Region1.lean ====
/-
  The second call, as a region of the program: entered with both arrays and the dues of the exchange, left with the
  result landed and nothing owed.
-/
module

public import proofs.«01_k».proof.Proof.Region0

@[expose] public section

noncomputable section

namespace Cert.SwapProof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU F) ℕ

/-- The four scalars, in the order the kernel reads them. -/
structure Scal (m : Nums) (c : Dev nD) (X : S4.Idx → Elt F .i32) : Prop where
  x0 : ∀ i : S4.Idx, (i 0).val = 0 → X i = wL m c
  x1 : ∀ i : S4.Idx, (i 0).val = 1 → X i = wS m c
  x2 : ∀ i : S4.Idx, (i 0).val = 2 → X i = wD m c
  x3 : ∀ i : S4.Idx, (i 0).val = 3 → X i = wK m c

omit [FloatOps F] in
/-- A buffer that reads as the four numbers' words gives those words when loaded. -/
theorem Scal.words {m : Nums} {c : Dev nD} {X : S4.Idx → Elt F .i32} (h : Scal m c X) (arg0 : Memref sig .tc .smem S4 .i32)
    (f : Buf (Elt F) (arg0.view.loc (c : Thread nD τ))) (e : arg0.view.read (Elt F) f = X) : Words m c arg0 f := by
  subst e
  exact ⟨h.x0 _ rfl, h.x1 _ rfl, h.x2 _ rfl, h.x3 _ rfl⟩

variable (m : Nums) (v : Cont F) (W1 : Dev nD → Valuation τ sig (Elt F))

/-- The scalars' block: the whole array. -/
abbrev blk1 (c : Dev nD) (t : Fin cfg1.N) : (cfg1.win 0).block.Idx → Elt F (cfg1.win 0).elt :=
  ((cfg1.win 0).blk t).view.read (Elt F) (W1 c (Proc.devRef .tc (Pipeline.arrRef spec1 0)))

def Φin (c : Dev nD) : sProp 𝕄 := iprop((∃ K ιw, Xk1 m.plan v K ιw c) ∗ Pipeline.scopedRest spec1 c ∗ ∃ r, prngReg c r)
def Φout (c : Dev nD) : sProp 𝕄 := iprop((Yk1 m.plan v c ∗ Pipeline.ownSems0 osem1 c) ∗ Pipeline.scopedRest spec1 c ∗ ∃ r, prngReg c r)

def dat1 (c : Dev nD) : Dat τ (Elt F) Unit ℕ (UU F) ℕ cfg1 c where
  A w := W1 c (Proc.devRef .tc (Pipeline.arrRef spec1 w))
  after w t := match w with
    | ⟨0, _⟩ => blk1 W1 c t
  Φ t := if t.val = 0 then Φin m v c else Φout m v c
  q _ := fullShare
  owed t := if t.val = 0 then O₀ m.plan c else 0

/-- What the block of scalars holds before the step is the block of the array. -/
theorem before1 (c : Dev nD) (t : Fin cfg1.N) (d : (cfg1.win 0).block.Idx → Elt F (cfg1.win 0).elt) :
    (dat1 m v W1 c).before 0 t d = blk1 W1 c t := by
  unfold Dat.before; rw [if_pos (fetch1_0 t)]; rfl

/-- What the core owes, said as the pipeline says it. -/
theorem owesAt_in {cfg : Pipeline.Cfg sig Λ₀} {c : Dev nD} (dat : Dat τ (Elt F) Unit ℕ (UU F) ℕ cfg c) (t : Fin (cfg.N + 1))
    {O : CellTallies nD τ sig Unit} (h0 : dat.owed t = O) (hr : dat.recorded t = Set.univ) :
    (iprop(∃ W, owes (c : Thread nD τ) O W) : sProp 𝕄) ⊢ (dat.owesAt () t : sProp 𝕄) := by
  unfold Dat.owesAt Pipeline.owesWithin Dat.bound; rw [h0, hr]
  iintro ⟨%W, HO⟩; iexists W; isplitr; · ipureintro; exact fun _ _ => Or.inl trivial
  iexact HO
/-- What the pipeline says the core owes, said plainly. -/
theorem owesAt_out {cfg : Pipeline.Cfg sig Λ₀} {c : Dev nD} (dat : Dat τ (Elt F) Unit ℕ (UU F) ℕ cfg c) (t : Fin (cfg.N + 1))
    {O : CellTallies nD τ sig Unit} (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-- The whole body, over the scalars' staging buffer. -/
theorem talk_run (hA : Adm m.plan v) (c : Dev nD) (arg0 : Memref sig .tc .smem S4 .i32) (harg0 : arg0.IsWhole)
    (h1 : srcM.IsWhole) (h2 : outM.IsWhole) (X : S4.Idx → Elt F .i32) (hX : Scal m c X) (Q : PUnit → sProp 𝕄) :
    iprop(owns (c : Thread nD τ) arg0 fullShare X ∗ (∃ K ιw, Xk1 m.plan v K ιw c) ∗ (∃ W, owes (c : Thread nD τ) (O₀ m.plan c) W)
      ∗ (iprop(owns (c : Thread nD τ) arg0 fullShare X ∗ Yk1 m.plan v c ∗ Pipeline.ownSems0 osem1 c
          ∗ ∃ W, owes (c : Thread nD τ) (0 : CellTallies nD τ sig Unit) W) -∗ Q ⟨⟩))
      ⊢ wp frame (wpE (defs₀ (F := F)) 𝒱₀ c none) Set.univ (cc1_body (F := F) arg0 harg0 srcM h1 outM h2 cc1_scratch0 cc1_scratch1 cc1_scratch2) Q := by
  unfold owns
  rw [harg0.set_eq_univ]
  iintro ⟨⟨%f, %e, Ha⟩, ⟨%K, %ιw, HX⟩, HO, Hk⟩
  iapply (wp_fupd _ _ _)
  iapply (body_run (m := m) (v := v) (K := K) (ιw := ιw) (c := c) hA harg0 h1 h2 (S := Finset.univ) (q := fullShare) (f := f) (fun _ => Finset.subset_univ _) (hX.words arg0 f e)
    (R := iprop(Rst m.plan v c ∗ (iprop((∃ f, ⌜arg0.view.read (Elt F) f = X⌝ ∗ (arg0.view.loc (c : Thread nD τ) ↦{fullShare} f)) ∗ Yk1 m.plan v c ∗ Pipeline.ownSems0 osem1 c
          ∗ ∃ W, owes (c : Thread nD τ) (0 : CellTallies nD τ sig Unit) W) -∗ Q ⟨⟩))) (Kt := fun a => iprop(|={Set.univ}=> Q a)) (by
      rw [regroup (Rst m.plan v c)]
      refine (leave m.plan v).trans (fupd_mono ?_)
      iintro ⟨HY, Hs, ⟨Hk, Ha⟩, HO⟩
      iapply Hk
      isplitl [Ha]
      · iexists f; isplitr; · ipureintro; exact e
        iexact Ha
      isplitl [HY]; · iexact HY
      isplitl [Hs] <;> iassumption))
  unfold Pre Xk1
  icases HX with ⟨H1, H2, H3, H4, H5, H6, H7, H8, H9, H10⟩
  isplitl [H1]; · iexact H1
  isplitl [H2 Hk Ha]
  · isplitr [Ha]
    · isplitl [H2] <;> iassumption
    iexact Ha
  isplitl [H3]; · iexact H3
  isplitl [HO]; · iexact HO
  isplitl [H4]; · iexact H4
  isplitl [H5]; · iexact H5
  isplitl [H6]; · iexact H6
  isplitl [H7]; · iexact H7
  isplitl [H8]; · iexact H8
  isplitl [H9] <;> iassumption

/-- The core owes everything before the one step and nothing after it. -/
theorem owed1_at (c : Dev nD) (t : Fin (cfg1.N + 1)) : (dat1 m v W1 c).owed t = if t.val = 0 then O₀ m.plan c else 0 := rfl
/-- What rides along is the exchange's resources before the one step and its outcome after it. -/
theorem Φ1_at (c : Dev nD) (t : Fin (cfg1.N + 1)) : (dat1 m v W1 c).Φ t = if t.val = 0 then Φin m v c else Φout m v c := rfl
/-- The point before the one step is the first. -/
theorem t1_first : (t1_0.castSucc : Fin (cfg1.N + 1)).val = 0 := rfl
/-- The point after the one step is not the first. -/
theorem t1_last : (t1_0.succ : Fin (cfg1.N + 1)).val ≠ 0 := by decide
/-- Before the step the core owes all it owes at launch. -/
theorem owed1_first (c : Dev nD) : (dat1 m v W1 c).owed t1_0.castSucc = O₀ m.plan c := by rw [owed1_at, if_pos t1_first]
/-- After the step the core owes nothing. -/
theorem owed1_last (c : Dev nD) : (dat1 m v W1 c).owed t1_0.succ = 0 := by rw [owed1_at, if_neg t1_last]

/-- The exchange kernel's body does what its pipeline asks of its one step. -/
theorem body1 (hA : Adm m.plan v) (hX : ∀ c, Scal m c (blk1 W1 c t1_0)) (c : Dev nD) : BodyObligation (dat1 m v W1 c) (defs₀ (F := F)) 𝒱₀ () Set.univ := fun t => by
  obtain rfl := fin_N1 t
  rw [bigSep_W1, bigSep_W1]
  rw [Φ1_at, Φ1_at, if_pos t1_first, if_neg t1_last]
  unfold Φin Φout
  iintro ⟨⟨HX, HΦ, Hp⟩, Howes, ⟨%d0, H0⟩⟩
  rw [before1]
  ihave HO := (owesAt_out (dat1 m v W1 c) _ (owed1_first m v W1 c)) $$ Howes
  iapply (talk_run m v hA c (win1_0.stage (cfg1.slots t1_0 0)) (hstage1_0 0) (Memref.isWhole_whole _) (Memref.isWhole_whole _) (blk1 W1 c t1_0) (hX c) _)
  isplitl [H0]; · iexact H0
  isplitl [HX]; · iexact HX
  isplitl [HO]; · iexact HO
  iintro ⟨H0, HY, Hs, HO⟩
  isplitl [HY Hs HΦ Hp]
  · isplitl [HY Hs]
    · isplitl [HY] <;> iassumption
    isplitl [HΦ] <;> iassumption
  isplitl [HO]; · iapply (owesAt_in (dat1 m v W1 c) t1_0.succ (owed1_last m v W1 c) rfl); iexact HO
  iexact H0

end Cert.SwapProof

end
-- ==== Proof.Segments.lean ====
/-
  The two calls as regions of the program, over the contents the host operations leave; the last host operation runs
  from whatever the exchange left.
-/
module

public import proofs.«01_k».proof.Proof.Region1
public import proofs.«01_k».proof.Proof.Gen.KernelIdeal.Regions

@[expose] public section

noncomputable section

namespace Cert.SwapProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation HostSeg RegionSeg)

variable {F : FTy → Type} [FloatOps F]

local notation "𝕄" => MT nD τ sig Unit (Elt F) ℕ (UU F) ℕ

variable (mem : (ℓ : Loc nD τ sig) → Buf (Elt F) ℓ)

/-- What the argument x holds on device c. -/
def argX (c : Dev nD) : S4096x1024.Idx → Elt F .bf16 := mem ((c : Thread nD τ).loc main_arg0)

/-- The first call leaves the argument's contents in its result. -/
def outs : Outs (F := F) := fun _ => Function.update (fun r c => mem ((c : Thread nD τ).loc r)) main_v11 (fun c => argX mem c)

/-- The buffers as the exchange finds them. -/
abbrev W1 : Dev nD → Valuation τ sig (Elt F) := V10 mem (outs mem)

/-- Before the first kernel the first argument is as at launch. -/
theorem V2_arg0 (c : Dev nD) : V2 mem c main_arg0 = argX mem c :=
  (V2_of mem c main_arg0 (by decide)).trans ((V1_of mem c main_arg0 (by decide)).trans rfl)

/-- The contents of the exchange, whatever is to be written. -/
def cont (g : (c : Dev nD) → Tgt (Elt F) (outL c)) : Cont F where
  xs c := W1 mem c main_v37
  fo c := W1 mem c main_v38
  g := g

variable (m : Nums) (g : (c : Dev nD) → Tgt (Elt F) (outL c))

/-- The proof data of the two calls. -/
def pdats : (p : Fin 2) → (c : Dev nD) → Dat τ (Elt F) Unit ℕ (UU F) ℕ (cfgs p) c
  | ⟨0, _⟩ => dat0 m.plan (V2 mem)
  | ⟨1, _⟩ => dat1 m (cont mem g) (W1 mem)

/-- After the first call its result holds the argument. -/
theorem arrAt0_1 (c : Dev nD) : (dat0 m.plan (V2 mem) c).arrAt 1 cfg0.N = argX mem c := by
  refine (dat0 m.plan (V2 mem) c).arrAt_eq_of_covers 1 _ (by decide +kernel) fun t hf y => ?_
  rw [← V2_arg0]
  rfl

/-- The own semaphores of the exchange are distinct from one another and from the pipeline's. -/
theorem own_facts : Pipeline.OwnSemFacts spec1 osem1 := by decide

/-- The pipelines' own semaphores are at level 0. -/
theorem lv_stage (c : Dev nD) (s : DmaSem sig) (h : s.val < 5) : lv ((c : Thread nD τ), .dma s) () = 0 := if_neg (by omega)

/-- What is owed at launch is owed at cells with a positive level. -/
theorem O₀_pos {p : Plan} {c : Dev nD} {g : GSem nD τ sig} {u : Unit} (h : 0 < O₀ p c g u) : u ∈ L g ∧ 0 < lv g u := by
  unfold O₀ at h
  rw [Pi.add_apply, Finsupp.add_apply] at h
  by_cases h0 : 0 < Ofrom p c 0 g u
  · obtain ⟨k, hk, rfl⟩ := Ofrom_pos p h0
    cases u
    rw [L_tc, lv_own _ (by omega)]
    exact ⟨Finset.mem_singleton_self _, by decide⟩
  · have h1 : 0 < tallyAt (barCell (pr c)) () 1 g u := by omega
    rw [tallyAt_apply] at h1
    split at h1
    · next hg =>
      obtain ⟨rfl, -⟩ := hg
      cases u
      rw [L_tc]
      exact ⟨Finset.mem_singleton_self _, Nat.one_pos⟩
    · exact absurd h1 (Nat.lt_irrefl 0)

/-- The first kernel's pipeline uses the first five semaphores only. -/
theorem stage0_lt : ∀ (w : Fin cfg0.W) (s : Fin (cfg0.win w).nbuf), ((cfg0.win w).sem s).val < 5 := by decide
/-- The second kernel's pipeline uses the first five semaphores only. -/
theorem stage1_lt : ∀ (w : Fin cfg1.W) (s : Fin (cfg1.win w).nbuf), ((cfg1.win w).sem s).val < 5 := by decide

abbrev ucR : Finset (DevRef τ sig) := Pipeline.ucRefs τ sig

/-- What rides along until the exchange. -/
def E0 (c : Dev nD) : sProp 𝕄 :=
  iprop((∃ K ιw, Ghost0 m.plan (cont mem g) K ιw c) ∗ Creds m.plan c ∗ (∃ r, prngReg c r) ∗ ∃ W, owes (c : Thread nD τ) (O₀ m.plan c) W)
/-- The same without what is owed. -/
def Rest0 (c : Dev nD) : sProp 𝕄 :=
  iprop((∃ K ιw, Ghost0 m.plan (cont mem g) K ιw c) ∗ Creds m.plan c ∗ (∃ r, prngReg c r))

/-- The levels let the first kernel's pipeline wait while the core owes what it owes at launch. -/
theorem cut0 : Pipeline.LevelCut (pcfgs (F := F)) adm () L lv 0 (fun c => O₀ m.plan c) (fun _ => 0) :=
  ⟨fun c w s => by rw [L_tc]; exact Finset.mem_singleton_self _, fun c w s => (lv_stage c _ (stage0_lt w s)).le, fun c g i h => O₀_pos h⟩

set_option backward.isDefEq.respectTransparency.types false in
/-- The first call. -/
def reg0 : RegionSeg (pcfgs (F := F)) adm (pdats mem m g) () defs₀ 𝒱₀ L lv 0 :=
  RegionSeg.ofHeldIn (pcfgs (F := F)) adm (pdats mem m g) () defs₀ 𝒱₀ L lv 0 (fun c => O₀ m.plan c) ucR (fun _ => iprop(emp)) (fun _ => iprop(emp))
    launch0.toP rfl (fun c => (body0 m.plan (V2 mem) c).loose) (fun _ _ => rfl) (fun _ => rfl)
    (fun c => (dat0 m.plan (V2 mem) c).share_full fun _ => rfl)
    (fun c => by
      show _ ⊢ Pipeline.scopedRest spec0 c
      iintro ⟨H, -⟩; iexact H)
    (fun c => by
      show Pipeline.scopedRest spec0 c ⊢ _
      iintro H; isplitl [H]; · iexact H
      iempintro)
    (fun _ => 0) (cut0 m) (Rest0 mem m g) (V2 mem) (fun c w => rfl)

/-- The first kernel's arrays are buffers that live throughout. -/
theorem arrs0_sub : Pipeline.arrRefs (τ := τ) (pcfgs (F := F) 0).spec ⊆ ucR :=
  Pipeline.arrRefs_sub_ucRefs _ (show ∀ w : Fin 2, (Pipeline.arrRef spec0 w).isScoped = false by decide)
/-- The second kernel's arrays are buffers that live throughout. -/
theorem arrs1_sub : Pipeline.arrRefs (τ := τ) (pcfgs (F := F) 1).spec ⊆ ucR :=
  Pipeline.arrRefs_sub_ucRefs _ (show ∀ w : Fin 1, (Pipeline.arrRef spec1 w).isScoped = false by decide)

/-- What the host program has before the first kernel is what that kernel needs. -/
theorem reg0_pre (c : Dev nD) : iprop(StableHlo.held (c : Thread nD τ) ucR (V2 mem c) ∗ E0 mem m g c) ⊢ (reg0 mem m g).pre c := by
  refine BIBase.Entails.trans ?_ (RegionSeg.ofHeldIn_pre arrs0_sub c)
  unfold E0 Rest0
  iintro ⟨Hh, HG, HC, Hp, HO⟩
  isplitl [Hh]; · iexact Hh
  isplitl [HO]; · iexact HO
  isplitr; · iempintro
  isplitl [HG]; · iexact HG
  isplitl [HC] <;> iassumption

/-- The first kernel leaves its input. -/
theorem arrAt0_0 (c : Dev nD) : (dat0 m.plan (V2 mem) c).arrAt 0 cfg0.N = V2 mem c main_arg0 :=
  (dat0 m.plan (V2 mem) c).arrAt_in 0 rfl _

/-- The buffers after the first kernel are those the host values are told from. -/
theorem after0 (c : Dev nD) : Pipeline.afterRegion (dat0 m.plan (V2 mem) c) (V2 mem c) = V3 mem (outs mem) c := by
  funext b
  by_cases hb : ∃ w : Fin cfg0.W, b = Proc.devRef .tc (Pipeline.arrRef cfg0.spec w)
  · obtain ⟨w, rfl⟩ := hb
    rw [Pipeline.afterRegion_arr _ _ winFacts0.arr_inj]
    rcases (show ∀ w : Fin 2, w = 0 ∨ w = 1 by decide) w with rfl | rfl
    · exact (arrAt0_0 mem m c).trans (V3_of mem (outs mem) c main_arg0 (by decide)).symm
    · exact (arrAt0_1 mem m c).trans (Function.update_self (Proc.devRef .tc main_v11 : DevRef τ sig) (outs mem 3 main_v11 c) (V2 mem c)).symm
  · unfold Pipeline.afterRegion
    rw [dif_neg hb]
    exact (Function.update_of_ne (fun h => hb ⟨1, h⟩) _ _).symm

/-- What the first kernel leaves is what the host program goes on with. -/
theorem reg0_post (c : Dev nD) : (reg0 mem m g).post c ⊢ iprop(StableHlo.held (c : Thread nD τ) ucR (V3 mem (outs mem) c) ∗ E0 mem m g c) := by
  refine (RegionSeg.ofHeldIn_post arrs0_sub c).trans ?_
  unfold E0 Rest0
  rw [show (Pipeline.afterRegion (pdats mem m g 0 c) (V2 mem c)) = V3 mem (outs mem) c from after0 mem m c]
  iintro ⟨Hh, HO, -, HG, HC, Hp⟩
  isplitl [Hh]; · iexact Hh
  isplitl [HG]; · iexact HG
  isplitl [HC]; · iexact HC
  isplitl [Hp] <;> iassumption

/-! ## The exchange -/

/-- The levels let the second kernel's pipeline wait while the core owes what it owes at launch. -/
theorem cut1 : Pipeline.LevelCutOwed (pcfgs (F := F)) adm (pdats mem m g) () L lv 1 (fun _ => 0) :=
  ⟨fun c w s => by rw [L_tc]; exact Finset.mem_singleton_self _, fun c w s => (lv_stage c _ (stage1_lt w s)).le, fun c t gc i h => by
    rw [show (pdats mem m g 1 c).owed t = if t.val = 0 then O₀ m.plan c else 0 from rfl] at h
    split at h
    · exact O₀_pos h
    · exact absurd h (Nat.lt_irrefl 0)⟩

/-- Both arrays of the exchange. -/
def two : Finset (DevRef τ sig) := {Proc.devRef .tc main_v37, Proc.devRef .tc main_v38}
/-- The buffers the exchange does not touch. -/
def others : Finset (DevRef τ sig) := (ucR \ Pipeline.arrRefs (τ := τ) (pcfgs (F := F) 1).spec) \ two

/-- The two arrays of the exchange live throughout and are not the pipeline's. -/
theorem two_sub : two ⊆ ucR \ Pipeline.arrRefs (τ := τ) (pcfgs (F := F) 1).spec := by
  intro b hb
  have hb' : b = Proc.devRef .tc main_v37 ∨ b = Proc.devRef .tc main_v38 := by simpa [two] using hb
  refine Finset.mem_sdiff.mpr ⟨?_, fun h => ?_⟩
  · rcases hb' with rfl | rfl <;> exact Finset.mem_filter.mpr ⟨StableHlo.devRef_mem_tcRefs _, by decide⟩
  · obtain ⟨r, hr, hrb⟩ := Finset.mem_map.mp h
    obtain ⟨w, -, rfl⟩ := Finset.mem_image.mp hr
    rcases hb' with rfl | rfl
    · exact absurd (Proc.devRef_injective _ hrb) ((show ∀ w : Fin 1, Pipeline.arrRef spec1 w ≠ main_v37 by decide) w)
    · exact absurd (Proc.devRef_injective _ hrb) ((show ∀ w : Fin 1, Pipeline.arrRef spec1 w ≠ main_v38 by decide) w)

/-- Holding the two arrays is holding the source and the result whole. -/
theorem held_two (c : Dev nD) (V : Valuation τ sig (Elt F)) : (StableHlo.held (c : Thread nD τ) two V : sProp 𝕄)
    = iprop((srcL c ↦[Finset.univ]{fullShare} V main_v37) ∗ (outL c ↦[Finset.univ]{fullShare} V main_v38)) := by
  unfold StableHlo.held two
  rw [BI.bigSep_insert (by decide), BI.bigSep_singleton]
  rfl

/-- Holding all buffers is holding the pipeline's arrays, the two of the exchange and the others. -/
theorem held_split (c : Dev nD) (V : Valuation τ sig (Elt F)) : (StableHlo.held (c : Thread nD τ) ucR V : sProp 𝕄)
    = iprop(StableHlo.held (c : Thread nD τ) (Pipeline.arrRefs (τ := τ) (pcfgs (F := F) 1).spec) V
        ∗ ((srcL c ↦[Finset.univ]{fullShare} V main_v37) ∗ (outL c ↦[Finset.univ]{fullShare} V main_v38)) ∗ StableHlo.held (c : Thread nD τ) (others (F := F)) V) := by
  rw [StableHlo.held_sub_split (c : Thread nD τ) (arrs1_sub (F := F)) V, StableHlo.held_sub_split (c : Thread nD τ) (two_sub (F := F)) V, held_two]
  rfl

/-- The buffers with the result's contents replaced. -/
abbrev put (c : Dev nD) (f' : Buf (Elt F) (outL c)) : Valuation τ sig (Elt F) := Function.update (W1 mem c) (Proc.devRef .tc main_v38) f'

/-- The same with the result as the exchange left it. -/
theorem held_put (c : Dev nD) (f' : Buf (Elt F) (outL c)) : (StableHlo.held (c : Thread nD τ) ucR (put mem c f') : sProp 𝕄)
    = iprop(StableHlo.held (c : Thread nD τ) (Pipeline.arrRefs (τ := τ) (pcfgs (F := F) 1).spec) (W1 mem c)
        ∗ ((srcL c ↦[Finset.univ]{fullShare} W1 mem c main_v37) ∗ (outL c ↦[Finset.univ]{fullShare} f')) ∗ StableHlo.held (c : Thread nD τ) (others (F := F)) (W1 mem c)) := by
  have h38 : (Proc.devRef .tc main_v38 : DevRef τ sig) ∈ two := by simp [two]
  rw [held_split, StableHlo.held_congr (c : Thread nD τ) (S := Pipeline.arrRefs (τ := τ) (pcfgs (F := F) 1).spec) (V := put mem c f') (V' := W1 mem c) (fun b hb =>
      Function.update_of_ne (fun h => (Finset.mem_sdiff.mp (two_sub (F := F) h38)).2 (by rw [← h]; exact hb)) _ _),
    StableHlo.held_congr (c : Thread nD τ) (S := others (F := F)) (V := put mem c f') (V' := W1 mem c) (fun b hb =>
      Function.update_of_ne (fun h => (Finset.mem_sdiff.mp hb).2 (by rw [h]; exact h38)) _ _)]
  rw [show put mem c f' main_v37 = W1 mem c main_v37 from Function.update_of_ne (by decide) _ _,
    show put mem c f' main_v38 = f' from Function.update_self _ _ _]

/-- What the exchange does not touch, riding along. -/
def Er1 (c : Dev nD) : sProp 𝕄 := StableHlo.held (c : Thread nD τ) (others (F := F)) (W1 mem c)

/-- The second kernel leaves its four scalars. -/
theorem arrAt1_0 (c : Dev nD) (n : ℕ) : (dat1 m (cont mem g) (W1 mem) c).arrAt 0 n = W1 mem c main_v36 :=
  (dat1 m (cont mem g) (W1 mem) c).arrAt_in 0 rfl _

variable (hA : Adm m.plan (cont mem g)) (hX : ∀ c, Scal m c (blk1 (W1 mem) c t1_0))

set_option backward.isDefEq.respectTransparency.types false in
/-- The second call. -/
def reg1 : RegionSeg (pcfgs (F := F)) adm (pdats mem m g) () defs₀ 𝒱₀ L lv 1 :=
  RegionSeg.ofTalk (pcfgs (F := F)) adm (pdats mem m g) () defs₀ 𝒱₀ L lv 1 osem1 own_facts ∅ ∅ (Finset.Subset.refl _) launch1.toP rfl
    (fun c => (body1 m (cont mem g) (W1 mem) hA hX c).loose) (fun _ => 0) (O₀ m.plan)
    (fun c => (zero_add _).symm) (fun c => owed1_last m (cont mem g) (W1 mem) c) (fun _ => rfl)
    (fun c => (dat1 m (cont mem g) (W1 mem) c).share_full fun _ => rfl)
    (W1 mem) (W1 mem) (fun _ b hb => absurd hb (by rw [Finset.sdiff_self]; exact Finset.notMem_empty b))
    (Tk1 m.plan (cont mem g)) (Yk1 m.plan (cont mem g)) (fun c => iprop(∃ K ιw, Xk1 m.plan (cont mem g) K ιw c)) (Yk1 m.plan (cont mem g))
    (fun c => enter m.plan (cont mem g) c)
    (fun c => by
      show _ ⊢ Φin m (cont mem g) c
      unfold Φin
      iintro ⟨Hs, Hp, -, HX⟩
      isplitl [HX]; · iexact HX
      isplitl [Hs] <;> iassumption)
    (fun c => by
      show Φout m (cont mem g) c ⊢ _
      unfold Φout
      iintro ⟨⟨HY, Ho⟩, Hs, Hp⟩
      isplitl [Hs]; · iexact Hs
      isplitl [Hp]; · iexact Hp
      isplitr; · unfold StableHlo.held; rw [BI.bigSep_empty]; iempintro
      isplitl [Ho] <;> iassumption)
    (fun c => by iintro H; imodintro; iexact H)
    (fun _ => 0) (cut1 mem m g) (Er1 mem) (fun c w => rfl) (fun c w => by
      rcases (show ∀ w : Fin 1, w = 0 by decide) w with rfl
      exact arrAt1_0 mem m g c _)

/-- What the host program has before the exchange is what the exchange needs. -/
theorem reg1_pre (c : Dev nD) : iprop(StableHlo.held (c : Thread nD τ) ucR (W1 mem c) ∗ E0 mem m g c) ⊢ (reg1 mem m g hA hX).pre c := by
  show _ ⊢ iprop(StableHlo.held (c.tc : Thread nD τ) (Pipeline.arrRefs (τ := τ) (pcfgs (F := F) 1).spec) (W1 mem c) ∗ (∃ r, prngReg c r)
    ∗ (StableHlo.held (c.tc : Thread nD τ) ∅ (W1 mem c) ∗ Er1 mem c) ∗ Tk1 m.plan (cont mem g) c ∗ ∃ Wd, owes (c : Thread nD τ) (0 + O₀ m.plan c) Wd)
  rw [held_split, zero_add]
  unfold E0 Er1 Tk1 srcAll
  iintro ⟨⟨Ha, ⟨Hx, Ho⟩, Hr⟩, HG, HC, Hp, HO⟩
  isplitl [Ha]; · iexact Ha
  isplitl [Hp]; · iexact Hp
  isplitl [Hr]
  · isplitr; · unfold StableHlo.held; rw [BI.bigSep_empty]; iempintro
    iexact Hr
  isplitr [HO]
  · isplitl [HG]; · iexact HG
    isplitl [HC]; · iexact HC
    isplitl [Hx]; · iexact Hx
    iexact Ho
  iexact HO

/-- What rides along after the exchange. -/
def E2 (c : Dev nD) : sProp 𝕄 := iprop(semVal (barCell c) 0 ∗ ∃ W, owes (c : Thread nD τ) (0 : CellTallies nD τ sig Unit) W)
/-- Every buffer, the result as the exchange left it. -/
def mid (c : Dev nD) : sProp 𝕄 := iprop(∃ f', ⌜Lands m.plan (cont mem g) c f'⌝ ∗ StableHlo.held (c : Thread nD τ) ucR (put mem c f') ∗ E2 c)
/-- Every buffer at the end. -/
def fin (c : Dev nD) : sProp 𝕄 :=
  iprop(∃ f', ⌜Lands m.plan (cont mem g) c f'⌝ ∗ StableHlo.held (c : Thread nD τ) ucR (StableHlo.after hostOps2 (put mem c f')) ∗ E2 c)

/-- What the exchange leaves is what the host program goes on with. -/
theorem reg1_post (c : Dev nD) : (reg1 mem m g hA hX).post c ⊢ mid mem m g c := by
  show iprop(StableHlo.held (c.tc : Thread nD τ) (Pipeline.arrRefs (τ := τ) (pcfgs (F := F) 1).spec) (W1 mem c) ∗ (∃ r, prngReg c r)
    ∗ (StableHlo.held (c.tc : Thread nD τ) ∅ (W1 mem c) ∗ Er1 mem c) ∗ Yk1 m.plan (cont mem g) c
    ∗ ∃ Wd, owes (c : Thread nD τ) (0 : CellTallies nD τ sig Unit) Wd) ⊢ _
  unfold mid Yk1 Er1 E2 srcAll
  iintro ⟨Ha, -, ⟨-, Hr⟩, ⟨Hb, Hx, ⟨%f', %hf, Ho⟩⟩, HO⟩
  iexists f'
  isplitr; · ipureintro; exact hf
  isplitr [Hb HO]
  · rw [held_put]
    isplitl [Ha]; · iexact Ha
    isplitr [Hr]
    · isplitl [Hx]; · iexact Hx
      iexact Ho
    iexact Hr
  isplitl [Hb] <;> iassumption

/-- What a segment of host operations needs is all buffers and whatever is beside them. -/
theorem ops_pre (ops : List (HloOp τ sig (Elt F))) (hS : ∀ op ∈ ops, op.bufs ⊆ ucR) (hf : ∀ op ∈ ops, op.fresh = ∅)
    (V : Dev nD → Valuation τ sig (Elt F)) (R : Dev nD → sProp 𝕄) (c : Dev nD) :
    (HostSeg.ofOps (pcfgs (F := F)) defs₀ 𝒱₀ L lv ucR ops hS hf V R).pre c = iprop(StableHlo.held (c : Thread nD τ) ucR (V c) ∗ R c) := rfl
/-- What a segment of host operations leaves is all buffers and what was beside them. -/
theorem ops_post (ops : List (HloOp τ sig (Elt F))) (hS : ∀ op ∈ ops, op.bufs ⊆ ucR) (hf : ∀ op ∈ ops, op.fresh = ∅)
    (V : Dev nD → Valuation τ sig (Elt F)) (R : Dev nD → sProp 𝕄) (c : Dev nD) :
    (HostSeg.ofOps (pcfgs (F := F)) defs₀ 𝒱₀ L lv ucR ops hS hf V R).post c
      = iprop(StableHlo.held (c : Thread nD τ) ucR (StableHlo.after ops (V c)) ∗ R c) := rfl

/-- A list of host operations run from contents of which a property is known. -/
def hostEx (ops : List (HloOp τ sig (Elt F))) (hS : ∀ op ∈ ops, op.bufs ⊆ ucR) (hf : ∀ op ∈ ops, op.fresh = ∅) {X : Dev nD → Type}
    (φ : (c : Dev nD) → X c → Prop) (V : (c : Dev nD) → X c → Valuation τ sig (Elt F)) (R : Dev nD → sProp 𝕄) :
    HostSeg (Ix := Unit) (Name := ℕ) (U := UU F) (Lvl := ℕ) (pcfgs (F := F)) defs₀ 𝒱₀ L lv where
  prog := StableHlo.seq ops
  pre c := iprop(∃ x : X c, ⌜φ c x⌝ ∗ StableHlo.held (c : Thread nD τ) ucR (V c x) ∗ R c)
  post c := iprop(∃ x : X c, ⌜φ c x⌝ ∗ StableHlo.held (c : Thread nD τ) ucR (StableHlo.after ops (V c x)) ∗ R c)
  run c {β} k K := by
    iintro ⟨Hk, Hbd, ⟨%x, %hx, Hh, HE⟩, HL⟩
    iapply ((HostSeg.ofOps (pcfgs (F := F)) defs₀ 𝒱₀ L lv ucR ops hS hf (fun _ => V c x) R).run c k K)
    isplitl [Hk]
    · rw [ops_post]
      iintro ⟨Hbd, Hh, HE⟩
      iapply Hk
      isplitl [Hbd]; · iexact Hbd
      iexists x
      isplitr; · ipureintro; exact hx
      isplitl [Hh] <;> iassumption
    isplitl [Hbd]; · iexact Hbd
    isplitl [Hh HE]
    · rw [ops_pre]
      isplitl [Hh] <;> iassumption
    iexact HL

/-- The host operation after the exchange, from whatever the exchange left. -/
def segEnd : HostSeg (Ix := Unit) (Name := ℕ) (U := UU F) (Lvl := ℕ) (pcfgs (F := F)) defs₀ 𝒱₀ L lv :=
  hostEx hostOps2 (fun op h => Pipeline.sub_ucRefs op ((List.forall_iff_forall_mem.mp hostOps2_sub) op h))
    (fun op h => (List.forall_iff_forall_mem.mp hostOps2_fresh) op h)
    (fun c f' => Lands m.plan (cont mem g) c f') (fun c f' => put mem c f') E2

end Cert.SwapProof

end
-- ==== Proof.HostVals.lean ====
/-
  What the host operations leave for the exchange: the four scalars, from the destinations each device holds.
-/
module

public import proofs.«01_k».proof.Proof.Counts
public import proofs.«01_k».proof.Proof.Segments
public import Idealize.ShloMosaic.Lib.StableHlo.Run
public import Idealize.ShloMosaic.Lib.DynamicIndex

@[expose] public section

noncomputable section

namespace Cert.SwapProof

open Cert.KernelIdeal Cert.KernelIdeal.Gen
open Idealize.ShloMosaic Idealize.ShloMosaic.StableHlo
open Idealize.ShloMosaic.TcCoe
open Idealize.SL.Sem

variable {F : FTy → Type} [FloatOps F]

variable (mem : (ℓ : Loc nD τ sig) → Buf (Elt F) ℓ) (c : Dev nD)

/-- The destinations device c holds. -/
def argD : Vec.Idx → BitVec 32 := mem ((c : Thread nD τ).loc main_arg1)

/-- The half of the rows device c has. -/
def hf (c : Dev nD) : Fin 2 := ⟨c.val / 2, by have := c.isLt; change c.val < 4 at this; omega⟩

/-- After segment 1 of the host program this buffer holds the device's half. -/
theorem v4_at1 : V1 mem c main_v4 = (fun _ => BitVec.ofNat 32 (hf c).val : S_.Idx → BitVec 32) := by
  have e : V1 mem c main_v4 = (id (Host.remui (Host.divui (constantI S_ 32 (Dev.word c)) (constantI S_ 32 2#32)) (constantI S_ 32 2#32)) : S_.Idx → BitVec 32) := by
    show StableHlo.after (hostOps0 c) (V0 mem c) main_v4 = _
    after_results
  rw [e]
  clear e
  funext j
  show IntOp.remui .host (IntOp.divui .host (Dev.word c) 2#32) 2#32 = _
  revert c
  decide

/-- After segment 1 of the host program this buffer holds where the device's half begins. -/
theorem v8_at1 : V1 mem c main_v8 = (fun _ => BitVec.ofNat 32 (4096 * (hf c).val) : S_.Idx → BitVec 32) := by
  have h4 : V1 mem c main_v4 = (id (Host.remui (Host.divui (constantI S_ 32 (Dev.word c)) (constantI S_ 32 2#32)) (constantI S_ 32 2#32)) : S_.Idx → BitVec 32) := by
    show StableHlo.after (hostOps0 c) (V0 mem c) main_v4 = _
    after_results
  have e : V1 mem c main_v8 = select (cmpi .slt (muli (V1 mem c main_v4) (constantI S_ 32 4096#32)) (constantI S_ 32 0#32))
      (addi (muli (V1 mem c main_v4) (constantI S_ 32 4096#32)) (constantI S_ 32 8192#32)) (muli (V1 mem c main_v4) (constantI S_ 32 4096#32)) := by
    rw [h4]
    show StableHlo.after (hostOps0 c) (V0 mem c) main_v8 = _
    after_results
  rw [e, v4_at1]
  clear h4 e
  funext j
  show Scalar.select (IntOp.cmpi .slt (IntOp.muli (BitVec.ofNat 32 (hf c).val) 4096#32) 0#32) (IntOp.addi (IntOp.muli (BitVec.ofNat 32 (hf c).val) 4096#32) 8192#32) (IntOp.muli (BitVec.ofNat 32 (hf c).val) 4096#32) = _
  generalize hf c = k
  revert k
  decide

/-- The slice of 4096 entries from 4096 k on is half k. -/
theorem slice_half (d : Vec.Idx → BitVec 32) (k : Fin 2) (h : Vec.Slices ![4096 * k.val] Half) : extractStridedSlice Half ![4096 * k.val] d h = half d k := by
  funext i
  refine congrArg d (funext fun a => Fin.ext ?_)
  obtain rfl : a = 0 := Subsingleton.elim _ _
  rfl

/-- After segment 1 of the host program this buffer holds the device's half of the destinations. -/
theorem v9_at1 : V1 mem c main_v9 = half (argD mem c) (hf c) := by
  show StableHlo.after (hostOps0 c) (V0 mem c) main_v9 = _
  have h8 := v8_at1 mem c
  after_results
  refine (Host.dynamicSlice_eq_extractStridedSlice Half (argD mem c) _ ![4096 * (hf c).val] _ ⟨rfl, fun a => ?_⟩ (fun a => ?_)).trans (slice_half _ _ _)
  · obtain rfl : a = 0 := Subsingleton.elim _ _
    have := (hf c).isLt
    show 4096 * (hf c).val + 4096 ≤ 8192
    omega
  · obtain rfl : a = 0 := Subsingleton.elim _ _
    refine (congrArg BitVec.toInt (congrFun h8 (Shape.Idx.first h_S_))).trans ?_
    show (BitVec.ofNat 32 (4096 * (hf c).val)).toInt = ((4096 * (hf c).val : ℕ) : ℤ)
    generalize hf c = k
    revert k
    decide

/-! ## The scalars -/

/-- How many rows device c sends away. -/
def sent : ℕ := cnt (half (argD mem c) (hf c)) (BitVec.ofNat 32 (1 - (hf c).val))

variable (outs : Outs (F := F))

/-- After segment 3 of the host program this buffer holds the device's half. -/
theorem v4_at3 : V3 mem outs c main_v4 = (fun _ => BitVec.ofNat 32 (hf c).val : S_.Idx → BitVec 32) :=
  (V3_of mem outs c main_v4 (by decide)).trans ((V2_of mem c main_v4 (by decide)).trans (v4_at1 mem c))
/-- After segment 3 of the host program this buffer holds the device's half of the destinations. -/
theorem v9_at3 : V3 mem outs c main_v9 = half (argD mem c) (hf c) :=
  (V3_of mem outs c main_v9 (by decide)).trans ((V2_of mem c main_v9 (by decide)).trans (v9_at1 mem c))

/-- After segment 4 of the host program this buffer holds the number of rows sent away. -/
theorem v23_at4 : V4 mem outs c main_v23 = (fun _ => BitVec.ofNat 32 (sent mem c) : S_.Idx → BitVec 32) := by
  have e : V4 mem outs c main_v23 = Host.reduce IntOp.addi (extui 32 (cmpi .eq (V3 mem outs c main_v9) (broadcastInDim S4096 ![] bcast_S_S4096 (subi (constantI S_ 32 1#32) (V3 mem outs c main_v4)))) natLt_1_32)
      (constantI S_ 32 0#32) reducesTo_S4096_S_d0 h_S_ := by
    show StableHlo.after hostOps1 (V3 mem outs c) main_v23 = _
    generalize V3 mem outs c = W
    after_results
  rw [e, v9_at3, v4_at3]
  have e1 : subi (constantI S_ 32 1#32) (fun _ => BitVec.ofNat 32 (hf c).val : S_.Idx → BitVec 32) = constantI S_ 32 (BitVec.ofNat 32 (1 - (hf c).val)) := by
    funext j
    show IntOp.subi 1#32 (BitVec.ofNat 32 (hf c).val) = BitVec.ofNat 32 (1 - (hf c).val)
    generalize hf c = k
    revert k
    decide
  rw [e1]
  exact reduce_cnt _ _ _ _ _ _

/-- After segment 4 of the host program this buffer holds whether the device is in half 0. -/
theorem v24_at4 : V4 mem outs c main_v24 = (fun _ => IntOp.cmpi .eq (BitVec.ofNat 32 (hf c).val) 0#32 : S_.Idx → BitVec 1) := by
  have e : V4 mem outs c main_v24 = cmpi .eq (V3 mem outs c main_v4) (constantI S_ 32 0#32) := by
    show StableHlo.after hostOps1 (V3 mem outs c) main_v24 = _
    generalize V3 mem outs c = W
    after_results
  rw [e, v4_at3]; rfl

/-- After segment 4 of the host program this buffer holds the number of rows kept. -/
theorem v25_at4 : V4 mem outs c main_v25 = (fun _ => IntOp.subi 4096#32 (BitVec.ofNat 32 (sent mem c)) : S_.Idx → BitVec 32) := by
  have h := v23_at4 mem c outs
  have e : V4 mem outs c main_v25 = subi (constantI S_ 32 4096#32) (V4 mem outs c main_v23) := by
    show StableHlo.after hostOps1 (V3 mem outs c) main_v25 = subi _ (StableHlo.after hostOps1 (V3 mem outs c) main_v23)
    generalize V3 mem outs c = W
    after_results
  rw [e, h]; rfl

/-- After segment 4 of the host program this buffer holds zero. -/
theorem c10_at4 : V4 mem outs c main_c_10 = (fun _ => 0#32 : S_.Idx → BitVec 32) := by
  show StableHlo.after hostOps1 (V3 mem outs c) main_c_10 = _
  generalize V3 mem outs c = W
  after_results
  rfl

/-- After segment 5 of the host program this buffer holds where the rows sent away begin. -/
theorem v26_at5 : V5 mem outs c main_v26 = (fun _ => Scalar.select (IntOp.cmpi .eq (BitVec.ofNat 32 (hf c).val) 0#32) (IntOp.subi 4096#32 (BitVec.ofNat 32 (sent mem c))) 0#32 : S_.Idx → BitVec 32) := by
  have e : V5 mem outs c main_v26 = (select (V4 mem outs c main_v24 : S_.Idx → BitVec 1) (V4 mem outs c main_v25 : S_.Idx → BitVec 32) (V4 mem outs c main_c_10) : S_.Idx → BitVec 32) := by
    show StableHlo.after hostOps1_1 (V4 mem outs c) main_v26 = _
    generalize V4 mem outs c = W
    simp only [hostOps1_1, TRef.binary, TRef.unary, TRef.ternary, TRef.nullary, TRef.toBuf, TRef.ofBuf, cast_eq]
    after_results
    rfl
  rw [e, v24_at4, v25_at4, c10_at4]; rfl

/-- After segment 5 of the host program this buffer holds the device's half. -/
theorem v4_at5 : V5 mem outs c main_v4 = (fun _ => BitVec.ofNat 32 (hf c).val : S_.Idx → BitVec 32) :=
  (V5_of mem outs c main_v4 (by decide)).trans ((V4_of mem outs c main_v4 (by decide)).trans (v4_at3 mem c outs))
/-- After segment 5 of the host program this buffer holds the number of rows sent away. -/
theorem v23_at5 : V5 mem outs c main_v23 = (fun _ => BitVec.ofNat 32 (sent mem c) : S_.Idx → BitVec 32) :=
  (V5_of mem outs c main_v23 (by decide)).trans (v23_at4 mem c outs)

/-- After segment 6 of the host program this buffer holds whether the device is in half 0. -/
theorem v27_at6 : V6 mem outs c main_v27 = (fun _ => IntOp.cmpi .eq (BitVec.ofNat 32 (hf c).val) 0#32 : S_.Idx → BitVec 1) := by
  have e : V6 mem outs c main_v27 = cmpi .eq (V5 mem outs c main_v4) (constantI S_ 32 0#32) := by
    show StableHlo.after hostOps1_2 (V5 mem outs c) main_v27 = _
    generalize V5 mem outs c = W
    after_results
  rw [e, v4_at5]; rfl
/-- After segment 6 of the host program this buffer holds the number of rows kept. -/
theorem v28_at6 : V6 mem outs c main_v28 = (fun _ => IntOp.subi 4096#32 (BitVec.ofNat 32 (sent mem c)) : S_.Idx → BitVec 32) := by
  have e : V6 mem outs c main_v28 = subi (constantI S_ 32 4096#32) (V5 mem outs c main_v23) := by
    show StableHlo.after hostOps1_2 (V5 mem outs c) main_v28 = _
    generalize V5 mem outs c = W
    after_results
  rw [e, v23_at5]; rfl
/-- After segment 6 of the host program this buffer holds zero. -/
theorem c13_at6 : V6 mem outs c main_c_13 = (fun _ => 0#32 : S_.Idx → BitVec 32) := by
  show StableHlo.after hostOps1_2 (V5 mem outs c) main_c_13 = _
  generalize V5 mem outs c = W
  after_results
  rfl

/-- After segment 7 of the host program this buffer holds where they land on the other device. -/
theorem v29_at7 : V7 mem outs c main_v29 = (fun _ => Scalar.select (IntOp.cmpi .eq (BitVec.ofNat 32 (hf c).val) 0#32) 0#32 (IntOp.subi 4096#32 (BitVec.ofNat 32 (sent mem c))) : S_.Idx → BitVec 32) := by
  have e : V7 mem outs c main_v29 = (select (V6 mem outs c main_v27 : S_.Idx → BitVec 1) (V6 mem outs c main_c_13 : S_.Idx → BitVec 32) (V6 mem outs c main_v28) : S_.Idx → BitVec 32) := by
    show StableHlo.after hostOps1_3 (V6 mem outs c) main_v29 = _
    generalize V6 mem outs c = W
    simp only [hostOps1_3, TRef.binary, TRef.unary, TRef.ternary, TRef.nullary, TRef.toBuf, TRef.ofBuf, cast_eq]
    after_results
    rfl
  rw [e, v27_at6, v28_at6, c13_at6]; rfl

/-- After segment 7 of the host program this buffer holds the device's half. -/
theorem v4_at7 : V7 mem outs c main_v4 = (fun _ => BitVec.ofNat 32 (hf c).val : S_.Idx → BitVec 32) :=
  (V7_of mem outs c main_v4 (by decide)).trans ((V6_of mem outs c main_v4 (by decide)).trans (v4_at5 mem c outs))
/-- After segment 8 of the host program this buffer holds whether the device is in half 0. -/
theorem v30_at8 : V8 mem outs c main_v30 = (fun _ => IntOp.cmpi .eq (BitVec.ofNat 32 (hf c).val) 0#32 : S_.Idx → BitVec 1) := by
  have e : V8 mem outs c main_v30 = cmpi .eq (V7 mem outs c main_v4) (constantI S_ 32 0#32) := by
    show StableHlo.after hostOps1_4 (V7 mem outs c) main_v30 = _
    generalize V7 mem outs c = W
    after_results
  rw [e, v4_at7]; rfl
/-- After segment 8 of the host program this buffer holds zero. -/
theorem c15_at8 : V8 mem outs c main_c_15 = (fun _ => 0#32 : S_.Idx → BitVec 32) := by
  show StableHlo.after hostOps1_4 (V7 mem outs c) main_c_15 = _
  generalize V7 mem outs c = W
  after_results
  rfl
/-- After segment 8 of the host program this buffer holds the number of rows sent away. -/
theorem v23_at8 : V8 mem outs c main_v23 = (fun _ => BitVec.ofNat 32 (sent mem c) : S_.Idx → BitVec 32) :=
  (V8_of mem outs c main_v23 (by decide)).trans ((V7_of mem outs c main_v23 (by decide)).trans
    ((V6_of mem outs c main_v23 (by decide)).trans (v23_at5 mem c outs)))

/-- After segment 9 of the host program this buffer holds where the kept rows begin. -/
theorem v31_at9 : V9 mem outs c main_v31 = (fun _ => Scalar.select (IntOp.cmpi .eq (BitVec.ofNat 32 (hf c).val) 0#32) 0#32 (BitVec.ofNat 32 (sent mem c)) : S_.Idx → BitVec 32) := by
  have e : V9 mem outs c main_v31 = (select (V8 mem outs c main_v30 : S_.Idx → BitVec 1) (V8 mem outs c main_c_15 : S_.Idx → BitVec 32) (V8 mem outs c main_v23) : S_.Idx → BitVec 32) := by
    show StableHlo.after hostOps1_5 (V8 mem outs c) main_v31 = _
    generalize V8 mem outs c = W
    simp only [hostOps1_5, TRef.binary, TRef.unary, TRef.ternary, TRef.nullary, TRef.toBuf, TRef.ofBuf, cast_eq]
    after_results
    rfl
  rw [e, v30_at8, c15_at8, v23_at8]; rfl

/-- After segment 9 of the host program this buffer holds the number of rows sent away. -/
theorem v23_at9 : V9 mem outs c main_v23 = (fun _ => BitVec.ofNat 32 (sent mem c) : S_.Idx → BitVec 32) :=
  (V9_of mem outs c main_v23 (by decide)).trans (v23_at8 mem c outs)
/-- After segment 9 of the host program this buffer holds where the rows sent away begin. -/
theorem v26_at9 : V9 mem outs c main_v26 = (fun _ => Scalar.select (IntOp.cmpi .eq (BitVec.ofNat 32 (hf c).val) 0#32) (IntOp.subi 4096#32 (BitVec.ofNat 32 (sent mem c))) 0#32 : S_.Idx → BitVec 32) :=
  (V9_of mem outs c main_v26 (by decide)).trans ((V8_of mem outs c main_v26 (by decide)).trans ((V7_of mem outs c main_v26 (by decide)).trans
    ((V6_of mem outs c main_v26 (by decide)).trans (v26_at5 mem c outs))))
/-- After segment 9 of the host program this buffer holds where they land on the other device. -/
theorem v29_at9 : V9 mem outs c main_v29 = (fun _ => Scalar.select (IntOp.cmpi .eq (BitVec.ofNat 32 (hf c).val) 0#32) 0#32 (IntOp.subi 4096#32 (BitVec.ofNat 32 (sent mem c))) : S_.Idx → BitVec 32) :=
  (V9_of mem outs c main_v29 (by decide)).trans ((V8_of mem outs c main_v29 (by decide)).trans (v29_at7 mem c outs))

omit [FloatOps F] in
/-- Equal scalars are put together to equal arrays. -/
theorem cat_congr {a b d e a' b' d' e' : S1.Idx → BitVec 32} (ha : a = a') (hb : b = b') (hd : d = d') (he : e = e') :
    (concatenate S4 0 [⟨S1, a⟩, ⟨S1, b⟩, ⟨S1, d⟩, ⟨S1, e⟩] concatenates_S1_S1_S1_S1_S4_d0 : S4.Idx → BitVec 32)
      = concatenate S4 0 [⟨S1, a'⟩, ⟨S1, b'⟩, ⟨S1, d'⟩, ⟨S1, e'⟩] concatenates_S1_S1_S1_S1_S4_d0 := by
  subst ha hb hd he; rfl

/-- The four scalars side by side. -/
theorem v36_at10 : V10 mem outs c main_v36 = (concatenate S4 0 [⟨S1, broadcastInDim S1 ![] bcast_S_S1 (V9 mem outs c main_v23 : S_.Idx → BitVec 32)⟩,
    ⟨S1, broadcastInDim S1 ![] bcast_S_S1 (V9 mem outs c main_v26 : S_.Idx → BitVec 32)⟩,
    ⟨S1, broadcastInDim S1 ![] bcast_S_S1 (V9 mem outs c main_v29 : S_.Idx → BitVec 32)⟩,
    ⟨S1, broadcastInDim S1 ![] bcast_S_S1 (V9 mem outs c main_v31 : S_.Idx → BitVec 32)⟩] concatenates_S1_S1_S1_S1_S4_d0 : S4.Idx → BitVec 32) := by
  show StableHlo.after hostOps1_6 (V9 mem outs c) main_v36 = _
  generalize V9 mem outs c = W
  have h32 : StableHlo.after (hostOps1_6 (F := F)) W main_v32 = broadcastInDim S1 ![] bcast_S_S1 (W main_v23 : S_.Idx → BitVec 32) := by after_results
  have h33 : StableHlo.after (hostOps1_6 (F := F)) W main_v33 = broadcastInDim S1 ![] bcast_S_S1 (W main_v26 : S_.Idx → BitVec 32) := by after_results
  have h34 : StableHlo.after (hostOps1_6 (F := F)) W main_v34 = broadcastInDim S1 ![] bcast_S_S1 (W main_v29 : S_.Idx → BitVec 32) := by after_results
  have h35 : StableHlo.after (hostOps1_6 (F := F)) W main_v35 = broadcastInDim S1 ![] bcast_S_S1 (W main_v31 : S_.Idx → BitVec 32) := by after_results
  after_results
  exact cat_congr h32 h33 h34 h35

/-- Four scalars put together, entry by entry. -/
theorem cat4 (w0 w1 w2 w3 : BitVec 32) (i : S4.Idx) :
    (concatenate S4 0 [⟨S1, (fun _ => w0 : S1.Idx → BitVec 32)⟩, ⟨S1, fun _ => w1⟩, ⟨S1, fun _ => w2⟩, ⟨S1, fun _ => w3⟩] concatenates_S1_S1_S1_S1_S4_d0 : S4.Idx → BitVec 32) i
      = if (i 0).val = 0 then w0 else if (i 0).val = 1 then w1 else if (i 0).val = 2 then w2 else w3 := by
  rw [Shape.Idx.eq_ofFin i]
  generalize i 0 = r
  change Fin 4 at r
  fin_cases r <;> rfl

/-! ## The numbers of the exchange -/

/-- Under `Bucket` half k sends away more than 1792 and fewer than 2048 rows. -/
theorem sent_bucket {d : Vec.Idx → BitVec 32} (h : Bucket d) (k : Fin 2) :
    1792 < cnt (half d k) (BitVec.ofNat 32 (1 - k.val)) ∧ cnt (half d k) (BitVec.ofNat 32 (1 - k.val)) < 2048 := by
  fin_cases k
  · exact h.1
  · exact h.2

variable (hB : ∀ c, Bucket (argD mem c))

/-- The numbers of the exchange, where every device's destinations lie in the bucket. -/
def nums : Nums where
  L c := sent mem c
  S c := if (hf c).val = 0 then 4096 - sent mem c else 0
  D c := if (hf c).val = 0 then 0 else 4096 - sent mem c
  K c := if (hf c).val = 0 then 0 else sent mem c
  hL c := sent_bucket (hB c) (hf c)
  hS c := by have : _ ∧ _ := sent_bucket (hB c) (hf c); unfold sent; split <;> omega
  hD c := by have : _ ∧ _ := sent_bucket (hB c) (hf c); unfold sent; split <;> omega
  hK c := by split <;> omega

/-- 4096 less a count, in words and in numbers. -/
theorem sub_num (n : ℕ) (h : n ≤ 4096) : IntOp.subi 4096#32 (BitVec.ofNat 32 n) = BitVec.ofNat 32 (4096 - n) := by
  apply BitVec.eq_of_toNat_eq
  show (4096#32 - BitVec.ofNat 32 n).toNat = _
  simp only [BitVec.toNat_sub, BitVec.toNat_ofNat]; omega

/-- A choice by comparing the half's number with zero is the choice by that number. -/
theorem sel_zero (k : Fin 2) (a b : BitVec 32) : Scalar.select (IntOp.cmpi .eq (BitVec.ofNat 32 k.val) 0#32) a b = if k.val = 0 then a else b := by
  fin_cases k <;> rfl

/-- A device sends away at most 4096 rows. -/
theorem sent_le : sent mem c ≤ 4096 := cnt_le _ _

/-- The four scalars the exchange kernel is given: rows sent away, where they begin, where they land, where the kept rows begin. -/
theorem words_at (i : S4.Idx) : (V10 mem outs c main_v36 : S4.Idx → BitVec 32) i
    = if (i 0).val = 0 then BitVec.ofNat 32 (sent mem c)
      else if (i 0).val = 1 then BitVec.ofNat 32 (if (hf c).val = 0 then 4096 - sent mem c else 0)
      else if (i 0).val = 2 then BitVec.ofNat 32 (if (hf c).val = 0 then 0 else 4096 - sent mem c)
      else BitVec.ofNat 32 (if (hf c).val = 0 then 0 else sent mem c) := by
  rw [v36_at10, v23_at9, v26_at9, v29_at9, v31_at9, sel_zero, sel_zero, sel_zero, sub_num _ (sent_le mem c)]
  refine (cat4 (BitVec.ofNat 32 (sent mem c)) (if (hf c).val = 0 then BitVec.ofNat 32 (4096 - sent mem c) else 0#32)
    (if (hf c).val = 0 then 0#32 else BitVec.ofNat 32 (4096 - sent mem c)) (if (hf c).val = 0 then 0#32 else BitVec.ofNat 32 (sent mem c)) i).trans ?_
  by_cases h : (hf c).val = 0
  · rw [if_pos h, if_pos h, if_pos h, if_pos h, if_pos h, if_pos h]
  · rw [if_neg h, if_neg h, if_neg h, if_neg h, if_neg h, if_neg h]

/-- The block of scalars is the array of scalars. -/
theorem blk1_eq (W : Dev nD → Valuation τ sig (Elt F)) (i : S4.Idx) : blk1 W c t1_0 i = (W c main_v36 : S4.Idx → BitVec 32) i := by
  show (W c main_v36 : S4.Idx → BitVec 32) (((cfg1.win 0).blk t1_0).view.emb i) = _
  refine congrArg (W c main_v36 : S4.Idx → BitVec 32) (funext fun a => Fin.ext ?_)
  obtain rfl : a = (0 : Fin 1) := Subsingleton.elim (α := Fin 1) _ _
  refine (Pipeline.Window.rect_emb_val (cfg1.win 0) t1_0 i 0).trans ?_
  have e : (cfg1.win 0).index t1_0 0 = 0 := by decide
  rw [e]
  exact (congrArg (· + (i 0).val) (Nat.zero_mul _)).trans (Nat.zero_add _)

/-- The scalars are those of the device's four numbers. -/
theorem scal : Scal (nums mem hB) c (blk1 (W1 mem) c t1_0) where
  x0 i h := by rw [blk1_eq]; refine (words_at mem c (outs := SwapProof.outs mem) i).trans ?_; rw [if_pos h]; rfl
  x1 i h := by rw [blk1_eq]; refine (words_at mem c (outs := SwapProof.outs mem) i).trans ?_; rw [if_neg (by omega), if_pos h]; rfl
  x2 i h := by rw [blk1_eq]; refine (words_at mem c (outs := SwapProof.outs mem) i).trans ?_; rw [if_neg (by omega), if_neg (by omega), if_pos h]; rfl
  x3 i h := by rw [blk1_eq]; refine (words_at mem c (outs := SwapProof.outs mem) i).trans ?_; rw [if_neg (by omega), if_neg (by omega), if_neg (by omega)]; rfl

end Cert.SwapProof

end
-- ==== Proof.Rows.lean ====
/-
  Rows taken by a stable order: what a sort of places, the fold of negative places and a gather of rows read.
-/
module

public import proofs.«01_k».proof.Proof.Order
public import proofs.«01_k».proof.Proof.HostVals
public import Idealize.ShloMosaic.Lib.Routing.Ops
public import Idealize.ShloMosaic.Lib.StableHlo.Predicate

@[expose] public section

noncomputable section

namespace Cert.SwapProof

open Cert.KernelIdeal Cert.KernelIdeal.Gen
open Idealize.ShloMosaic Idealize.ShloMosaic.ValueIdx
open Idealize.ShloMosaic.TcCoe

/-- Two ways to write a position of a one-dimensional array. -/
theorem ix1_eq {n : ℕ} (r : Fin n) : (ix1 r : (⟨1, ![n]⟩ : Shape).Idx) = Shape.Idx.ofFin r := by
  funext a
  obtain rfl : a = 0 := Subsingleton.elim _ _
  rfl

/-- The places a stable sort carries along. -/
theorem sort_places {n : ℕ} (x : (⟨1, ![n]⟩ : Shape).Idx → BitVec 32) (r : Fin n) :
    (Host.sort2 ⟨1, ![n]⟩ 0 comparator_i32_i32_d0 x (iotaInDim ⟨1, ![n]⟩ 32 0)).2 (Shape.Idx.ofFin r)
      = BitVec.ofNat 32 (ar (fun i => x (Shape.Idx.ofFin i)) r).val := by
  rw [Host.sort2_eq_sortBy]
  show Host.sortBy ⟨1, ![n]⟩ 0 comparator_i32_i32_d0 (fun j => (x j, iotaInDim ⟨1, ![n]⟩ 32 0 j)) (iotaInDim ⟨1, ![n]⟩ 32 0) (Shape.Idx.ofFin r) = _
  unfold Host.sortBy
  rw [dif_pos (show 0 < (⟨1, ![n]⟩ : Shape).rank from Nat.one_pos)]
  have al : ∀ k : Fin n, (Shape.Idx.ofFin r : (⟨1, ![n]⟩ : Shape).Idx).along (0 : Fin 1) k = Shape.Idx.ofFin k := fun k => Shape.Idx.along_rank1 _ _
  show iotaInDim ⟨1, ![n]⟩ 32 0 ((Shape.Idx.ofFin r : (⟨1, ![n]⟩ : Shape).Idx).along (0 : Fin 1) (sortedFrom (fun k k' =>
    IntOp.cmpi .slt (x ((Shape.Idx.ofFin r : (⟨1, ![n]⟩ : Shape).Idx).along (0 : Fin 1) k)) (x ((Shape.Idx.ofFin r : (⟨1, ![n]⟩ : Shape).Idx).along (0 : Fin 1) k')) == 1#1) r)) = _
  refine (congrArg (iotaInDim ⟨1, ![n]⟩ 32 0) (al _)).trans ?_
  refine congrArg (fun B : Fin n → Fin n → Bool => BitVec.ofNat 32 (sortedFrom B r).val) (funext fun k => funext fun k' => ?_)
  exact congrArg₂ (fun a b => IntOp.cmpi .slt (x a) (x b) == 1#1) (al k) (al k')

/-- A place below 2³¹ is not negative, and stays. -/
theorem norm_place (k : ℕ) (hk : k < 2 ^ 31) (w : BitVec 32) :
    Scalar.select (IntOp.cmpi .slt (BitVec.ofNat 32 k) 0#32) (IntOp.addi (BitVec.ofNat 32 k) w) (BitVec.ofNat 32 k) = BitVec.ofNat 32 k := by
  have h : ¬ IntOp.cmpi .slt (BitVec.ofNat 32 k) 0#32 = 1#1 := by
    intro e
    have := (StableHlo.Predicate.slt_ofNat_iff k 0 hk (by decide)).mp e
    omega
  unfold Scalar.select
  exact if_neg h

/-- Rows taken by the stable order of x. -/
theorem take_rows {n : ℕ} {α : Type} (hn : n < 2 ^ 31) (d : GatherDims ⟨2, ![n, 1024]⟩ ⟨2, ![n, 1]⟩ ⟨2, ![n, 1024]⟩) (hoff : d.offsetDims = [1])
    (hcoll : d.collapsedSliceDims = [0]) (hob : d.operandBatchingDims = []) (hsim : d.startIndexMap = [0]) (hivd : d.indexVectorDim = 1)
    (X : (⟨2, ![n, 1024]⟩ : Shape).Idx → α) (x : (⟨1, ![n]⟩ : Shape).Idx → BitVec 32) (w : BitVec 32)
    (h₁ : (⟨1, ![n]⟩ : Shape).BroadcastsInDim ⟨2, ![n, 1]⟩ ![0]) (h₀ : (⟨0, ![]⟩ : Shape).BroadcastsInDim ⟨1, ![n]⟩ ![]) (r : Fin n) (q : Fin 1024) :
    Host.gather d X (broadcastInDim ⟨2, ![n, 1]⟩ ![0] h₁
      (select (cmpi .slt (Host.sort2 ⟨1, ![n]⟩ 0 comparator_i32_i32_d0 x (iotaInDim ⟨1, ![n]⟩ 32 0)).2 (broadcastInDim ⟨1, ![n]⟩ ![] h₀ (constantI ⟨0, ![]⟩ 32 0#32)))
        (addi (Host.sort2 ⟨1, ![n]⟩ 0 comparator_i32_i32_d0 x (iotaInDim ⟨1, ![n]⟩ 32 0)).2 (broadcastInDim ⟨1, ![n]⟩ ![] h₀ (constantI ⟨0, ![]⟩ 32 w)))
        (Host.sort2 ⟨1, ![n]⟩ 0 comparator_i32_i32_d0 x (iotaInDim ⟨1, ![n]⟩ 32 0)).2)) (ix2 r q)
      = X (ix2 (ar (fun i => x (Shape.Idx.ofFin i)) r) q) := by
  refine Routing.gather_row d hoff hcoll hob hsim hivd X _ r q _ ?_ hn
  rw [Routing.bcCol, ix1_eq]
  show Scalar.select (IntOp.cmpi .slt ((Host.sort2 ⟨1, ![n]⟩ 0 comparator_i32_i32_d0 x (iotaInDim ⟨1, ![n]⟩ 32 0)).2 (Shape.Idx.ofFin r)) 0#32)
    (IntOp.addi ((Host.sort2 ⟨1, ![n]⟩ 0 comparator_i32_i32_d0 x (iotaInDim ⟨1, ![n]⟩ 32 0)).2 (Shape.Idx.ofFin r)) w)
    ((Host.sort2 ⟨1, ![n]⟩ 0 comparator_i32_i32_d0 x (iotaInDim ⟨1, ![n]⟩ 32 0)).2 (Shape.Idx.ofFin r)) = _
  rw [sort_places]
  exact norm_place _ (lt_trans (Fin.isLt _) hn) w

end Cert.SwapProof

end
-- ==== Proof.HostRows.lean ====
/-
  What the host operations leave for the exchange: the rows of each device, in the stable order of its half.
-/
module

public import proofs.«01_k».proof.Proof.Rows

@[expose] public section

noncomputable section

namespace Cert.SwapProof

open Cert.KernelIdeal Cert.KernelIdeal.Gen
open Idealize.ShloMosaic Idealize.ShloMosaic.StableHlo Idealize.ShloMosaic.ValueIdx
open Idealize.ShloMosaic.TcCoe

variable {F : FTy → Type} [FloatOps F]

variable (mem : (ℓ : Loc nD τ sig) → Buf (Elt F) ℓ) (c : Dev nD)

/-- The places in the stable order of device c's half. -/
abbrev places : S4096.Idx → BitVec 32 := (Host.sort2 S4096 0 comparator_i32_i32_d0 (half (argD mem c) (hf c)) (iotaInDim S4096 32 0)).2

/-- The places after the sort. -/
theorem v10_at2 : V2 mem c main_v10 = places mem c := by
  have e : V2 mem c main_v10 = (Host.sort2 S4096 0 comparator_i32_i32_d0 (V1 mem c main_v9 : S4096.Idx → BitVec 32) (iotaInDim S4096 32 0)).2 := by
    show StableHlo.after hostOps0_1 (V1 mem c) main_v10 = _
    generalize V1 mem c = W
    simp only [hostOps0_1, TRef.binary, TRef.unary, TRef.ternary, TRef.nullary, TRef.toBuf, TRef.ofBuf, cast_eq]
    after_results
  rw [e, v9_at1]

/-- The rows gathered by those places. -/
theorem v18_at4 : V4 mem (outs mem) c main_v18 = (Host.gather gather_S4096x1024_S4096x1_S4096x1024_1_0_n_n_0_1_11024 (argX mem c)
    (broadcastInDim S4096x1 ![0] bcast_S4096_S4096x1_0 (select (cmpi .slt (places mem c) (broadcastInDim S4096 ![] bcast_S_S4096 (constantI S_ 32 0#32)))
      (addi (places mem c) (broadcastInDim S4096 ![] bcast_S_S4096 (constantI S_ 32 4096#32))) (places mem c))) : S4096x1024.Idx → Elt F .bf16) := by
  have h10 : V3 mem (outs mem) c main_v10 = places mem c := (V3_of mem (outs mem) c main_v10 (by decide)).trans (v10_at2 mem c)
  have h11 : V3 mem (outs mem) c main_v11 = argX mem c := by
    refine (Function.update_self _ _ _).trans ?_
    unfold outs
    exact congrFun (Function.update_self _ _ _) c
  rw [← h10, ← h11]
  show StableHlo.after hostOps1 (V3 mem (outs mem) c) main_v18 = _
  generalize V3 mem (outs mem) c = W
  after_results

/-- The gathered rows in three axes, as the exchange gets them. -/
theorem v37_at10 : W1 mem c main_v37 = (shapeCast S4096x8x128 (V4 mem (outs mem) c main_v18 : S4096x1024.Idx → Elt F .bf16) shapeCasts_S4096x1024_S4096x8x128 : S4096x8x128.Idx → Elt F .bf16) := by
  have e : V9 mem (outs mem) c main_v18 = V4 mem (outs mem) c main_v18 :=
    (V9_of mem (outs mem) c main_v18 (by decide)).trans ((V8_of mem (outs mem) c main_v18 (by decide)).trans ((V7_of mem (outs mem) c main_v18 (by decide)).trans
      ((V6_of mem (outs mem) c main_v18 (by decide)).trans (V5_of mem (outs mem) c main_v18 (by decide)))))
  rw [← e]
  show StableHlo.after hostOps1_6 (V9 mem (outs mem) c) main_v37 = _
  generalize V9 mem (outs mem) c = W
  after_results
  rfl

end Cert.SwapProof

end
-- ==== Proof.Launch.lean ====
/-
  The launch and the run: every cell's invariant is made before the program starts, each device is dealt its part, and
  the whole program runs to the end.
-/
module

public import proofs.«01_k».proof.Proof.Segments
public import Idealize.ShloMosaic.Lib.Quiescent

@[expose] public section

noncomputable section

namespace Cert.SwapProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation HostSeg RegionSeg Seg)

variable {F : FTy → Type} [FloatOps F]

local notation "𝕄" => MT nD τ sig Unit (Elt F) ℕ (UU F) ℕ

/-! ## The launch element -/

/-- One duty token for each cell, of its first round. -/
def tokEmb : GSem nD τ sig ↪ GSem nD τ sig × ℕ × Unit := ⟨fun g => (g, 0, ()), fun _ _ h => congrArg Prod.fst h⟩
def toksAll : Finset (GSem nD τ sig × ℕ × Unit) := (barCells ∪ ownCells : Finset (GSem nD τ sig)).map tokEmb

/-- No barrier cell is an own cell. -/
theorem disjoint_cells : Disjoint (barCells : Finset (GSem nD τ sig)) ownCells := by
  rw [Finset.disjoint_left]
  rintro g h₁ h₂
  obtain ⟨c, -, rfl⟩ := Finset.mem_map.mp h₁
  obtain ⟨cj, -, h⟩ := Finset.mem_map.mp h₂
  exact absurd (congrArg Prod.snd h) (by show SemLoc.dma (dsem cj.2.val) ≠ SemLoc.reg barS; exact fun h => by cases h)

def u₀ : UU F :=
  (initOf (Pipeline.cells (Pipeline.pin (pcfgs (F := F)) adm) cellOf_inj) (Pipeline.launchToks (Pipeline.pin (pcfgs (F := F)) adm) cellOf_inj),
    (launchOf barCells ownCells toksAll, wm₀ nD τ sig (Elt F)))

/-- The exchange's share of it. -/
def Gall : sProp 𝕄 := iprop(BI.own (ER (launchOf barCells ownCells toksAll)) ∗ ownU (wmE (wm₀ nD τ sig (Elt F))))

/-- A resource given whole to device 0 until the devices are dealt theirs. -/
def atZero (X : sProp 𝕄) (c : Dev nD) : sProp 𝕄 := if c = 0 then X else iprop(emp)

omit [FloatOps F] in
/-- What only device 0 has, over all devices, is that thing once. -/
theorem all_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp

omit [FloatOps F] in
/-- The write mode's part of the launch resource is the write mode's fresh state. -/
theorem wm_own : (BI.own (((Emb.inr : Emb (WmRA nD τ sig (Elt F)) (UR sig nD τ × WmRA nD τ sig (Elt F))).trans embR) (wm₀ nD τ sig (Elt F))) : sProp 𝕄)
    ⊢ ownU (wmE (wm₀ nD τ sig (Elt F))) := Entails.of_eq rfl

/-- The launch resource splits in the pipeline's part and the exchange's. -/
theorem launch_split : (ownU (u₀ (F := F)) : sProp 𝕄)
    ⊢ |={Set.univ}=> iprop(BI.own (EP (initOf (Pipeline.cells (Pipeline.pin (pcfgs (F := F)) adm) cellOf_inj)
        (Pipeline.launchToks (Pipeline.pin (pcfgs (F := F)) adm) cellOf_inj))) ∗ bigSep Finset.univ (atZero (Gall (F := F)))) := by
  rw [all_atZero]
  unfold u₀ Gall
  iintro Hu
  ihave H := (ownU_pair _ _) $$ Hu
  icases H with ⟨HP, HX⟩
  ihave HX' := (own_pair_emb _ _ _) $$ HX
  icases HX' with ⟨HA, HB⟩
  imodintro
  isplitl [HP]; · iexact HP
  isplitl [HA]; · iexact HA
  iapply wm_own; iexact HB

/-! ## Dealing -/

variable (p : Plan) (v : Cont F)

/-- What stays with device c. -/
def linear (c : Dev nD) : sProp 𝕄 :=
  iprop(atPos ER (barCell c) 0 ∅ 0 ∗ (bigSep (Finset.univ : Finset (Fin 51)) fun j => openTok ER (ownCell c j.val))
    ∗ dutyTok ER (barCell (pr c)) 0 () ∗ (bigSep (Finset.range 17) fun k => dutyTok ER (sendCell c k) 0 ())
    ∗ (bigSep (Finset.range 17) fun k => dutyTok ER (recvCell (pr c) k) 0 ()) ∗ (bigSep (Finset.range 17) fun k => dutyTok ER (copyCell c k) 0 ()))

/-- The records every device reads. -/
def records (K : GSem nD τ sig → ℕ) (ιw : ℕ) : sProp 𝕄 := iprop(invs p v K ιw ∗ bigSep barCells fun g => reached ER g 0)

instance records_persistent (K : GSem nD τ sig → ℕ) (ιw : ℕ) : BI.Persistent (records p v K ιw) := by unfold records; infer_instance

omit [FloatOps F] in
/-- The record of a device's barrier cell is among the records of the barrier cells. -/
theorem reached_at (c : Dev nD) : (bigSep barCells fun g => (reached ER g 0 : sProp 𝕄)) ⊢ reached ER (barCell c) 0 :=
  bigSep_elim (Finset.mem_map_of_mem barEmb (Finset.mem_univ c))

/-- The shared records and a device's own part are the device's ghost state. -/
theorem ghost_intro (K : GSem nD τ sig → ℕ) (ιw : ℕ) (c : Dev nD) :
    iprop(records p v K ιw ∗ linear c) ⊢ iprop(∃ K ιw, Ghost0 p v K ιw c) := by
  unfold records linear Ghost0
  iintro ⟨⟨#HI, #HR⟩, H1, H2, H3, H4, H5, H6⟩
  iexists K; iexists ιw
  isplitr; · iexact HI
  isplitr; · iapply (reached_at (F := F) (pr c)); iexact HR
  isplitl [H1]; · iexact H1
  isplitl [H3]; · iexact H3
  isplitl [H2]; · iexact H2
  isplitl [H4]; · iexact H4
  isplitl [H5] <;> iassumption

omit [FloatOps F] in
/-- The tokens, by device. -/
theorem toks_eq : bigSep toksAll (fun x => (dutyTok ER x.1 x.2.1 x.2.2 : sProp 𝕄))
    = iprop((bigSep Finset.univ fun c : Dev nD => dutyTok ER (barCell c) 0 ())
        ∗ (bigSep Finset.univ fun c : Dev nD => iprop((bigSep (Finset.range 17) fun k => dutyTok ER (sendCell c k) 0 ())
            ∗ (bigSep (Finset.range 17) fun k => dutyTok ER (recvCell c k) 0 ()) ∗ (bigSep (Finset.range 17) fun k => dutyTok ER (copyCell c k) 0 ())))) := by
  unfold toksAll
  rw [bigSep_map, bigSep_union disjoint_cells, bigSep_map, bigSep_map, bigSep_univ_prod]
  congr 1
  exact bigSep_congr fun c _ => own_three (fun j => (dutyTok ER (ownCell c j) 0 () : sProp 𝕄))

omit [FloatOps F] in
/-- The barrier and receive tokens go to the other device of the pair. -/
theorem toks_around : bigSep toksAll (fun x => (dutyTok ER x.1 x.2.1 x.2.2 : sProp 𝕄))
    ⊢ bigSep Finset.univ fun c : Dev nD => iprop(dutyTok ER (barCell (pr c)) 0 () ∗ (bigSep (Finset.range 17) fun k => dutyTok ER (sendCell c k) 0 ())
      ∗ (bigSep (Finset.range 17) fun k => dutyTok ER (recvCell (pr c) k) 0 ()) ∗ (bigSep (Finset.range 17) fun k => dutyTok ER (copyCell c k) 0 ())) := by
  rw [toks_eq, bigSep_sep', bigSep_sep', bigSep_sep', bigSep_sep', bigSep_sep', bigSep_univ_equiv ring (fun c : Dev nD => (dutyTok ER (barCell c) 0 () : sProp 𝕄)),
    bigSep_univ_equiv ring (fun c : Dev nD => (bigSep (Finset.range 17) fun k => dutyTok ER (recvCell c k) 0 () : sProp 𝕄))]
  exact BI.Entails.refl _

/-! ### The launch credit -/

/-- Different devices have different partners. -/
theorem pr_inj {a b : Dev nD} (h : pr a = pr b) : a = b := by rw [← pr_pr a, h, pr_pr]

/-- Receive cells of different devices or chunks are different. -/
theorem recvCell_inj {a b : Dev nD} {j k : ℕ} (hj : j < 17) (hk : k < 17) (h : recvCell a j = recvCell b k) : a = b ∧ j = k := by
  refine ⟨congrArg (fun g : GSem nD τ sig => g.1.1) h, ?_⟩
  have := dsem_inj (i := 17 + j) (j := 17 + k) (by omega) (by omega) (SemLoc.dma.inj (congrArg Prod.snd h))
  omega
/-- A receive cell is no barrier cell. -/
theorem recv_ne_bar (a b : Dev nD) (k : ℕ) : recvCell a k ≠ barCell b := fun h => by cases congrArg Prod.snd h

/-- A barrier cell is owed one by the partner and nothing by others. -/
theorem owed_bar (d c : Dev nD) : O₀ p d (barCell c) () = if d = pr c then 1 else 0 := by
  unfold O₀
  rw [Pi.add_apply, Finsupp.add_apply, tallyAt_apply]
  rw [show Ofrom p d 0 (barCell c) () = 0 from Nat.eq_zero_of_not_pos fun h => by
    obtain ⟨k, -, hk⟩ := Ofrom_pos p h
    exact recv_ne_bar _ _ _ hk.symm, Nat.zero_add]
  by_cases h : d = pr c
  · subst h; rw [pr_pr, if_pos ⟨rfl, rfl⟩, if_pos rfl]
  · rw [if_neg (fun ⟨h1, _⟩ => h (by rw [← pr_pr d]; exact congrArg pr (congrArg (fun g : GSem nD τ sig => g.1.1) h1).symm)), if_neg h]

/-- The receive cell of an exchanged chunk is owed one copy's credit by the partner and nothing by others. -/
theorem owed_recv (d c : Dev nD) {k : ℕ} (hk : k < 17) (ha : p.aS k = true) : O₀ p d (recvCell c k) () = if d = pr c then N else 0 := by
  unfold O₀ Ofrom
  rw [Pi.add_apply, Finsupp.add_apply, tallyAt_ne_cell (recv_ne_bar _ _ _), Finsupp.zero_apply, Nat.add_zero, Finset.sum_apply, Finsupp.finset_sum_apply,
    Finset.sum_eq_single k]
  · rw [if_pos ⟨Nat.zero_le _, ha⟩, tallyAt_apply]
    by_cases h : d = pr c
    · subst h; rw [pr_pr, if_pos ⟨rfl, rfl⟩, if_pos rfl]
    · rw [if_neg (fun ⟨h1, _⟩ => h (by rw [← pr_pr d]; exact congrArg pr (congrArg (fun g : GSem nD τ sig => g.1.1) h1).symm)), if_neg h]
  · intro j hj hne
    split
    · rw [tallyAt_ne_cell (fun h => hne (recvCell_inj hk (Finset.mem_range.mp hj) h).2.symm), Finsupp.zero_apply]
    · rfl
  · exact fun h => absurd (Finset.mem_range.mpr hk) h

/-- The launch gives one credit for a barrier cell. -/
theorem launch_bar (c : Dev nD) :
    tallyOn (barCell c) (launchCredit (Pipeline.owing (O₀ p)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar p d c, Finset.sum_ite_eq' Finset.univ (pr c) fun _ => 1,
    if_pos (Finset.mem_univ _)]

/-- The launch gives one copy's credit for the receive cell of an exchanged chunk. -/
theorem launch_recv (c : Dev nD) {k : ℕ} (hk : k < 17) (ha : p.aS k = true) :
    tallyOn (recvCell c k) (launchCredit (Pipeline.owing (O₀ p)) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv p d c hk ha, Finset.sum_ite_eq' Finset.univ (pr c) fun _ => N,
    if_pos (Finset.mem_univ _)]

def ownLoc : Fin 51 ↪ SemLoc sig := ⟨osem1, fun a b h => Fin.ext (dsem_inj a.isLt b.isLt (SemLoc.dma.inj h))⟩

/-- No own semaphore is the barrier semaphore. -/
theorem own_ne_bar (j : Fin 51) : osem1 j ≠ (.reg barS : SemLoc sig) := fun h => by cases h

omit [FloatOps F] in
/-- Anything can be given up. -/
theorem to_emp (X : sProp 𝕄) : (iprop(X) : sProp 𝕄) ⊢ iprop(emp) := by iintro -; iempintro

omit [FloatOps F] in
/-- The credits of the launch are those the exchange waits with. -/
theorem creds (c : Dev nD) : (Pipeline.launchCred (O₀ p) c : sProp 𝕄) ⊢ Creds p c := by
  unfold Pipeline.launchCred Creds
  rw [bigSep_univ_at _ (SemLoc.reg barS), launch_bar]
  refine sep_mono_right ?_
  have hsub : (Finset.univ : Finset (Fin 51)).map ownLoc ⊆ Finset.univ.erase (SemLoc.reg barS : SemLoc sig) := fun s hs => by
    obtain ⟨j, -, rfl⟩ := Finset.mem_map.mp hs
    exact Finset.mem_erase.mpr ⟨own_ne_bar j, Finset.mem_univ _⟩
  rw [← Finset.union_sdiff_of_subset hsub, bigSep_union Finset.disjoint_sdiff, bigSep_map]
  refine sep_elim_left.trans ?_
  refine (Entails.of_eq (own_three (fun j => (cred (tallyOn (ownCell c j) (launchCredit (Pipeline.owing (O₀ p)) 0 (ownCell c j))) : sProp 𝕄)))).trans ?_
  refine sep_elim_right.trans (sep_elim_left.trans ?_)
  refine bigSep_mono fun k hk => ?_
  unfold credOne
  cases ha : p.aS k with
  | false => rw [if_neg Bool.false_ne_true]; exact to_emp _
  | true =>
    rw [if_pos rfl, ← launch_recv p c (Finset.mem_range.mp hk) ha]
    exact BI.Entails.refl _

/-! ## The run -/

variable (mem : (ℓ : Loc nD τ sig) → Buf (Elt F) ℓ) (ρ : Dev nD → PrngReg) (m : Nums) (g : (c : Dev nD) → Tgt (Elt F) (outL c))

abbrev T₀ (c : Dev nD) : sProp 𝕄 := iprop(StableHlo.held (c : Thread nD τ) ucR (V0 mem c) ∗ E0 mem m g c)
abbrev Tₙ (c : Dev nD) : sProp 𝕄 :=
  iprop(∃ f', ⌜Lands m.plan (cont mem g) c f'⌝ ∗ StableHlo.held (c : Thread nD τ) ucR (StableHlo.after hostOps2 (put mem c f')) ∗ semVal (barCell c) 0)

/-- What a device has at launch beside the protocol's ghost state. -/
def bundle (c : Dev nD) : sProp 𝕄 :=
  iprop(StableHlo.held (c : Thread nD τ) ucR (V0 mem c) ∗ Creds m.plan c ∗ owes (c : Thread nD τ) (O₀ m.plan c) ∅ ∗ ∃ r, prngReg c r)

/-- The records, a device's own part and its bundle are what the device starts the host program with. -/
theorem T₀_intro (K : GSem nD τ sig → ℕ) (ιw : ℕ) (c : Dev nD) :
    iprop(records m.plan (cont mem g) K ιw ∗ (linear c ∗ bundle mem m c)) ⊢ T₀ mem m g c := by
  unfold bundle T₀ E0
  iintro ⟨#HR, Hl, Hh, HC, HO, Hp⟩
  isplitl [Hh]; · iexact Hh
  isplitl [Hl]
  · iapply (ghost_intro m.plan (cont mem g) K ιw c)
    isplitr; · iexact HR
    iexact Hl
  isplitl [HC]; · iexact HC
  isplitl [Hp]; · iexact Hp
  iexists ∅; iexact HO

omit [FloatOps F] in
/-- The one semaphore that lives throughout is the barrier semaphore. -/
theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch gives a core is its bundle, its barrier semaphore at zero and, on device 0, the exchange's launch resource. -/
theorem core_init (c : Dev nD) : iprop(unscopedBufs c (fun b => mem ((c : Thread nD τ).loc b)) ∗ unscopedSems0 c
        ∗ owes (c : Thread nD τ) (O₀ m.plan c) ∅ ∗ Pipeline.launchCred (O₀ m.plan) c ∗ prngReg c (ρ c) ∗ atZero (Gall (F := F)) c)
      ⊢ (iprop(bundle mem m c ∗ (semVal (barCell c) 0 ∗ atZero (Gall (F := F)) c)) : sProp 𝕄) := by
  rw [show (unscopedBufs c (fun b => mem ((c : Thread nD τ).loc b)) : sProp 𝕄) = StableHlo.held (c : Thread nD τ) ucR (V0 mem c) from
      Pipeline.unscopedBufs_held (Ix := Unit) (Name := ℕ) (U := UU F) (Lvl := ℕ) c (V0 mem c), unscoped_sems]
  unfold bundle
  iintro ⟨Hh, Hus, HO, Hcr, Hp, HG⟩
  ihave Hc := (creds m.plan c) $$ Hcr
  isplitl [Hh Hc HO Hp]
  · isplitl [Hh]; · iexact Hh
    isplitl [Hc]; · iexact Hc
    isplitl [HO]; · iexact HO
    iexists (ρ c); iexact Hp
  isplitl [Hus] <;> iassumption

omit [FloatOps F] in
/-- A product over the barrier cells is a product over the devices. -/
theorem bars_map (Φ : GSem nD τ sig → sProp 𝕄) : bigSep barCells Φ = bigSep Finset.univ (fun c : Dev nD => Φ (barCell c)) :=
  bigSep_map (s := Finset.univ) barEmb (Φ := Φ)
omit [FloatOps F] in
/-- A product over the own cells is a product over the devices and the 51 semaphores. -/
theorem owns_map (Φ : GSem nD τ sig → sProp 𝕄) : bigSep ownCells Φ
    = bigSep Finset.univ (fun c : Dev nD => bigSep (Finset.univ : Finset (Fin 51)) fun j => Φ (ownCell c j.val)) := by
  rw [bigSep_map, bigSep_univ_prod]
  rfl

/-- The launch. -/
theorem init :
    iprop((bigSep Finset.univ fun c : Dev nD => iprop(unscopedBufs c (fun b => mem ((c : Thread nD τ).loc b)) ∗ unscopedSems0 c
          ∗ owes (c : Thread nD τ) (O₀ m.plan c) ∅ ∗ Pipeline.launchCred (O₀ m.plan) c ∗ prngReg c (ρ c) ∗ atZero (Gall (F := F)) c)) ∗ levAts L lv)
      ⊢ (|={Set.univ}=> bigSep Finset.univ (T₀ mem m g) : sProp 𝕄) := by
  have hG : bigSep Finset.univ (atZero (Gall (F := F))) ⊢ Gall (F := F) := Entails.of_eq (all_atZero _)
  iintro ⟨H, -⟩
  ihave H' := (show (bigSep Finset.univ fun c : Dev nD => iprop(unscopedBufs c (fun b => mem ((c : Thread nD τ).loc b)) ∗ unscopedSems0 c
          ∗ owes (c : Thread nD τ) (O₀ m.plan c) ∅ ∗ Pipeline.launchCred (O₀ m.plan) c ∗ prngReg c (ρ c) ∗ atZero (Gall (F := F)) c))
      ⊢ (bigSep Finset.univ fun c : Dev nD => iprop(bundle mem m c ∗ (semVal (barCell c) 0 ∗ atZero (Gall (F := F)) c)) : sProp 𝕄) from
        bigSep_mono fun c _ => core_init mem ρ m c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := hG $$ HG
  unfold Gall
  icases Hu with ⟨Hu, Hw⟩
  imod (wmInv_alloc (emb := wmE) (⟨mem, fun _ => 0, ρ⟩ : MemSt nD τ sig (Elt F))) $$ Hw with ⟨%ιw, -, #Hwi⟩
  imod (Rounds.fund_launch ER (swapRd m.plan (cont mem g)) disjoint_cells (fun g _ h => h) toksAll) $$ [Hv Hu] with ⟨%K, -, #Hinv, #Hr, Hat, Hopen, Htok⟩
  · isplitl [Hv]
    · iapply (Entails.of_eq (bars_map (fun g => (semVal g 0 : sProp 𝕄))).symm) $$ Hv
    · iexact Hu
  imodintro
  iapply (bigSep_with_persistent (R := records m.plan (cont mem g) K ιw) (Φ := fun c => iprop(linear c ∗ bundle mem m c)) fun c _ => T₀_intro mem m g K ιw c)
  isplitr
  · unfold records invs
    isplitr
    · isplitr; · iexact Hinv
      iexact Hwi
    iexact Hr
  iapply (Entails.of_eq (bigSep_sep' _ _ _).symm)
  isplitr [HB]
  · unfold linear
    iapply (Entails.of_eq (bigSep_sep' _ _ _).symm); isplitl [Hat]; · iapply (Entails.of_eq (bars_map (fun g => (atPos ER g 0 ∅ 0 : sProp 𝕄)))) $$ Hat
    iapply (Entails.of_eq (bigSep_sep' _ _ _).symm); isplitl [Hopen]; · iapply (Entails.of_eq (owns_map (fun g => (openTok ER g : sProp 𝕄)))) $$ Hopen
    iapply (toks_around (F := F)) $$ Htok
  · iexact HB

variable (hA : Adm m.plan (cont mem g)) (hX : ∀ c, Scal m c (blk1 (W1 mem) c t1_0))

/-- The program's items. -/
def segsL (c : Dev nD) : List (Seg (pcfgs (F := F)) adm (pdats mem m g) () defs₀ 𝒱₀ L lv) :=
  [.host (seg0 mem 𝒱₀ L lv (fun _ => E0 mem m g) c), .host (seg1 mem 𝒱₀ L lv (fun _ => E0 mem m g)), .region (reg0 mem m g),
    .host (seg3 mem (outs mem) 𝒱₀ L lv (fun _ => E0 mem m g)), .host (seg4 mem (outs mem) 𝒱₀ L lv (fun _ => E0 mem m g)),
    .host (seg5 mem (outs mem) 𝒱₀ L lv (fun _ => E0 mem m g)), .host (seg6 mem (outs mem) 𝒱₀ L lv (fun _ => E0 mem m g)),
    .host (seg7 mem (outs mem) 𝒱₀ L lv (fun _ => E0 mem m g)), .host (seg8 mem (outs mem) 𝒱₀ L lv (fun _ => E0 mem m g)),
    .host (seg9 mem (outs mem) 𝒱₀ L lv (fun _ => E0 mem m g)), .region (reg1 mem m g hA hX), .host (segEnd mem m g)]

/-- The only semaphore that lives throughout is the barrier semaphore. -/
theorem unscoped_eq : ∀ sm : SemLoc sig, sm.isScoped .tc = false → sm = .reg barS := by decide

/-- The buffers at the end. -/
abbrev Vend (c : Dev nD) (f' : Buf (Elt F) (outL c)) : Valuation τ sig (Elt F) := StableHlo.after hostOps2 (put mem c f')

/-- A buffer that neither the last host operations nor the exchange write is as it was before the exchange. -/
theorem Vend_of (c : Dev nD) (f' : Buf (Elt F) (outL c)) (r : Ref sig .tc) (h : r ∉ hostOps2_W) (h' : r ≠ main_v38) : Vend mem c f' r = W1 mem c r :=
  (StableHlo.after_of_writes_sub hostOps2 _ hostOps2_writes h).trans
    (Function.update_of_ne (StableHlo.devRef_ne_of_ne h') _ _)

/-- What is known of a device's memory at the end. -/
def EndAt (c : Dev nD) (s : MemSt nD τ sig (Elt F)) : Prop :=
  (∃ f', Lands m.plan (cont mem g) c f' ∧ ∀ b ∈ ucR, s.mem ((c : Thread nD τ).1, b) = Vend mem c f' b) ∧ s.sem (barCell c) = 0

set_option backward.isDefEq.respectTransparency.types false in
include hA hX in
/-- The whole program runs to the end, every counter back at zero, and every device's result what the exchange left. -/
theorem run_main : θ_run defs (onTc (τ := τ) (main (F := F))) ⟨mem, fun _ => 0, ρ⟩
    (fun r => (∀ c : Dev nD, ∃ f', Lands m.plan (cont mem g) c f' ∧ ∀ b ∈ ucR, r.2.mem ((c : Thread nD τ).1, b) = Vend mem c f' b)
      ∧ r.2.sem = fun _ => 0) :=
  Pipeline.θ_run_regions_kit_dev_sems (pcfgs (F := F)) adm (pdats mem m g) () cellOf_inj EP defs₀ 𝒱₀ L lv mem ρ main (segsL mem m g hA hX)
    (fun c Q => by
      rewrite [main_chain c, Seg.run_eq_chain,
        show (segsL mem m g hA hX c).map Seg.prog = [
          StableHlo.seq (hostOps0 c),
          StableHlo.seq hostOps0_1,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      dsimp (config := { failIfUnchanged := false }) only
      exact .rfl)
    (fun c => by simp only [segsL, Seg.pipes_host, Seg.pipes_region, Seg.pipes_nil]; decide)
    (O₀ m.plan) L_of_ne (atZero (Gall (F := F))) u₀ launch_split (T₀ mem m g) (Tₙ mem m g)
    (fun c => ⟨.rfl, .rfl, reg0_pre mem m g c, reg0_post mem m g c, .rfl, .rfl, .rfl, .rfl, .rfl, .rfl, reg1_pre mem m g hA hX c, reg1_post mem m g hA hX c, by
      show fin mem m g c ⊢ _
      unfold fin Tₙ E2
      iintro ⟨%f', %hf, Hh, Hb, HO⟩
      isplitr [HO]
      · iexists f'
        isplitr; · ipureintro; exact hf
        isplitl [Hh] <;> iassumption
      iexact HO⟩)
    (init mem ρ m g) (EndAt mem m g)
    (fun c s' => by
      unfold Tₙ StableHlo.held
      iintro ⟨⟨%f', %hf, Hh, Hb⟩, HSI⟩
      icombine HSI Hb gives %hb
      ihave Hr := (pointsTo_read_all ucR (fun b => ((c : Thread nD τ).1, b)) (Vend mem c f') s') $$ [Hh HSI]
      · isplitl [Hh] <;> iassumption
      icases Hr with ⟨%h, HSI⟩
      imodintro
      isplitr
      · ipureintro
        exact ⟨⟨f', hf, h⟩, by simpa using hb⟩
      iexact HSI)
    (fun s h hs => ⟨fun c => (h c).1, sem_eq_zero hs fun c sm hsm => by
      obtain rfl := unscoped_eq sm hsm
      exact (h c).2⟩)

end Cert.SwapProof

end
-- ==== Proof.Frames.lean ====
/-
  The frames: the kernel runs from every memory in the bucket and leaves its arguments; so does the reference.
-/
module

public import proofs.«01_k».proof.Proof.HostVals
public import proofs.«01_k».proof.Proof.Launch
public import proofs.«01_k».proof.Defs
public import proofs.«01_k».proof.Proof.Gen.Kernel
public import proofs.«01_k».proof.Proof.Gen.ReferenceIdeal.Run

@[expose] public section

noncomputable section

namespace Cert.SwapProof

open Cert.KernelIdeal Cert.KernelIdeal.Gen
open Idealize.ShloMosaic
open Idealize.ShloMosaic.TcCoe
open Idealize.SL.Sem
open Idealize.ShloMosaic.Rounds

variable {F : FTy → Type} [FloatOps F]

variable (mem : (ℓ : Loc nD τ sig) → Buf (Elt F) ℓ)

/-- No particular values are to be written. -/
def free : (c : Dev nD) → Tgt (Elt F) (outL c) := fun _ _ => none

/-- Contents that leave the written values open are admissible for every plan. -/
theorem adm_free (m : Nums) : Adm m.plan (cont mem free) where
  swap c k _ _ := by
    intro x _ u h
    exact nomatch (show (none : Option (Elt F .bf16)) = some u from h)
  keep c k _ _ := by
    intro x _ u h
    exact nomatch (show (none : Option (Elt F .bf16)) = some u from h)

/-- The host operations before the exchange leave the first argument. -/
theorem W1_arg0 (c : Dev nD) : W1 mem c main_arg0 = mem ((c : Thread nD τ).loc main_arg0) :=
  (V11_of mem (outs mem) c main_arg0 (by decide)).symm.trans ((V12_of mem (outs mem) c main_arg0 (by decide)).symm.trans (V12_main_arg0 mem (outs mem) c))
/-- The host operations before the exchange leave the second argument. -/
theorem W1_arg1 (c : Dev nD) : W1 mem c main_arg1 = mem ((c : Thread nD τ).loc main_arg1) :=
  (V11_of mem (outs mem) c main_arg1 (by decide)).symm.trans ((V12_of mem (outs mem) c main_arg1 (by decide)).symm.trans (V12_main_arg1 mem (outs mem) c))

/-- The first argument is one of the buffers that live throughout. -/
theorem arg0_uc : (Proc.devRef .tc main_arg0 : DevRef τ sig) ∈ ucR := Finset.mem_filter.mpr ⟨StableHlo.devRef_mem_tcRefs _, by decide⟩
/-- The second argument is one of the buffers that live throughout. -/
theorem arg1_uc : (Proc.devRef .tc main_arg1 : DevRef τ sig) ∈ ucR := Finset.mem_filter.mpr ⟨StableHlo.devRef_mem_tcRefs _, by decide⟩
/-- The result is one of the buffers that live throughout. -/
theorem res_uc : (Proc.devRef .tc main_v39 : DevRef τ sig) ∈ ucR := Finset.mem_filter.mpr ⟨StableHlo.devRef_mem_tcRefs _, by decide⟩

/-- The arguments end as they began. -/
theorem args_of {c : Dev nD} {f' : Buf (Elt F) (outL c)} {s : MemSt nD τ sig (Elt F)}
    (h : ∀ b ∈ ucR, s.mem ((c : Thread nD τ).1, b) = Vend mem c f' b) :
    s.mem ((c : Thread nD τ).loc main_arg0) = mem ((c : Thread nD τ).loc main_arg0)
      ∧ s.mem ((c : Thread nD τ).loc main_arg1) = mem ((c : Thread nD τ).loc main_arg1) :=
  ⟨(h _ arg0_uc).trans ((Vend_of mem c f' main_arg0 (by decide) (by decide)).trans (W1_arg0 mem c)),
   (h _ arg1_uc).trans ((Vend_of mem c f' main_arg1 (by decide) (by decide)).trans (W1_arg1 mem c))⟩

/-- From every memory whose destinations lie in the bucket the kernel runs, leaves its arguments and every counter at zero. -/
theorem run_args (ρ : Dev nD → PrngReg) (hB : ∀ c, Bucket (argD mem c)) :
    θ_run defs (onTc (τ := τ) (main (F := F))) ⟨mem, fun _ => 0, ρ⟩ (fun r => (∀ c : Dev nD,
      r.2.mem ((c : Thread nD τ).loc main_arg0) = mem ((c : Thread nD τ).loc main_arg0)
      ∧ r.2.mem ((c : Thread nD τ).loc main_arg1) = mem ((c : Thread nD τ).loc main_arg1)) ∧ r.2.sem = fun _ => 0) :=
  (θ_run defs _ _).mono (fun _ h => ⟨fun c => by obtain ⟨f', -, hm⟩ := h.1 c; exact args_of mem hm, h.2⟩)
    (run_main mem ρ (nums mem hB) free (adm_free mem _) (fun c => scal mem c hB))

/-- The printed kernel and the one read on exact numbers are one program: the first frame, said in the names of the second. -/
theorem kernel_same : Cert.quiescent_Kernel =
    (∀ (m : (ℓ : Loc nD τ sig) → Buf (Elt Bits) ℓ) (ρ : Dev nD → PrngReg), Cert.Pre_Kernel m →
      θ_run (defs (F := Bits)) (onTc (τ := τ) (main (F := Bits))) ⟨m, fun _ => 0, ρ⟩ (fun r => (∀ c : Dev nD,
        r.2.mem ((c : Thread nD τ).loc main_arg0) = m ((c : Thread nD τ).loc main_arg0)
        ∧ r.2.mem ((c : Thread nD τ).loc main_arg1) = m ((c : Thread nD τ).loc main_arg1)) ∧ r.2.sem = fun _ => 0)) := by
  sl_kernel_rfl

/-- The kernel as written, on bit patterns. -/
theorem frame_kernel : Cert.quiescent_Kernel :=
  kernel_same.mpr fun m ρ hP => run_args (F := Bits) m ρ (fun c => bucket_of_one _ _ (hP c))

/-- The kernel on exact numbers. -/
theorem frame_ideal : Cert.quiescent_KernelIdeal := fun m ρ hP =>
  run_args (F := Ideal) m ρ (fun c => bucket_of_one _ _ (hP c))

/-- The kernel on exact numbers, under the precondition of the value claim. -/
theorem frame_ideal_balanced : Cert.quiescent_KernelIdeal_pre_balanced_KernelIdeal := fun m ρ hP =>
  run_args (F := Ideal) m ρ (fun c => (balanced_of _ _ (hP c)).bucket)

/-- The reference runs, leaves its arguments, and has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same, under the precondition of the value claim. -/
theorem frame_reference_balanced : Cert.quiescent_ReferenceIdeal_pre_balanced_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.SwapProof

end
-- ==== Proof.Match.lean ====
/-
  The rows the copies carry, and the rows of the sorted whole they land on.
-/
module

public import proofs.«01_k».proof.Proof.HostRows
public import proofs.«01_k».proof.Proof.Frames
public import Idealize.ShloMosaic.Lib.Layout
public import Idealize.ShloMosaic.Lib.Pipeline.ValueKit.Geometry

@[expose] public section

noncomputable section

namespace Cert.SwapProof

open Cert.KernelIdeal Cert.KernelIdeal.Gen
open Idealize.ShloMosaic Idealize.ShloMosaic.ValueIdx
open Idealize.ShloMosaic.TcCoe

/-! ## Numbers -/

section Numbers

variable (D : Fin 8192 → BitVec 32) (hz : zs (hv D 0) + zs (hv D 1) = 4096)

/-- A kept row of the lower half is in its place. -/
theorem kept_low {s : ℕ} (h : s < zs (hv D 0)) : mg D s = tk D 0 s := if_pos h
include hz in
/-- A kept row of the upper half is in its place. -/
theorem kept_high {s : ℕ} (h : zs (hv D 1) ≤ s) (h' : s < 4096) : mg D (4096 + s) = 4096 + tk D 1 s := by
  unfold mg
  rw [if_neg (by omega), if_neg (by omega), if_neg (by omega), show 4096 + s - 4096 = s by omega]
include hz in
/-- A row the lower half sends lands in its place. -/
theorem goes_up {u : ℕ} (h : u < zs (hv D 1)) : mg D (4096 + u) = tk D 0 (zs (hv D 0) + u) := by
  unfold mg
  rw [if_neg (by omega), if_neg (by omega), if_pos (by omega), show 4096 + u - 4096 + zs (hv D 0) = zs (hv D 0) + u by omega]
include hz in
/-- A row the upper half sends lands in its place. -/
theorem goes_down {u : ℕ} (h : u < zs (hv D 1)) : mg D (zs (hv D 0) + u) = 4096 + tk D 1 u := by
  unfold mg
  rw [if_neg (by omega), if_pos (by omega), show zs (hv D 0) + u - zs (hv D 0) = u by omega]

end Numbers

/-! ## Rows in three axes -/

/-- The column that sublane a and lane b are. -/
abbrev fl (a : Fin 8) (b : Fin 128) : Fin 1024 := ⟨a.val * 128 + b.val, by have := a.isLt; have := b.isLt; omega⟩

/-- A row of 1024 columns seen as 8 by 128. -/
theorem cast3 {α : Type} (t : S4096x1024.Idx → α) (h : S4096x1024.ShapeCasts S4096x8x128) (r : Fin 4096) (a : Fin 8) (b : Fin 128) :
    shapeCast S4096x8x128 t h (ix3 r a b) = t (ix2 r (fl a b)) := by
  unfold shapeCast
  refine congrArg t (Shape.reshapeEquiv_eq_of_rowMajor _ ?_)
  rw [Shape.rowMajor_val_two, Shape.rowMajor_val_three]
  show r.val * 1024 + (a.val * 128 + b.val) = (r.val * 8 + a.val) * 128 + b.val
  omega

variable {F : FTy → Type} [FloatOps F]

/-- A copy of rows writes what it should when row for row it does. -/
theorem admitted_rows {xs T : S4096x8x128.Idx → Elt F .bf16} {s d : ℕ} (hs : s + 256 ≤ 4096) (hd : d + 256 ≤ 4096)
    (h : ∀ t : ℕ, (ht : t < 256) → ∀ a b, xs (ix3 ⟨s + t, by omega⟩ a b) = T (ix3 ⟨d + t, by omega⟩ a b)) :
    (slc outM d hd).view.Admitted (Elt F) (fun i => some (T i)) ((slc srcM s hs).view.read (Elt F) xs) Finset.univ := by
  refine View.admitted_some_iff.mpr fun x _ => ?_
  have e1 : (slc srcM s hs).view.emb x = (ix3 ⟨s + (x 0).val, by have h0 : (x 0).val < 256 := (x 0).isLt; omega⟩ (x 1) (x 2) : S4096x8x128.Idx) := by
    funext ax
    apply Fin.ext
    refine (ValueKit.view_emb_slice_whole_unit_val main_v37 ![s, 0, 0] S256x8x128.size (slc_inb hs) x ax).trans ?_
    fin_cases ax
    · rfl
    · exact Nat.zero_add _
    · exact Nat.zero_add _
  have e2 : (slc outM d hd).view.emb x = (ix3 ⟨d + (x 0).val, by have h0 : (x 0).val < 256 := (x 0).isLt; omega⟩ (x 1) (x 2) : S4096x8x128.Idx) := by
    funext ax
    apply Fin.ext
    refine (ValueKit.view_emb_slice_whole_unit_val main_v38 ![d, 0, 0] S256x8x128.size (slc_inb hd) x ax).trans ?_
    fin_cases ax
    · rfl
    · exact Nat.zero_add _
    · exact Nat.zero_add _
  show xs ((slc srcM s hs).view.emb x) = T ((slc outM d hd).view.emb x)
  rw [e1, e2]
  exact h _ (x 0).isLt _ _

/-- A row lies among the rows of a chunk. -/
theorem row_mem (c : Dev nD) {d : ℕ} (hd : d + 256 ≤ 4096) (i : S4096x8x128.Idx) (h : d ≤ (i 0).val) (h' : (i 0).val < d + 256) :
    (i : Idx (outL c)) ∈ rowsAt c d hd := by
  unfold rowsAt
  refine (ValueKit.mem_set_slice_whole_iff main_v38 _ i Rect.mem_set_unit).mpr fun a => ?_
  fin_cases a
  · exact ⟨h, h'⟩
  · exact ⟨Nat.zero_le _, lt_of_lt_of_le (i 1).isLt (Nat.le_add_left _ _)⟩
  · exact ⟨Nat.zero_le _, lt_of_lt_of_le (i 2).isLt (Nat.le_add_left _ _)⟩

/-! ## What each device has -/

variable (mem : (ℓ : Loc nD τ sig) → Buf (Elt F) ℓ) (c : Dev nD)

/-- The gathered rows, in three axes. -/
theorem rows_at (r : Fin 4096) (a : Fin 8) (b : Fin 128) :
    (W1 mem c main_v37 : S4096x8x128.Idx → Elt F .bf16) (ix3 r a b)
      = (argX mem c : S4096x1024.Idx → Elt F .bf16) (ix2 (ar (fun i => half (argD mem c) (hf c) (Shape.Idx.ofFin i)) r) (fl a b)) := by
  rw [v37_at10]
  refine (cast3 _ _ r a b).trans ?_
  rw [v18_at4]
  exact take_rows (by decide) _ rfl rfl rfl rfl rfl _ _ _ _ _ _ _

/-- Row r of the block a device holds of an array cut along its rows. -/
theorem block_row {α : Type} (X : (⟨2, ![8192, 1024]⟩ : Shape).Idx → α) (r : Fin 4096) (q : Fin 1024) :
    (Layout.blockN ⟨2, ![4096, 1024]⟩ ⟨2, ![8192, 1024]⟩ (Layout.meshBlock [2, 2] ![[0], []] c) X) (ix2 r q)
      = X (ix2 ⟨4096 * (hf c).val + r.val, by have := (hf c).isLt; have := r.isLt; omega⟩ q) := by
  rw [Layout.blockN_apply]
  refine congrArg X (funext fun a => Fin.ext ?_)
  rw [Layout.TilesN.idx_val]
  have e0 : Layout.meshLin [2, 2] c.val [0] = (hf c).val := by revert c; decide
  have e1 : Layout.meshLin [2, 2] c.val [] = 0 := by revert c; decide
  fin_cases a
  · refine (congrArg (fun n => n * 4096 + r.val) e0).trans ?_
    show (hf c).val * 4096 + r.val = 4096 * (hf c).val + r.val
    rw [Nat.mul_comm]
  · refine (congrArg (fun n => n * 1024 + q.val) e1).trans ?_
    show 0 * 1024 + q.val = q.val
    rw [Nat.zero_mul, Nat.zero_add]

end Cert.SwapProof

end
-- ==== Proof.Algebraic.lean ====
/-
  The value claim: every device's result is its block of the rows in the order of the whole.
-/
module

public import proofs.«01_k».proof.Proof.Match

@[expose] public section

noncomputable section

namespace Cert.SwapProof

open Cert.KernelIdeal Cert.KernelIdeal.Gen
open Idealize.ShloMosaic Idealize.ShloMosaic.ValueIdx
open Idealize.ShloMosaic.TcCoe
open Idealize.SL.Sem

variable {F : FTy → Type} [FloatOps F]

/-- The destinations by number. -/
abbrev flat (d : Vec.Idx → BitVec 32) : Fin 8192 → BitVec 32 := fun i => d (Shape.Idx.ofFin i)

/-- Every destination is 0 or 1. -/
theorem flat_bits {d : Vec.Idx → BitVec 32} (h : Balanced d) (i : Fin 8192) : flat d i = 0#32 ∨ flat d i = 1#32 := h.bits _

/-- The zeros of the upper half are what it sends. -/
theorem zs_high (d : Vec.Idx → BitVec 32) : zs (hv (flat d) 1) = cnt (half d 1) 0#32 := rfl

/-- The zeros of the two halves are half of all the rows. -/
theorem zs_sum {d : Vec.Idx → BitVec 32} (h : Balanced d) : zs (hv (flat d) 0) + zs (hv (flat d) 1) = 4096 := by
  rw [zs_high, ← h.even]
  have e : cnt (half d 0) 1#32 = (Finset.univ.filter fun i : Fin 4096 => ¬ hv (flat d) 0 i = 0#32).card := by
    refine congrArg Finset.card (Finset.filter_congr fun r _ => ?_)
    show hv (flat d) 0 r = 1#32 ↔ ¬ hv (flat d) 0 r = 0#32
    rcases flat_bits h ⟨4096 * (0 : Fin 2).val + r.val, by have := r.isLt; show 4096 * 0 + r.val < 8192; omega⟩ with e | e
    · refine ⟨fun k => absurd ((show hv (flat d) 0 r = 0#32 from e).symm.trans k) (by decide), fun k => absurd (show hv (flat d) 0 r = 0#32 from e) k⟩
    · exact ⟨fun k z => absurd (z.symm.trans k) (by decide), fun _ => e⟩
  rw [e]
  exact (Finset.card_filter_add_card_filter_not _).trans (by simp)

variable (mem : (ℓ : Loc nD τ sig) → Buf (Elt F) ℓ) {d : Vec.Idx → BitVec 32} (hB : Balanced d) (hd : ∀ c, argD mem c = d)
  (X V : (⟨2, ![8192, 1024]⟩ : Shape).Idx → Elt F .bf16) (hX : ∀ c : Dev nD, (argX mem c : S4096x1024.Idx → Elt F .bf16) = Layout.blockN ⟨2, ![4096, 1024]⟩ ⟨2, ![8192, 1024]⟩ (Layout.meshBlock [2, 2] ![[0], []] c) X)
  (hV : ∀ r q, V (ix2 r q) = X (ix2 (ar (flat d) r) q))

include hB hd in
/-- Every device sends as many rows. -/
theorem sent_eq (c : Dev nD) : sent mem c = zs (hv (flat d) 1) := by
  unfold sent
  rw [hd, zs_high]
  generalize hf c = k
  fin_cases k
  · exact hB.even
  · rfl

/-- The block of the result, in three axes. -/
def want (c : Dev nD) : S4096x8x128.Idx → Elt F .bf16 :=
  shapeCast S4096x8x128 (Layout.blockN ⟨2, ![4096, 1024]⟩ ⟨2, ![8192, 1024]⟩ (Layout.meshBlock [2, 2] ![[0], []] c) V : S4096x1024.Idx → Elt F .bf16) shapeCasts_S4096x1024_S4096x8x128

/-- It is to be written. -/
def goal : (c : Dev nD) → Tgt (Elt F) (outL c) := fun c i => some (want V c i)

include hd hX in
/-- Row r of a device, among all the rows. -/
theorem xs_row (c : Dev nD) (r : Fin 4096) (a : Fin 8) (b : Fin 128) (n : Fin 8192) (hn : n.val = 4096 * (hf c).val + tk (flat d) (hf c) r.val) :
    (W1 mem c main_v37 : S4096x8x128.Idx → Elt F .bf16) (ix3 r a b) = X (ix2 n (fl a b)) := by
  rw [rows_at, hX, block_row]
  refine congrArg (fun n : Fin 8192 => X (ix2 n (fl a b))) (Fin.ext ?_)
  rw [hn, tk_eq, hd]
  rfl

include hB hV in
/-- Row r of the block a device is to end with, among all the rows. -/
theorem want_row (c : Dev nD) (r : Fin 4096) (a : Fin 8) (b : Fin 128) (n : Fin 8192) (hn : n.val = mg (flat d) (4096 * (hf c).val + r.val)) :
    want V c (ix3 r a b) = X (ix2 n (fl a b)) := by
  unfold want
  rw [cast3, block_row, hV]
  refine congrArg (fun n : Fin 8192 => X (ix2 n (fl a b))) (Fin.ext ?_)
  rw [hn]
  exact ar_merged (flat d) (flat_bits hB) (zs_sum hB) _

include hB hd hX hV in
/-- A row that is in its place after the copy holds what is wanted there. -/
theorem carry (c c' : Dev nD) (s t : ℕ) (hs : s < 4096) (ht : t < 4096) (e : 4096 * (hf c).val + tk (flat d) (hf c) s = mg (flat d) (4096 * (hf c').val + t)) (a : Fin 8) (b : Fin 128) :
    (W1 mem c main_v37 : S4096x8x128.Idx → Elt F .bf16) (ix3 ⟨s, hs⟩ a b) = want V c' (ix3 ⟨t, ht⟩ a b) :=
  (xs_row mem hd X hX c ⟨s, hs⟩ a b ⟨_, mg_lt (flat d) (4096 * (hf c').val + t)⟩ e.symm).trans
    (want_row hB X V hV c' ⟨t, ht⟩ a b ⟨_, mg_lt (flat d) (4096 * (hf c').val + t)⟩ rfl).symm

/-- The counts of the exchange. -/
abbrev nm (hB : Balanced d) (hd : ∀ c, argD mem c = d) : Nums := nums mem fun c => by rw [hd]; exact hB.bucket

/-- The device across has the other half. -/
theorem hf_pr (c : Dev nD) : (hf (pr c)).val = 1 - (hf c).val := by revert c; decide

/-- Where row t of a chunk of a run of L rows lies in the run. -/
theorem chunk_row {n L k t : ℕ} (h16 : ¬ 16 < n) (hk : k < n ∨ k = 16) (hL : 256 * n < L) (h2 : 256 ≤ L) (ht : t < 256) :
    ∃ u, u < L ∧ ∀ a, chunkAt n a (a + L) k + t = a + u := by
  by_cases h : k < n
  · exact ⟨256 * k + t, by omega, fun a => by rw [chunk_whole h]; omega⟩
  · obtain rfl : k = 16 := by omega
    exact ⟨L - 256 + t, by omega, fun a => by rw [chunk_last h16]; omega⟩

/-- A device has the lower half or the upper one. -/
theorem lo_or_hi (c : Dev nD) : hf c = 0 ∨ hf c = 1 := by revert c; decide

include hX hV in
/-- Every chunk, exchanged or kept, writes rows that are wanted where they land. -/
theorem adm_goal : Adm (nm mem hB hd).plan (cont mem (goal V)) where
  swap c k hk ha := by
    have hL := (nm mem hB hd).hL c
    have hz := zs_sum hB
    have hs : sent mem c = zs (hv (flat d) 1) := sent_eq mem hB hd c
    have hL' : 1792 < zs (hv (flat d) 1) ∧ zs (hv (flat d) 1) < 2048 := hs ▸ hL
    refine admitted_rows _ _ fun t ht a b => ?_
    obtain ⟨u, hu, hc⟩ := chunk_row (n := 7) (L := sent mem c) (k := k) (t := t) (by decide) (of_decide_eq_true ha) (by omega) (by omega) ht
    refine carry mem hB hd X V hX hV c (pr c) _ _ _ _ ?_ a b
    show 4096 * (hf c).val + tk (flat d) (hf c) (chunkAt 7 (if (hf c).val = 0 then 4096 - sent mem c else 0) ((if (hf c).val = 0 then 4096 - sent mem c else 0) + sent mem c) k + t)
      = mg (flat d) (4096 * (hf (pr c)).val + (chunkAt 7 (if (hf c).val = 0 then 0 else 4096 - sent mem c) ((if (hf c).val = 0 then 0 else 4096 - sent mem c) + sent mem c) k + t))
    rw [hc, hc, hf_pr]
    rw [hs] at hu ⊢
    rcases lo_or_hi c with h | h
    · rw [h]
      show 4096 * 0 + tk (flat d) 0 (4096 - zs (hv (flat d) 1) + u) = mg (flat d) (4096 * 1 + (0 + u))
      rw [show 4096 * 1 + (0 + u) = 4096 + u by omega, goes_up (flat d) hz hu, show 4096 - zs (hv (flat d) 1) = zs (hv (flat d) 0) by omega]
      omega
    · rw [h]
      show 4096 * 1 + tk (flat d) 1 (0 + u) = mg (flat d) (4096 * 0 + (4096 - zs (hv (flat d) 1) + u))
      rw [show 4096 * 0 + (4096 - zs (hv (flat d) 1) + u) = zs (hv (flat d) 0) + u by omega, goes_down (flat d) hz hu, Nat.zero_add]
  keep c k hk ha := by
    have hL := (nm mem hB hd).hL c
    have hz := zs_sum hB
    have hs : sent mem c = zs (hv (flat d) 1) := sent_eq mem hB hd c
    have hL' : 1792 < zs (hv (flat d) 1) ∧ zs (hv (flat d) 1) < 2048 := hs ▸ hL
    refine admitted_rows _ _ fun t ht a b => ?_
    obtain ⟨u, hu, hc⟩ := chunk_row (n := 8) (L := 4096 - sent mem c) (k := k) (t := t) (by decide) (of_decide_eq_true ha) (by omega) (by omega) ht
    refine carry mem hB hd X V hX hV c c _ _ _ _ ?_ a b
    show 4096 * (hf c).val + tk (flat d) (hf c) (chunkAt 8 (if (hf c).val = 0 then 0 else sent mem c) ((if (hf c).val = 0 then 0 else sent mem c) + (4096 - sent mem c)) k + t)
      = mg (flat d) (4096 * (hf c).val + (chunkAt 8 (if (hf c).val = 0 then 0 else sent mem c) ((if (hf c).val = 0 then 0 else sent mem c) + (4096 - sent mem c)) k + t))
    rw [hc]
    rw [hs] at hu ⊢
    rcases lo_or_hi c with h | h
    · rw [h]
      show 4096 * 0 + tk (flat d) 0 (0 + u) = mg (flat d) (4096 * 0 + (0 + u))
      rw [show 4096 * 0 + (0 + u) = u by omega, Nat.zero_add u, kept_low (flat d) (by omega)]
      omega
    · rw [h]
      show 4096 * 1 + tk (flat d) 1 (zs (hv (flat d) 1) + u) = mg (flat d) (4096 * 1 + (zs (hv (flat d) 1) + u))
      rw [Nat.mul_one, kept_high (flat d) hz (by omega) (by omega)]

/-- Which chunk of a run of L rows a row lies in. -/
theorem chunk_of {n L a r : ℕ} (h16 : ¬ 16 < n) (hL : 256 * n < L) (hL' : L ≤ 256 * n + 256) (h2 : 256 ≤ L) (ha : a ≤ r) (hr : r < a + L) :
    ∃ k, k < 17 ∧ (k < n ∨ k = 16) ∧ chunkAt n a (a + L) k ≤ r ∧ r < chunkAt n a (a + L) k + 256 := by
  by_cases h : (r - a) / 256 < n
  · refine ⟨(r - a) / 256, by omega, .inl h, ?_⟩
    rw [chunk_whole h]; omega
  · refine ⟨16, by decide, .inr rfl, ?_⟩
    rw [chunk_last h16]; omega

/-- Every row of a device's result is written. -/
theorem all_marked (c : Dev nD) (i : S4096x8x128.Idx) :
    (i : Idx (outL c)) ∈ marks (nm mem hB hd).plan c (swW (nm mem hB hd).plan c) (kpW (nm mem hB hd).plan c) := by
  have hi : (i 0).val < 4096 := (i 0).isLt
  have hL := (nm mem hB hd).hL c
  have hs : sent mem c = zs (hv (flat d) 1) := sent_eq mem hB hd c
  have hp : sent mem (pr c) = zs (hv (flat d) 1) := sent_eq mem hB hd (pr c)
  have hL' : 1792 < zs (hv (flat d) 1) ∧ zs (hv (flat d) 1) < 2048 := hs ▸ hL
  have hpr := hf_pr c
  have hk : (nm mem hB hd).K c = if (hf c).val = 0 then 0 else zs (hv (flat d) 1) := by show (if _ then _ else sent mem c) = _; rw [hs]
  have hd' : (nm mem hB hd).D (pr c) = if (hf c).val = 0 then 4096 - zs (hv (flat d) 1) else 0 := by
    show (if (hf (pr c)).val = 0 then 0 else 4096 - sent mem (pr c)) = _
    rw [hp, hpr]
    rcases lo_or_hi c with h | h <;> rw [h] <;> rfl
  have ek : ∀ k, (nm mem hB hd).plan.kR c k = chunkAt 8 ((nm mem hB hd).K c) ((nm mem hB hd).K c + (4096 - sent mem c)) k := fun _ => rfl
  have ed : ∀ k, (nm mem hB hd).plan.dR (pr c) k = chunkAt 7 ((nm mem hB hd).D (pr c)) ((nm mem hB hd).D (pr c) + sent mem (pr c)) k := fun _ => rfl
  by_cases hc : (nm mem hB hd).K c ≤ (i 0).val ∧ (i 0).val < (nm mem hB hd).K c + (4096 - zs (hv (flat d) 1))
  · obtain ⟨k, h17, hact, h1, h2⟩ := chunk_of (n := 8) (L := 4096 - zs (hv (flat d) 1)) (a := (nm mem hB hd).K c) (r := (i 0).val) (by decide) (by omega) (by omega) (by omega) hc.1 hc.2
    refine Finset.mem_union_right _ (Finset.mem_biUnion.mpr ⟨k, Finset.mem_range.mpr h17, ?_⟩)
    rw [if_pos (show (nm mem hB hd).plan.aK k = true from decide_eq_true hact)]
    rw [← hs] at h1 h2
    exact row_mem c ((nm mem hB hd).plan.hk c k) i ((ek k).trans_le h1) (by rw [ek]; exact h2)
  · have hc' : (nm mem hB hd).D (pr c) ≤ (i 0).val ∧ (i 0).val < (nm mem hB hd).D (pr c) + zs (hv (flat d) 1) := by
      rw [hk] at hc; rw [hd']
      by_cases h : (hf c).val = 0
      · simp only [h, if_true] at hc ⊢; omega
      · simp only [h, if_false] at hc ⊢; omega
    obtain ⟨k, h17, hact, h1, h2⟩ := chunk_of (n := 7) (L := zs (hv (flat d) 1)) (a := (nm mem hB hd).D (pr c)) (r := (i 0).val) (by decide) (by omega) (by omega) (by omega) hc'.1 hc'.2
    refine Finset.mem_union_left _ (Finset.mem_biUnion.mpr ⟨k, Finset.mem_range.mpr h17, ?_⟩)
    rw [if_pos (show (nm mem hB hd).plan.aS k = true from decide_eq_true hact)]
    rw [← hp] at h1 h2
    exact row_mem c ((nm mem hB hd).plan.hd (pr c) k) i ((ed k).trans_le h1) (by rw [ed]; exact h2)

/-- What the exchange leaves is what was wanted. -/
theorem lands_want (c : Dev nD) (f' : Buf (Elt F) (outL c)) (h : Lands (nm mem hB hd).plan (cont mem (goal V)) c f') : f' = want V c :=
  funext fun i => (h i).2 (all_marked mem hB hd c i) _ rfl

/-- The result's buffer, back in two axes. -/
theorem result_at (c : Dev nD) (f' : Buf (Elt F) (outL c)) :
    Vend mem c f' main_v39 = (shapeCast S4096x1024 (f' : S4096x8x128.Idx → Elt F .bf16) shapeCasts_S4096x8x128_S4096x1024 : S4096x1024.Idx → Elt F .bf16) := by
  have e : put mem c f' main_v38 = f' := Function.update_self _ _ _
  rw [← e]
  show StableHlo.after hostOps2 (put mem c f') main_v39 = _
  generalize put mem c f' = W
  after_results
  rfl

/-- The wanted block, back in two axes. -/
theorem want_back (c : Dev nD) : shapeCast S4096x1024 (want V c) shapeCasts_S4096x8x128_S4096x1024
    = (Layout.blockN ⟨2, ![4096, 1024]⟩ ⟨2, ![8192, 1024]⟩ (Layout.meshBlock [2, 2] ![[0], []] c) V : S4096x1024.Idx → Elt F .bf16) := by
  unfold want
  funext j
  unfold shapeCast
  refine congrArg _ (Shape.reshapeEquiv_eq_of_rowMajor _ ?_)
  exact (Shape.rowMajor_reshapeEquiv _ j).symm

include hX hV in
/-- The kernel runs and every device's result is its block of V. -/
theorem run_value (ρ : Dev nD → PrngReg) (hB : Balanced d) (hd : ∀ c, argD mem c = d) :
    θ_run defs (onTc (τ := τ) (main (F := F))) ⟨mem, fun _ => 0, ρ⟩ (fun r => ∀ c : Dev nD,
      r.2.mem ((c : Thread nD τ).loc main_v39) = (Layout.blockN ⟨2, ![4096, 1024]⟩ ⟨2, ![8192, 1024]⟩ (Layout.meshBlock [2, 2] ![[0], []] c) V : S4096x1024.Idx → Elt F .bf16)
      ∧ r.2.mem ((c : Thread nD τ).loc main_arg0) = mem ((c : Thread nD τ).loc main_arg0)
      ∧ r.2.mem ((c : Thread nD τ).loc main_arg1) = mem ((c : Thread nD τ).loc main_arg1)) :=
  (θ_run defs _ _).mono (fun _ h c => by
      obtain ⟨f', hf', hm⟩ := h.1 c
      refine ⟨?_, args_of mem hm⟩
      refine (hm _ res_uc).trans ((result_at mem c f').trans ?_)
      rw [lands_want mem hB hd V c f' hf']
      exact want_back V c)
    (run_main mem ρ (nm mem hB hd) (goal V) (adm_goal mem hB hd X V hX hV) (fun c => scal mem c _))

end Cert.SwapProof

namespace Cert.SwapProof

open Idealize.ShloMosaic Idealize.ShloMosaic.ValueIdx
open Idealize.SL.Sem

/-- The rows of the reference's result, from any float values. -/
theorem ref_row {F : FTy → Type} [FloatOps F] (X : (⟨2, ![8192, 1024]⟩ : Shape).Idx → Elt F .bf16) (d : Vec.Idx → BitVec 32) (r : Fin 8192) (q : Fin 1024) :
    (Host.gather Cert.ReferenceIdeal.gather_S8192x1024_S8192x1_S8192x1024_1_0_n_n_0_1_11024 X (broadcastInDim Cert.ReferenceIdeal.S8192x1 ![0] Cert.ReferenceIdeal.Gen.facts.bcast_S8192_S8192x1_0
      (select (cmpi .slt ((Host.sort2 Cert.ReferenceIdeal.S8192 0 Cert.ReferenceIdeal.comparator_i32_i32_d0 d (iotaInDim Cert.ReferenceIdeal.S8192 32 0)).2) (broadcastInDim Cert.ReferenceIdeal.S8192 ![] Cert.ReferenceIdeal.Gen.facts.bcast_S_S8192 (constantI Cert.ReferenceIdeal.S_ 32 0#32)))
        (addi ((Host.sort2 Cert.ReferenceIdeal.S8192 0 Cert.ReferenceIdeal.comparator_i32_i32_d0 d (iotaInDim Cert.ReferenceIdeal.S8192 32 0)).2) (broadcastInDim Cert.ReferenceIdeal.S8192 ![] Cert.ReferenceIdeal.Gen.facts.bcast_S_S8192 (constantI Cert.ReferenceIdeal.S_ 32 8192#32)))
        ((Host.sort2 Cert.ReferenceIdeal.S8192 0 Cert.ReferenceIdeal.comparator_i32_i32_d0 d (iotaInDim Cert.ReferenceIdeal.S8192 32 0)).2)))
      : (⟨2, ![8192, 1024]⟩ : Shape).Idx → Elt F .bf16) (ix2 r q) = X (ix2 (ar (flat d) r) q) :=
  take_rows (by decide) _ rfl rfl rfl rfl rfl X d _ _ _ r q

/-- The kernel computes the reference. -/
theorem algebraic : Cert.algebraic_KernelIdeal_ReferenceIdeal_pre_balanced_KernelIdeal := fun m g m' g' hP hA => by
  have hd : ∀ c, argD m c = m' (((0 : Dev Cert.ReferenceIdeal.nD).tc : Thread Cert.ReferenceIdeal.nD Cert.ReferenceIdeal.τ).loc Cert.ReferenceIdeal.main_arg1) := fun c => (hA c).2
  have hB : Balanced (m' (((0 : Dev Cert.ReferenceIdeal.nD).tc : Thread Cert.ReferenceIdeal.nD Cert.ReferenceIdeal.τ).loc Cert.ReferenceIdeal.main_arg1)) := by
    rw [← hd 0]; exact balanced_of _ _ (hP 0)
  refine ⟨_, run_value m _ _ (fun c => (hA c).1) (fun r q => ref_row (F := Ideal) (m' (((0 : Dev Cert.ReferenceIdeal.nD).tc : Thread Cert.ReferenceIdeal.nD Cert.ReferenceIdeal.τ).loc Cert.ReferenceIdeal.main_arg0)) _ r q) g hB hd, ?_⟩
  exact (θ_run Cert.ReferenceIdeal.defs _ _).mono (fun r h => h 0) (Cert.ReferenceIdeal.Value.run (F := Ideal) m' g')

end Cert.SwapProof

end
-- ==== Proof.lean ====
/- The claims of `Cert.Claim`, put together from the modules under Proof/. -/
module

public import proofs.«01_k».proof.Defs
public import proofs.«01_k».proof.Proof.Algebraic

@[expose] public section

noncomputable section

namespace Cert.Proof

/-- Every claim made of the kernel and the reference. -/
theorem claim : Cert.Claim :=
  ⟨Cert.Kernel.Gen.facts, Cert.KernelIdeal.Gen.facts, Cert.ReferenceIdeal.Gen.facts, Cert.SwapProof.facts_one,
    Cert.SwapProof.facts_balK, Cert.SwapProof.facts_balR, Cert.SwapProof.frame_kernel, Cert.SwapProof.frame_ideal,
    Cert.SwapProof.frame_ideal_balanced, Cert.SwapProof.frame_reference, Cert.SwapProof.frame_reference_balanced, trivial,
    Cert.SwapProof.algebraic⟩

end Cert.Proof

end
